-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormReferenceIdeal (m : (ℓ : Loc Cert.PreNormReferenceIdeal.nD Cert.PreNormReferenceIdeal.τ Cert.PreNormReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_PostLast (m : (ℓ : Loc Cert.PostLast.nD Cert.PostLast.τ Cert.PostLast.sig) → Buf (Elt Bits) ℓ) : Prop :=
  True

def Pre_PostLastIdeal (m : (ℓ : Loc Cert.PostLastIdeal.nD Cert.PostLastIdeal.τ Cert.PostLastIdeal.sig) → Buf (Elt Ideal) ℓ) : Prop :=
  True

def Pre_PostLastReferenceIdeal (m : (ℓ : Loc Cert.PostLastReferenceIdeal.nD Cert.PostLastReferenceIdeal.τ Cert.PostLastReferenceIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaReferenceIdeal (m : (ℓ : Loc Cert.GlaReferenceIdeal.nD Cert.GlaReferenceIdeal.τ Cert.GlaReferenceIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite_scores [hPre_finite_scores : Cert.Pre_finite_scores.Facts] (m : (ℓ : Loc Cert.BandIdeal.nD Cert.BandIdeal.τ Cert.BandIdeal.sig) → Buf (Elt Ideal) ℓ) : Prop :=
  ∀ c : Dev Cert.BandIdeal.nD,
    (Cert.Pre_finite_scores.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))) = (fun _ => 1#1)

def Pre_BandReferenceIdeal (m : (ℓ : Loc Cert.BandReferenceIdeal.nD Cert.BandReferenceIdeal.τ Cert.BandReferenceIdeal.sig) → Buf (Elt Ideal) ℓ) : Prop :=
  True

def Pre_BandReferenceIdeal_finite_scores [hPre_finite_scores : Cert.Pre_finite_scores.Facts] (m : (ℓ : Loc Cert.BandReferenceIdeal.nD Cert.BandReferenceIdeal.τ Cert.BandReferenceIdeal.sig) → Buf (Elt Ideal) ℓ) : Prop :=
  ∀ c : Dev Cert.BandReferenceIdeal.nD,
    (Cert.Pre_finite_scores.fn (F := Ideal) (m ((c.tc : Thread Cert.BandReferenceIdeal.nD Cert.BandReferenceIdeal.τ).loc Cert.BandReferenceIdeal.main_arg0)) (m ((c.tc : Thread Cert.BandReferenceIdeal.nD Cert.BandReferenceIdeal.τ).loc Cert.BandReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormReferenceIdeal [hPreNormReferenceIdeal : Cert.PreNormReferenceIdeal.Facts] : Prop :=
  ∀ (m : (ℓ : Loc Cert.PreNormReferenceIdeal.nD Cert.PreNormReferenceIdeal.τ Cert.PreNormReferenceIdeal.sig) → Buf (Elt Ideal) ℓ) (g : Dev Cert.PreNormReferenceIdeal.nD → PrngReg), Pre_PreNormReferenceIdeal m →
    θ_run (Cert.PreNormReferenceIdeal.defs (F := Ideal)) (onTc (τ := Cert.PreNormReferenceIdeal.τ) (Cert.PreNormReferenceIdeal.main (F := Ideal))) ⟨m, fun _ => 0, g⟩ (fun r => (∀ c : Dev Cert.PreNormReferenceIdeal.nD,
      r.2.mem ((c.tc : Thread Cert.PreNormReferenceIdeal.nD Cert.PreNormReferenceIdeal.τ).loc Cert.PreNormReferenceIdeal.main_arg0) = m ((c.tc : Thread Cert.PreNormReferenceIdeal.nD Cert.PreNormReferenceIdeal.τ).loc Cert.PreNormReferenceIdeal.main_arg0)
      ∧ r.2.mem ((c.tc : Thread Cert.PreNormReferenceIdeal.nD Cert.PreNormReferenceIdeal.τ).loc Cert.PreNormReferenceIdeal.main_arg1) = m ((c.tc : Thread Cert.PreNormReferenceIdeal.nD Cert.PreNormReferenceIdeal.τ).loc Cert.PreNormReferenceIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3))
      ∧ r.2.sem = fun _ => 0)

def quiescent_PostLast [hPostLast : Cert.PostLast.Facts] : Prop :=
  ∀ (m : (ℓ : Loc Cert.PostLast.nD Cert.PostLast.τ Cert.PostLast.sig) → Buf (Elt Bits) ℓ) (g : Dev Cert.PostLast.nD → PrngReg), Pre_PostLast m →
    θ_run (Cert.PostLast.defs (F := Bits)) (onTc (τ := Cert.PostLast.τ) (Cert.PostLast.main (F := Bits))) ⟨m, fun _ => 0, g⟩ (fun r => (∀ c : Dev Cert.PostLast.nD,
      r.2.mem ((c.tc : Thread Cert.PostLast.nD Cert.PostLast.τ).loc Cert.PostLast.main_arg0) = m ((c.tc : Thread Cert.PostLast.nD Cert.PostLast.τ).loc Cert.PostLast.main_arg0)
      ∧ r.2.mem ((c.tc : Thread Cert.PostLast.nD Cert.PostLast.τ).loc Cert.PostLast.main_arg1) = m ((c.tc : Thread Cert.PostLast.nD Cert.PostLast.τ).loc Cert.PostLast.main_arg1)
      ∧ r.2.mem ((c.tc : Thread Cert.PostLast.nD Cert.PostLast.τ).loc Cert.PostLast.main_arg2) = m ((c.tc : Thread Cert.PostLast.nD Cert.PostLast.τ).loc Cert.PostLast.main_arg2))
      ∧ r.2.sem = fun _ => 0)

def quiescent_PostLastIdeal [hPostLastIdeal : Cert.PostLastIdeal.Facts] : Prop :=
  ∀ (m : (ℓ : Loc Cert.PostLastIdeal.nD Cert.PostLastIdeal.τ Cert.PostLastIdeal.sig) → Buf (Elt Ideal) ℓ) (g : Dev Cert.PostLastIdeal.nD → PrngReg), Pre_PostLastIdeal m →
    θ_run (Cert.PostLastIdeal.defs (F := Ideal)) (onTc (τ := Cert.PostLastIdeal.τ) (Cert.PostLastIdeal.main (F := Ideal))) ⟨m, fun _ => 0, g⟩ (fun r => (∀ c : Dev Cert.PostLastIdeal.nD,
      r.2.mem ((c.tc : Thread Cert.PostLastIdeal.nD Cert.PostLastIdeal.τ).loc Cert.PostLastIdeal.main_arg0) = m ((c.tc : Thread Cert.PostLastIdeal.nD Cert.PostLastIdeal.τ).loc Cert.PostLastIdeal.main_arg0)
      ∧ r.2.mem ((c.tc : Thread Cert.PostLastIdeal.nD Cert.PostLastIdeal.τ).loc Cert.PostLastIdeal.main_arg1) = m ((c.tc : Thread Cert.PostLastIdeal.nD Cert.PostLastIdeal.τ).loc Cert.PostLastIdeal.main_arg1)
      ∧ r.2.mem ((c.tc : Thread Cert.PostLastIdeal.nD Cert.PostLastIdeal.τ).loc Cert.PostLastIdeal.main_arg2) = m ((c.tc : Thread Cert.PostLastIdeal.nD Cert.PostLastIdeal.τ).loc Cert.PostLastIdeal.main_arg2))
      ∧ r.2.sem = fun _ => 0)

def quiescent_PostLastReferenceIdeal [hPostLastReferenceIdeal : Cert.PostLastReferenceIdeal.Facts] : Prop :=
  ∀ (m : (ℓ : Loc Cert.PostLastReferenceIdeal.nD Cert.PostLastReferenceIdeal.τ Cert.PostLastReferenceIdeal.sig) → Buf (Elt Ideal) ℓ) (g : Dev Cert.PostLastReferenceIdeal.nD → PrngReg), Pre_PostLastReferenceIdeal m →
    θ_run (Cert.PostLastReferenceIdeal.defs (F := Ideal)) (onTc (τ := Cert.PostLastReferenceIdeal.τ) (Cert.PostLastReferenceIdeal.main (F := Ideal))) ⟨m, fun _ => 0, g⟩ (fun r => (∀ c : Dev Cert.PostLastReferenceIdeal.nD,
      r.2.mem ((c.tc : Thread Cert.PostLastReferenceIdeal.nD Cert.PostLastReferenceIdeal.τ).loc Cert.PostLastReferenceIdeal.main_arg0) = m ((c.tc : Thread Cert.PostLastReferenceIdeal.nD Cert.PostLastReferenceIdeal.τ).loc Cert.PostLastReferenceIdeal.main_arg0)
      ∧ r.2.mem ((c.tc : Thread Cert.PostLastReferenceIdeal.nD Cert.PostLastReferenceIdeal.τ).loc Cert.PostLastReferenceIdeal.main_arg1) = m ((c.tc : Thread Cert.PostLastReferenceIdeal.nD Cert.PostLastReferenceIdeal.τ).loc Cert.PostLastReferenceIdeal.main_arg1)
      ∧ r.2.mem ((c.tc : Thread Cert.PostLastReferenceIdeal.nD Cert.PostLastReferenceIdeal.τ).loc Cert.PostLastReferenceIdeal.main_arg2) = m ((c.tc : Thread Cert.PostLastReferenceIdeal.nD Cert.PostLastReferenceIdeal.τ).loc Cert.PostLastReferenceIdeal.main_arg2))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ r.2.sem = fun _ => 0)

def quiescent_GlaReferenceIdeal [hGlaReferenceIdeal : Cert.GlaReferenceIdeal.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4)
      ∧ r.2.mem ((c.tc : Thread Cert.GlaReferenceIdeal.nD Cert.GlaReferenceIdeal.τ).loc Cert.GlaReferenceIdeal.main_arg5) = m ((c.tc : Thread Cert.GlaReferenceIdeal.nD Cert.GlaReferenceIdeal.τ).loc Cert.GlaReferenceIdeal.main_arg5))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandIdeal_pre_finite_scores [hBandIdeal : Cert.BandIdeal.Facts] [hPre_finite_scores : Cert.Pre_finite_scores.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite_scores m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandReferenceIdeal [hBandReferenceIdeal : Cert.BandReferenceIdeal.Facts] : Prop :=
  ∀ (m : (ℓ : Loc Cert.BandReferenceIdeal.nD Cert.BandReferenceIdeal.τ Cert.BandReferenceIdeal.sig) → Buf (Elt Ideal) ℓ) (g : Dev Cert.BandReferenceIdeal.nD → PrngReg), Pre_BandReferenceIdeal m →
    θ_run (Cert.BandReferenceIdeal.defs (F := Ideal)) (onTc (τ := Cert.BandReferenceIdeal.τ) (Cert.BandReferenceIdeal.main (F := Ideal))) ⟨m, fun _ => 0, g⟩ (fun r => (∀ c : Dev Cert.BandReferenceIdeal.nD,
      r.2.mem ((c.tc : Thread Cert.BandReferenceIdeal.nD Cert.BandReferenceIdeal.τ).loc Cert.BandReferenceIdeal.main_arg0) = m ((c.tc : Thread Cert.BandReferenceIdeal.nD Cert.BandReferenceIdeal.τ).loc Cert.BandReferenceIdeal.main_arg0)
      ∧ r.2.mem ((c.tc : Thread Cert.BandReferenceIdeal.nD Cert.BandReferenceIdeal.τ).loc Cert.BandReferenceIdeal.main_arg1) = m ((c.tc : Thread Cert.BandReferenceIdeal.nD Cert.BandReferenceIdeal.τ).loc Cert.BandReferenceIdeal.main_arg1))
      ∧ r.2.sem = fun _ => 0)

def quiescent_BandReferenceIdeal_pre_finite_scores [hBandReferenceIdeal : Cert.BandReferenceIdeal.Facts] [hPre_finite_scores : Cert.Pre_finite_scores.Facts] : Prop :=
  ∀ (m : (ℓ : Loc Cert.BandReferenceIdeal.nD Cert.BandReferenceIdeal.τ Cert.BandReferenceIdeal.sig) → Buf (Elt Ideal) ℓ) (g : Dev Cert.BandReferenceIdeal.nD → PrngReg), Pre_BandReferenceIdeal_finite_scores m →
    θ_run (Cert.BandReferenceIdeal.defs (F := Ideal)) (onTc (τ := Cert.BandReferenceIdeal.τ) (Cert.BandReferenceIdeal.main (F := Ideal))) ⟨m, fun _ => 0, g⟩ (fun r => (∀ c : Dev Cert.BandReferenceIdeal.nD,
      r.2.mem ((c.tc : Thread Cert.BandReferenceIdeal.nD Cert.BandReferenceIdeal.τ).loc Cert.BandReferenceIdeal.main_arg0) = m ((c.tc : Thread Cert.BandReferenceIdeal.nD Cert.BandReferenceIdeal.τ).loc Cert.BandReferenceIdeal.main_arg0)
      ∧ r.2.mem ((c.tc : Thread Cert.BandReferenceIdeal.nD Cert.BandReferenceIdeal.τ).loc Cert.BandReferenceIdeal.main_arg1) = m ((c.tc : Thread Cert.BandReferenceIdeal.nD Cert.BandReferenceIdeal.τ).loc Cert.BandReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v10) = v0 c
          ∧ r.2.mem ((c.tc : Thread Cert.GateUpReferenceIdeal.nD Cert.GateUpReferenceIdeal.τ).loc Cert.GateUpReferenceIdeal.main_v13) = v1 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v7) = v0 c
          ∧ r.2.mem ((c.tc : Thread Cert.InProjReferenceIdeal.nD Cert.InProjReferenceIdeal.τ).loc Cert.InProjReferenceIdeal.main_v5) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_PreNorm_PreNormIdeal : Prop :=
  True

def algebraic_PreNormIdeal_PreNormReferenceIdeal [hPreNormIdeal : Cert.PreNormIdeal.Facts] [hPreNormReferenceIdeal : Cert.PreNormReferenceIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormReferenceIdeal.nD Cert.PreNormReferenceIdeal.τ Cert.PreNormReferenceIdeal.sig) → Buf (Elt Ideal) ℓ) (g' : Dev Cert.PreNormReferenceIdeal.nD → PrngReg), Pre_PreNormIdeal m →
    (∀ c : Dev Cert.PreNormIdeal.nD,
      m' ((c.tc : Thread Cert.PreNormReferenceIdeal.nD Cert.PreNormReferenceIdeal.τ).loc Cert.PreNormReferenceIdeal.main_arg0) = m ((c.tc : Thread Cert.PreNormIdeal.nD Cert.PreNormIdeal.τ).loc Cert.PreNormIdeal.main_arg0)
      ∧ m' ((c.tc : Thread Cert.PreNormReferenceIdeal.nD Cert.PreNormReferenceIdeal.τ).loc Cert.PreNormReferenceIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v3)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v3) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormReferenceIdeal.defs (F := Ideal)) (onTc (τ := Cert.PreNormReferenceIdeal.τ) (Cert.PreNormReferenceIdeal.main (F := Ideal))) ⟨m', fun _ => 0, g'⟩ (fun r => ∀ c : Dev Cert.PreNormReferenceIdeal.nD,
          r.2.mem ((c.tc : Thread Cert.PreNormReferenceIdeal.nD Cert.PreNormReferenceIdeal.τ).loc Cert.PreNormReferenceIdeal.main_v15) = v0 c
          ∧ r.2.mem ((c.tc : Thread Cert.PreNormReferenceIdeal.nD Cert.PreNormReferenceIdeal.τ).loc Cert.PreNormReferenceIdeal.main_arg0) = m' ((c.tc : Thread Cert.PreNormReferenceIdeal.nD Cert.PreNormReferenceIdeal.τ).loc Cert.PreNormReferenceIdeal.main_arg0)
          ∧ r.2.mem ((c.tc : Thread Cert.PreNormReferenceIdeal.nD Cert.PreNormReferenceIdeal.τ).loc Cert.PreNormReferenceIdeal.main_arg1) = m' ((c.tc : Thread Cert.PreNormReferenceIdeal.nD Cert.PreNormReferenceIdeal.τ).loc Cert.PreNormReferenceIdeal.main_arg1))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v6_0)) (v1 : (c : Dev Cert.PostIdeal.nD) → Buf (Elt Ideal) ((c.tc : Thread Cert.PostIdeal.nD Cert.PostIdeal.τ).loc Cert.PostIdeal.main_v6_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v6_0) = v0 c
          ∧ r.2.mem ((c.tc : Thread Cert.PostIdeal.nD Cert.PostIdeal.τ).loc Cert.PostIdeal.main_v6_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v16) = v0 c
          ∧ r.2.mem ((c.tc : Thread Cert.PostReferenceIdeal.nD Cert.PostReferenceIdeal.τ).loc Cert.PostReferenceIdeal.main_v32) = v1 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3))

def preserves_PostLast_PostLastIdeal : Prop :=
  True

def algebraic_PostLastIdeal_PostLastReferenceIdeal [hPostLastIdeal : Cert.PostLastIdeal.Facts] [hPostLastReferenceIdeal : Cert.PostLastReferenceIdeal.Facts] : Prop :=
  ∀ (m : (ℓ : Loc Cert.PostLastIdeal.nD Cert.PostLastIdeal.τ Cert.PostLastIdeal.sig) → Buf (Elt Ideal) ℓ) (g : Dev Cert.PostLastIdeal.nD → PrngReg)
    (m' : (ℓ : Loc Cert.PostLastReferenceIdeal.nD Cert.PostLastReferenceIdeal.τ Cert.PostLastReferenceIdeal.sig) → Buf (Elt Ideal) ℓ) (g' : Dev Cert.PostLastReferenceIdeal.nD → PrngReg), Pre_PostLastIdeal m →
    (∀ c : Dev Cert.PostLastIdeal.nD,
      m' ((c.tc : Thread Cert.PostLastReferenceIdeal.nD Cert.PostLastReferenceIdeal.τ).loc Cert.PostLastReferenceIdeal.main_arg0) = m ((c.tc : Thread Cert.PostLastIdeal.nD Cert.PostLastIdeal.τ).loc Cert.PostLastIdeal.main_arg0)
      ∧ m' ((c.tc : Thread Cert.PostLastReferenceIdeal.nD Cert.PostLastReferenceIdeal.τ).loc Cert.PostLastReferenceIdeal.main_arg1) = m ((c.tc : Thread Cert.PostLastIdeal.nD Cert.PostLastIdeal.τ).loc Cert.PostLastIdeal.main_arg1)
      ∧ m' ((c.tc : Thread Cert.PostLastReferenceIdeal.nD Cert.PostLastReferenceIdeal.τ).loc Cert.PostLastReferenceIdeal.main_arg2) = m ((c.tc : Thread Cert.PostLastIdeal.nD Cert.PostLastIdeal.τ).loc Cert.PostLastIdeal.main_arg2)) →
    ∃ (v0 : (c : Dev Cert.PostLastIdeal.nD) → Buf (Elt Ideal) ((c.tc : Thread Cert.PostLastIdeal.nD Cert.PostLastIdeal.τ).loc Cert.PostLastIdeal.main_v3)),
      θ_run (Cert.PostLastIdeal.defs (F := Ideal)) (onTc (τ := Cert.PostLastIdeal.τ) (Cert.PostLastIdeal.main (F := Ideal))) ⟨m, fun _ => 0, g⟩ (fun r => ∀ c : Dev Cert.PostLastIdeal.nD,
          r.2.mem ((c.tc : Thread Cert.PostLastIdeal.nD Cert.PostLastIdeal.τ).loc Cert.PostLastIdeal.main_v3) = v0 c
          ∧ r.2.mem ((c.tc : Thread Cert.PostLastIdeal.nD Cert.PostLastIdeal.τ).loc Cert.PostLastIdeal.main_arg0) = m ((c.tc : Thread Cert.PostLastIdeal.nD Cert.PostLastIdeal.τ).loc Cert.PostLastIdeal.main_arg0)
          ∧ r.2.mem ((c.tc : Thread Cert.PostLastIdeal.nD Cert.PostLastIdeal.τ).loc Cert.PostLastIdeal.main_arg1) = m ((c.tc : Thread Cert.PostLastIdeal.nD Cert.PostLastIdeal.τ).loc Cert.PostLastIdeal.main_arg1)
          ∧ r.2.mem ((c.tc : Thread Cert.PostLastIdeal.nD Cert.PostLastIdeal.τ).loc Cert.PostLastIdeal.main_arg2) = m ((c.tc : Thread Cert.PostLastIdeal.nD Cert.PostLastIdeal.τ).loc Cert.PostLastIdeal.main_arg2))
      ∧ θ_run (Cert.PostLastReferenceIdeal.defs (F := Ideal)) (onTc (τ := Cert.PostLastReferenceIdeal.τ) (Cert.PostLastReferenceIdeal.main (F := Ideal))) ⟨m', fun _ => 0, g'⟩ (fun r => ∀ c : Dev Cert.PostLastReferenceIdeal.nD,
          r.2.mem ((c.tc : Thread Cert.PostLastReferenceIdeal.nD Cert.PostLastReferenceIdeal.τ).loc Cert.PostLastReferenceIdeal.main_v16) = v0 c
          ∧ r.2.mem ((c.tc : Thread Cert.PostLastReferenceIdeal.nD Cert.PostLastReferenceIdeal.τ).loc Cert.PostLastReferenceIdeal.main_arg0) = m' ((c.tc : Thread Cert.PostLastReferenceIdeal.nD Cert.PostLastReferenceIdeal.τ).loc Cert.PostLastReferenceIdeal.main_arg0)
          ∧ r.2.mem ((c.tc : Thread Cert.PostLastReferenceIdeal.nD Cert.PostLastReferenceIdeal.τ).loc Cert.PostLastReferenceIdeal.main_arg1) = m' ((c.tc : Thread Cert.PostLastReferenceIdeal.nD Cert.PostLastReferenceIdeal.τ).loc Cert.PostLastReferenceIdeal.main_arg1)
          ∧ r.2.mem ((c.tc : Thread Cert.PostLastReferenceIdeal.nD Cert.PostLastReferenceIdeal.τ).loc Cert.PostLastReferenceIdeal.main_arg2) = m' ((c.tc : Thread Cert.PostLastReferenceIdeal.nD Cert.PostLastReferenceIdeal.τ).loc Cert.PostLastReferenceIdeal.main_arg2))

def preserves_Gla_GlaIdeal : Prop :=
  True

def algebraic_GlaIdeal_GlaReferenceIdeal [hGlaIdeal : Cert.GlaIdeal.Facts] [hGlaReferenceIdeal : Cert.GlaReferenceIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaReferenceIdeal.nD Cert.GlaReferenceIdeal.τ Cert.GlaReferenceIdeal.sig) → Buf (Elt Ideal) ℓ) (g' : Dev Cert.GlaReferenceIdeal.nD → PrngReg), Pre_GlaIdeal m →
    (∀ c : Dev Cert.GlaIdeal.nD,
      m' ((c.tc : Thread Cert.GlaReferenceIdeal.nD Cert.GlaReferenceIdeal.τ).loc Cert.GlaReferenceIdeal.main_arg0) = m ((c.tc : Thread Cert.GlaIdeal.nD Cert.GlaIdeal.τ).loc Cert.GlaIdeal.main_arg0)
      ∧ m' ((c.tc : Thread Cert.GlaReferenceIdeal.nD Cert.GlaReferenceIdeal.τ).loc Cert.GlaReferenceIdeal.main_arg1) = m ((c.tc : Thread Cert.GlaIdeal.nD Cert.GlaIdeal.τ).loc Cert.GlaIdeal.main_arg1)
      ∧ m' ((c.tc : Thread Cert.GlaReferenceIdeal.nD Cert.GlaReferenceIdeal.τ).loc Cert.GlaReferenceIdeal.main_arg2) = m ((c.tc : Thread Cert.GlaIdeal.nD Cert.GlaIdeal.τ).loc Cert.GlaIdeal.main_arg2)
      ∧ m' ((c.tc : Thread Cert.GlaReferenceIdeal.nD Cert.GlaReferenceIdeal.τ).loc Cert.GlaReferenceIdeal.main_arg3) = m ((c.tc : Thread Cert.GlaIdeal.nD Cert.GlaIdeal.τ).loc Cert.GlaIdeal.main_arg3)
      ∧ m' ((c.tc : Thread Cert.GlaReferenceIdeal.nD Cert.GlaReferenceIdeal.τ).loc Cert.GlaReferenceIdeal.main_arg4) = m ((c.tc : Thread Cert.GlaIdeal.nD Cert.GlaIdeal.τ).loc Cert.GlaIdeal.main_arg4)
      ∧ m' ((c.tc : Thread Cert.GlaReferenceIdeal.nD Cert.GlaReferenceIdeal.τ).loc Cert.GlaReferenceIdeal.main_arg5) = m ((c.tc : Thread Cert.GlaIdeal.nD Cert.GlaIdeal.τ).loc Cert.GlaIdeal.main_arg5)) →
    ∃ (v0 : (c : Dev Cert.GlaIdeal.nD) → Buf (Elt Ideal) ((c.tc : Thread Cert.GlaIdeal.nD Cert.GlaIdeal.τ).loc Cert.GlaIdeal.main_v10_0)) (v1 : (c : Dev Cert.GlaIdeal.nD) → Buf (Elt Ideal) ((c.tc : Thread Cert.GlaIdeal.nD Cert.GlaIdeal.τ).loc Cert.GlaIdeal.main_v10_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v10_0) = v0 c
          ∧ r.2.mem ((c.tc : Thread Cert.GlaIdeal.nD Cert.GlaIdeal.τ).loc Cert.GlaIdeal.main_v10_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ θ_run (Cert.GlaReferenceIdeal.defs (F := Ideal)) (onTc (τ := Cert.GlaReferenceIdeal.τ) (Cert.GlaReferenceIdeal.main (F := Ideal))) ⟨m', fun _ => 0, g'⟩ (fun r => ∀ c : Dev Cert.GlaReferenceIdeal.nD,
          r.2.mem ((c.tc : Thread Cert.GlaReferenceIdeal.nD Cert.GlaReferenceIdeal.τ).loc Cert.GlaReferenceIdeal.main_v76) = v0 c
          ∧ r.2.mem ((c.tc : Thread Cert.GlaReferenceIdeal.nD Cert.GlaReferenceIdeal.τ).loc Cert.GlaReferenceIdeal.main_v79) = v1 c
          ∧ r.2.mem ((c.tc : Thread Cert.GlaReferenceIdeal.nD Cert.GlaReferenceIdeal.τ).loc Cert.GlaReferenceIdeal.main_arg0) = m' ((c.tc : Thread Cert.GlaReferenceIdeal.nD Cert.GlaReferenceIdeal.τ).loc Cert.GlaReferenceIdeal.main_arg0)
          ∧ r.2.mem ((c.tc : Thread Cert.GlaReferenceIdeal.nD Cert.GlaReferenceIdeal.τ).loc Cert.GlaReferenceIdeal.main_arg1) = m' ((c.tc : Thread Cert.GlaReferenceIdeal.nD Cert.GlaReferenceIdeal.τ).loc Cert.GlaReferenceIdeal.main_arg1)
          ∧ r.2.mem ((c.tc : Thread Cert.GlaReferenceIdeal.nD Cert.GlaReferenceIdeal.τ).loc Cert.GlaReferenceIdeal.main_arg2) = m' ((c.tc : Thread Cert.GlaReferenceIdeal.nD Cert.GlaReferenceIdeal.τ).loc Cert.GlaReferenceIdeal.main_arg2)
          ∧ r.2.mem ((c.tc : Thread Cert.GlaReferenceIdeal.nD Cert.GlaReferenceIdeal.τ).loc Cert.GlaReferenceIdeal.main_arg3) = m' ((c.tc : Thread Cert.GlaReferenceIdeal.nD Cert.GlaReferenceIdeal.τ).loc Cert.GlaReferenceIdeal.main_arg3)
          ∧ r.2.mem ((c.tc : Thread Cert.GlaReferenceIdeal.nD Cert.GlaReferenceIdeal.τ).loc Cert.GlaReferenceIdeal.main_arg4) = m' ((c.tc : Thread Cert.GlaReferenceIdeal.nD Cert.GlaReferenceIdeal.τ).loc Cert.GlaReferenceIdeal.main_arg4)
          ∧ r.2.mem ((c.tc : Thread Cert.GlaReferenceIdeal.nD Cert.GlaReferenceIdeal.τ).loc Cert.GlaReferenceIdeal.main_arg5) = m' ((c.tc : Thread Cert.GlaReferenceIdeal.nD Cert.GlaReferenceIdeal.τ).loc Cert.GlaReferenceIdeal.main_arg5))

def preserves_Band_BandIdeal : Prop :=
  IdealRules.named_const.Statement Cert.BandIdeal.κ "log2e" .f32 0x3FB8AA3B#32 (((Real.log 2)⁻¹ : ℝ) : EReal)
  ∧ IdealRules.named_const.Statement Cert.BandIdeal.κ "mask" .f32 0xF149F2CA#32 ⊥
  ∧ IdealRules.named_const.Statement Cert.BandIdeal.κ "scale" .f32 0x3E0293EE#32 (((Real.sqrt 128)⁻¹ * (Real.log 2)⁻¹ : ℝ) : EReal)

def algebraic_BandIdeal_BandReferenceIdeal_pre_finite_scores [hBandIdeal : Cert.BandIdeal.Facts] [hBandReferenceIdeal : Cert.BandReferenceIdeal.Facts] [hPre_finite_scores : Cert.Pre_finite_scores.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandReferenceIdeal.nD Cert.BandReferenceIdeal.τ Cert.BandReferenceIdeal.sig) → Buf (Elt Ideal) ℓ) (g' : Dev Cert.BandReferenceIdeal.nD → PrngReg), Pre_BandIdeal_finite_scores m →
    (∀ c : Dev Cert.BandIdeal.nD,
      m' ((c.tc : Thread Cert.BandReferenceIdeal.nD Cert.BandReferenceIdeal.τ).loc Cert.BandReferenceIdeal.main_arg0) = m ((c.tc : Thread Cert.BandIdeal.nD Cert.BandIdeal.τ).loc Cert.BandIdeal.main_arg0)
      ∧ m' ((c.tc : Thread Cert.BandReferenceIdeal.nD Cert.BandReferenceIdeal.τ).loc Cert.BandReferenceIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v10)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v10) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandReferenceIdeal.defs (F := Ideal)) (onTc (τ := Cert.BandReferenceIdeal.τ) (Cert.BandReferenceIdeal.main (F := Ideal))) ⟨m', fun _ => 0, g'⟩ (fun r => ∀ c : Dev Cert.BandReferenceIdeal.nD,
          r.2.mem ((c.tc : Thread Cert.BandReferenceIdeal.nD Cert.BandReferenceIdeal.τ).loc Cert.BandReferenceIdeal.main_v60) = v0 c
          ∧ r.2.mem ((c.tc : Thread Cert.BandReferenceIdeal.nD Cert.BandReferenceIdeal.τ).loc Cert.BandReferenceIdeal.main_arg0) = m' ((c.tc : Thread Cert.BandReferenceIdeal.nD Cert.BandReferenceIdeal.τ).loc Cert.BandReferenceIdeal.main_arg0)
          ∧ r.2.mem ((c.tc : Thread Cert.BandReferenceIdeal.nD Cert.BandReferenceIdeal.τ).loc Cert.BandReferenceIdeal.main_arg1) = m' ((c.tc : Thread Cert.BandReferenceIdeal.nD Cert.BandReferenceIdeal.τ).loc Cert.BandReferenceIdeal.main_arg1))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpReferenceIdeal : Cert.GateUpReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hPreNorm : Cert.PreNorm.Facts) (hPreNormIdeal : Cert.PreNormIdeal.Facts) (hPreNormReferenceIdeal : Cert.PreNormReferenceIdeal.Facts) (hPost : Cert.Post.Facts) (hPostIdeal : Cert.PostIdeal.Facts) (hPostReferenceIdeal : Cert.PostReferenceIdeal.Facts) (hPostLast : Cert.PostLast.Facts) (hPostLastIdeal : Cert.PostLastIdeal.Facts) (hPostLastReferenceIdeal : Cert.PostLastReferenceIdeal.Facts) (hGla : Cert.Gla.Facts) (hGlaIdeal : Cert.GlaIdeal.Facts) (hGlaReferenceIdeal : Cert.GlaReferenceIdeal.Facts) (hBand : Cert.Band.Facts) (hBandIdeal : Cert.BandIdeal.Facts) (hBandReferenceIdeal : Cert.BandReferenceIdeal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_PreNorm (hPreNorm := hPreNorm)
    ∧ quiescent_PreNormIdeal (hPreNormIdeal := hPreNormIdeal)
    ∧ quiescent_PreNormReferenceIdeal (hPreNormReferenceIdeal := hPreNormReferenceIdeal)
    ∧ quiescent_Post (hPost := hPost)
    ∧ quiescent_PostIdeal (hPostIdeal := hPostIdeal)
    ∧ quiescent_PostReferenceIdeal (hPostReferenceIdeal := hPostReferenceIdeal)
    ∧ quiescent_PostLast (hPostLast := hPostLast)
    ∧ quiescent_PostLastIdeal (hPostLastIdeal := hPostLastIdeal)
    ∧ quiescent_PostLastReferenceIdeal (hPostLastReferenceIdeal := hPostLastReferenceIdeal)
    ∧ quiescent_Gla (hGla := hGla)
    ∧ quiescent_GlaIdeal (hGlaIdeal := hGlaIdeal)
    ∧ quiescent_GlaReferenceIdeal (hGlaReferenceIdeal := hGlaReferenceIdeal)
    ∧ quiescent_Band (hBand := hBand)
    ∧ quiescent_BandIdeal (hBandIdeal := hBandIdeal)
    ∧ quiescent_BandIdeal_pre_finite_scores (hBandIdeal := hBandIdeal) (hPre_finite_scores := hPre_finite_scores)
    ∧ quiescent_BandReferenceIdeal (hBandReferenceIdeal := hBandReferenceIdeal)
    ∧ quiescent_BandReferenceIdeal_pre_finite_scores (hBandReferenceIdeal := hBandReferenceIdeal) (hPre_finite_scores := hPre_finite_scores)
    ∧ preserves_Kernel_KernelIdeal
    ∧ algebraic_KernelIdeal_ReferenceIdeal (hKernelIdeal := hKernelIdeal) (hReferenceIdeal := hReferenceIdeal)
    ∧ preserves_GateUp_GateUpIdeal
    ∧ algebraic_GateUpIdeal_GateUpReferenceIdeal (hGateUpIdeal := hGateUpIdeal) (hGateUpReferenceIdeal := hGateUpReferenceIdeal)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_PreNorm_PreNormIdeal
    ∧ algebraic_PreNormIdeal_PreNormReferenceIdeal (hPreNormIdeal := hPreNormIdeal) (hPreNormReferenceIdeal := hPreNormReferenceIdeal)
    ∧ preserves_Post_PostIdeal
    ∧ algebraic_PostIdeal_PostReferenceIdeal (hPostIdeal := hPostIdeal) (hPostReferenceIdeal := hPostReferenceIdeal)
    ∧ preserves_PostLast_PostLastIdeal
    ∧ algebraic_PostLastIdeal_PostLastReferenceIdeal (hPostLastIdeal := hPostLastIdeal) (hPostLastReferenceIdeal := hPostLastReferenceIdeal)
    ∧ preserves_Gla_GlaIdeal
    ∧ algebraic_GlaIdeal_GlaReferenceIdeal (hGlaIdeal := hGlaIdeal) (hGlaReferenceIdeal := hGlaReferenceIdeal)
    ∧ preserves_Band_BandIdeal
    ∧ algebraic_BandIdeal_BandReferenceIdeal_pre_finite_scores (hBandIdeal := hBandIdeal) (hBandReferenceIdeal := hBandReferenceIdeal) (hPre_finite_scores := hPre_finite_scores)
-- ==== Pre_finite_scores.lean ====
abbrev S2x4096x12288 : Shape := ⟨3, ![2, 4096, 12288]⟩
abbrev S4x16x257 : Shape := ⟨3, ![4, 16, 257]⟩
abbrev S2x4096x4096 : Shape := ⟨3, ![2, 4096, 4096]⟩
abbrev S_ : Shape := ⟨0, ![]⟩
abbrev S1x16x257 : Shape := ⟨3, ![1, 16, 257]⟩
abbrev S16x257 : Shape := ⟨2, ![16, 257]⟩
abbrev S4096x4096 : Shape := ⟨2, ![4096, 4096]⟩
abbrev S1x4096x4096 : Shape := ⟨3, ![1, 4096, 4096]⟩

class Facts : Prop where
  slices_S2x4096x12288_S2x4096x4096_0_0_0 : S2x4096x12288.Slices ![0, 0, 0] S2x4096x4096
  bcast_S_S2x4096x4096 : S_.BroadcastsInDim S2x4096x4096 (![] : Fin 0 → Fin S2x4096x4096.rank)
  slices_S4x16x257_S1x16x257_0_0_0 : S4x16x257.Slices ![0, 0, 0] S1x16x257
  shapeCasts_S1x16x257_S16x257 : S1x16x257.ShapeCasts S16x257
  bcast_S_S16x257 : S_.BroadcastsInDim S16x257 (![] : Fin 0 → Fin S16x257.rank)
  pads_S16x257_S4096x4096_040800_038390 : S16x257.Pads (![0, 0] : Fin 2 → Nat) ![4080, 3839] ![0, 0] S4096x4096
  h_S_ : 0 < S_.numel
  bcast_S4096x4096_S1x4096x4096_1_2 : S4096x4096.BroadcastsInDim S1x4096x4096 (![1, 2] : Fin 2 → Fin S1x4096x4096.rank)
  bcast_S1x4096x4096_S2x4096x4096_0_1_2 : S1x4096x4096.BroadcastsInDim S2x4096x4096 (![0, 1, 2] : Fin 3 → Fin S2x4096x4096.rank)

variable [Facts]

def fn_pad {F : FTy → Type} [FloatOps F] (arg0 : IVec S16x257 1) (arg1 : IVec S_ 1) : IVec S4096x4096 1 :=
  let v0 : IVec S4096x4096 1 := (fun x v => pad S4096x4096 ![0, 0] ![4080, 3839] ![0, 0] x v pads_S16x257_S4096x4096_040800_038390 h_S_) arg0 arg1
  v0

def fn {F : FTy → Type} [FloatOps F] (main_arg0 : FVec F S2x4096x12288 .bf16) (main_arg1 : FVec F S4x16x257 .f32) : IVec S2x4096x4096 1 :=
  let main_v0 : FVec F S2x4096x4096 .bf16 := (extractStridedSlice S2x4096x4096 ![0, 0, 0] · slices_S2x4096x12288_S2x4096x4096_0_0_0) main_arg0
  let main_v1 : FVec F S2x4096x4096 .bf16 := Host.absf main_v0
  let main_cst : FVec F S_ .bf16 := constant S_ .bf16 0x7F80#16
  let main_v2 : FVec F S2x4096x4096 .bf16 := broadcastInDim S2x4096x4096 ![] bcast_S_S2x4096x4096 main_cst
  let main_v3 : IVec S2x4096x4096 1 := cmpf .olt main_v1 main_v2
  let main_v4 : FVec F S1x16x257 .f32 := (extractStridedSlice S1x16x257 ![0, 0, 0] · slices_S4x16x257_S1x16x257_0_0_0) main_arg1
  let main_v5 : FVec F S16x257 .f32 := shapeCast S16x257 main_v4 shapeCasts_S1x16x257_S16x257
  let main_v6 : FVec F S16x257 .f32 := Host.absf main_v5
  let main_cst_0 : FVec F S_ .f32 := constant S_ .f32 0x7F800000#32
  let main_v7 : FVec F S16x257 .f32 := broadcastInDim S16x257 ![] bcast_S_S16x257 main_cst_0
  let main_v8 : IVec S16x257 1 := cmpf .olt main_v6 main_v7
  let main_c : IVec S_ 1 := constantI S_ 1 1#1
  let main_v9 : IVec S4096x4096 1 := fn_pad (F := F) main_v8 main_c
  let main_v10 : IVec S1x4096x4096 1 := broadcastInDim S1x4096x4096 ![1, 2] bcast_S4096x4096_S1x4096x4096_1_2 main_v9
  let main_v11 : IVec S2x4096x4096 1 := broadcastInDim S2x4096x4096 ![0, 1, 2] bcast_S1x4096x4096_S2x4096x4096_0_1_2 main_v10
  let main_v12 : IVec S2x4096x4096 1 := andi main_v3 main_v11
  main_v12
-- ==== Kernel.lean ====
abbrev S8192x11008 : Shape := ⟨2, ![8192, 11008]⟩
abbrev S11008x4096 : Shape := ⟨2, ![11008, 4096]⟩
abbrev S8192x4096 : Shape := ⟨2, ![8192, 4096]⟩
abbrev S2x512x11008 : Shape := ⟨3, ![2, 512, 11008]⟩
abbrev S2 : Shape := ⟨1, ![2]⟩
abbrev S3x11008x512 : Shape := ⟨3, ![3, 11008, 512]⟩
abbrev S3 : Shape := ⟨1, ![3]⟩
abbrev S2x512x512 : Shape := ⟨3, ![2, 512, 512]⟩
abbrev S1 : Shape := ⟨1, ![1]⟩
abbrev S_ : Shape := ⟨0, ![]⟩
abbrev S1x512x11008 : Shape := ⟨3, ![1, 512, 11008]⟩
abbrev S512x11008 : Shape := ⟨2, ![512, 11008]⟩
abbrev S1x11008x512 : Shape := ⟨3, ![1, 11008, 512]⟩
abbrev S11008x512 : Shape := ⟨2, ![11008, 512]⟩
abbrev S512x512 : Shape := ⟨2, ![512, 512]⟩
abbrev S1x512x512 : Shape := ⟨3, ![1, 512, 512]⟩

abbrev nBuf : Space → Nat
  | .hbm => 3
  | .vmem => 3
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .bf16⟩
  | .local _ .vmem, ⟨0, _⟩ => ⟨S2x512x11008, .bf16⟩
  | .local _ .vmem, ⟨1, _⟩ => ⟨S3x11008x512, .bf16⟩
  | .local _ .vmem, ⟨2, _⟩ => ⟨S2x512x512, .bf16⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩

abbrev nD : Nat := 1
abbrev τ : Topo := Topo.v7x

variable {F : FTy → Type} [FloatOps F]

abbrev grid0 : Pipeline.Grid := .none

def k0_off1 : Fin 1 → Nat :=
  let c0_i32_34_r0 : BitVec 32 := 0#32
  let c2_i32_r0 : BitVec 32 := 2#32
  let v39_r0 : BitVec 32 := Scalar.remui c0_i32_34_r0 c2_i32_r0
  ![v39_r0.toNat]
def k0_off2 : Fin 3 → Nat :=
  let c0_i32_34_r0 : BitVec 32 := 0#32
  let c2_i32_r0 : BitVec 32 := 2#32
  let v39_r0 : BitVec 32 := Scalar.remui c0_i32_34_r0 c2_i32_r0
  let c0_i32_35_r0 : BitVec 32 := 0#32
  let c0_i32_36_r0 : BitVec 32 := 0#32
  ![v39_r0.toNat, 0, 0]
def k0_off3 : Fin 1 → Nat :=
  let c0_i32_41_r0 : BitVec 32 := 0#32
  let c3_i32_r0 : BitVec 32 := 3#32
  let v46_r0 : BitVec 32 := Scalar.remui c0_i32_41_r0 c3_i32_r0
  ![v46_r0.toNat]
def k0_off4 : Fin 3 → Nat :=
  let c0_i32_41_r0 : BitVec 32 := 0#32
  let c3_i32_r0 : BitVec 32 := 3#32
  let v46_r0 : BitVec 32 := Scalar.remui c0_i32_41_r0 c3_i32_r0
  let c0_i32_42_r0 : BitVec 32 := 0#32
  let c0_i32_43_r0 : BitVec 32 := 0#32
  ![v46_r0.toNat, 0, 0]
def k0_cond1 : BitVec 1 :=
  let true_49_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c8_i32_r0 : BitVec 32 := 8#32
  let v12_r0 : BitVec 1 := Scalar.cmpi .eq v11_r0 c8_i32_r0
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let c0_i32_48_r0 : BitVec 32 := 0#32
  let v53_r0 : BitVec 1 := Scalar.cmpi .ne v18_r0 c0_i32_48_r0
  let v54_r0 : BitVec 1 := Scalar.andi true_49_r0 v53_r0
  let true_50_r0 : BitVec 1 := 1#1
  let v55_r0 : BitVec 1 := Scalar.andi v54_r0 true_50_r0
  let v56_r0 : BitVec 32 := Scalar.extui v55_r0
  let c0_i32_51_r0 : BitVec 32 := 0#32
  let v57_r0 : BitVec 1 := Scalar.cmpi .ne v56_r0 c0_i32_51_r0
  v57_r0

def k0_off5 : Fin 1 → Nat :=
  let c0_i32_46_r0 : BitVec 32 := 0#32
  let c1_i32_47_r0 : BitVec 32 := 1#32
  let v52_r0 : BitVec 32 := Scalar.addi c0_i32_46_r0 c1_i32_47_r0
  let c3_i32_111_r0 : BitVec 32 := 3#32
  let v120_r0 : BitVec 32 := Scalar.remui v52_r0 c3_i32_111_r0
  ![v120_r0.toNat]
def k0_off6 : Fin 3 → Nat :=
  let c0_i32_46_r0 : BitVec 32 := 0#32
  let c1_i32_47_r0 : BitVec 32 := 1#32
  let v52_r0 : BitVec 32 := Scalar.addi c0_i32_46_r0 c1_i32_47_r0
  let c3_i32_111_r0 : BitVec 32 := 3#32
  let v120_r0 : BitVec 32 := Scalar.remui v52_r0 c3_i32_111_r0
  let c0_i32_113_r0 : BitVec 32 := 0#32
  let c0_i32_114_r0 : BitVec 32 := 0#32
  ![v120_r0.toNat, 0, 0]
def k0_off7 : Fin 2 → Nat :=
  let c0_i32_115_r0 : BitVec 32 := 0#32
  let c512_i32_112_r0 : BitVec 32 := 512#32
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c8_i32_r0 : BitVec 32 := 8#32
  let v12_r0 : BitVec 1 := Scalar.cmpi .eq v11_r0 c8_i32_r0
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let v121_r0 : BitVec 32 := Scalar.muli c512_i32_112_r0 v18_r0
  ![0, v121_r0.toNat]
@[reducible] def k0_t1_loop : Scf.Loop 32 :=
  let c0_i32_59_r0 : BitVec 32 := 0#32
  let c128_i32_r0 : BitVec 32 := 128#32
  let v60_r0 : BitVec 32 := Scalar.addi c0_i32_59_r0 c128_i32_r0
  let c1_i32_60_r0 : BitVec 32 := 1#32
  ⟨c0_i32_59_r0, v60_r0, c1_i32_60_r0⟩
def k0_off8 (arg4_r0 : BitVec 32) : Fin 1 → Nat :=
  let c2_i32_202_r0 : BitVec 32 := 2#32
  let v282_r0 : BitVec 32 := Scalar.remui arg4_r0 c2_i32_202_r0
  ![v282_r0.toNat]
def k0_cond2 (k0_t1 : Fin k0_t1_loop.trips) (arg10_r0 : BitVec 32) (arg11_r0 : BitVec 32) : BitVec 1 :=
  let c0_i32_112_r0 : BitVec 32 := 0#32
  let v122_r0 : BitVec 32 := Scalar.addi arg10_r0 c0_i32_112_r0
  let true_124_r0 : BitVec 1 := 1#1
  let c1_i32_123_r0 : BitVec 32 := 1#32
  let v134_r0 : BitVec 32 := Scalar.addi arg11_r0 c1_i32_123_r0
  let v135_r0 : BitVec 32 := Scalar.select true_124_r0 v134_r0 arg11_r0
  let c8_i32_125_r0 : BitVec 32 := 8#32
  let v136_r0 : BitVec 1 := Scalar.cmpi .eq v135_r0 c8_i32_125_r0
  let c1_i32_127_r0 : BitVec 32 := 1#32
  let v138_r0 : BitVec 32 := Scalar.addi arg10_r0 c1_i32_127_r0
  let v139_r0 : BitVec 32 := Scalar.select v136_r0 v138_r0 arg10_r0
  let c16_i32_128_r0 : BitVec 32 := 16#32
  let v140_r0 : BitVec 1 := Scalar.cmpi .eq v139_r0 c16_i32_128_r0
  let c0_i32_129_r0 : BitVec 32 := 0#32
  let v141_r0 : BitVec 32 := Scalar.select v140_r0 c0_i32_129_r0 v139_r0
  let c0_i32_130_r0 : BitVec 32 := 0#32
  let v142_r0 : BitVec 32 := Scalar.addi v141_r0 c0_i32_130_r0
  let v164_r0 : BitVec 1 := Scalar.cmpi .ne v122_r0 v142_r0
  let c0_i32_59_r0 : BitVec 32 := 0#32
  let c1_i32_60_r0 : BitVec 32 := 1#32
  let arg3_r0 : BitVec 32 := Scf.iv c0_i32_59_r0 c1_i32_60_r0 k0_t1
  let c127_i32_150_r0 : BitVec 32 := 127#32
  let v165_r0 : BitVec 1 := Scalar.cmpi .sge arg3_r0 c127_i32_150_r0
  let true_151_r0 : BitVec 1 := 1#1
  let v166_r0 : BitVec 1 := Scalar.xori v165_r0 true_151_r0
  let v167_r0 : BitVec 1 := Scalar.andi v164_r0 v166_r0
  let true_152_r0 : BitVec 1 := 1#1
  let v168_r0 : BitVec 1 := Scalar.andi v167_r0 true_152_r0
  let v169_r0 : BitVec 32 := Scalar.extui v168_r0
  let c0_i32_153_r0 : BitVec 32 := 0#32
  let v170_r0 : BitVec 1 := Scalar.cmpi .ne v169_r0 c0_i32_153_r0
  v170_r0

def k0_off9 (arg4_r0 : BitVec 32) : Fin 3 → Nat :=
  let c2_i32_202_r0 : BitVec 32 := 2#32
  let v282_r0 : BitVec 32 := Scalar.remui arg4_r0 c2_i32_202_r0
  let c0_i32_204_r0 : BitVec 32 := 0#32
  let c0_i32_205_r0 : BitVec 32 := 0#32
  ![v282_r0.toNat, 0, 0]
def k0_off10 (arg10_r0 : BitVec 32) (arg11_r0 : BitVec 32) : Fin 2 → Nat :=
  let c512_i32_203_r0 : BitVec 32 := 512#32
  let true_124_r0 : BitVec 1 := 1#1
  let c1_i32_123_r0 : BitVec 32 := 1#32
  let v134_r0 : BitVec 32 := Scalar.addi arg11_r0 c1_i32_123_r0
  let v135_r0 : BitVec 32 := Scalar.select true_124_r0 v134_r0 arg11_r0
  let c8_i32_125_r0 : BitVec 32 := 8#32
  let v136_r0 : BitVec 1 := Scalar.cmpi .eq v135_r0 c8_i32_125_r0
  let c1_i32_127_r0 : BitVec 32 := 1#32
  let v138_r0 : BitVec 32 := Scalar.addi arg10_r0 c1_i32_127_r0
  let v139_r0 : BitVec 32 := Scalar.select v136_r0 v138_r0 arg10_r0
  let c16_i32_128_r0 : BitVec 32 := 16#32
  let v140_r0 : BitVec 1 := Scalar.cmpi .eq v139_r0 c16_i32_128_r0
  let c0_i32_129_r0 : BitVec 32 := 0#32
  let v141_r0 : BitVec 32 := Scalar.select v140_r0 c0_i32_129_r0 v139_r0
  let c0_i32_130_r0 : BitVec 32 := 0#32
  let v142_r0 : BitVec 32 := Scalar.addi v141_r0 c0_i32_130_r0
  let v283_r0 : BitVec 32 := Scalar.muli c512_i32_203_r0 v142_r0
  let c0_i32_206_r0 : BitVec 32 := 0#32
  ![v283_r0.toNat, 0]
def k0_off11 (arg6_r0 : BitVec 32) : Fin 1 → Nat :=
  let c3_i32_202_r0 : BitVec 32 := 3#32
  let v282_r0 : BitVec 32 := Scalar.remui arg6_r0 c3_i32_202_r0
  ![v282_r0.toNat]
def k0_cond3 (k0_t1 : Fin k0_t1_loop.trips) (arg11_r0 : BitVec 32) : BitVec 1 :=
  let true_124_r0 : BitVec 1 := 1#1
  let c1_i32_123_r0 : BitVec 32 := 1#32
  let v134_r0 : BitVec 32 := Scalar.addi arg11_r0 c1_i32_123_r0
  let v135_r0 : BitVec 32 := Scalar.select true_124_r0 v134_r0 arg11_r0
  let c8_i32_125_r0 : BitVec 32 := 8#32
  let v136_r0 : BitVec 1 := Scalar.cmpi .eq v135_r0 c8_i32_125_r0
  let c0_i32_126_r0 : BitVec 32 := 0#32
  let v137_r0 : BitVec 32 := Scalar.select v136_r0 c0_i32_126_r0 v135_r0
  let c0_i32_131_r0 : BitVec 32 := 0#32
  let v143_r0 : BitVec 32 := Scalar.addi v137_r0 c0_i32_131_r0
  let true_133_r0 : BitVec 1 := 1#1
  let c1_i32_132_r0 : BitVec 32 := 1#32
  let v144_r0 : BitVec 32 := Scalar.addi v137_r0 c1_i32_132_r0
  let v145_r0 : BitVec 32 := Scalar.select true_133_r0 v144_r0 v137_r0
  let c8_i32_134_r0 : BitVec 32 := 8#32
  let v146_r0 : BitVec 1 := Scalar.cmpi .eq v145_r0 c8_i32_134_r0
  let c0_i32_135_r0 : BitVec 32 := 0#32
  let v147_r0 : BitVec 32 := Scalar.select v146_r0 c0_i32_135_r0 v145_r0
  let c0_i32_140_r0 : BitVec 32 := 0#32
  let v153_r0 : BitVec 32 := Scalar.addi v147_r0 c0_i32_140_r0
  let v174_r0 : BitVec 1 := Scalar.cmpi .ne v143_r0 v153_r0
  let c0_i32_59_r0 : BitVec 32 := 0#32
  let c1_i32_60_r0 : BitVec 32 := 1#32
  let arg3_r0 : BitVec 32 := Scf.iv c0_i32_59_r0 c1_i32_60_r0 k0_t1
  let c126_i32_r0 : BitVec 32 := 126#32
  let v175_r0 : BitVec 1 := Scalar.cmpi .sge arg3_r0 c126_i32_r0
  let true_156_r0 : BitVec 1 := 1#1
  let v176_r0 : BitVec 1 := Scalar.xori v175_r0 true_156_r0
  let v177_r0 : BitVec 1 := Scalar.andi v174_r0 v176_r0
  let true_157_r0 : BitVec 1 := 1#1
  let v178_r0 : BitVec 1 := Scalar.andi v177_r0 true_157_r0
  let v179_r0 : BitVec 32 := Scalar.extui v178_r0
  let c0_i32_158_r0 : BitVec 32 := 0#32
  let v180_r0 : BitVec 1 := Scalar.cmpi .ne v179_r0 c0_i32_158_r0
  v180_r0

def k0_off12 (arg6_r0 : BitVec 32) : Fin 3 → Nat :=
  let c3_i32_202_r0 : BitVec 32 := 3#32
  let v282_r0 : BitVec 32 := Scalar.remui arg6_r0 c3_i32_202_r0
  let c0_i32_204_r0 : BitVec 32 := 0#32
  let c0_i32_205_r0 : BitVec 32 := 0#32
  ![v282_r0.toNat, 0, 0]
def k0_off13 (arg11_r0 : BitVec 32) : Fin 2 → Nat :=
  let c0_i32_206_r0 : BitVec 32 := 0#32
  let c512_i32_203_r0 : BitVec 32 := 512#32
  let true_133_r0 : BitVec 1 := 1#1
  let true_124_r0 : BitVec 1 := 1#1
  let c1_i32_123_r0 : BitVec 32 := 1#32
  let v134_r0 : BitVec 32 := Scalar.addi arg11_r0 c1_i32_123_r0
  let v135_r0 : BitVec 32 := Scalar.select true_124_r0 v134_r0 arg11_r0
  let c8_i32_125_r0 : BitVec 32 := 8#32
  let v136_r0 : BitVec 1 := Scalar.cmpi .eq v135_r0 c8_i32_125_r0
  let c0_i32_126_r0 : BitVec 32 := 0#32
  let v137_r0 : BitVec 32 := Scalar.select v136_r0 c0_i32_126_r0 v135_r0
  let c1_i32_132_r0 : BitVec 32 := 1#32
  let v144_r0 : BitVec 32 := Scalar.addi v137_r0 c1_i32_132_r0
  let v145_r0 : BitVec 32 := Scalar.select true_133_r0 v144_r0 v137_r0
  let c8_i32_134_r0 : BitVec 32 := 8#32
  let v146_r0 : BitVec 1 := Scalar.cmpi .eq v145_r0 c8_i32_134_r0
  let c0_i32_135_r0 : BitVec 32 := 0#32
  let v147_r0 : BitVec 32 := Scalar.select v146_r0 c0_i32_135_r0 v145_r0
  let c0_i32_140_r0 : BitVec 32 := 0#32
  let v153_r0 : BitVec 32 := Scalar.addi v147_r0 c0_i32_140_r0
  let v283_r0 : BitVec 32 := Scalar.muli c512_i32_203_r0 v153_r0
  ![0, v283_r0.toNat]
def k0_off14 (arg5_r0 : BitVec 32) : Fin 1 → Nat :=
  let c2_i32_203_r0 : BitVec 32 := 2#32
  let v283_r0 : BitVec 32 := Scalar.remui arg5_r0 c2_i32_203_r0
  ![v283_r0.toNat]
def k0_cond4 (k0_t1 : Fin k0_t1_loop.trips) (arg10_r0 : BitVec 32) (arg11_r0 : BitVec 32) : BitVec 1 :=
  let c0_i32_112_r0 : BitVec 32 := 0#32
  let v122_r0 : BitVec 32 := Scalar.addi arg10_r0 c0_i32_112_r0
  let true_115_r0 : BitVec 1 := 1#1
  let c1_i32_114_r0 : BitVec 32 := 1#32
  let v124_r0 : BitVec 32 := Scalar.subi arg11_r0 c1_i32_114_r0
  let v125_r0 : BitVec 32 := Scalar.select true_115_r0 v124_r0 arg11_r0
  let c_m1_i32_116_r0 : BitVec 32 := 4294967295#32
  let v126_r0 : BitVec 1 := Scalar.cmpi .eq v125_r0 c_m1_i32_116_r0
  let c1_i32_118_r0 : BitVec 32 := 1#32
  let v128_r0 : BitVec 32 := Scalar.subi arg10_r0 c1_i32_118_r0
  let v129_r0 : BitVec 32 := Scalar.select v126_r0 v128_r0 arg10_r0
  let c_m1_i32_119_r0 : BitVec 32 := 4294967295#32
  let v130_r0 : BitVec 1 := Scalar.cmpi .eq v129_r0 c_m1_i32_119_r0
  let c15_i32_120_r0 : BitVec 32 := 15#32
  let v131_r0 : BitVec 32 := Scalar.select v130_r0 c15_i32_120_r0 v129_r0
  let c0_i32_121_r0 : BitVec 32 := 0#32
  let v132_r0 : BitVec 32 := Scalar.addi v131_r0 c0_i32_121_r0
  let v190_r0 : BitVec 1 := Scalar.cmpi .ne v122_r0 v132_r0
  let c0_i32_59_r0 : BitVec 32 := 0#32
  let c1_i32_60_r0 : BitVec 32 := 1#32
  let arg3_r0 : BitVec 32 := Scf.iv c0_i32_59_r0 c1_i32_60_r0 k0_t1
  let c0_i32_111_r0 : BitVec 32 := 0#32
  let v120_r0 : BitVec 1 := Scalar.cmpi .eq arg3_r0 c0_i32_111_r0
  let v191_r0 : BitVec 1 := Scalar.ori v190_r0 v120_r0
  let c0_i32_163_r0 : BitVec 32 := 0#32
  let v192_r0 : BitVec 1 := Scalar.cmpi .sge arg3_r0 c0_i32_163_r0
  let v193_r0 : BitVec 1 := Scalar.andi v191_r0 v192_r0
  let v194_r0 : BitVec 32 := Scalar.extui v193_r0
  let c0_i32_164_r0 : BitVec 32 := 0#32
  let v195_r0 : BitVec 1 := Scalar.cmpi .ne v194_r0 c0_i32_164_r0
  v195_r0

def k0_off15 (arg5_r0 : BitVec 32) : Fin 3 → Nat :=
  let c2_i32_203_r0 : BitVec 32 := 2#32
  let v283_r0 : BitVec 32 := Scalar.remui arg5_r0 c2_i32_203_r0
  let c0_i32_204_r0 : BitVec 32 := 0#32
  let c0_i32_205_r0 : BitVec 32 := 0#32
  ![v283_r0.toNat, 0, 0]
def k0_off16 (arg10_r0 : BitVec 32) : Fin 2 → Nat :=
  let c512_i32_202_r0 : BitVec 32 := 512#32
  let c0_i32_112_r0 : BitVec 32 := 0#32
  let v122_r0 : BitVec 32 := Scalar.addi arg10_r0 c0_i32_112_r0
  let v282_r0 : BitVec 32 := Scalar.muli c512_i32_202_r0 v122_r0
  let c0_i32_206_r0 : BitVec 32 := 0#32
  ![v282_r0.toNat, 0]
def k0_off17 (arg7_r0 : BitVec 32) : Fin 1 → Nat :=
  let c3_i32_203_r0 : BitVec 32 := 3#32
  let v283_r0 : BitVec 32 := Scalar.remui arg7_r0 c3_i32_203_r0
  ![v283_r0.toNat]
def k0_cond5 (k0_t1 : Fin k0_t1_loop.trips) (arg11_r0 : BitVec 32) : BitVec 1 :=
  let c0_i32_113_r0 : BitVec 32 := 0#32
  let v123_r0 : BitVec 32 := Scalar.addi arg11_r0 c0_i32_113_r0
  let true_115_r0 : BitVec 1 := 1#1
  let c1_i32_114_r0 : BitVec 32 := 1#32
  let v124_r0 : BitVec 32 := Scalar.subi arg11_r0 c1_i32_114_r0
  let v125_r0 : BitVec 32 := Scalar.select true_115_r0 v124_r0 arg11_r0
  let c_m1_i32_116_r0 : BitVec 32 := 4294967295#32
  let v126_r0 : BitVec 1 := Scalar.cmpi .eq v125_r0 c_m1_i32_116_r0
  let c7_i32_117_r0 : BitVec 32 := 7#32
  let v127_r0 : BitVec 32 := Scalar.select v126_r0 c7_i32_117_r0 v125_r0
  let c0_i32_122_r0 : BitVec 32 := 0#32
  let v133_r0 : BitVec 32 := Scalar.addi v127_r0 c0_i32_122_r0
  let v196_r0 : BitVec 1 := Scalar.cmpi .ne v123_r0 v133_r0
  let c0_i32_59_r0 : BitVec 32 := 0#32
  let c1_i32_60_r0 : BitVec 32 := 1#32
  let arg3_r0 : BitVec 32 := Scf.iv c0_i32_59_r0 c1_i32_60_r0 k0_t1
  let c0_i32_111_r0 : BitVec 32 := 0#32
  let v120_r0 : BitVec 1 := Scalar.cmpi .eq arg3_r0 c0_i32_111_r0
  let v197_r0 : BitVec 1 := Scalar.ori v196_r0 v120_r0
  let c0_i32_165_r0 : BitVec 32 := 0#32
  let v198_r0 : BitVec 1 := Scalar.cmpi .sge arg3_r0 c0_i32_165_r0
  let v199_r0 : BitVec 1 := Scalar.andi v197_r0 v198_r0
  let v200_r0 : BitVec 32 := Scalar.extui v199_r0
  let c0_i32_166_r0 : BitVec 32 := 0#32
  let v201_r0 : BitVec 1 := Scalar.cmpi .ne v200_r0 c0_i32_166_r0
  v201_r0

def k0_off18 (arg7_r0 : BitVec 32) : Fin 3 → Nat :=
  let c3_i32_203_r0 : BitVec 32 := 3#32
  let v283_r0 : BitVec 32 := Scalar.remui arg7_r0 c3_i32_203_r0
  let c0_i32_204_r0 : BitVec 32 := 0#32
  let c0_i32_205_r0 : BitVec 32 := 0#32
  ![v283_r0.toNat, 0, 0]
def k0_off19 (arg11_r0 : BitVec 32) : Fin 2 → Nat :=
  let c0_i32_206_r0 : BitVec 32 := 0#32
  let c512_i32_202_r0 : BitVec 32 := 512#32
  let c0_i32_113_r0 : BitVec 32 := 0#32
  let v123_r0 : BitVec 32 := Scalar.addi arg11_r0 c0_i32_113_r0
  let v282_r0 : BitVec 32 := Scalar.muli c512_i32_202_r0 v123_r0
  ![0, v282_r0.toNat]
def k0_off20 (arg5_r0 : BitVec 32) : Fin 3 → Nat :=
  let c2_i32_169_r0 : BitVec 32 := 2#32
  let v210_r0 : BitVec 32 := Scalar.remui arg5_r0 c2_i32_169_r0
  let v213_r0 : Index := Scalar.indexCast v210_r0
  let c0_r0 : Index := 0#32
  let c0_172_r0 : Index := 0#32
  ![v213_r0.toNat, 0, 0]

def k0_chk2 (arg5_r0 : BitVec 32) : Prop :=
  (∀ a, (k0_off20 arg5_r0) a + S1x512x11008.size a ≤ S2x512x11008.size a)
theorem k0_off20_inb : ∀ (arg5_r0 : BitVec 32) (k0_hw2 : k0_chk2 arg5_r0), ∀ a, (k0_off20 arg5_r0) a + S1x512x11008.size a ≤ S2x512x11008.size a := fun arg5_r0 k0_hw2 => k0_hw2

def k0_off21 (arg7_r0 : BitVec 32) : Fin 3 → Nat :=
  let c3_i32_170_r0 : BitVec 32 := 3#32
  let v211_r0 : BitVec 32 := Scalar.remui arg7_r0 c3_i32_170_r0
  let v216_r0 : Index := Scalar.indexCast v211_r0
  let c0_173_r0 : Index := 0#32
  let c0_174_r0 : Index := 0#32
  ![v216_r0.toNat, 0, 0]

def k0_chk3 (arg7_r0 : BitVec 32) : Prop :=
  (∀ a, (k0_off21 arg7_r0) a + S1x11008x512.size a ≤ S3x11008x512.size a)
theorem k0_off21_inb : ∀ (arg7_r0 : BitVec 32) (k0_hw3 : k0_chk3 arg7_r0), ∀ a, (k0_off21 arg7_r0) a + S1x11008x512.size a ≤ S3x11008x512.size a := fun arg7_r0 k0_hw3 => k0_hw3

def k0_off22 (arg8_r0 : BitVec 32) : Fin 3 → Nat :=
  let c2_i32_171_r0 : BitVec 32 := 2#32
  let v212_r0 : BitVec 32 := Scalar.remui arg8_r0 c2_i32_171_r0
  let v221_r0 : Index := Scalar.indexCast v212_r0
  let c0_175_r0 : Index := 0#32
  let c0_176_r0 : Index := 0#32
  ![v221_r0.toNat, 0, 0]

def k0_chk4 (arg8_r0 : BitVec 32) : Prop :=
  (∀ a, (k0_off22 arg8_r0) a + S1x512x512.size a ≤ S2x512x512.size a) ∧
  (∀ (hinb : ∀ a, (k0_off22 arg8_r0) a + S1x512x512.size a ≤ S2x512x512.size a), (Rect.unit (s := S2x512x512) (k0_off22 arg8_r0) S1x512x512.size hinb).PackedRows (EltTy.packing .bf16))
theorem k0_off22_inb : ∀ (arg8_r0 : BitVec 32) (k0_hw4 : k0_chk4 arg8_r0), ∀ a, (k0_off22 arg8_r0) a + S1x512x512.size a ≤ S2x512x512.size a := fun arg8_r0 k0_hw4 => k0_hw4.1
theorem k0_off22_packedbf16 : ∀ (arg8_r0 : BitVec 32) (k0_hw4 : k0_chk4 arg8_r0), (Rect.unit (s := S2x512x512) (k0_off22 arg8_r0) S1x512x512.size (k0_off22_inb arg8_r0 k0_hw4)).PackedRows (EltTy.packing .bf16) := fun arg8_r0 k0_hw4 => k0_hw4.2 (k0_off22_inb arg8_r0 k0_hw4)

def k0_off23 (arg8_r0 : BitVec 32) : Fin 1 → Nat :=
  let c2_i32_202_r0 : BitVec 32 := 2#32
  let v282_r0 : BitVec 32 := Scalar.remui arg8_r0 c2_i32_202_r0
  ![v282_r0.toNat]
def k0_cond9 (k0_t1 : Fin k0_t1_loop.trips) (arg10_r0 : BitVec 32) (arg11_r0 : BitVec 32) : BitVec 1 :=
  let c0_i32_112_r0 : BitVec 32 := 0#32
  let v122_r0 : BitVec 32 := Scalar.addi arg10_r0 c0_i32_112_r0
  let true_124_r0 : BitVec 1 := 1#1
  let c1_i32_123_r0 : BitVec 32 := 1#32
  let v134_r0 : BitVec 32 := Scalar.addi arg11_r0 c1_i32_123_r0
  let v135_r0 : BitVec 32 := Scalar.select true_124_r0 v134_r0 arg11_r0
  let c8_i32_125_r0 : BitVec 32 := 8#32
  let v136_r0 : BitVec 1 := Scalar.cmpi .eq v135_r0 c8_i32_125_r0
  let c1_i32_127_r0 : BitVec 32 := 1#32
  let v138_r0 : BitVec 32 := Scalar.addi arg10_r0 c1_i32_127_r0
  let v139_r0 : BitVec 32 := Scalar.select v136_r0 v138_r0 arg10_r0
  let c16_i32_128_r0 : BitVec 32 := 16#32
  let v140_r0 : BitVec 1 := Scalar.cmpi .eq v139_r0 c16_i32_128_r0
  let c0_i32_129_r0 : BitVec 32 := 0#32
  let v141_r0 : BitVec 32 := Scalar.select v140_r0 c0_i32_129_r0 v139_r0
  let c0_i32_130_r0 : BitVec 32 := 0#32
  let v142_r0 : BitVec 32 := Scalar.addi v141_r0 c0_i32_130_r0
  let v235_r0 : BitVec 1 := Scalar.cmpi .ne v122_r0 v142_r0
  let c0_i32_113_r0 : BitVec 32 := 0#32
  let v123_r0 : BitVec 32 := Scalar.addi arg11_r0 c0_i32_113_r0
  let c0_i32_126_r0 : BitVec 32 := 0#32
  let v137_r0 : BitVec 32 := Scalar.select v136_r0 c0_i32_126_r0 v135_r0
  let c0_i32_131_r0 : BitVec 32 := 0#32
  let v143_r0 : BitVec 32 := Scalar.addi v137_r0 c0_i32_131_r0
  let v236_r0 : BitVec 1 := Scalar.cmpi .ne v123_r0 v143_r0
  let v237_r0 : BitVec 1 := Scalar.ori v235_r0 v236_r0
  let c0_i32_59_r0 : BitVec 32 := 0#32
  let c1_i32_60_r0 : BitVec 32 := 1#32
  let arg3_r0 : BitVec 32 := Scf.iv c0_i32_59_r0 c1_i32_60_r0 k0_t1
  let c127_i32_r0 : BitVec 32 := 127#32
  let v121_r0 : BitVec 1 := Scalar.cmpi .eq arg3_r0 c127_i32_r0
  let v238_r0 : BitVec 1 := Scalar.ori v237_r0 v121_r0
  let v239_r0 : BitVec 32 := Scalar.extui v238_r0
  let c0_i32_180_r0 : BitVec 32 := 0#32
  let v240_r0 : BitVec 1 := Scalar.cmpi .ne v239_r0 c0_i32_180_r0
  v240_r0

def k0_off24 (arg10_r0 : BitVec 32) (arg11_r0 : BitVec 32) : Fin 2 → Nat :=
  let c512_i32_203_r0 : BitVec 32 := 512#32
  let c0_i32_112_r0 : BitVec 32 := 0#32
  let v122_r0 : BitVec 32 := Scalar.addi arg10_r0 c0_i32_112_r0
  let v283_r0 : BitVec 32 := Scalar.muli c512_i32_203_r0 v122_r0
  let c512_i32_204_r0 : BitVec 32 := 512#32
  let c0_i32_113_r0 : BitVec 32 := 0#32
  let v123_r0 : BitVec 32 := Scalar.addi arg11_r0 c0_i32_113_r0
  let v284_r0 : BitVec 32 := Scalar.muli c512_i32_204_r0 v123_r0
  ![v283_r0.toNat, v284_r0.toNat]
def k0_off25 (arg8_r0 : BitVec 32) : Fin 3 → Nat :=
  let c2_i32_202_r0 : BitVec 32 := 2#32
  let v282_r0 : BitVec 32 := Scalar.remui arg8_r0 c2_i32_202_r0
  let c0_i32_205_r0 : BitVec 32 := 0#32
  let c0_i32_206_r0 : BitVec 32 := 0#32
  ![v282_r0.toNat, 0, 0]
def k0_off26 (arg9_r0 : BitVec 32) : Fin 1 → Nat :=
  let c2_i32_202_r0 : BitVec 32 := 2#32
  let v282_r0 : BitVec 32 := Scalar.remui arg9_r0 c2_i32_202_r0
  ![v282_r0.toNat]
def k0_cond12 (k0_t1 : Fin k0_t1_loop.trips) (arg10_r0 : BitVec 32) (arg11_r0 : BitVec 32) : BitVec 1 :=
  let c0_i32_112_r0 : BitVec 32 := 0#32
  let v122_r0 : BitVec 32 := Scalar.addi arg10_r0 c0_i32_112_r0
  let true_115_r0 : BitVec 1 := 1#1
  let c1_i32_114_r0 : BitVec 32 := 1#32
  let v124_r0 : BitVec 32 := Scalar.subi arg11_r0 c1_i32_114_r0
  let v125_r0 : BitVec 32 := Scalar.select true_115_r0 v124_r0 arg11_r0
  let c_m1_i32_116_r0 : BitVec 32 := 4294967295#32
  let v126_r0 : BitVec 1 := Scalar.cmpi .eq v125_r0 c_m1_i32_116_r0
  let c1_i32_118_r0 : BitVec 32 := 1#32
  let v128_r0 : BitVec 32 := Scalar.subi arg10_r0 c1_i32_118_r0
  let v129_r0 : BitVec 32 := Scalar.select v126_r0 v128_r0 arg10_r0
  let c_m1_i32_119_r0 : BitVec 32 := 4294967295#32
  let v130_r0 : BitVec 1 := Scalar.cmpi .eq v129_r0 c_m1_i32_119_r0
  let c15_i32_120_r0 : BitVec 32 := 15#32
  let v131_r0 : BitVec 32 := Scalar.select v130_r0 c15_i32_120_r0 v129_r0
  let c0_i32_121_r0 : BitVec 32 := 0#32
  let v132_r0 : BitVec 32 := Scalar.addi v131_r0 c0_i32_121_r0
  let v256_r0 : BitVec 1 := Scalar.cmpi .ne v122_r0 v132_r0
  let c0_i32_113_r0 : BitVec 32 := 0#32
  let v123_r0 : BitVec 32 := Scalar.addi arg11_r0 c0_i32_113_r0
  let c7_i32_117_r0 : BitVec 32 := 7#32
  let v127_r0 : BitVec 32 := Scalar.select v126_r0 c7_i32_117_r0 v125_r0
  let c0_i32_122_r0 : BitVec 32 := 0#32
  let v133_r0 : BitVec 32 := Scalar.addi v127_r0 c0_i32_122_r0
  let v257_r0 : BitVec 1 := Scalar.cmpi .ne v123_r0 v133_r0
  let v258_r0 : BitVec 1 := Scalar.ori v256_r0 v257_r0
  let c0_i32_59_r0 : BitVec 32 := 0#32
  let c1_i32_60_r0 : BitVec 32 := 1#32
  let arg3_r0 : BitVec 32 := Scf.iv c0_i32_59_r0 c1_i32_60_r0 k0_t1
  let c0_i32_111_r0 : BitVec 32 := 0#32
  let v120_r0 : BitVec 1 := Scalar.cmpi .eq arg3_r0 c0_i32_111_r0
  let true_189_r0 : BitVec 1 := 1#1
  let v259_r0 : BitVec 1 := Scalar.xori v120_r0 true_189_r0
  let v260_r0 : BitVec 1 := Scalar.andi v258_r0 v259_r0
  let v261_r0 : BitVec 32 := Scalar.extui v260_r0
  let c0_i32_190_r0 : BitVec 32 := 0#32
  let v262_r0 : BitVec 1 := Scalar.cmpi .ne v261_r0 c0_i32_190_r0
  v262_r0

def k0_off27 (arg10_r0 : BitVec 32) (arg11_r0 : BitVec 32) : Fin 2 → Nat :=
  let c512_i32_203_r0 : BitVec 32 := 512#32
  let true_115_r0 : BitVec 1 := 1#1
  let c1_i32_114_r0 : BitVec 32 := 1#32
  let v124_r0 : BitVec 32 := Scalar.subi arg11_r0 c1_i32_114_r0
  let v125_r0 : BitVec 32 := Scalar.select true_115_r0 v124_r0 arg11_r0
  let c_m1_i32_116_r0 : BitVec 32 := 4294967295#32
  let v126_r0 : BitVec 1 := Scalar.cmpi .eq v125_r0 c_m1_i32_116_r0
  let c1_i32_118_r0 : BitVec 32 := 1#32
  let v128_r0 : BitVec 32 := Scalar.subi arg10_r0 c1_i32_118_r0
  let v129_r0 : BitVec 32 := Scalar.select v126_r0 v128_r0 arg10_r0
  let c_m1_i32_119_r0 : BitVec 32 := 4294967295#32
  let v130_r0 : BitVec 1 := Scalar.cmpi .eq v129_r0 c_m1_i32_119_r0
  let c15_i32_120_r0 : BitVec 32 := 15#32
  let v131_r0 : BitVec 32 := Scalar.select v130_r0 c15_i32_120_r0 v129_r0
  let c0_i32_121_r0 : BitVec 32 := 0#32
  let v132_r0 : BitVec 32 := Scalar.addi v131_r0 c0_i32_121_r0
  let v283_r0 : BitVec 32 := Scalar.muli c512_i32_203_r0 v132_r0
  let c512_i32_204_r0 : BitVec 32 := 512#32
  let c7_i32_117_r0 : BitVec 32 := 7#32
  let v127_r0 : BitVec 32 := Scalar.select v126_r0 c7_i32_117_r0 v125_r0
  let c0_i32_122_r0 : BitVec 32 := 0#32
  let v133_r0 : BitVec 32 := Scalar.addi v127_r0 c0_i32_122_r0
  let v284_r0 : BitVec 32 := Scalar.muli c512_i32_204_r0 v133_r0
  ![v283_r0.toNat, v284_r0.toNat]
def k0_off28 (arg9_r0 : BitVec 32) : Fin 3 → Nat :=
  let c2_i32_202_r0 : BitVec 32 := 2#32
  let v282_r0 : BitVec 32 := Scalar.remui arg9_r0 c2_i32_202_r0
  let c0_i32_205_r0 : BitVec 32 := 0#32
  let c0_i32_206_r0 : BitVec 32 := 0#32
  ![v282_r0.toNat, 0, 0]

def k0_chk1 (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) : Prop :=
  (∀ (k0_h2 : k0_cond2 k0_t1 arg10_r0 arg11_r0 = 1#1), ∀ a, (k0_off8 arg4_r0) a + S1.size a ≤ S2.size a) ∧
  (∀ (k0_h2 : k0_cond2 k0_t1 arg10_r0 arg11_r0 = 1#1), ∀ a, (k0_off9 arg4_r0) a + S1x512x11008.size a ≤ S2x512x11008.size a) ∧
  (∀ (k0_h2 : k0_cond2 k0_t1 arg10_r0 arg11_r0 = 1#1), ∀ a, (k0_off10 arg10_r0 arg11_r0) a + S512x11008.size a ≤ S8192x11008.size a) ∧
  (∀ (k0_h2 : k0_cond2 k0_t1 arg10_r0 arg11_r0 = 1#1), ∀ (hinb : ∀ a, (k0_off10 arg10_r0 arg11_r0) a + S512x11008.size a ≤ S8192x11008.size a), (Rect.unit (s := S8192x11008) (k0_off10 arg10_r0 arg11_r0) S512x11008.size hinb).WholeWords (EltTy.packing .bf16)) ∧
  (∀ (k0_h2 : k0_cond2 k0_t1 arg10_r0 arg11_r0 = 1#1), ∀ (hinb : ∀ a, (k0_off9 arg4_r0) a + S1x512x11008.size a ≤ S2x512x11008.size a), (Rect.unit (s := S2x512x11008) (k0_off9 arg4_r0) S1x512x11008.size hinb).WholeWords (EltTy.packing .bf16)) ∧
  (∀ (k0_h3 : k0_cond3 k0_t1 arg11_r0 = 1#1), ∀ a, (k0_off11 arg6_r0) a + S1.size a ≤ S3.size a) ∧
  (∀ (k0_h3 : k0_cond3 k0_t1 arg11_r0 = 1#1), ∀ a, (k0_off12 arg6_r0) a + S1x11008x512.size a ≤ S3x11008x512.size a) ∧
  (∀ (k0_h3 : k0_cond3 k0_t1 arg11_r0 = 1#1), ∀ a, (k0_off13 arg11_r0) a + S11008x512.size a ≤ S11008x4096.size a) ∧
  (∀ (k0_h3 : k0_cond3 k0_t1 arg11_r0 = 1#1), ∀ (hinb : ∀ a, (k0_off13 arg11_r0) a + S11008x512.size a ≤ S11008x4096.size a), (Rect.unit (s := S11008x4096) (k0_off13 arg11_r0) S11008x512.size hinb).WholeWords (EltTy.packing .bf16)) ∧
  (∀ (k0_h3 : k0_cond3 k0_t1 arg11_r0 = 1#1), ∀ (hinb : ∀ a, (k0_off12 arg6_r0) a + S1x11008x512.size a ≤ S3x11008x512.size a), (Rect.unit (s := S3x11008x512) (k0_off12 arg6_r0) S1x11008x512.size hinb).WholeWords (EltTy.packing .bf16)) ∧
  (∀ (k0_h4 : k0_cond4 k0_t1 arg10_r0 arg11_r0 = 1#1), ∀ a, (k0_off14 arg5_r0) a + S1.size a ≤ S2.size a) ∧
  (∀ (k0_h4 : k0_cond4 k0_t1 arg10_r0 arg11_r0 = 1#1), ∀ a, (k0_off15 arg5_r0) a + S1x512x11008.size a ≤ S2x512x11008.size a) ∧
  (∀ (k0_h4 : k0_cond4 k0_t1 arg10_r0 arg11_r0 = 1#1), ∀ a, (k0_off16 arg10_r0) a + S512x11008.size a ≤ S8192x11008.size a) ∧
  (∀ (k0_h4 : k0_cond4 k0_t1 arg10_r0 arg11_r0 = 1#1), ∀ (hinb : ∀ a, (k0_off16 arg10_r0) a + S512x11008.size a ≤ S8192x11008.size a), (Rect.unit (s := S8192x11008) (k0_off16 arg10_r0) S512x11008.size hinb).WholeWords (EltTy.packing .bf16)) ∧
  (∀ (k0_h4 : k0_cond4 k0_t1 arg10_r0 arg11_r0 = 1#1), ∀ (hinb : ∀ a, (k0_off15 arg5_r0) a + S1x512x11008.size a ≤ S2x512x11008.size a), (Rect.unit (s := S2x512x11008) (k0_off15 arg5_r0) S1x512x11008.size hinb).WholeWords (EltTy.packing .bf16)) ∧
  (∀ (k0_h5 : k0_cond5 k0_t1 arg11_r0 = 1#1), ∀ a, (k0_off17 arg7_r0) a + S1.size a ≤ S3.size a) ∧
  (∀ (k0_h5 : k0_cond5 k0_t1 arg11_r0 = 1#1), ∀ a, (k0_off18 arg7_r0) a + S1x11008x512.size a ≤ S3x11008x512.size a) ∧
  (∀ (k0_h5 : k0_cond5 k0_t1 arg11_r0 = 1#1), ∀ a, (k0_off19 arg11_r0) a + S11008x512.size a ≤ S11008x4096.size a) ∧
  (∀ (k0_h5 : k0_cond5 k0_t1 arg11_r0 = 1#1), ∀ (hinb : ∀ a, (k0_off19 arg11_r0) a + S11008x512.size a ≤ S11008x4096.size a), (Rect.unit (s := S11008x4096) (k0_off19 arg11_r0) S11008x512.size hinb).WholeWords (EltTy.packing .bf16)) ∧
  (∀ (k0_h5 : k0_cond5 k0_t1 arg11_r0 = 1#1), ∀ (hinb : ∀ a, (k0_off18 arg7_r0) a + S1x11008x512.size a ≤ S3x11008x512.size a), (Rect.unit (s := S3x11008x512) (k0_off18 arg7_r0) S1x11008x512.size hinb).WholeWords (EltTy.packing .bf16)) ∧
  (∀ (k0_h9 : k0_cond9 k0_t1 arg10_r0 arg11_r0 = 1#1), ∀ a, (k0_off23 arg8_r0) a + S1.size a ≤ S2.size a) ∧
  (∀ (k0_h9 : k0_cond9 k0_t1 arg10_r0 arg11_r0 = 1#1), ∀ a, (k0_off24 arg10_r0 arg11_r0) a + S512x512.size a ≤ S8192x4096.size a) ∧
  (∀ (k0_h9 : k0_cond9 k0_t1 arg10_r0 arg11_r0 = 1#1), ∀ a, (k0_off25 arg8_r0) a + S1x512x512.size a ≤ S2x512x512.size a) ∧
  (∀ (k0_h9 : k0_cond9 k0_t1 arg10_r0 arg11_r0 = 1#1), ∀ (hinb : ∀ a, (k0_off25 arg8_r0) a + S1x512x512.size a ≤ S2x512x512.size a), (Rect.unit (s := S2x512x512) (k0_off25 arg8_r0) S1x512x512.size hinb).WholeWords (EltTy.packing .bf16)) ∧
  (∀ (k0_h9 : k0_cond9 k0_t1 arg10_r0 arg11_r0 = 1#1), ∀ (hinb : ∀ a, (k0_off24 arg10_r0 arg11_r0) a + S512x512.size a ≤ S8192x4096.size a), (Rect.unit (s := S8192x4096) (k0_off24 arg10_r0 arg11_r0) S512x512.size hinb).WholeWords (EltTy.packing .bf16)) ∧
  (∀ (k0_h12 : k0_cond12 k0_t1 arg10_r0 arg11_r0 = 1#1), ∀ a, (k0_off26 arg9_r0) a + S1.size a ≤ S2.size a) ∧
  (∀ (k0_h12 : k0_cond12 k0_t1 arg10_r0 arg11_r0 = 1#1), ∀ a, (k0_off27 arg10_r0 arg11_r0) a + S512x512.size a ≤ S8192x4096.size a) ∧
  (∀ (k0_h12 : k0_cond12 k0_t1 arg10_r0 arg11_r0 = 1#1), ∀ a, (k0_off28 arg9_r0) a + S1x512x512.size a ≤ S2x512x512.size a) ∧
  (∀ (k0_h12 : k0_cond12 k0_t1 arg10_r0 arg11_r0 = 1#1), ∀ (hinb : ∀ a, (k0_off28 arg9_r0) a + S1x512x512.size a ≤ S2x512x512.size a), (Rect.unit (s := S2x512x512) (k0_off28 arg9_r0) S1x512x512.size hinb).WholeWords (EltTy.packing .bf16)) ∧
  (∀ (k0_h12 : k0_cond12 k0_t1 arg10_r0 arg11_r0 = 1#1), ∀ (hinb : ∀ a, (k0_off27 arg10_r0 arg11_r0) a + S512x512.size a ≤ S8192x4096.size a), (Rect.unit (s := S8192x4096) (k0_off27 arg10_r0 arg11_r0) S512x512.size hinb).WholeWords (EltTy.packing .bf16))
theorem k0_off8_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h2 : k0_cond2 k0_t1 arg10_r0 arg11_r0 = 1#1), ∀ a, (k0_off8 arg4_r0) a + S1.size a ≤ S2.size a := fun k0_t1 arg4_r0 arg5_r0 arg6_r0 arg7_r0 arg8_r0 arg9_r0 arg10_r0 arg11_r0 k0_hw1 k0_h2 => k0_hw1.1 k0_h2
theorem k0_off9_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h2 : k0_cond2 k0_t1 arg10_r0 arg11_r0 = 1#1), ∀ a, (k0_off9 arg4_r0) a + S1x512x11008.size a ≤ S2x512x11008.size a := fun k0_t1 arg4_r0 arg5_r0 arg6_r0 arg7_r0 arg8_r0 arg9_r0 arg10_r0 arg11_r0 k0_hw1 k0_h2 => k0_hw1.2.1 k0_h2
theorem k0_off10_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h2 : k0_cond2 k0_t1 arg10_r0 arg11_r0 = 1#1), ∀ a, (k0_off10 arg10_r0 arg11_r0) a + S512x11008.size a ≤ S8192x11008.size a := fun k0_t1 arg4_r0 arg5_r0 arg6_r0 arg7_r0 arg8_r0 arg9_r0 arg10_r0 arg11_r0 k0_hw1 k0_h2 => k0_hw1.2.2.1 k0_h2
theorem k0_off10_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h2 : k0_cond2 k0_t1 arg10_r0 arg11_r0 = 1#1), (Rect.unit (s := S8192x11008) (k0_off10 arg10_r0 arg11_r0) S512x11008.size (k0_off10_inb k0_t1 arg4_r0 arg5_r0 arg6_r0 arg7_r0 arg8_r0 arg9_r0 arg10_r0 arg11_r0 k0_hw1 k0_h2)).WholeWords (EltTy.packing .bf16) := fun k0_t1 arg4_r0 arg5_r0 arg6_r0 arg7_r0 arg8_r0 arg9_r0 arg10_r0 arg11_r0 k0_hw1 k0_h2 => k0_hw1.2.2.2.1 k0_h2 (k0_off10_inb k0_t1 arg4_r0 arg5_r0 arg6_r0 arg7_r0 arg8_r0 arg9_r0 arg10_r0 arg11_r0 k0_hw1 k0_h2)
theorem k0_off9_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h2 : k0_cond2 k0_t1 arg10_r0 arg11_r0 = 1#1), (Rect.unit (s := S2x512x11008) (k0_off9 arg4_r0) S1x512x11008.size (k0_off9_inb k0_t1 arg4_r0 arg5_r0 arg6_r0 arg7_r0 arg8_r0 arg9_r0 arg10_r0 arg11_r0 k0_hw1 k0_h2)).WholeWords (EltTy.packing .bf16) := fun k0_t1 arg4_r0 arg5_r0 arg6_r0 arg7_r0 arg8_r0 arg9_r0 arg10_r0 arg11_r0 k0_hw1 k0_h2 => k0_hw1.2.2.2.2.1 k0_h2 (k0_off9_inb k0_t1 arg4_r0 arg5_r0 arg6_r0 arg7_r0 arg8_r0 arg9_r0 arg10_r0 arg11_r0 k0_hw1 k0_h2)
theorem k0_off11_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h3 : k0_cond3 k0_t1 arg11_r0 = 1#1), ∀ a, (k0_off11 arg6_r0) a + S1.size a ≤ S3.size a := fun k0_t1 arg4_r0 arg5_r0 arg6_r0 arg7_r0 arg8_r0 arg9_r0 arg10_r0 arg11_r0 k0_hw1 k0_h3 => k0_hw1.2.2.2.2.2.1 k0_h3
theorem k0_off12_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h3 : k0_cond3 k0_t1 arg11_r0 = 1#1), ∀ a, (k0_off12 arg6_r0) a + S1x11008x512.size a ≤ S3x11008x512.size a := fun k0_t1 arg4_r0 arg5_r0 arg6_r0 arg7_r0 arg8_r0 arg9_r0 arg10_r0 arg11_r0 k0_hw1 k0_h3 => k0_hw1.2.2.2.2.2.2.1 k0_h3
theorem k0_off13_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h3 : k0_cond3 k0_t1 arg11_r0 = 1#1), ∀ a, (k0_off13 arg11_r0) a + S11008x512.size a ≤ S11008x4096.size a := fun k0_t1 arg4_r0 arg5_r0 arg6_r0 arg7_r0 arg8_r0 arg9_r0 arg10_r0 arg11_r0 k0_hw1 k0_h3 => k0_hw1.2.2.2.2.2.2.2.1 k0_h3
theorem k0_off13_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h3 : k0_cond3 k0_t1 arg11_r0 = 1#1), (Rect.unit (s := S11008x4096) (k0_off13 arg11_r0) S11008x512.size (k0_off13_inb k0_t1 arg4_r0 arg5_r0 arg6_r0 arg7_r0 arg8_r0 arg9_r0 arg10_r0 arg11_r0 k0_hw1 k0_h3)).WholeWords (EltTy.packing .bf16) := fun k0_t1 arg4_r0 arg5_r0 arg6_r0 arg7_r0 arg8_r0 arg9_r0 arg10_r0 arg11_r0 k0_hw1 k0_h3 => k0_hw1.2.2.2.2.2.2.2.2.1 k0_h3 (k0_off13_inb k0_t1 arg4_r0 arg5_r0 arg6_r0 arg7_r0 arg8_r0 arg9_r0 arg10_r0 arg11_r0 k0_hw1 k0_h3)
theorem k0_off12_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h3 : k0_cond3 k0_t1 arg11_r0 = 1#1), (Rect.unit (s := S3x11008x512) (k0_off12 arg6_r0) S1x11008x512.size (k0_off12_inb k0_t1 arg4_r0 arg5_r0 arg6_r0 arg7_r0 arg8_r0 arg9_r0 arg10_r0 arg11_r0 k0_hw1 k0_h3)).WholeWords (EltTy.packing .bf16) := fun k0_t1 arg4_r0 arg5_r0 arg6_r0 arg7_r0 arg8_r0 arg9_r0 arg10_r0 arg11_r0 k0_hw1 k0_h3 => k0_hw1.2.2.2.2.2.2.2.2.2.1 k0_h3 (k0_off12_inb k0_t1 arg4_r0 arg5_r0 arg6_r0 arg7_r0 arg8_r0 arg9_r0 arg10_r0 arg11_r0 k0_hw1 k0_h3)
theorem k0_off14_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h4 : k0_cond4 k0_t1 arg10_r0 arg11_r0 = 1#1), ∀ a, (k0_off14 arg5_r0) a + S1.size a ≤ S2.size a := fun k0_t1 arg4_r0 arg5_r0 arg6_r0 arg7_r0 arg8_r0 arg9_r0 arg10_r0 arg11_r0 k0_hw1 k0_h4 => k0_hw1.2.2.2.2.2.2.2.2.2.2.1 k0_h4
theorem k0_off15_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h4 : k0_cond4 k0_t1 arg10_r0 arg11_r0 = 1#1), ∀ a, (k0_off15 arg5_r0) a + S1x512x11008.size a ≤ S2x512x11008.size a := fun k0_t1 arg4_r0 arg5_r0 arg6_r0 arg7_r0 arg8_r0 arg9_r0 arg10_r0 arg11_r0 k0_hw1 k0_h4 => k0_hw1.2.2.2.2.2.2.2.2.2.2.2.1 k0_h4
theorem k0_off16_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h4 : k0_cond4 k0_t1 arg10_r0 arg11_r0 = 1#1), ∀ a, (k0_off16 arg10_r0) a + S512x11008.size a ≤ S8192x11008.size a := fun k0_t1 arg4_r0 arg5_r0 arg6_r0 arg7_r0 arg8_r0 arg9_r0 arg10_r0 arg11_r0 k0_hw1 k0_h4 => k0_hw1.2.2.2.2.2.2.2.2.2.2.2.2.1 k0_h4
theorem k0_off16_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h4 : k0_cond4 k0_t1 arg10_r0 arg11_r0 = 1#1), (Rect.unit (s := S8192x11008) (k0_off16 arg10_r0) S512x11008.size (k0_off16_inb k0_t1 arg4_r0 arg5_r0 arg6_r0 arg7_r0 arg8_r0 arg9_r0 arg10_r0 arg11_r0 k0_hw1 k0_h4)).WholeWords (EltTy.packing .bf16) := fun k0_t1 arg4_r0 arg5_r0 arg6_r0 arg7_r0 arg8_r0 arg9_r0 arg10_r0 arg11_r0 k0_hw1 k0_h4 => k0_hw1.2.2.2.2.2.2.2.2.2.2.2.2.2.1 k0_h4 (k0_off16_inb k0_t1 arg4_r0 arg5_r0 arg6_r0 arg7_r0 arg8_r0 arg9_r0 arg10_r0 arg11_r0 k0_hw1 k0_h4)
theorem k0_off15_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h4 : k0_cond4 k0_t1 arg10_r0 arg11_r0 = 1#1), (Rect.unit (s := S2x512x11008) (k0_off15 arg5_r0) S1x512x11008.size (k0_off15_inb k0_t1 arg4_r0 arg5_r0 arg6_r0 arg7_r0 arg8_r0 arg9_r0 arg10_r0 arg11_r0 k0_hw1 k0_h4)).WholeWords (EltTy.packing .bf16) := fun k0_t1 arg4_r0 arg5_r0 arg6_r0 arg7_r0 arg8_r0 arg9_r0 arg10_r0 arg11_r0 k0_hw1 k0_h4 => k0_hw1.2.2.2.2.2.2.2.2.2.2.2.2.2.2.1 k0_h4 (k0_off15_inb k0_t1 arg4_r0 arg5_r0 arg6_r0 arg7_r0 arg8_r0 arg9_r0 arg10_r0 arg11_r0 k0_hw1 k0_h4)
theorem k0_off17_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h5 : k0_cond5 k0_t1 arg11_r0 = 1#1), ∀ a, (k0_off17 arg7_r0) a + S1.size a ≤ S3.size a := fun k0_t1 arg4_r0 arg5_r0 arg6_r0 arg7_r0 arg8_r0 arg9_r0 arg10_r0 arg11_r0 k0_hw1 k0_h5 => k0_hw1.2.2.2.2.2.2.2.2.2.2.2.2.2.2.2.1 k0_h5
theorem k0_off18_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h5 : k0_cond5 k0_t1 arg11_r0 = 1#1), ∀ a, (k0_off18 arg7_r0) a + S1x11008x512.size a ≤ S3x11008x512.size a := fun k0_t1 arg4_r0 arg5_r0 arg6_r0 arg7_r0 arg8_r0 arg9_r0 arg10_r0 arg11_r0 k0_hw1 k0_h5 => k0_hw1.2.2.2.2.2.2.2.2.2.2.2.2.2.2.2.2.1 k0_h5
theorem k0_off19_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h5 : k0_cond5 k0_t1 arg11_r0 = 1#1), ∀ a, (k0_off19 arg11_r0) a + S11008x512.size a ≤ S11008x4096.size a := fun k0_t1 arg4_r0 arg5_r0 arg6_r0 arg7_r0 arg8_r0 arg9_r0 arg10_r0 arg11_r0 k0_hw1 k0_h5 => k0_hw1.2.2.2.2.2.2.2.2.2.2.2.2.2.2.2.2.2.1 k0_h5
theorem k0_off19_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h5 : k0_cond5 k0_t1 arg11_r0 = 1#1), (Rect.unit (s := S11008x4096) (k0_off19 arg11_r0) S11008x512.size (k0_off19_inb k0_t1 arg4_r0 arg5_r0 arg6_r0 arg7_r0 arg8_r0 arg9_r0 arg10_r0 arg11_r0 k0_hw1 k0_h5)).WholeWords (EltTy.packing .bf16) := fun k0_t1 arg4_r0 arg5_r0 arg6_r0 arg7_r0 arg8_r0 arg9_r0 arg10_r0 arg11_r0 k0_hw1 k0_h5 => k0_hw1.2.2.2.2.2.2.2.2.2.2.2.2.2.2.2.2.2.2.1 k0_h5 (k0_off19_inb k0_t1 arg4_r0 arg5_r0 arg6_r0 arg7_r0 arg8_r0 arg9_r0 arg10_r0 arg11_r0 k0_hw1 k0_h5)
theorem k0_off18_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h5 : k0_cond5 k0_t1 arg11_r0 = 1#1), (Rect.unit (s := S3x11008x512) (k0_off18 arg7_r0) S1x11008x512.size (k0_off18_inb k0_t1 arg4_r0 arg5_r0 arg6_r0 arg7_r0 arg8_r0 arg9_r0 arg10_r0 arg11_r0 k0_hw1 k0_h5)).WholeWords (EltTy.packing .bf16) := fun k0_t1 arg4_r0 arg5_r0 arg6_r0 arg7_r0 arg8_r0 arg9_r0 arg10_r0 arg11_r0 k0_hw1 k0_h5 => k0_hw1.2.2.2.2.2.2.2.2.2.2.2.2.2.2.2.2.2.2.2.1 k0_h5 (k0_off18_inb k0_t1 arg4_r0 arg5_r0 arg6_r0 arg7_r0 arg8_r0 arg9_r0 arg10_r0 arg11_r0 k0_hw1 k0_h5)
theorem k0_off23_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h9 : k0_cond9 k0_t1 arg10_r0 arg11_r0 = 1#1), ∀ a, (k0_off23 arg8_r0) a + S1.size a ≤ S2.size a := fun k0_t1 arg4_r0 arg5_r0 arg6_r0 arg7_r0 arg8_r0 arg9_r0 arg10_r0 arg11_r0 k0_hw1 k0_h9 => k0_hw1.2.2.2.2.2.2.2.2.2.2.2.2.2.2.2.2.2.2.2.2.1 k0_h9
theorem k0_off24_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h9 : k0_cond9 k0_t1 arg10_r0 arg11_r0 = 1#1), ∀ a, (k0_off24 arg10_r0 arg11_r0) a + S512x512.size a ≤ S8192x4096.size a := fun k0_t1 arg4_r0 arg5_r0 arg6_r0 arg7_r0 arg8_r0 arg9_r0 arg10_r0 arg11_r0 k0_hw1 k0_h9 => k0_hw1.2.2.2.2.2.2.2.2.2.2.2.2.2.2.2.2.2.2.2.2.2.1 k0_h9
theorem k0_off25_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h9 : k0_cond9 k0_t1 arg10_r0 arg11_r0 = 1#1), ∀ a, (k0_off25 arg8_r0) a + S1x512x512.size a ≤ S2x512x512.size a := fun k0_t1 arg4_r0 arg5_r0 arg6_r0 arg7_r0 arg8_r0 arg9_r0 arg10_r0 arg11_r0 k0_hw1 k0_h9 => k0_hw1.2.2.2.2.2.2.2.2.2.2.2.2.2.2.2.2.2.2.2.2.2.2.1 k0_h9
theorem k0_off25_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h9 : k0_cond9 k0_t1 arg10_r0 arg11_r0 = 1#1), (Rect.unit (s := S2x512x512) (k0_off25 arg8_r0) S1x512x512.size (k0_off25_inb k0_t1 arg4_r0 arg5_r0 arg6_r0 arg7_r0 arg8_r0 arg9_r0 arg10_r0 arg11_r0 k0_hw1 k0_h9)).WholeWords (EltTy.packing .bf16) := fun k0_t1 arg4_r0 arg5_r0 arg6_r0 arg7_r0 arg8_r0 arg9_r0 arg10_r0 arg11_r0 k0_hw1 k0_h9 => k0_hw1.2.2.2.2.2.2.2.2.2.2.2.2.2.2.2.2.2.2.2.2.2.2.2.1 k0_h9 (k0_off25_inb k0_t1 arg4_r0 arg5_r0 arg6_r0 arg7_r0 arg8_r0 arg9_r0 arg10_r0 arg11_r0 k0_hw1 k0_h9)
theorem k0_off24_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h9 : k0_cond9 k0_t1 arg10_r0 arg11_r0 = 1#1), (Rect.unit (s := S8192x4096) (k0_off24 arg10_r0 arg11_r0) S512x512.size (k0_off24_inb k0_t1 arg4_r0 arg5_r0 arg6_r0 arg7_r0 arg8_r0 arg9_r0 arg10_r0 arg11_r0 k0_hw1 k0_h9)).WholeWords (EltTy.packing .bf16) := fun k0_t1 arg4_r0 arg5_r0 arg6_r0 arg7_r0 arg8_r0 arg9_r0 arg10_r0 arg11_r0 k0_hw1 k0_h9 => k0_hw1.2.2.2.2.2.2.2.2.2.2.2.2.2.2.2.2.2.2.2.2.2.2.2.2.1 k0_h9 (k0_off24_inb k0_t1 arg4_r0 arg5_r0 arg6_r0 arg7_r0 arg8_r0 arg9_r0 arg10_r0 arg11_r0 k0_hw1 k0_h9)
theorem k0_off26_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h12 : k0_cond12 k0_t1 arg10_r0 arg11_r0 = 1#1), ∀ a, (k0_off26 arg9_r0) a + S1.size a ≤ S2.size a := fun k0_t1 arg4_r0 arg5_r0 arg6_r0 arg7_r0 arg8_r0 arg9_r0 arg10_r0 arg11_r0 k0_hw1 k0_h12 => k0_hw1.2.2.2.2.2.2.2.2.2.2.2.2.2.2.2.2.2.2.2.2.2.2.2.2.2.1 k0_h12
theorem k0_off27_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h12 : k0_cond12 k0_t1 arg10_r0 arg11_r0 = 1#1), ∀ a, (k0_off27 arg10_r0 arg11_r0) a + S512x512.size a ≤ S8192x4096.size a := fun k0_t1 arg4_r0 arg5_r0 arg6_r0 arg7_r0 arg8_r0 arg9_r0 arg10_r0 arg11_r0 k0_hw1 k0_h12 => k0_hw1.2.2.2.2.2.2.2.2.2.2.2.2.2.2.2.2.2.2.2.2.2.2.2.2.2.2.1 k0_h12
theorem k0_off28_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h12 : k0_cond12 k0_t1 arg10_r0 arg11_r0 = 1#1), ∀ a, (k0_off28 arg9_r0) a + S1x512x512.size a ≤ S2x512x512.size a := fun k0_t1 arg4_r0 arg5_r0 arg6_r0 arg7_r0 arg8_r0 arg9_r0 arg10_r0 arg11_r0 k0_hw1 k0_h12 => k0_hw1.2.2.2.2.2.2.2.2.2.2.2.2.2.2.2.2.2.2.2.2.2.2.2.2.2.2.2.1 k0_h12
theorem k0_off28_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h12 : k0_cond12 k0_t1 arg10_r0 arg11_r0 = 1#1), (Rect.unit (s := S2x512x512) (k0_off28 arg9_r0) S1x512x512.size (k0_off28_inb k0_t1 arg4_r0 arg5_r0 arg6_r0 arg7_r0 arg8_r0 arg9_r0 arg10_r0 arg11_r0 k0_hw1 k0_h12)).WholeWords (EltTy.packing .bf16) := fun k0_t1 arg4_r0 arg5_r0 arg6_r0 arg7_r0 arg8_r0 arg9_r0 arg10_r0 arg11_r0 k0_hw1 k0_h12 => k0_hw1.2.2.2.2.2.2.2.2.2.2.2.2.2.2.2.2.2.2.2.2.2.2.2.2.2.2.2.2.1 k0_h12 (k0_off28_inb k0_t1 arg4_r0 arg5_r0 arg6_r0 arg7_r0 arg8_r0 arg9_r0 arg10_r0 arg11_r0 k0_hw1 k0_h12)
theorem k0_off27_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h12 : k0_cond12 k0_t1 arg10_r0 arg11_r0 = 1#1), (Rect.unit (s := S8192x4096) (k0_off27 arg10_r0 arg11_r0) S512x512.size (k0_off27_inb k0_t1 arg4_r0 arg5_r0 arg6_r0 arg7_r0 arg8_r0 arg9_r0 arg10_r0 arg11_r0 k0_hw1 k0_h12)).WholeWords (EltTy.packing .bf16) := fun k0_t1 arg4_r0 arg5_r0 arg6_r0 arg7_r0 arg8_r0 arg9_r0 arg10_r0 arg11_r0 k0_hw1 k0_h12 => k0_hw1.2.2.2.2.2.2.2.2.2.2.2.2.2.2.2.2.2.2.2.2.2.2.2.2.2.2.2.2.2 k0_h12 (k0_off27_inb k0_t1 arg4_r0 arg5_r0 arg6_r0 arg7_r0 arg8_r0 arg9_r0 arg10_r0 arg11_r0 k0_hw1 k0_h12)

def k0_off29 (v61_5_r0 : BitVec 32) : Fin 1 → Nat :=
  let c2_i32_107_r0 : BitVec 32 := 2#32
  let v112_r0 : BitVec 32 := Scalar.remui v61_5_r0 c2_i32_107_r0
  ![v112_r0.toNat]

def k0_off30 (v61_7_r0 : BitVec 32) (v61_6_r0 : BitVec 32) : Fin 2 → Nat :=
  let c512_i32_r0 : BitVec 32 := 512#32
  let true_63_r0 : BitVec 1 := 1#1
  let c1_i32_62_r0 : BitVec 32 := 1#32
  let v62_r0 : BitVec 32 := Scalar.subi v61_7_r0 c1_i32_62_r0
  let v63_r0 : BitVec 32 := Scalar.select true_63_r0 v62_r0 v61_7_r0
  let c_m1_i32_64_r0 : BitVec 32 := 4294967295#32
  let v64_r0 : BitVec 1 := Scalar.cmpi .eq v63_r0 c_m1_i32_64_r0
  let c1_i32_66_r0 : BitVec 32 := 1#32
  let v66_r0 : BitVec 32 := Scalar.subi v61_6_r0 c1_i32_66_r0
  let v67_r0 : BitVec 32 := Scalar.select v64_r0 v66_r0 v61_6_r0
  let c_m1_i32_67_r0 : BitVec 32 := 4294967295#32
  let v68_r0 : BitVec 1 := Scalar.cmpi .eq v67_r0 c_m1_i32_67_r0
  let c15_i32_68_r0 : BitVec 32 := 15#32
  let v69_r0 : BitVec 32 := Scalar.select v68_r0 c15_i32_68_r0 v67_r0
  let c0_i32_69_r0 : BitVec 32 := 0#32
  let v70_r0 : BitVec 32 := Scalar.addi v69_r0 c0_i32_69_r0
  let v113_r0 : BitVec 32 := Scalar.muli c512_i32_r0 v70_r0
  let c512_i32_108_r0 : BitVec 32 := 512#32
  let c7_i32_65_r0 : BitVec 32 := 7#32
  let v65_r0 : BitVec 32 := Scalar.select v64_r0 c7_i32_65_r0 v63_r0
  let c0_i32_70_r0 : BitVec 32 := 0#32
  let v71_r0 : BitVec 32 := Scalar.addi v65_r0 c0_i32_70_r0
  let v114_r0 : BitVec 32 := Scalar.muli c512_i32_108_r0 v71_r0
  ![v113_r0.toNat, v114_r0.toNat]

def k0_off31 (v61_5_r0 : BitVec 32) : Fin 3 → Nat :=
  let c2_i32_107_r0 : BitVec 32 := 2#32
  let v112_r0 : BitVec 32 := Scalar.remui v61_5_r0 c2_i32_107_r0
  let c0_i32_109_r0 : BitVec 32 := 0#32
  let c0_i32_110_r0 : BitVec 32 := 0#32
  ![v112_r0.toNat, 0, 0]

def k0_chk5 (v61_5_r0 : BitVec 32) : Prop :=
  (∀ a, (k0_off29 v61_5_r0) a + S1.size a ≤ S2.size a) ∧
  (∀ a, (k0_off31 v61_5_r0) a + S1x512x512.size a ≤ S2x512x512.size a) ∧
  (∀ (hinb : ∀ a, (k0_off31 v61_5_r0) a + S1x512x512.size a ≤ S2x512x512.size a), (Rect.unit (s := S2x512x512) (k0_off31 v61_5_r0) S1x512x512.size hinb).WholeWords (EltTy.packing .bf16))
theorem k0_off29_inb : ∀ (v61_5_r0 : BitVec 32) (k0_hw5 : k0_chk5 v61_5_r0), ∀ a, (k0_off29 v61_5_r0) a + S1.size a ≤ S2.size a := fun v61_5_r0 k0_hw5 => k0_hw5.1
theorem k0_off31_inb : ∀ (v61_5_r0 : BitVec 32) (k0_hw5 : k0_chk5 v61_5_r0), ∀ a, (k0_off31 v61_5_r0) a + S1x512x512.size a ≤ S2x512x512.size a := fun v61_5_r0 k0_hw5 => k0_hw5.2.1
theorem k0_off31_wordsbf16 : ∀ (v61_5_r0 : BitVec 32) (k0_hw5 : k0_chk5 v61_5_r0), (Rect.unit (s := S2x512x512) (k0_off31 v61_5_r0) S1x512x512.size (k0_off31_inb v61_5_r0 k0_hw5)).WholeWords (EltTy.packing .bf16) := fun v61_5_r0 k0_hw5 => k0_hw5.2.2 (k0_off31_inb v61_5_r0 k0_hw5)

def k0_chk6 (v61_7_r0 : BitVec 32) (v61_6_r0 : BitVec 32) : Prop :=
  (∀ a, (k0_off30 v61_7_r0 v61_6_r0) a + S512x512.size a ≤ S8192x4096.size a) ∧
  (∀ (hinb : ∀ a, (k0_off30 v61_7_r0 v61_6_r0) a + S512x512.size a ≤ S8192x4096.size a), (Rect.unit (s := S8192x4096) (k0_off30 v61_7_r0 v61_6_r0) S512x512.size hinb).WholeWords (EltTy.packing .bf16))
theorem k0_off30_inb : ∀ (v61_7_r0 : BitVec 32) (v61_6_r0 : BitVec 32) (k0_hw6 : k0_chk6 v61_7_r0 v61_6_r0), ∀ a, (k0_off30 v61_7_r0 v61_6_r0) a + S512x512.size a ≤ S8192x4096.size a := fun v61_7_r0 v61_6_r0 k0_hw6 => k0_hw6.1
theorem k0_off30_wordsbf16 : ∀ (v61_7_r0 : BitVec 32) (v61_6_r0 : BitVec 32) (k0_hw6 : k0_chk6 v61_7_r0 v61_6_r0), (Rect.unit (s := S8192x4096) (k0_off30 v61_7_r0 v61_6_r0) S512x512.size (k0_off30_inb v61_7_r0 v61_6_r0 k0_hw6)).WholeWords (EltTy.packing .bf16) := fun v61_7_r0 v61_6_r0 k0_hw6 => k0_hw6.2 (k0_off30_inb v61_7_r0 v61_6_r0 k0_hw6)
-- ==== ReferenceIdeal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S8192x4096, .bf16⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GateUp.lean ====
abbrev S8192x4096 : Shape := ⟨2, ![8192, 4096]⟩
abbrev S4x4096x11008 : Shape := ⟨3, ![4, 4096, 11008]⟩
abbrev S4x11008x4096 : Shape := ⟨3, ![4, 11008, 4096]⟩
abbrev S8192x11008 : Shape := ⟨2, ![8192, 11008]⟩
abbrev S11008x4096 : Shape := ⟨2, ![11008, 4096]⟩
abbrev S2048x4096 : Shape := ⟨2, ![2048, 4096]⟩
abbrev S1x4096x256 : Shape := ⟨3, ![1, 4096, 256]⟩
abbrev S1x64x4096 : Shape := ⟨3, ![1, 64, 4096]⟩
abbrev S2048x256 : Shape := ⟨2, ![2048, 256]⟩
abbrev S64x4096 : Shape := ⟨2, ![64, 4096]⟩
abbrev S4096x256 : Shape := ⟨2, ![4096, 256]⟩
abbrev S1024x4096 : Shape := ⟨2, ![1024, 4096]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4x4096x11008, .f32⟩
  | .hbm, ⟨2, _⟩ => ⟨S4x4096x11008, .f32⟩
  | .hbm, ⟨3, _⟩ => ⟨S4x11008x4096, .f32⟩
  | .hbm, ⟨4, _⟩ => ⟨S8192x11008, .bf16⟩
  | .hbm, ⟨5, _⟩ => ⟨S11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x64x4096, .f32⟩
  | .local _ .vmem, ⟨7, _⟩ => ⟨S1x64x4096, .f32⟩
  | .local _ .vmem, ⟨8, _⟩ => ⟨S2048x256, .bf16⟩
  | .local _ .vmem, ⟨9, _⟩ => ⟨S2048x256, .bf16⟩
  | .local _ .vmem, ⟨10, _⟩ => ⟨S64x4096, .bf16⟩
  | .local _ .vmem, ⟨11, _⟩ => ⟨S64x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c171_i32 : BitVec 32 := 171#32
  let v4 : BitVec 32 := Scalar.minsi v3 c171_i32
  let c0_i32_0 : BitVec 32 := 0#32
  let c0_i32_1 : BitVec 32 := 0#32
  let c0_i32_2 : BitVec 32 := 0#32
  ![c0_i32_0.toNat, v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c171_i32 : BitVec 32 := 171#32
  let v4 : BitVec 32 := Scalar.minsi v3 c171_i32
  let c0_i32_0 : BitVec 32 := 0#32
  let c0_i32_1 : BitVec 32 := 0#32
  ![v4.toNat, c0_i32_0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpReferenceIdeal.lean ====
abbrev S8192x4096 : Shape := ⟨2, ![8192, 4096]⟩
abbrev S4x4096x11008 : Shape := ⟨3, ![4, 4096, 11008]⟩
abbrev S4x11008x4096 : Shape := ⟨3, ![4, 11008, 4096]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩
abbrev S1x11008x4096 : Shape := ⟨3, ![1, 11008, 4096]⟩
abbrev S11008x4096 : Shape := ⟨2, ![11008, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x11008, .f32⟩
  | .hbm, ⟨2, _⟩ => ⟨S4x4096x11008, .f32⟩
  | .hbm, ⟨3, _⟩ => ⟨S4x11008x4096, .f32⟩
  | .hbm, ⟨4, _⟩ => ⟨S8192x4096, .f32⟩
  | .hbm, ⟨5, _⟩ => ⟨S1x4096x11008, .f32⟩
  | .hbm, ⟨6, _⟩ => ⟨S4096x11008, .f32⟩
  | .hbm, ⟨7, _⟩ => ⟨S8192x11008, .f32⟩
  | .hbm, ⟨8, _⟩ => ⟨S8192x11008, .f32⟩
  | .hbm, ⟨9, _⟩ => ⟨S8192x11008, .f32⟩
  | .hbm, ⟨10, _⟩ => ⟨S_, .f32⟩
  | .hbm, ⟨11, _⟩ => ⟨S8192x11008, .f32⟩
  | .hbm, ⟨12, _⟩ => ⟨S8192x11008, .f32⟩
  | .hbm, ⟨13, _⟩ => ⟨S_, .f32⟩
  | .hbm, ⟨14, _⟩ => ⟨S8192x11008, .f32⟩
  | .hbm, ⟨15, _⟩ => ⟨S8192x11008, .f32⟩
  | .hbm, ⟨16, _⟩ => ⟨S8192x11008, .f32⟩
  | .hbm, ⟨17, _⟩ => ⟨S8192x4096, .f32⟩
  | .hbm, ⟨18, _⟩ => ⟨S1x4096x11008, .f32⟩
  | .hbm, ⟨19, _⟩ => ⟨S4096x11008, .f32⟩
  | .hbm, ⟨20, _⟩ => ⟨S8192x11008, .f32⟩
  | .hbm, ⟨21, _⟩ => ⟨S8192x11008, .f32⟩
  | .hbm, ⟨22, _⟩ => ⟨S8192x11008, .bf16⟩
  | .hbm, ⟨23, _⟩ => ⟨S1x11008x4096, .f32⟩
  | .hbm, ⟨24, _⟩ => ⟨S11008x4096, .f32⟩
  | .hbm, ⟨25, _⟩ => ⟨S11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== InProj.lean ====
abbrev S8192x4096 : Shape := ⟨2, ![8192, 4096]⟩
abbrev S4x4096x12304 : Shape := ⟨3, ![4, 4096, 12304]⟩
abbrev S4x12304x4096 : Shape := ⟨3, ![4, 12304, 4096]⟩
abbrev S8192x12288 : Shape := ⟨2, ![8192, 12288]⟩
abbrev S8192x128 : Shape := ⟨2, ![8192, 128]⟩
abbrev S1024x4096 : Shape := ⟨2, ![1024, 4096]⟩
abbrev S1x768x4096 : Shape := ⟨3, ![1, 768, 4096]⟩
abbrev S1x16x4096 : Shape := ⟨3, ![1, 16, 4096]⟩
abbrev S1024x768 : Shape := ⟨2, ![1024, 768]⟩
abbrev S1024x128 : Shape := ⟨2, ![1024, 128]⟩
abbrev S768x4096 : Shape := ⟨2, ![768, 4096]⟩
abbrev S16x4096 : Shape := ⟨2, ![16, 4096]⟩
abbrev S112x4096 : Shape := ⟨2, ![112, 4096]⟩
abbrev S128x4096 : Shape := ⟨2, ![128, 4096]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4x4096x12304, .f32⟩
  | .hbm, ⟨2, _⟩ => ⟨S4x12304x4096, .f32⟩
  | .hbm, ⟨3, _⟩ => ⟨S8192x12288, .bf16⟩
  | .hbm, ⟨4, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x768x4096, .f32⟩
  | .local _ .vmem, ⟨3, _⟩ => ⟨S1x768x4096, .f32⟩
  | .local _ .vmem, ⟨4, _⟩ => ⟨S1x16x4096, .f32⟩
  | .local _ .vmem, ⟨5, _⟩ => ⟨S1024x768, .bf16⟩
  | .local _ .vmem, ⟨6, _⟩ => ⟨S1024x768, .bf16⟩
  | .local _ .vmem, ⟨7, _⟩ => ⟨S1024x128, .f32⟩
  | .local _ .vmem, ⟨8, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c768_i32 : BitVec 32 := 768#32
  let c0_i32_0 : BitVec 32 := 0#32
  let c0_i32_1 : BitVec 32 := 0#32
  ![c0_i32.toNat, c768_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjReferenceIdeal.lean ====
abbrev S8192x4096 : Shape := ⟨2, ![8192, 4096]⟩
abbrev S4x4096x12304 : Shape := ⟨3, ![4, 4096, 12304]⟩
abbrev S1x4096x12304 : Shape := ⟨3, ![1, 4096, 12304]⟩
abbrev S4096x12304 : Shape := ⟨2, ![4096, 12304]⟩
abbrev S8192x12304 : Shape := ⟨2, ![8192, 12304]⟩
abbrev S8192x16 : Shape := ⟨2, ![8192, 16]⟩
abbrev S_ : Shape := ⟨0, ![]⟩
abbrev S8192x128 : Shape := ⟨2, ![8192, 128]⟩
abbrev S8192x12288 : Shape := ⟨2, ![8192, 12288]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x12304, .f32⟩
  | .hbm, ⟨2, _⟩ => ⟨S8192x4096, .f32⟩
  | .hbm, ⟨3, _⟩ => ⟨S1x4096x12304, .f32⟩
  | .hbm, ⟨4, _⟩ => ⟨S4096x12304, .f32⟩
  | .hbm, ⟨5, _⟩ => ⟨S8192x12304, .f32⟩
  | .hbm, ⟨6, _⟩ => ⟨S8192x16, .f32⟩
  | .hbm, ⟨7, _⟩ => ⟨S_, .i32⟩
  | .hbm, ⟨8, _⟩ => ⟨S_, .f32⟩
  | .hbm, ⟨9, _⟩ => ⟨S8192x128, .f32⟩
  | .hbm, ⟨10, _⟩ => ⟨S8192x12288, .f32⟩
  | .hbm, ⟨11, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OutProj.lean ====
abbrev S8192x2048 : Shape := ⟨2, ![8192, 2048]⟩
abbrev S4096x4096 : Shape := ⟨2, ![4096, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .bf16⟩
  | .hbm, ⟨3, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjReferenceIdeal.lean ====
abbrev S8192x2048 : Shape := ⟨2, ![8192, 2048]⟩
abbrev S4096x4096 : Shape := ⟨2, ![4096, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .bf16⟩
  | .hbm, ⟨3, _⟩ => ⟨S8192x4096, .bf16⟩
  | .hbm, ⟨4, _⟩ => ⟨S8192x4096, .f32⟩
  | .hbm, ⟨5, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PreNorm.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormReferenceIdeal.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x4096, .f32⟩
  | .hbm, ⟨2, _⟩ => ⟨S1x4096, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Post.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4x4096, .f32⟩
  | .hbm, ⟨3, _⟩ => ⟨S4x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S1x4096, .f32⟩
  | .hbm, ⟨10, _⟩ => ⟨S8192x4096, .f32⟩
  | .hbm, ⟨11, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostReferenceIdeal.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4x4096, .f32⟩
  | .hbm, ⟨3, _⟩ => ⟨S4x4096, .f32⟩
  | .hbm, ⟨4, _⟩ => ⟨S1x4096, .f32⟩
  | .hbm, ⟨5, _⟩ => ⟨S4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S4096, .f32⟩
  | .hbm, ⟨26, _⟩ => ⟨S8192x4096, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x4096, .f32⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== PostLast.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostLastReferenceIdeal.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4x4096, .f32⟩
  | .hbm, ⟨3, _⟩ => ⟨S1x4096, .f32⟩
  | .hbm, ⟨4, _⟩ => ⟨S4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Gla.lean ====
abbrev S2x4096x12288 : Shape := ⟨3, ![2, 4096, 12288]⟩
abbrev S2x4096x128 : Shape := ⟨3, ![2, 4096, 128]⟩
abbrev S4x16x1024 : Shape := ⟨3, ![4, 16, 1024]⟩
abbrev S4x1024 : Shape := ⟨2, ![4, 1024]⟩
abbrev S4x512 : Shape := ⟨2, ![4, 512]⟩
abbrev S4x4096x4096 : Shape := ⟨3, ![4, 4096, 4096]⟩
abbrev S_ : Shape := ⟨0, ![]⟩
abbrev S4x128x1024 : Shape := ⟨3, ![4, 128, 1024]⟩
abbrev S1x128x1024 : Shape := ⟨3, ![1, 128, 1024]⟩
abbrev S128x1024 : Shape := ⟨2, ![128, 1024]⟩
abbrev S1x1024 : Shape := ⟨2, ![1, 1024]⟩
abbrev S1024 : Shape := ⟨1, ![1024]⟩
abbrev S1x512 : Shape := ⟨2, ![1, 512]⟩
abbrev S512 : Shape := ⟨1, ![512]⟩
abbrev S2x4096x2048 : Shape := ⟨3, ![2, 4096, 2048]⟩
abbrev S4096x4096 : Shape := ⟨2, ![4096, 4096]⟩
abbrev S1x256x1024 : Shape := ⟨3, ![1, 256, 1024]⟩
abbrev S1x256x2048 : Shape := ⟨3, ![1, 256, 2048]⟩
abbrev S1x256x128 : Shape := ⟨3, ![1, 256, 128]⟩
abbrev S1x128x4096 : Shape := ⟨3, ![1, 128, 4096]⟩
abbrev S128x4096 : Shape := ⟨2, ![128, 4096]⟩
abbrev S4x512x256 : Shape := ⟨3, ![4, 512, 256]⟩
abbrev S256x128 : Shape := ⟨2, ![256, 128]⟩
abbrev S256x1024 : Shape := ⟨2, ![256, 1024]⟩
abbrev S256x256 : Shape := ⟨2, ![256, 256]⟩
abbrev S64x1024 : Shape := ⟨2, ![64, 1024]⟩
abbrev S1x256x512 : Shape := ⟨3, ![1, 256, 512]⟩
abbrev S256x512 : Shape := ⟨2, ![256, 512]⟩
abbrev S64x512 : Shape := ⟨2, ![64, 512]⟩
abbrev S64x256 : Shape := ⟨2, ![64, 256]⟩
abbrev S512x256 : Shape := ⟨2, ![512, 256]⟩
abbrev S1x512x256 : Shape := ⟨3, ![1, 512, 256]⟩
abbrev S1x256 : Shape := ⟨2, ![1, 256]⟩
abbrev S256 : Shape := ⟨1, ![256]⟩
abbrev S256x1 : Shape := ⟨2, ![256, 1]⟩

abbrev nBuf : Space → Nat
  | .hbm => 20
  | .vmem => 20
  | .smem => 0
  | _ => 0

abbrev bufTy : (tb : Table) → Fin (tcTables nBuf tb) → BufTy
  | .hbm, ⟨0, _⟩ => ⟨S2x4096x12288, .bf16⟩
  | .hbm, ⟨1, _⟩ => ⟨S2x4096x128, .f32⟩
  | .hbm, ⟨2, _⟩ => ⟨S4x16x1024, .f32⟩
  | .hbm, ⟨3, _⟩ => ⟨S4x1024, .f32⟩
  | .hbm, ⟨4, _⟩ => ⟨S4x512, .f32⟩
  | .hbm, ⟨5, _⟩ => ⟨S4x4096x4096, .f32⟩
  | .hbm, ⟨6, _⟩ => ⟨S_, .i32⟩
  | .hbm, ⟨7, _⟩ => ⟨S_, .f32⟩
  | .hbm, ⟨8, _⟩ => ⟨S4x128x1024, .f32⟩
  | .hbm, ⟨9, _⟩ => ⟨S4x128x1024, .bf16⟩
  | .hbm, ⟨10, _⟩ => ⟨S1x128x1024, .bf16⟩
  | .hbm, ⟨11, _⟩ => ⟨S128x1024, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S2x4096x2048, .bf16⟩
  | .hbm, ⟨19, _⟩ => ⟨S4096x4096, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x128, .f32⟩
  | .local _ .vmem, ⟨9, _⟩ => ⟨S1x256x128, .f32⟩
  | .local _ .vmem, ⟨10, _⟩ => ⟨S128x1024, .bf16⟩
  | .local _ .vmem, ⟨11, _⟩ => ⟨S1x1024, .f32⟩
  | .local _ .vmem, ⟨12, _⟩ => ⟨S1x512, .f32⟩
  | .local _ .vmem, ⟨13, _⟩ => ⟨S1x128x4096, .f32⟩
  | .local _ .vmem, ⟨14, _⟩ => ⟨S1x128x4096, .f32⟩
  | .local _ .vmem, ⟨15, _⟩ => ⟨S1x256x2048, .bf16⟩
  | .local _ .vmem, ⟨16, _⟩ => ⟨S1x256x2048, .bf16⟩
  | .local _ .vmem, ⟨17, _⟩ => ⟨S128x4096, .bf16⟩
  | .local _ .vmem, ⟨18, _⟩ => ⟨S128x4096, .bf16⟩
  | .local _ .vmem, ⟨19, _⟩ => ⟨S4x512x256, .f32⟩
  | _, _ => ⟨S2x4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c31_i32 : BitVec 32 := 31#32
  let v4 : BitVec 32 := Scalar.minsi v3 c31_i32
  let c0_i32_0 : BitVec 32 := 0#32
  let c0_i32_1 : BitVec 32 := 0#32
  let c0_i32_2 : BitVec 32 := 0#32
  ![c0_i32_0.toNat, v4.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c31_i32 : BitVec 32 := 31#32
  let v4 : BitVec 32 := Scalar.minsi v3 c31_i32
  let c0_i32_0 : BitVec 32 := 0#32
  let c0_i32_1 : BitVec 32 := 0#32
  ![v4.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GlaReferenceIdeal.lean ====
abbrev S2x4096x12288 : Shape := ⟨3, ![2, 4096, 12288]⟩
abbrev S2x4096x128 : Shape := ⟨3, ![2, 4096, 128]⟩
abbrev S4x16x1024 : Shape := ⟨3, ![4, 16, 1024]⟩
abbrev S4x1024 : Shape := ⟨2, ![4, 1024]⟩
abbrev S4x512 : Shape := ⟨2, ![4, 512]⟩
abbrev S4x4096x4096 : Shape := ⟨3, ![4, 4096, 4096]⟩
abbrev S2x4096x1024 : Shape := ⟨3, ![2, 4096, 1024]⟩
abbrev S2x4096x2048 : Shape := ⟨3, ![2, 4096, 2048]⟩
abbrev S2x4096x16 : Shape := ⟨3, ![2, 4096, 16]⟩
abbrev S1x16x1024 : Shape := ⟨3, ![1, 16, 1024]⟩
abbrev S16x1024 : Shape := ⟨2, ![16, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S2x4096x4x256 : Shape := ⟨4, ![2, 4096, 4, 256]⟩
abbrev S2x4096x4x512 : Shape := ⟨4, ![2, 4096, 4, 512]⟩
abbrev S2x64x64x4x256 : Shape := ⟨5, ![2, 64, 64, 4, 256]⟩
abbrev S2x64x64x4x512 : Shape := ⟨5, ![2, 64, 64, 4, 512]⟩
abbrev S2x64x1x4x256 : Shape := ⟨5, ![2, 64, 1, 4, 256]⟩
abbrev S64x64 : Shape := ⟨2, ![64, 64]⟩
abbrev S2x64x4x64x64 : Shape := ⟨5, ![2, 64, 4, 64, 64]⟩
abbrev S2x64x4x512x64 : Shape := ⟨5, ![2, 64, 4, 512, 64]⟩
abbrev S64x2x4x256x512 : Shape := ⟨5, ![64, 2, 4, 256, 512]⟩
abbrev S2x64x4x256 : Shape := ⟨4, ![2, 64, 4, 256]⟩
abbrev S64x2x4x256 : Shape := ⟨4, ![64, 2, 4, 256]⟩
abbrev S2x4x256x512 : Shape := ⟨4, ![2, 4, 256, 512]⟩
abbrev S1x2x4x256 : Shape := ⟨4, ![1, 2, 4, 256]⟩
abbrev S2x4x256 : Shape := ⟨3, ![2, 4, 256]⟩
abbrev S1x2x4x256x512 : Shape := ⟨5, ![1, 2, 4, 256, 512]⟩
abbrev S2x4x256x1 : Shape := ⟨4, ![2, 4, 256, 1]⟩
abbrev S2x4096x4 : Shape := ⟨3, ![2, 4096, 4]⟩
abbrev S2x4096x4x1 : Shape := ⟨4, ![2, 4096, 4, 1]⟩
abbrev S1x512 : Shape := ⟨2, ![1, 512]⟩
abbrev S512 : Shape := ⟨1, ![512]⟩
abbrev S1x1x1x512 : Shape := ⟨4, ![1, 1, 1, 512]⟩
abbrev S1x4096x4096 : Shape := ⟨3, ![1, 4096, 4096]⟩
abbrev S4096x4096 : Shape := ⟨2, ![4096, 4096]⟩

abbrev nBuf : Space → Nat
  | .hbm => 161
  | .vmem => 0
  | .smem => 0
  | _ => 0

abbrev hbmTy0_0 (i : Nat) : BufTy := match i % 128 with
  | 0 => ⟨S2x4096x12288, .bf16⟩
  | 1 => ⟨S2x4096x128, .f32⟩
  | 2 => ⟨S4x16x1024, .f32⟩
  | 3 => ⟨S4x1024, .f32⟩
  | 4 => ⟨S4x512, .f32⟩
  | 5 => ⟨S4x4096x4096, .f32⟩
  | 6 => ⟨S2x4096x1024, .bf16⟩
  | 7 => ⟨S2x4096x1024, .f32⟩
  | 8 => ⟨S2x4096x1024, .bf16⟩
  | 9 => ⟨S2x4096x1024, .f32⟩
  | 10 => ⟨S2x4096x2048, .bf16⟩
  | 11 => ⟨S2x4096x2048, .f32⟩
  | 12 => ⟨S2x4096x2048, .bf16⟩
  | 13 => ⟨S2x4096x2048, .f32⟩
  | 14 => ⟨S2x4096x16, .f32⟩
  | 15 => ⟨S1x16x1024, .f32⟩
  | 16 => ⟨S16x1024, .f32⟩
  | 17 => ⟨S2x4096x1024, .f32⟩
  | 18 => ⟨S1x1024, .f32⟩
  | 19 => ⟨S1024, .f32⟩
  | 20 => ⟨S1x1x1024, .f32⟩
  | 21 => ⟨S2x4096x1024, .f32⟩
  | 22 => ⟨S2x4096x1024, .f32⟩
  | 23 => ⟨S2x4096x1024, .f32⟩
  | 24 => ⟨S_, .f32⟩
  | 25 => ⟨S2x4096x1024, .f32⟩
  | 26 => ⟨S2x4096x1024, .f32⟩
  | 27 => ⟨S2x4096x1024, .f32⟩
  | 28 => ⟨S2x4096x1024, .f32⟩
  | 29 => ⟨S2x4096x1024, .i1⟩
  | 30 => ⟨S2x4096x1024, .f32⟩
  | 31 => ⟨S2x4096x1024, .f32⟩
  | 32 => ⟨S2x4096x1024, .f32⟩
  | 33 => ⟨S2x4096x1024, .f32⟩
  | 34 => ⟨S2x4096x1024, .f32⟩
  | 35 => ⟨S2x4096x1024, .f32⟩
  | 36 => ⟨S2x4096x1024, .f32⟩
  | 37 => ⟨S2x4096x1024, .f32⟩
  | 38 => ⟨S2x4096x1024, .f32⟩
  | 39 => ⟨S_, .f32⟩
  | 40 => ⟨S2x4096x1024, .f32⟩
  | 41 => ⟨S2x4096x1024, .f32⟩
  | 42 => ⟨S2x4096x4x256, .f32⟩
  | 43 => ⟨S2x4096x4x256, .f32⟩
  | 44 => ⟨S2x4096x4x512, .f32⟩
  | 45 => ⟨S2x4096x4x256, .f32⟩
  | 46 => ⟨S_, .f32⟩
  | 47 => ⟨S2x4096x4x256, .f32⟩
  | 48 => ⟨S2x4096x4x256, .f32⟩
  | 49 => ⟨S2x64x64x4x256, .f32⟩
  | 50 => ⟨S2x64x64x4x256, .f32⟩
  | 51 => ⟨S2x64x64x4x512, .f32⟩
  | 52 => ⟨S2x64x64x4x256, .f32⟩
  | 53 => ⟨S_, .f32⟩
  | 54 => ⟨S_, .f32⟩
  | 55 => ⟨S2x64x64x4x256, .f32⟩
  | 56 => ⟨S2x64x1x4x256, .f32⟩
  | 57 => ⟨S2x64x64x4x256, .f32⟩
  | 58 => ⟨S2x64x64x4x256, .f32⟩
  | 59 => ⟨S2x64x64x4x256, .f32⟩
  | 60 => ⟨S2x64x64x4x256, .f32⟩
  | 61 => ⟨S2x64x64x4x256, .f32⟩
  | 62 => ⟨S2x64x64x4x256, .f32⟩
  | 63 => ⟨S2x64x64x4x256, .f32⟩
  | 64 => ⟨S2x64x64x4x256, .f32⟩
  | 65 => ⟨S2x64x64x4x256, .f32⟩
  | 66 => ⟨S_, .i1⟩
  | 67 => ⟨S64x64, .i1⟩
  | 68 => ⟨S64x64, .i32⟩
  | 69 => ⟨S_, .i32⟩
  | 70 => ⟨S64x64, .i32⟩
  | 71 => ⟨S64x64, .i32⟩
  | 72 => ⟨S64x64, .i32⟩
  | 73 => ⟨S64x64, .i1⟩
  | 74 => ⟨S_, .i1⟩
  | 75 => ⟨S64x64, .i1⟩
  | 76 => ⟨S64x64, .i1⟩
  | 77 => ⟨S2x64x4x64x64, .f32⟩
  | 78 => ⟨S_, .f32⟩
  | 79 => ⟨S_, .f32⟩
  | 80 => ⟨S2x64x4x64x64, .i1⟩
  | 81 => ⟨S2x64x4x64x64, .f32⟩
  | 82 => ⟨S2x64x4x64x64, .f32⟩
  | 83 => ⟨S2x64x4x512x64, .f32⟩
  | 84 => ⟨S2x64x64x4x512, .f32⟩
  | 85 => ⟨S64x2x4x256x512, .f32⟩
  | 86 => ⟨S2x64x4x256, .f32⟩
  | 87 => ⟨S2x64x4x256, .f32⟩
  | 88 => ⟨S64x2x4x256, .f32⟩
  | 89 => ⟨S_, .f32⟩
  | 90 => ⟨S2x4x256x512, .f32⟩
  | 91 => ⟨S_, .f32⟩
  | 92 => ⟨S64x2x4x256x512, .f32⟩
  | 93 => ⟨S_, .i32⟩
  | 94 => ⟨S64x2x4x256, .f32⟩
  | 95 => ⟨S64x2x4x256x512, .f32⟩
  | 96 => ⟨S_, .i32⟩
  | 97 => ⟨S2x4x256x512, .f32⟩
  | 98 => ⟨S64x2x4x256x512, .f32⟩
  | 99 => ⟨S_, .i32⟩
  | 100 => ⟨S_, .i1⟩
  | 101 => ⟨S_, .i32⟩
  | 102 => ⟨S_, .i32⟩
  | 103 => ⟨S_, .i32⟩
  | 104 => ⟨S1x2x4x256, .f32⟩
  | 105 => ⟨S2x4x256, .f32⟩
  | 106 => ⟨S_, .i32⟩
  | 107 => ⟨S_, .i32⟩
  | 108 => ⟨S_, .i32⟩
  | 109 => ⟨S_, .i32⟩
  | 110 => ⟨S1x2x4x256x512, .f32⟩
  | 111 => ⟨S2x4x256x512, .f32⟩
  | 112 => ⟨S2x4x256x1, .f32⟩
  | 113 => ⟨S2x4x256x512, .f32⟩
  | 114 => ⟨S2x4x256x512, .f32⟩
  | 115 => ⟨S2x4x256x512, .f32⟩
  | 116 => ⟨S1x2x4x256x512, .f32⟩
  | 117 => ⟨S_, .i32⟩
  | 118 => ⟨S_, .i32⟩
  | 119 => ⟨S_, .i32⟩
  | 120 => ⟨S_, .i32⟩
  | 121 => ⟨S64x2x4x256x512, .f32⟩
  | 122 => ⟨S_, .i32⟩
  | 123 => ⟨S_, .i32⟩
  | 124 => ⟨S2x64x4x512x64, .f32⟩
  | 125 => ⟨S2x64x64x4x512, .f32⟩
  | 126 => ⟨S2x64x64x4x512, .f32⟩
  | 127 => ⟨S2x4096x4x512, .f32⟩
  | _ => ⟨S2x4096x12288, .bf16⟩

abbrev hbmTy0_1 (i : Nat) : BufTy := match i % 128 with
  | 0 => ⟨S2x4096x4x512, .f32⟩
  | 1 => ⟨S_, .f32⟩
  | 2 => ⟨S2x4096x4, .f32⟩
  | 3 => ⟨S2x4096x4x1, .f32⟩
  | 4 => ⟨S_, .f32⟩
  | 5 => ⟨S2x4096x4x1, .f32⟩
  | 6 => ⟨S2x4096x4x1, .f32⟩
  | 7 => ⟨S_, .f32⟩
  | 8 => ⟨S2x4096x4x1, .f32⟩
  | 9 => ⟨S2x4096x4x1, .f32⟩
  | 10 => ⟨S2x4096x4x1, .f32⟩
  | 11 => ⟨S2x4096x4x512, .f32⟩
  | 12 => ⟨S2x4096x4x512, .f32⟩
  | 13 => ⟨S1x512, .f32⟩
  | 14 => ⟨S512, .f32⟩
  | 15 => ⟨S1x1x1x512, .f32⟩
  | 16 => ⟨S2x4096x4x512, .f32⟩
  | 17 => ⟨S2x4096x4x512, .f32⟩
  | 18 => ⟨S2x4096x2048, .f32⟩
  | 19 => ⟨S2x4096x2048, .f32⟩
  | 20 => ⟨S2x4096x2048, .f32⟩
  | 21 => ⟨S_, .f32⟩
  | 22 => ⟨S2x4096x2048, .f32⟩
  | 23 => ⟨S2x4096x2048, .f32⟩
  | 24 => ⟨S_, .f32⟩
  | 25 => ⟨S2x4096x2048, .f32⟩
  | 26 => ⟨S2x4096x2048, .f32⟩
  | 27 => ⟨S2x4096x2048, .f32⟩
  | 28 => ⟨S2x4096x2048, .f32⟩
  | 29 => ⟨S2x4096x2048, .bf16⟩
  | 30 => ⟨S1x4096x4096, .f32⟩
  | 31 => ⟨S4096x4096, .f32⟩
  | 32 => ⟨S4096x4096, .bf16⟩
  | _ => ⟨S2x4096x12288, .bf16⟩

abbrev hbmTy (i : Nat) : BufTy := match i / 128 with
  | 0 => hbmTy0_0 i
  | 1 => hbmTy0_1 i
  | _ => ⟨S2x4096x12288, .bf16⟩

abbrev bufTy : (tb : Table) → Fin (tcTables nBuf tb) → BufTy
  | .hbm, ⟨i, _⟩ => hbmTy i
  | _, _ => ⟨S2x4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_call0_cst : Ref sig .tc := ⟨.hbm, 53, rfl⟩
abbrev main_call1_call0_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c : Ref sig .tc := ⟨.hbm, 66, rfl⟩
abbrev main_v41 : Ref sig .tc := ⟨.hbm, 67, rfl⟩
abbrev main_call2_v0 : Ref sig .tc := ⟨.hbm, 68, rfl⟩
abbrev main_call2_c : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_0 : Ref sig .tc := ⟨.hbm, 74, rfl⟩
abbrev main_call2_v5 : Ref sig .tc := ⟨.hbm, 75, rfl⟩
abbrev main_v42 : Ref sig .tc := ⟨.hbm, 76, rfl⟩
abbrev main_v43 : Ref sig .tc := ⟨.hbm, 77, rfl⟩
abbrev main_cst_1 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_2 : Ref sig .tc := ⟨.hbm, 89, rfl⟩
abbrev main_v51 : Ref sig .tc := ⟨.hbm, 90, rfl⟩
abbrev main_cst_3 : Ref sig .tc := ⟨.hbm, 91, rfl⟩
abbrev main_v52 : Ref sig .tc := ⟨.hbm, 92, rfl⟩
abbrev main_c_4 : Ref sig .tc := ⟨.hbm, 93, rfl⟩
abbrev main_v53_0 : Ref sig .tc := ⟨.hbm, 94, rfl⟩
abbrev main_v53_1 : Ref sig .tc := ⟨.hbm, 95, rfl⟩
abbrev main_v53_2 : Ref sig .tc := ⟨.hbm, 96, rfl⟩
abbrev main_v53_3 : Ref sig .tc := ⟨.hbm, 97, rfl⟩
abbrev main_v53_4 : Ref sig .tc := ⟨.hbm, 98, rfl⟩
abbrev main_while0c_c_12 : Ref sig .tc := ⟨.hbm, 99, rfl⟩
abbrev main_while0c_v80 : Ref sig .tc := ⟨.hbm, 100, rfl⟩
abbrev main_while0b_call4_c : Ref sig .tc := ⟨.hbm, 101, rfl⟩
abbrev main_while0b_call4_c_0 : Ref sig .tc := ⟨.hbm, 102, rfl⟩
abbrev main_while0b_call4_c_1 : Ref sig .tc := ⟨.hbm, 103, rfl⟩
abbrev main_while0b_call4_v0 : Ref sig .tc := ⟨.hbm, 104, rfl⟩
abbrev main_while0b_v80 : Ref sig .tc := ⟨.hbm, 105, rfl⟩
abbrev main_while0b_call5_c : Ref sig .tc := ⟨.hbm, 106, rfl⟩
abbrev main_while0b_call5_c_0 : Ref sig .tc := ⟨.hbm, 107, rfl⟩
abbrev main_while0b_call5_c_1 : Ref sig .tc := ⟨.hbm, 108, rfl⟩
abbrev main_while0b_call5_c_2 : Ref sig .tc := ⟨.hbm, 109, rfl⟩
abbrev main_while0b_call5_v0 : Ref sig .tc := ⟨.hbm, 110, rfl⟩
abbrev main_while0b_v81 : Ref sig .tc := ⟨.hbm, 111, rfl⟩
abbrev main_while0b_v82 : Ref sig .tc := ⟨.hbm, 112, rfl⟩
abbrev main_while0b_v83 : Ref sig .tc := ⟨.hbm, 113, rfl⟩
abbrev main_while0b_v84 : Ref sig .tc := ⟨.hbm, 114, rfl⟩
abbrev main_while0b_v85 : Ref sig .tc := ⟨.hbm, 115, rfl⟩
abbrev main_while0b_call6_v0 : Ref sig .tc := ⟨.hbm, 116, rfl⟩
abbrev main_while0b_call6_c : Ref sig .tc := ⟨.hbm, 117, rfl⟩
abbrev main_while0b_call6_c_0 : Ref sig .tc := ⟨.hbm, 118, rfl⟩
abbrev main_while0b_call6_c_1 : Ref sig .tc := ⟨.hbm, 119, rfl⟩
abbrev main_while0b_call6_c_2 : Ref sig .tc := ⟨.hbm, 120, rfl⟩
abbrev main_while0b_v86 : Ref sig .tc := ⟨.hbm, 121, rfl⟩
abbrev main_while0b_c_12 : Ref sig .tc := ⟨.hbm, 122, rfl⟩
abbrev main_while0b_v87 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_5 : Ref sig .tc := ⟨.hbm, 129, rfl⟩
abbrev main_v59 : Ref sig .tc := ⟨.hbm, 130, rfl⟩
abbrev main_v60 : Ref sig .tc := ⟨.hbm, 131, rfl⟩
abbrev main_cst_6 : Ref sig .tc := ⟨.hbm, 132, rfl⟩
abbrev main_v61 : Ref sig .tc := ⟨.hbm, 133, rfl⟩
abbrev main_v62 : Ref sig .tc := ⟨.hbm, 134, rfl⟩
abbrev main_cst_7 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_call7_v0 : Ref sig .tc := ⟨.hbm, 147, rfl⟩
abbrev main_call7_v1 : Ref sig .tc := ⟨.hbm, 148, rfl⟩
abbrev main_call7_cst : Ref sig .tc := ⟨.hbm, 149, rfl⟩
abbrev main_call7_v2 : Ref sig .tc := ⟨.hbm, 150, rfl⟩
abbrev main_call7_v3 : Ref sig .tc := ⟨.hbm, 151, rfl⟩
abbrev main_call7_cst_0 : Ref sig .tc := ⟨.hbm, 152, rfl⟩
abbrev main_call7_v4 : Ref sig .tc := ⟨.hbm, 153, rfl⟩
abbrev main_call7_v5 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩

abbrev nD : Nat := 1
abbrev τ : Topo := Topo.v7x

variable {F : FTy → Type} [FloatOps F]

abbrev main_while0_count : Scf.Loop 32 := ⟨0#32, 64#32, 1#32⟩
-- ==== Band.lean ====
abbrev S2x4096x12288 : Shape := ⟨3, ![2, 4096, 12288]⟩
abbrev S4x16x257 : Shape := ⟨3, ![4, 16, 257]⟩
abbrev S1x16x257 : Shape := ⟨3, ![1, 16, 257]⟩
abbrev S16x257 : Shape := ⟨2, ![16, 257]⟩
abbrev S16x1 : Shape := ⟨2, ![16, 1]⟩
abbrev S16x384 : Shape := ⟨2, ![16, 384]⟩
abbrev S16x127 : Shape := ⟨2, ![16, 127]⟩
abbrev S16x256 : Shape := ⟨2, ![16, 256]⟩
abbrev S16x1024 : Shape := ⟨2, ![16, 1024]⟩
abbrev S16x1x1024 : Shape := ⟨3, ![16, 1, 1024]⟩
abbrev S2x4096x2048 : Shape := ⟨3, ![2, 4096, 2048]⟩
abbrev S1x256x2048 : Shape := ⟨3, ![1, 256, 2048]⟩
abbrev S16x256x768 : Shape := ⟨3, ![16, 256, 768]⟩
abbrev S256x768 : Shape := ⟨2, ![256, 768]⟩
abbrev S1x1x1024 : Shape := ⟨3, ![1, 1, 1024]⟩
abbrev S1x1024 : Shape := ⟨2, ![1, 1024]⟩
abbrev S256x1024 : Shape := ⟨2, ![256, 1024]⟩
abbrev S1x256x768 : Shape := ⟨3, ![1, 256, 768]⟩
abbrev S768x128 : Shape := ⟨2, ![768, 128]⟩
abbrev S1x256x128 : Shape := ⟨3, ![1, 256, 128]⟩
abbrev S256x128 : Shape := ⟨2, ![256, 128]⟩
abbrev S128x640 : Shape := ⟨2, ![128, 640]⟩
abbrev S128 : Shape := ⟨1, ![128]⟩
abbrev S128x1 : Shape := ⟨2, ![128, 1]⟩
abbrev S128x128 : Shape := ⟨2, ![128, 128]⟩
abbrev S128x768 : Shape := ⟨2, ![128, 768]⟩
abbrev S768x256 : Shape := ⟨2, ![768, 256]⟩
abbrev S256x256 : Shape := ⟨2, ![256, 256]⟩
abbrev S256x1 : Shape := ⟨2, ![256, 1]⟩

abbrev nBuf : Space → Nat
  | .hbm => 13
  | .vmem => 18
  | .smem => 0
  | _ => 0

abbrev bufTy : (tb : Table) → Fin (tcTables nBuf tb) → BufTy
  | .hbm, ⟨0, _⟩ => ⟨S2x4096x12288, .bf16⟩
  | .hbm, ⟨1, _⟩ => ⟨S4x16x257, .f32⟩
  | .hbm, ⟨2, _⟩ => ⟨S1x16x257, .f32⟩
  | .hbm, ⟨3, _⟩ => ⟨S16x257, .f32⟩
  | .hbm, ⟨4, _⟩ => ⟨S16x1, .f32⟩
  | .hbm, ⟨5, _⟩ => ⟨S16x1, .f32⟩
  | .hbm, ⟨6, _⟩ => ⟨S16x384, .f32⟩
  | .hbm, ⟨7, _⟩ => ⟨S16x257, .f32⟩
  | .hbm, ⟨8, _⟩ => ⟨S16x127, .f32⟩
  | .hbm, ⟨9, _⟩ => ⟨S16x256, .f32⟩
  | .hbm, ⟨10, _⟩ => ⟨S16x1024, .f32⟩
  | .hbm, ⟨11, _⟩ => ⟨S16x1x1024, .f32⟩
  | .hbm, ⟨12, _⟩ => ⟨S2x4096x2048, .bf16⟩
  | .local _ .vmem, ⟨0, _⟩ => ⟨S16x1x1024, .f32⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x256x2048, .bf16⟩
  | .local _ .vmem, ⟨15, _⟩ => ⟨S1x256x2048, .bf16⟩
  | .local _ .vmem, ⟨16, _⟩ => ⟨S1x256x2048, .bf16⟩
  | .local _ .vmem, ⟨17, _⟩ => ⟨S16x256x768, .f32⟩
  | _, _ => ⟨S2x4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c1_i32 : BitVec 32 := 1#32
  let v2 : BitVec 32 := Scalar.addi c1_i32 arg1
  let c0_i32_0 : BitVec 32 := 0#32
  ![arg0.toNat, v1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c1_i32_0 : BitVec 32 := 1#32
  let v2 : BitVec 32 := Scalar.addi c1_i32_0 arg1
  let c0_i32_1 : BitVec 32 := 0#32
  ![arg0.toNat, v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c1_i32 : BitVec 32 := 1#32
  let v2 : BitVec 32 := Scalar.addi c1_i32 arg1
  let c0_i32_1 : BitVec 32 := 0#32
  ![arg0.toNat, v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c2_i32_0 : BitVec 32 := 2#32
  let v2 : BitVec 32 := Scalar.addi c2_i32_0 arg1
  let c0_i32_1 : BitVec 32 := 0#32
  ![arg0.toNat, v1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let v2 : BitVec 32 := Scalar.addi c2_i32 arg1
  let c0_i32_0 : BitVec 32 := 0#32
  ![arg0.toNat, v1.toNat, v2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c2_i32 : BitVec 32 := 2#32
  let v2 : BitVec 32 := Scalar.addi c2_i32 arg1
  let c0_i32_1 : BitVec 32 := 0#32
  ![arg0.toNat, v1.toNat, v2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S16x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== BandIdeal.lean ====
variable {F : FTy → Type} [FloatOps F] [Named F]
def κ : String → Option EReal := fun
  | "log2e" => some (((Real.log 2)⁻¹ : ℝ) : EReal)
  | "mask" => some ⊥
  | "scale" => some (((Real.sqrt 128)⁻¹ * (Real.log 2)⁻¹ : ℝ) : EReal)
  | _ => none
-- ==== BandReferenceIdeal.lean ====
abbrev S2x4096x12288 : Shape := ⟨3, ![2, 4096, 12288]⟩
abbrev S4x16x257 : Shape := ⟨3, ![4, 16, 257]⟩
abbrev S2x4096x2048 : Shape := ⟨3, ![2, 4096, 2048]⟩
abbrev S2x4096x16x128 : Shape := ⟨4, ![2, 4096, 16, 128]⟩
abbrev S4096 : Shape := ⟨1, ![4096]⟩
abbrev S4096x1 : Shape := ⟨2, ![4096, 1]⟩
abbrev S1x4096 : Shape := ⟨2, ![1, 4096]⟩
abbrev S2x16x4096x4096 : Shape := ⟨4, ![2, 16, 4096, 4096]⟩
abbrev S_ : Shape := ⟨0, ![]⟩
abbrev S1x16x257 : Shape := ⟨3, ![1, 16, 257]⟩
abbrev S16x257 : Shape := ⟨2, ![16, 257]⟩
abbrev S4096x4096 : Shape := ⟨2, ![4096, 4096]⟩
abbrev S4096x4096x1 : Shape := ⟨3, ![4096, 4096, 1]⟩
abbrev S16x4096x4096 : Shape := ⟨3, ![16, 4096, 4096]⟩
abbrev S1x16x4096x4096 : Shape := ⟨4, ![1, 16, 4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩

abbrev nBuf : Space → Nat
  | .hbm => 117
  | .vmem => 0
  | .smem => 0
  | _ => 0

abbrev bufTy : (tb : Table) → Fin (tcTables nBuf tb) → BufTy
  | .hbm, ⟨0, _⟩ => ⟨S2x4096x12288, .bf16⟩
  | .hbm, ⟨1, _⟩ => ⟨S4x16x257, .f32⟩
  | .hbm, ⟨2, _⟩ => ⟨S2x4096x2048, .bf16⟩
  | .hbm, ⟨3, _⟩ => ⟨S2x4096x2048, .f32⟩
  | .hbm, ⟨4, _⟩ => ⟨S2x4096x16x128, .f32⟩
  | .hbm, ⟨5, _⟩ => ⟨S2x4096x2048, .bf16⟩
  | .hbm, ⟨6, _⟩ => ⟨S2x4096x2048, .f32⟩
  | .hbm, ⟨7, _⟩ => ⟨S2x4096x16x128, .f32⟩
  | .hbm, ⟨8, _⟩ => ⟨S2x4096x2048, .bf16⟩
  | .hbm, ⟨9, _⟩ => ⟨S2x4096x2048, .f32⟩
  | .hbm, ⟨10, _⟩ => ⟨S2x4096x16x128, .f32⟩
  | .hbm, ⟨11, _⟩ => ⟨S4096, .i32⟩
  | .hbm, ⟨12, _⟩ => ⟨S4096x1, .i32⟩
  | .hbm, ⟨13, _⟩ => ⟨S4096, .i32⟩
  | .hbm, ⟨14, _⟩ => ⟨S1x4096, .i32⟩
  | .hbm, ⟨15, _⟩ => ⟨S2x16x4096x4096, .f32⟩
  | .hbm, ⟨16, _⟩ => ⟨S_, .f32⟩
  | .hbm, ⟨17, _⟩ => ⟨S_, .f32⟩
  | .hbm, ⟨18, _⟩ => ⟨S2x16x4096x4096, .f32⟩
  | .hbm, ⟨19, _⟩ => ⟨S2x16x4096x4096, .f32⟩
  | .hbm, ⟨20, _⟩ => ⟨S1x16x257, .f32⟩
  | .hbm, ⟨21, _⟩ => ⟨S16x257, .f32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S4096x4096, .i32⟩
  | .hbm, ⟨29, _⟩ => ⟨S4096x4096, .i32⟩
  | .hbm, ⟨30, _⟩ => ⟨S_, .i32⟩
  | .hbm, ⟨31, _⟩ => ⟨S4096x4096, .i32⟩
  | .hbm, ⟨32, _⟩ => ⟨S4096x4096, .i32⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S_, .i32⟩
  | .hbm, ⟨37, _⟩ => ⟨S4096x4096, .i32⟩
  | .hbm, ⟨38, _⟩ => ⟨S4096x4096, .i1⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S4096x4096, .i32⟩
  | .hbm, ⟨43, _⟩ => ⟨S4096x4096x1, .i32⟩
  | .hbm, ⟨44, _⟩ => ⟨S16x4096x4096, .f32⟩
  | .hbm, ⟨45, _⟩ => ⟨S1x16x4096x4096, .f32⟩
  | .hbm, ⟨46, _⟩ => ⟨S2x16x4096x4096, .f32⟩
  | .hbm, ⟨47, _⟩ => ⟨S2x16x4096x4096, .f32⟩
  | .hbm, ⟨48, _⟩ => ⟨S_, .i32⟩
  | .hbm, ⟨49, _⟩ => ⟨S_, .i32⟩
  | .hbm, ⟨50, _⟩ => ⟨S4096x1, .i32⟩
  | .hbm, ⟨51, _⟩ => ⟨S4096x1, .i32⟩
  | .hbm, ⟨52, _⟩ => ⟨S4096x1, .i32⟩
  | .hbm, ⟨53, _⟩ => ⟨S_, .i32⟩
  | .hbm, ⟨54, _⟩ => ⟨S4096x1, .i32⟩
  | .hbm, ⟨55, _⟩ => ⟨S4096x1, .i1⟩
  | .hbm, ⟨56, _⟩ => ⟨S4096x1, .i32⟩
  | .hbm, ⟨57, _⟩ => ⟨S4096x1, .i32⟩
  | .hbm, ⟨58, _⟩ => ⟨S_, .i32⟩
  | .hbm, ⟨59, _⟩ => ⟨S4096x1, .i32⟩
  | .hbm, ⟨60, _⟩ => ⟨S4096x1, .i1⟩
  | .hbm, ⟨61, _⟩ => ⟨S4096x1, .i1⟩
  | .hbm, ⟨62, _⟩ => ⟨S_, .i32⟩
  | .hbm, ⟨63, _⟩ => ⟨S4096x1, .i32⟩
  | .hbm, ⟨64, _⟩ => ⟨S4096x1, .i32⟩
  | .hbm, ⟨65, _⟩ => ⟨S4096x1, .i32⟩
  | .hbm, ⟨66, _⟩ => ⟨S_, .i32⟩
  | .hbm, ⟨67, _⟩ => ⟨S_, .i32⟩
  | .hbm, ⟨68, _⟩ => ⟨S1x4096, .i32⟩
  | .hbm, ⟨69, _⟩ => ⟨S1x4096, .i32⟩
  | .hbm, ⟨70, _⟩ => ⟨S1x4096, .i32⟩
  | .hbm, ⟨71, _⟩ => ⟨S_, .i32⟩
  | .hbm, ⟨72, _⟩ => ⟨S1x4096, .i32⟩
  | .hbm, ⟨73, _⟩ => ⟨S1x4096, .i1⟩
  | .hbm, ⟨74, _⟩ => ⟨S1x4096, .i32⟩
  | .hbm, ⟨75, _⟩ => ⟨S1x4096, .i32⟩
  | .hbm, ⟨76, _⟩ => ⟨S_, .i32⟩
  | .hbm, ⟨77, _⟩ => ⟨S1x4096, .i32⟩
  | .hbm, ⟨78, _⟩ => ⟨S1x4096, .i1⟩
  | .hbm, ⟨79, _⟩ => ⟨S1x4096, .i1⟩
  | .hbm, ⟨80, _⟩ => ⟨S_, .i32⟩
  | .hbm, ⟨81, _⟩ => ⟨S1x4096, .i32⟩
  | .hbm, ⟨82, _⟩ => ⟨S1x4096, .i32⟩
  | .hbm, ⟨83, _⟩ => ⟨S1x4096, .i32⟩
  | .hbm, ⟨84, _⟩ => ⟨S4096x4096, .i32⟩
  | .hbm, ⟨85, _⟩ => ⟨S4096x4096, .i32⟩
  | .hbm, ⟨86, _⟩ => ⟨S4096x4096, .i32⟩
  | .hbm, ⟨87, _⟩ => ⟨S_, .i32⟩
  | .hbm, ⟨88, _⟩ => ⟨S4096x4096, .i32⟩
  | .hbm, ⟨89, _⟩ => ⟨S4096x4096, .i1⟩
  | .hbm, ⟨90, _⟩ => ⟨S_, .i32⟩
  | .hbm, ⟨91, _⟩ => ⟨S4096x4096, .i32⟩
  | .hbm, ⟨92, _⟩ => ⟨S4096x4096, .i1⟩
  | .hbm, ⟨93, _⟩ => ⟨S4096x4096, .i1⟩
  | .hbm, ⟨94, _⟩ => ⟨S_, .f32⟩
  | .hbm, ⟨95, _⟩ => ⟨S_, .f32⟩
  | .hbm, ⟨96, _⟩ => ⟨S2x16x4096x4096, .i1⟩
  | .hbm, ⟨97, _⟩ => ⟨S2x16x4096x4096, .f32⟩
  | .hbm, ⟨98, _⟩ => ⟨S2x16x4096x4096, .f32⟩
  | .hbm, ⟨99, _⟩ => ⟨S_, .f32⟩
  | .hbm, ⟨100, _⟩ => ⟨S2x16x4096, .f32⟩
  | .hbm, ⟨101, _⟩ => ⟨S_, .f32⟩
  | .hbm, ⟨102, _⟩ => ⟨S2x16x4096, .f32⟩
  | .hbm, ⟨103, _⟩ => ⟨S2x16x4096, .f32⟩
  | .hbm, ⟨104, _⟩ => ⟨S2x16x4096x1, .f32⟩
  | .hbm, ⟨105, _⟩ => ⟨S2x16x4096x4096, .f32⟩
  | .hbm, ⟨106, _⟩ => ⟨S2x16x4096x4096, .f32⟩
  | .hbm, ⟨107, _⟩ => ⟨S2x16x4096x4096, .f32⟩
  | .hbm, ⟨108, _⟩ => ⟨S_, .f32⟩
  | .hbm, ⟨109, _⟩ => ⟨S2x16x4096, .f32⟩
  | .hbm, ⟨110, _⟩ => ⟨S2x16x4096x1, .f32⟩
  | .hbm, ⟨111, _⟩ => ⟨S2x16x4096x4096, .f32⟩
  | .hbm, ⟨112, _⟩ => ⟨S2x16x4096x4096, .f32⟩
  | .hbm, ⟨113, _⟩ => ⟨S2x16x128x4096, .f32⟩
  | .hbm, ⟨114, _⟩ => ⟨S2x4096x16x128, .f32⟩
  | .hbm, ⟨115, _⟩ => ⟨S2x4096x2048, .f32⟩
  | .hbm, ⟨116, _⟩ => ⟨S2x4096x2048, .bf16⟩
  | _, _ => ⟨S2x4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_c_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_c : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_0 : Ref sig .tc := ⟨.hbm, 62, rfl⟩
abbrev main_call1_v12 : Ref sig .tc := ⟨.hbm, 63, rfl⟩
abbrev main_call1_v13 : Ref sig .tc := ⟨.hbm, 64, rfl⟩
abbrev main_v35 : Ref sig .tc := ⟨.hbm, 65, rfl⟩
abbrev main_c_5 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_c : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_0 : Ref sig .tc := ⟨.hbm, 80, rfl⟩
abbrev main_call2_v12 : Ref sig .tc := ⟨.hbm, 81, rfl⟩
abbrev main_call2_v13 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_c_6 : Ref sig .tc := ⟨.hbm, 87, rfl⟩
abbrev main_v40 : Ref sig .tc := ⟨.hbm, 88, rfl⟩
abbrev main_v41 : Ref sig .tc := ⟨.hbm, 89, rfl⟩
abbrev main_c_7 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_8 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v45 : Ref sig .tc := ⟨.hbm, 98, rfl⟩
abbrev main_cst_9 : Ref sig .tc := ⟨.hbm, 99, rfl⟩
abbrev main_v46 : Ref sig .tc := ⟨.hbm, 100, rfl⟩
abbrev main_cst_10 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_11 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩

abbrev nD : Nat := 1
abbrev τ : Topo := Topo.v7x

variable {F : FTy → Type} [FloatOps F]
-- ==== Proof.Words.lean ====
/-
  The words the pipelined trip carries, in closed form. Trip `t` of the 128 works on the tile of block row `t / 8`
  and block column `t % 8`; the loop's eight carried words count the transfers issued and awaited so far, and with
  them every offset, condition and check of the trip is a function of `t` alone, decided over the 128 trips.
-/
module

public import proofs.«01_k».proof.Proof.Gen.KernelIdeal
public import Idealize.ShloMosaic.Lib.Ring

@[expose] public section

set_option maxRecDepth 16384

noncomputable section

namespace Cert.Proof.Down

open Cert.KernelIdeal
open Idealize.ShloMosaic
open Idealize.ShloMosaic.Ring (sl)

/-- The loop's trips are the 128 tiles. -/
theorem trips_eq : k0_t1_loop.trips = 128 := by decide +kernel

theorem lt_trips (k : Fin k0_t1_loop.trips) : k.val < 128 := Nat.lt_of_lt_of_eq k.isLt trips_eq

/-! ## The carried words before trip `t` -/

/-- Left operand: transfers issued; -/
@[irreducible] def issA (t : ℕ) : BitVec 32 := BitVec.ofNat 32 (min (t / 8 + 1) 16)
/-- tiles it has done with. -/
@[irreducible] def useA (t : ℕ) : BitVec 32 := BitVec.ofNat 32 (t / 8)
/-- Right operand: transfers issued; -/
@[irreducible] def issB (t : ℕ) : BitVec 32 := BitVec.ofNat 32 (min (t + 2) 128)
/-- tiles it has done with. -/
@[irreducible] def useB (t : ℕ) : BitVec 32 := BitVec.ofNat 32 t
/-- Result: tiles sent out; -/
@[irreducible] def issO (t : ℕ) : BitVec 32 := BitVec.ofNat 32 t
/-- tiles awaited. -/
@[irreducible] def useO (t : ℕ) : BitVec 32 := BitVec.ofNat 32 (t - 1)
/-- The tile's block row (back to 0 after the last trip) and block column. -/
@[irreducible] def row (t : ℕ) : BitVec 32 := BitVec.ofNat 32 (t / 8 % 16)
@[irreducible] def col (t : ℕ) : BitVec 32 := BitVec.ofNat 32 (t % 8)

abbrev Carried : Type := BitVec 32 × BitVec 32 × BitVec 32 × BitVec 32 × BitVec 32 × BitVec 32 × BitVec 32 × BitVec 32

/-- The eight words before trip `t`. -/
abbrev carried (t : ℕ) : Carried := (issA t, useA t, issB t, useB t, issO t, useO t, row t, col t)

theorem carried_zero : carried 0 = (1#32, 0#32, 2#32, 0#32, 0#32, 0#32, 0#32, 0#32) := by
  unfold carried issA useA issB useB issO useO row col; rfl

/-! ## The trip's conditions -/

theorem c2_iff : ∀ k : Fin k0_t1_loop.trips, k0_cond2 k (row k) (col k) = 1#1 ↔ (k.val % 8 = 7 ∧ k.val < 127) := by decide +kernel
theorem c3_iff : ∀ k : Fin k0_t1_loop.trips, k0_cond3 k (col k) = 1#1 ↔ k.val < 126 := by decide +kernel
theorem c4_iff : ∀ k : Fin k0_t1_loop.trips, k0_cond4 k (row k) (col k) = 1#1 ↔ k.val % 8 = 0 := by decide +kernel
theorem c5 : ∀ k : Fin k0_t1_loop.trips, k0_cond5 k (col k) = 1#1 := by decide +kernel
theorem c9 : ∀ k : Fin k0_t1_loop.trips, k0_cond9 k (row k) (col k) = 1#1 := by decide +kernel
theorem c12_iff : ∀ k : Fin k0_t1_loop.trips, k0_cond12 k (row k) (col k) = 1#1 ↔ k.val ≠ 0 := by decide +kernel

/-! ## The trip's checks -/

theorem chk4 : ∀ k : Fin k0_t1_loop.trips, k0_chk4 (issO k) := by decide +kernel
theorem chk3 : ∀ k : Fin k0_t1_loop.trips, k0_chk3 (useB k) := by decide +kernel
theorem chk2 : ∀ k : Fin k0_t1_loop.trips, k0_chk2 (useA k) := by decide +kernel
theorem chk1 : ∀ k : Fin k0_t1_loop.trips, k0_chk1 k (issA k) (useA k) (issB k) (useB k) (issO k) (useO k) (row k) (col k) := by decide +kernel
theorem chk6 : k0_chk6 (col 128) (row 128) := by decide +kernel
theorem chk5 : k0_chk5 (useO 128) := by decide +kernel

/-! ## The trip's offsets -/

/-- A slot of a ring, as the offset of a semaphore and of a rank-3 buffer; a block row, a block column, a tile. -/
abbrev at1 (s : ℕ) : Fin 1 → ℕ := ![s]
abbrev at3 (s : ℕ) : Fin 3 → ℕ := ![s, 0, 0]
abbrev rowAt (i : ℕ) : Fin 2 → ℕ := ![512 * i, 0]
abbrev colAt (j : ℕ) : Fin 2 → ℕ := ![0, 512 * j]
abbrev tileAt (b : ℕ) : Fin 2 → ℕ := ![512 * (b / 8), 512 * (b % 8)]

theorem o8 : ∀ k : Fin k0_t1_loop.trips, k.val < 120 → k0_off8 (issA k) = at1 (sl 2 (k.val / 8 + 1)).val := by decide +kernel
theorem o9 : ∀ k : Fin k0_t1_loop.trips, k.val < 120 → k0_off9 (issA k) = at3 (sl 2 (k.val / 8 + 1)).val := by decide +kernel
theorem o10 : ∀ k : Fin k0_t1_loop.trips, k.val % 8 = 7 → k0_off10 (row k) (col k) = rowAt (sl 16 (k.val / 8 + 1)).val := by decide +kernel
theorem o11 : ∀ k : Fin k0_t1_loop.trips, k.val < 126 → k0_off11 (issB k) = at1 (sl 3 (k.val + 2)).val := by decide +kernel
theorem o12 : ∀ k : Fin k0_t1_loop.trips, k.val < 126 → k0_off12 (issB k) = at3 (sl 3 (k.val + 2)).val := by decide +kernel
theorem o13 : ∀ k : Fin k0_t1_loop.trips, k0_off13 (col k) = colAt (sl 8 (k.val + 2)).val := by decide +kernel
theorem o14 : ∀ k : Fin k0_t1_loop.trips, k0_off14 (useA k) = at1 (sl 2 (k.val / 8)).val := by decide +kernel
theorem o15 : ∀ k : Fin k0_t1_loop.trips, k0_off15 (useA k) = at3 (sl 2 (k.val / 8)).val := by decide +kernel
theorem o16 : ∀ k : Fin k0_t1_loop.trips, k0_off16 (row k) = rowAt (sl 16 (k.val / 8)).val := by decide +kernel
theorem o17 : ∀ k : Fin k0_t1_loop.trips, k0_off17 (useB k) = at1 (sl 3 k.val).val := by decide +kernel
theorem o18 : ∀ k : Fin k0_t1_loop.trips, k0_off18 (useB k) = at3 (sl 3 k.val).val := by decide +kernel
theorem o19 : ∀ k : Fin k0_t1_loop.trips, k0_off19 (col k) = colAt (sl 8 k.val).val := by decide +kernel
theorem o20 : ∀ k : Fin k0_t1_loop.trips, k0_off20 (useA k) = at3 (sl 2 (k.val / 8)).val := by decide +kernel
theorem o21 : ∀ k : Fin k0_t1_loop.trips, k0_off21 (useB k) = at3 (sl 3 k.val).val := by decide +kernel
theorem o22 : ∀ k : Fin k0_t1_loop.trips, k0_off22 (issO k) = at3 (sl 2 k.val).val := by decide +kernel
theorem o23 : ∀ k : Fin k0_t1_loop.trips, k0_off23 (issO k) = at1 (sl 2 k.val).val := by decide +kernel
theorem o24 : ∀ k : Fin k0_t1_loop.trips, k0_off24 (row k) (col k) = tileAt (sl 128 k.val).val := by decide +kernel
theorem o25 : ∀ k : Fin k0_t1_loop.trips, k0_off25 (issO k) = at3 (sl 2 k.val).val := by decide +kernel
theorem o26 : ∀ k : Fin k0_t1_loop.trips, k.val ≠ 0 → k0_off26 (useO k) = at1 (sl 2 (k.val + 1)).val := by decide +kernel
theorem o27 : ∀ k : Fin k0_t1_loop.trips, k.val ≠ 0 → k0_off27 (row k) (col k) = tileAt (sl 128 (k.val - 1)).val := by decide +kernel
theorem o28 : ∀ k : Fin k0_t1_loop.trips, k.val ≠ 0 → k0_off28 (useO k) = at3 (sl 2 (k.val + 1)).val := by decide +kernel
theorem o29 : k0_off29 (useO 128) = at1 1 := by decide +kernel
theorem o30 : k0_off30 (col 128) (row 128) = tileAt 127 := by decide +kernel
theorem o31 : k0_off31 (useO 128) = at3 1 := by decide +kernel

end Cert.Proof.Down

end
-- ==== Proof.Names.lean ====
/-
  The pipeline's pieces by name: block row `i` of the left operand, block column `j` of the right one, tile `b` of
  the result, the slots of the three rings and their semaphores; and the equations by which the run reads the
  slices of a trip as them.
-/
module

public import proofs.«01_k».proof.Proof.Words
public import proofs.«01_k».proof.Proof.Gen.KernelIdeal.Skeleton
public import Idealize.ShloMosaic.Lib.Affine
public import Idealize.ShloMosaic.Lib.Tactic

@[expose] public section

set_option maxRecDepth 16384

noncomputable section

namespace Cert.Proof.Down

open Cert.KernelIdeal Cert.KernelIdeal.Gen
open Idealize.ShloMosaic Idealize.ShloMosaic.TcCoe Idealize.ShloMosaic.Tactic
open Idealize.ShloMosaic.Ring (sl)

abbrev lhs : Memref sig .tc .hbm S8192x11008 .bf16 := Memref.whole main_arg0
abbrev rhs : Memref sig .tc .hbm S11008x4096 .bf16 := Memref.whole main_arg1
abbrev res : Memref sig .tc .hbm S8192x4096 .bf16 := Memref.whole main_v0
abbrev ringA : Memref sig .tc .vmem S2x512x11008 .bf16 := Memref.whole cc0_scoped0
abbrev ringB : Memref sig .tc .vmem S3x11008x512 .bf16 := Memref.whole cc0_scoped2
abbrev ringO : Memref sig .tc .vmem S2x512x512 .bf16 := Memref.whole cc0_scoped4

/-! ## In range -/

theorem rowAt_inb (i : Fin 16) : ∀ a, rowAt i.val a + S512x11008.size a ≤ S8192x11008.size a := by revert i; decide +kernel
theorem colAt_inb (j : Fin 8) : ∀ a, colAt j.val a + S11008x512.size a ≤ S11008x4096.size a := by revert j; decide +kernel
theorem tileAt_inb (b : Fin 128) : ∀ a, tileAt b.val a + S512x512.size a ≤ S8192x4096.size a := by revert b; decide +kernel
theorem slotA_inb (s : Fin 2) : ∀ a, at3 s.val a + S1x512x11008.size a ≤ S2x512x11008.size a := by revert s; decide +kernel
theorem slotB_inb (s : Fin 3) : ∀ a, at3 s.val a + S1x11008x512.size a ≤ S3x11008x512.size a := by revert s; decide +kernel
theorem slotO_inb (s : Fin 2) : ∀ a, at3 s.val a + S1x512x512.size a ≤ S2x512x512.size a := by revert s; decide +kernel
theorem sem2_inb (s : Fin 2) : ∀ a, at1 s.val a + S1.size a ≤ S2.size a := by revert s; decide +kernel
theorem sem3_inb (s : Fin 3) : ∀ a, at1 s.val a + S1.size a ≤ S3.size a := by revert s; decide +kernel

/-! ## The pieces -/

/-- Block row `i` of the left operand; -/
def blkA (i : Fin 16) : Memref sig .tc .hbm S512x11008 .bf16 :=
  lhs.slice (Rect.unit (s := S8192x11008) (rowAt i.val) S512x11008.size (rowAt_inb i)) (fun _ => rfl)
/-- block column `j` of the right one; -/
def blkB (j : Fin 8) : Memref sig .tc .hbm S11008x512 .bf16 :=
  rhs.slice (Rect.unit (s := S11008x4096) (colAt j.val) S11008x512.size (colAt_inb j)) (fun _ => rfl)
/-- tile `b` of the result. -/
def tile (b : Fin 128) : Memref sig .tc .hbm S512x512 .bf16 :=
  res.slice (Rect.unit (s := S8192x4096) (tileAt b.val) S512x512.size (tileAt_inb b)) (fun _ => rfl)
/-- The slots of the three rings. -/
def slotA (s : Fin 2) : Memref sig .tc .vmem S512x11008 .bf16 :=
  (ringA.slice (Rect.unit (s := S2x512x11008) (at3 s.val) S1x512x11008.size (slotA_inb s)) (fun _ => rfl)).squeeze S512x11008 squeezes_S1x512x11008_S512x11008
def slotB (s : Fin 3) : Memref sig .tc .vmem S11008x512 .bf16 :=
  (ringB.slice (Rect.unit (s := S3x11008x512) (at3 s.val) S1x11008x512.size (slotB_inb s)) (fun _ => rfl)).squeeze S11008x512 squeezes_S1x11008x512_S11008x512
def slotO (s : Fin 2) : Memref sig .tc .vmem S512x512 .bf16 :=
  (ringO.slice (Rect.unit (s := S2x512x512) (at3 s.val) S1x512x512.size (slotO_inb s)) (fun _ => rfl)).squeeze S512x512 squeezes_S1x512x512_S512x512
/-- Their semaphores. -/
def semA (s : Fin 2) : DmaSems sig S_ := (cc0_scoped1.slice (Rect.unit (s := S2) (at1 s.val) S1.size (sem2_inb s))).squeeze S_ squeezes_S1_S_
def semB (s : Fin 3) : DmaSems sig S_ := (cc0_scoped3.slice (Rect.unit (s := S3) (at1 s.val) S1.size (sem3_inb s))).squeeze S_ squeezes_S1_S_
def semO (s : Fin 2) : DmaSems sig S_ := (cc0_scoped5.slice (Rect.unit (s := S2) (at1 s.val) S1.size (sem2_inb s))).squeeze S_ squeezes_S1_S_

instance (s : Fin 2) : ClosedOff (at3 s.val) := ⟨at3 s.val, rfl⟩
instance (s : Fin 3) : ClosedOff (at3 s.val) := ⟨at3 s.val, rfl⟩
instance (i : Fin 16) : ClosedOff (rowAt i.val) := ⟨rowAt i.val, rfl⟩
instance (j : Fin 8) : ClosedOff (colAt j.val) := ⟨colAt j.val, rfl⟩
instance (b : Fin 128) : ClosedOff (tileAt b.val) := ⟨tileAt b.val, rfl⟩

/-! ## A slice at the same offset is the piece -/

theorem blkA_of {off : Fin 2 → ℕ} {i : Fin 16} (e : off = rowAt i.val) (hh hs) :
    lhs.slice (Rect.unit (s := S8192x11008) off S512x11008.size hh) hs = blkA i := by subst e; rfl
theorem blkB_of {off : Fin 2 → ℕ} {j : Fin 8} (e : off = colAt j.val) (hh hs) :
    rhs.slice (Rect.unit (s := S11008x4096) off S11008x512.size hh) hs = blkB j := by subst e; rfl
theorem tile_of {off : Fin 2 → ℕ} {b : Fin 128} (e : off = tileAt b.val) (hh hs) :
    res.slice (Rect.unit (s := S8192x4096) off S512x512.size hh) hs = tile b := by subst e; rfl
theorem slotA_of {off : Fin 3 → ℕ} {s : Fin 2} (e : off = at3 s.val) (hh hs) :
    (ringA.slice (Rect.unit (s := S2x512x11008) off S1x512x11008.size hh) hs).squeeze S512x11008 squeezes_S1x512x11008_S512x11008 = slotA s := by
  subst e; rfl
theorem slotB_of {off : Fin 3 → ℕ} {s : Fin 3} (e : off = at3 s.val) (hh hs) :
    (ringB.slice (Rect.unit (s := S3x11008x512) off S1x11008x512.size hh) hs).squeeze S11008x512 squeezes_S1x11008x512_S11008x512 = slotB s := by
  subst e; rfl
theorem slotO_of {off : Fin 3 → ℕ} {s : Fin 2} (e : off = at3 s.val) (hh hs) :
    (ringO.slice (Rect.unit (s := S2x512x512) off S1x512x512.size hh) hs).squeeze S512x512 squeezes_S1x512x512_S512x512 = slotO s := by
  subst e; rfl
theorem semA_of {off : Fin 1 → ℕ} {s : Fin 2} (e : off = at1 s.val) (hh) :
    (cc0_scoped1.slice (Rect.unit (s := S2) off S1.size hh)).squeeze S_ squeezes_S1_S_ = semA s := by subst e; rfl
theorem semB_of {off : Fin 1 → ℕ} {s : Fin 3} (e : off = at1 s.val) (hh) :
    (cc0_scoped3.slice (Rect.unit (s := S3) off S1.size hh)).squeeze S_ squeezes_S1_S_ = semB s := by subst e; rfl
theorem semO_of {off : Fin 1 → ℕ} {s : Fin 2} (e : off = at1 s.val) (hh) :
    (cc0_scoped5.slice (Rect.unit (s := S2) off S1.size hh)).squeeze S_ squeezes_S1_S_ = semO s := by subst e; rfl

/-! ## The prologue's slices -/

@[sl_canon] theorem p_semA (hh) : (cc0_scoped1.slice (Rect.unit (s := S2) k0_off1 S1.size hh)).squeeze S_ squeezes_S1_S_ = semA (sl 2 (0 / 8)) := semA_of (by decide +kernel) _
@[sl_canon] theorem p_slotA (hh hs) : (ringA.slice (Rect.unit (s := S2x512x11008) k0_off2 S1x512x11008.size hh) hs).squeeze S512x11008 squeezes_S1x512x11008_S512x11008 = slotA (sl 2 (0 / 8)) := slotA_of (by decide +kernel) _ _
@[sl_canon] theorem p_blkA (hh hs) : lhs.slice (Rect.unit (s := S8192x11008) ![0, 0] S512x11008.size hh) hs = blkA (sl 16 (0 / 8)) := blkA_of (by decide +kernel) _ _
@[sl_canon] theorem p_semB (hh) : (cc0_scoped3.slice (Rect.unit (s := S3) k0_off3 S1.size hh)).squeeze S_ squeezes_S1_S_ = semB (sl 3 0) := semB_of (by decide +kernel) _
@[sl_canon] theorem p_slotB (hh hs) : (ringB.slice (Rect.unit (s := S3x11008x512) k0_off4 S1x11008x512.size hh) hs).squeeze S11008x512 squeezes_S1x11008x512_S11008x512 = slotB (sl 3 0) := slotB_of (by decide +kernel) _ _
@[sl_canon] theorem p_blkB (hh hs) : rhs.slice (Rect.unit (s := S11008x4096) ![0, 0] S11008x512.size hh) hs = blkB (sl 8 0) := blkB_of (by decide +kernel) _ _
@[sl_canon] theorem p_semB' (hh) : (cc0_scoped3.slice (Rect.unit (s := S3) k0_off5 S1.size hh)).squeeze S_ squeezes_S1_S_ = semB (sl 3 (0 + 1)) := semB_of (by decide +kernel) _
@[sl_canon] theorem p_slotB' (hh hs) : (ringB.slice (Rect.unit (s := S3x11008x512) k0_off6 S1x11008x512.size hh) hs).squeeze S11008x512 squeezes_S1x11008x512_S11008x512 = slotB (sl 3 (0 + 1)) := slotB_of (by decide +kernel) _ _
@[sl_canon] theorem p_blkB' (hh hs) : rhs.slice (Rect.unit (s := S11008x4096) k0_off7 S11008x512.size hh) hs = blkB (sl 8 (0 + 1)) := blkB_of (by decide +kernel) _ _

/-! ## The trip's slices -/

section Trip
variable (k : Fin k0_t1_loop.trips)

@[sl_canon] theorem t_semA (h : k.val < 120) (hh) : (cc0_scoped1.slice (Rect.unit (s := S2) (k0_off8 (issA k)) S1.size hh)).squeeze S_ squeezes_S1_S_ = semA (sl 2 (k.val / 8 + 1)) := semA_of (o8 k h) _
@[sl_canon] theorem t_slotA (h : k.val < 120) (hh hs) : (ringA.slice (Rect.unit (s := S2x512x11008) (k0_off9 (issA k)) S1x512x11008.size hh) hs).squeeze S512x11008 squeezes_S1x512x11008_S512x11008 = slotA (sl 2 (k.val / 8 + 1)) := slotA_of (o9 k h) _ _
@[sl_canon] theorem t_blkA (h : k.val % 8 = 7) (hh hs) : lhs.slice (Rect.unit (s := S8192x11008) (k0_off10 (row k) (col k)) S512x11008.size hh) hs = blkA (sl 16 (k.val / 8 + 1)) := blkA_of (o10 k h) _ _
@[sl_canon] theorem t_semB (h : k.val < 126) (hh) : (cc0_scoped3.slice (Rect.unit (s := S3) (k0_off11 (issB k)) S1.size hh)).squeeze S_ squeezes_S1_S_ = semB (sl 3 (k.val + 2)) := semB_of (o11 k h) _
@[sl_canon] theorem t_slotB (h : k.val < 126) (hh hs) : (ringB.slice (Rect.unit (s := S3x11008x512) (k0_off12 (issB k)) S1x11008x512.size hh) hs).squeeze S11008x512 squeezes_S1x11008x512_S11008x512 = slotB (sl 3 (k.val + 2)) := slotB_of (o12 k h) _ _
@[sl_canon] theorem t_blkB (hh hs) : rhs.slice (Rect.unit (s := S11008x4096) (k0_off13 (col k)) S11008x512.size hh) hs = blkB (sl 8 (k.val + 2)) := blkB_of (o13 k) _ _
@[sl_canon] theorem w_semA (hh) : (cc0_scoped1.slice (Rect.unit (s := S2) (k0_off14 (useA k)) S1.size hh)).squeeze S_ squeezes_S1_S_ = semA (sl 2 (k.val / 8)) := semA_of (o14 k) _
@[sl_canon] theorem w_slotA (hh hs) : (ringA.slice (Rect.unit (s := S2x512x11008) (k0_off15 (useA k)) S1x512x11008.size hh) hs).squeeze S512x11008 squeezes_S1x512x11008_S512x11008 = slotA (sl 2 (k.val / 8)) := slotA_of (o15 k) _ _
@[sl_canon] theorem w_blkA (hh hs) : lhs.slice (Rect.unit (s := S8192x11008) (k0_off16 (row k)) S512x11008.size hh) hs = blkA (sl 16 (k.val / 8)) := blkA_of (o16 k) _ _
@[sl_canon] theorem w_semB (hh) : (cc0_scoped3.slice (Rect.unit (s := S3) (k0_off17 (useB k)) S1.size hh)).squeeze S_ squeezes_S1_S_ = semB (sl 3 k.val) := semB_of (o17 k) _
@[sl_canon] theorem w_slotB (hh hs) : (ringB.slice (Rect.unit (s := S3x11008x512) (k0_off18 (useB k)) S1x11008x512.size hh) hs).squeeze S11008x512 squeezes_S1x11008x512_S11008x512 = slotB (sl 3 k.val) := slotB_of (o18 k) _ _
@[sl_canon] theorem w_blkB (hh hs) : rhs.slice (Rect.unit (s := S11008x4096) (k0_off19 (col k)) S11008x512.size hh) hs = blkB (sl 8 k.val) := blkB_of (o19 k) _ _
@[sl_canon] theorem t_semO (hh) : (cc0_scoped5.slice (Rect.unit (s := S2) (k0_off23 (issO k)) S1.size hh)).squeeze S_ squeezes_S1_S_ = semO (sl 2 k.val) := semO_of (o23 k) _
@[sl_canon] theorem t_slotO (hh hs) : (ringO.slice (Rect.unit (s := S2x512x512) (k0_off25 (issO k)) S1x512x512.size hh) hs).squeeze S512x512 squeezes_S1x512x512_S512x512 = slotO (sl 2 k.val) := slotO_of (o25 k) _ _
@[sl_canon] theorem t_tile (hh hs) : res.slice (Rect.unit (s := S8192x4096) (k0_off24 (row k) (col k)) S512x512.size hh) hs = tile (sl 128 k.val) := tile_of (o24 k) _ _
@[sl_canon] theorem w_semO (h : k.val ≠ 0) (hh) : (cc0_scoped5.slice (Rect.unit (s := S2) (k0_off26 (useO k)) S1.size hh)).squeeze S_ squeezes_S1_S_ = semO (sl 2 (k.val + 1)) := semO_of (o26 k h) _
@[sl_canon] theorem w_slotO (h : k.val ≠ 0) (hh hs) : (ringO.slice (Rect.unit (s := S2x512x512) (k0_off28 (useO k)) S1x512x512.size hh) hs).squeeze S512x512 squeezes_S1x512x512_S512x512 = slotO (sl 2 (k.val + 1)) := slotO_of (o28 k h) _ _
@[sl_canon] theorem w_tile (h : k.val ≠ 0) (hh hs) : res.slice (Rect.unit (s := S8192x4096) (k0_off27 (row k) (col k)) S512x512.size hh) hs = tile (sl 128 (k.val - 1)) := tile_of (o27 k h) _ _

instance : ClosedOff (k0_off20 (useA k)) := ⟨at3 (sl 2 (k.val / 8)).val, o20 k⟩
instance : ClosedOff (k0_off21 (useB k)) := ⟨at3 (sl 3 k.val).val, o21 k⟩
instance : ClosedOff (k0_off22 (issO k)) := ⟨at3 (sl 2 k.val).val, o22 k⟩

end Trip

/-! ## The epilogue's slices -/

@[sl_canon] theorem e_semO (hh) : (cc0_scoped5.slice (Rect.unit (s := S2) (k0_off29 (useO 128)) S1.size hh)).squeeze S_ squeezes_S1_S_ = semO (sl 2 (128 + 1)) := semO_of (o29.trans (by decide +kernel)) _
@[sl_canon] theorem e_slotO (hh hs) : (ringO.slice (Rect.unit (s := S2x512x512) (k0_off31 (useO 128)) S1x512x512.size hh) hs).squeeze S512x512 squeezes_S1x512x512_S512x512 = slotO (sl 2 (128 + 1)) := slotO_of (o31.trans (by decide +kernel)) _ _
@[sl_canon] theorem e_tile (hh hs) : res.slice (Rect.unit (s := S8192x4096) (k0_off30 (col 128) (row 128)) S512x512.size hh) hs = tile (sl 128 (128 - 1)) := tile_of (o30.trans (by decide +kernel)) _ _

end Cert.Proof.Down

end
-- ==== Proof.Pieces.lean ====
/-
  The resources of the pipeline: a block at home, a slot held, a slot's semaphore, a slot in flight.
-/
module

public import proofs.«01_k».proof.Proof.Names
public import Idealize.ShloMosaic.Lib.Pipeline.Kit
public import Idealize.ShloMosaic.Lib.Ring

@[expose] public section

set_option maxRecDepth 16384

noncomputable section

namespace Cert.Proof.Down

open Cert.KernelIdeal Cert.KernelIdeal.Gen
open Idealize.ShloMosaic Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's algebra beside the counters the kernel's own transfers ride on. -/
abbrev UU (nD : ℕ) (τ : Topo) : Type := UR sig nD τ × Counters
local notation "𝕄" => MT nD τ sig Unit (Elt F) ℕ (UU nD τ) ℕ
abbrev 𝒱₀ : Variants := Variants.none

variable (c : Dev nD)

variable (XA : Buf (Elt F) (lhs.view.loc (c : Thread nD τ))) (XB : Buf (Elt F) (rhs.view.loc (c : Thread nD τ)))

/-- A block at home, at the operand's contents; a tile of the result, at contents `O`. -/
abbrev homeA (i : Fin 16) : sProp 𝕄 := (blkA i).view.loc (c : Thread nD τ) ↦[(blkA i).view.set]{fullShare} XA
abbrev homeB (j : Fin 8) : sProp 𝕄 := (blkB j).view.loc (c : Thread nD τ) ↦[(blkB j).view.set]{fullShare} XB
abbrev tileP (O : Buf (Elt F) (res.view.loc (c : Thread nD τ))) (b : Fin 128) : sProp 𝕄 :=
  (tile b).view.loc (c : Thread nD τ) ↦[(tile b).view.set]{fullShare} O
/-- A slot held at contents `f`. -/
abbrev holdA (s : Fin 2) (f : Buf (Elt F) ((slotA s).view.loc (c : Thread nD τ))) : sProp 𝕄 :=
  (slotA s).view.loc (c : Thread nD τ) ↦[(slotA s).view.set]{fullShare} f
abbrev holdB (s : Fin 3) (f : Buf (Elt F) ((slotB s).view.loc (c : Thread nD τ))) : sProp 𝕄 :=
  (slotB s).view.loc (c : Thread nD τ) ↦[(slotB s).view.set]{fullShare} f
abbrev holdO (s : Fin 2) (f : Buf (Elt F) ((slotO s).view.loc (c : Thread nD τ))) : sProp 𝕄 :=
  (slotO s).view.loc (c : Thread nD τ) ↦[(slotO s).view.set]{fullShare} f
/-- A slot's semaphore at zero. -/
abbrev cellA (s : Fin 2) : sProp 𝕄 := semVal ((c : Thread nD τ), SemLoc.dma (semA s).sem) 0
abbrev cellB (s : Fin 3) : sProp 𝕄 := semVal ((c : Thread nD τ), SemLoc.dma (semB s).sem) 0
abbrev cellO (s : Fin 2) : sProp 𝕄 := semVal ((c : Thread nD τ), SemLoc.dma (semO s).sem) 0
/-- A slot free: its semaphore at zero, held at anything. -/
abbrev freeA (s : Fin 2) : sProp 𝕄 := iprop(cellA (F := F) c s ∗ ∃ f, holdA c s f)
abbrev freeB (s : Fin 3) : sProp 𝕄 := iprop(cellB (F := F) c s ∗ ∃ f, holdB c s f)
abbrev freeO (s : Fin 2) : sProp 𝕄 := iprop(cellO (F := F) c s ∗ ∃ f, holdO c s f)

/-- What a block's transfer leaves in a slot over contents `f`. -/
abbrev putA (s : Fin 2) (i : Fin 16) (f : Buf (Elt F) ((slotA s).view.loc (c : Thread nD τ))) : Buf (Elt F) ((slotA s).view.loc (c : Thread nD τ)) :=
  (slotA s).view.writes (Elt F) f [⟨Rect.whole S512x11008, ReadAs.same.apply ((blkA i).view.read (Elt F) XA)⟩]
abbrev putB (s : Fin 3) (j : Fin 8) (f : Buf (Elt F) ((slotB s).view.loc (c : Thread nD τ))) : Buf (Elt F) ((slotB s).view.loc (c : Thread nD τ)) :=
  (slotB s).view.writes (Elt F) f [⟨Rect.whole S11008x512, ReadAs.same.apply ((blkB j).view.read (Elt F) XB)⟩]
abbrev putO (b : Fin 128) (w : S512x512.Idx → Elt F .bf16) (O : Buf (Elt F) (res.view.loc (c : Thread nD τ))) : Buf (Elt F) (res.view.loc (c : Thread nD τ)) :=
  (tile b).view.writes (Elt F) O [⟨Rect.whole S512x512, ReadAs.same.apply w⟩]

/-- A slot in flight: with block row `i`; with block column `j`; out to tile `b`, whose words are `w`. -/
abbrev flyA (s : Fin 2) (i : Fin 16) : sProp 𝕄 :=
  iprop(∃ f, Transfers.Flight countersEmb (c : Thread nD τ) (SemLoc.dma (semA s).sem) () 352256 iprop(holdA c s (putA c XA s i f) ∗ homeA c XA i))
abbrev flyB (s : Fin 3) (j : Fin 8) : sProp 𝕄 :=
  iprop(∃ f, Transfers.Flight countersEmb (c : Thread nD τ) (SemLoc.dma (semB s).sem) () 352256 iprop(holdB c s (putB c XB s j f) ∗ homeB c XB j))
abbrev flyO (s : Fin 2) (b : Fin 128) (w : S512x512.Idx → Elt F .bf16) : sProp 𝕄 :=
  iprop(∃ (O : Buf (Elt F) (res.view.loc (c : Thread nD τ))) (f : Buf (Elt F) ((slotO s).view.loc (c : Thread nD τ))), ⌜(slotO s).view.read (Elt F) f = w⌝
    ∗ Transfers.Flight countersEmb (c : Thread nD τ) (SemLoc.dma (semO s).sem) () 16384 iprop(tileP c (putO c b ((slotO s).view.read (Elt F) f) O) b ∗ holdO c s f))

/-- A slot kept filled with block row `i`. -/
abbrev keptA (s : Fin 2) (i : Fin 16) : sProp 𝕄 := iprop(∃ f, holdA c s (putA c XA s i f))

/-- Tile `b` of the product: block row `b / 8` by block column `b % 8`. -/
def tileVal (b : Fin 128) : FVec F S512x512 .bf16 :=
  truncf .bf16 (matmul dot_S512x11008_S11008x512_S512x512_1_0_0_1_n_n none
    ((blkA (sl 16 (b.val / 8))).view.read (Elt F) XA) ((blkB (sl 8 b.val)).view.read (Elt F) XB)
    (constant S512x512 .f32 0x00000000#32)) bitsLt_bf16_f32

/-- The trip's program at the words of trip `k`. -/
abbrev tripG (k : Fin k0_t1_loop.trips) (u v w : BitVec 32) (x : BitVec 1) : Prog (TpuEff nD τ sig (Elt F) Λ₀ .tc) Carried :=
  k0_t1_body (F := F) lhs (Memref.isWhole_whole _) rhs (Memref.isWhole_whole _) res (Memref.isWhole_whole _)
    ringA (Memref.isWhole_whole _) cc0_scoped1 ringB (Memref.isWhole_whole _) cc0_scoped3 ringO (Memref.isWhole_whole _) cc0_scoped5
    u v x w k (carried k)

end Cert.Proof.Down

end
-- ==== Proof.Value.lean ====
/-
  What the trips compute: a slot's payload read back by a load, the stored tile read back by its transfer, and the
  one array `resVal` every tile of the result is a part of.
-/
module

public import proofs.«01_k».proof.Proof.Pieces
public import Idealize.ShloMosaic.Lib.ValueIdxCore

@[expose] public section

set_option maxRecDepth 16384

noncomputable section

namespace Cert.Proof.Down

open Cert.KernelIdeal Cert.KernelIdeal.Gen
open Idealize.ShloMosaic Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (XA : Buf (Elt F) (lhs.view.loc (c : Thread nD τ))) (XB : Buf (Elt F) (rhs.view.loc (c : Thread nD τ)))

/-! ## The loads and the store -/

section Generic
variable {Val : EltTy → Type} {κ : Kind} {sp : Space} {s t : Shape} {e : EltTy}

/-- A slot filled whole is read back by a load of it through the ring, squeezed. -/
theorem load_filled (m : Memref sig κ sp s e) {off off' size : Fin s.rank → ℕ} (h : off = off') (inb) (inb')
    (hq : (Rect.unit off' size inb').shape.Squeezes t) (hc : (Rect.unit off size inb).shape.ShapeCasts t) (f) (x : t.Idx → Val e) :
    shapeCast t (m.view.readAt Val (Rect.unit off size inb).toLoadRect
      (((m.slice (Rect.unit off' size inb') (fun _ => rfl)).squeeze t hq).view.writes Val f [⟨Rect.whole t, x⟩])) hc = x := by
  subst h
  exact View.read_writes_whole ((m.slice (Rect.unit off size inb) (fun _ => rfl)).squeeze t hq).view f x

/-- A store through the ring is read back by the slot. -/
theorem read_stored (m : Memref sig κ sp s e) {off off' size : Fin s.rank → ℕ} (h : off = off') (inb) (inb')
    (hq : (Rect.unit off' size inb').shape.Squeezes t) (hc : t.ShapeCasts (Rect.unit off size inb).shape) (f) (y : t.Idx → Val e) :
    ((m.slice (Rect.unit off' size inb') (fun _ => rfl)).squeeze t hq).view.read Val
      (View.write Val (m.access (Rect.unit off size inb)) f (shapeCast (Rect.unit off size inb).shape y hc) Finset.univ) = y := by
  subst h
  funext x
  show View.read Val (m.access (Rect.unit off size inb)) _ (Shape.reshapeEquiv _ x) = _
  rw [View.read_write_univ]
  show y (Shape.reshapeEquiv _ (Shape.reshapeEquiv _ x)) = _
  rw [Shape.reshapeEquiv_reshapeEquiv, Shape.reshapeEquiv_self]

/-- Contents read alike agree under the view. -/
theorem agree_of_read (v : View sig κ sp s e) {f g : v.ty.Contents Val} (h : v.read Val f = v.read Val g) :
    ∀ i ∈ v.set, f i = g i := by
  intro i hi
  obtain ⟨x, -, rfl⟩ := Finset.mem_map.mp hi
  have := congrFun h x
  rw [View.read_apply, View.read_apply] at this
  exact (cast_bijective _).1 this

end Generic

theorem shapeCast_loadA {off : Fin 3 → ℕ} {s : Fin 2} (e : off = at3 s.val) (hh) (i : Fin 16) (f) :
    shapeCast S512x11008 (ringA.view.readAt (Elt F) (Rect.unit (s := S2x512x11008) off S1x512x11008.size hh).toLoadRect (putA c XA s i f))
      shapeCasts_S1x512x11008_S512x11008 = (blkA i).view.read (Elt F) XA :=
  load_filled ringA e hh (slotA_inb s) squeezes_S1x512x11008_S512x11008 shapeCasts_S1x512x11008_S512x11008 f _

theorem shapeCast_loadB {off : Fin 3 → ℕ} {s : Fin 3} (e : off = at3 s.val) (hh) (j : Fin 8) (f) :
    shapeCast S11008x512 (ringB.view.readAt (Elt F) (Rect.unit (s := S3x11008x512) off S1x11008x512.size hh).toLoadRect (putB c XB s j f))
      shapeCasts_S1x11008x512_S11008x512 = (blkB j).view.read (Elt F) XB :=
  load_filled ringB e hh (slotB_inb s) squeezes_S1x11008x512_S11008x512 shapeCasts_S1x11008x512_S11008x512 f _

theorem read_store {off : Fin 3 → ℕ} {s : Fin 2} (e : off = at3 s.val) (hh) (f) (y : FVec F S512x512 .bf16) :
    (slotO s).view.read (Elt F) (View.write (Elt F) (ringO.access (Rect.unit (s := S2x512x512) off S1x512x512.size hh)) f
      (shapeCast S1x512x512 y shapeCasts_S512x512_S1x512x512) Finset.univ) = y :=
  read_stored ringO e hh (slotO_inb s) squeezes_S1x512x512_S512x512 shapeCasts_S512x512_S1x512x512 f y

/-! ## The result -/

/-- The whole result: at each position, its tile's. -/
def resVal : Buf (Elt F) (res.view.loc (c : Thread nD τ)) := fun (i : S8192x4096.Idx) =>
  tileVal c XA XB (sl 128 ((i 0).val / 512 * 8 + (i 1).val / 512))
    (ValueIdx.ix2 (⟨(i 0).val % 512, Nat.mod_lt _ (by decide)⟩ : Fin 512) (⟨(i 1).val % 512, Nat.mod_lt _ (by decide)⟩ : Fin 512))

theorem resVal_at (b : Fin 128) (x : S512x512.Idx) :
    resVal c XA XB ((Rect.unit (s := S8192x4096) (tileAt b.val) S512x512.size (tileAt_inb b)).emb x) = tileVal c XA XB b x := by
  generalize hi : (Rect.unit (s := S8192x4096) (tileAt b.val) S512x512.size (tileAt_inb b)).emb x = i
  have h0 : ((i : S8192x4096.Idx) 0).val = 512 * (b.val / 8) + (x 0).val := by
    rw [← hi]; show tileAt b.val 0 + 1 * (x 0).val = _; rw [one_mul]; rfl
  have h1 : ((i : S8192x4096.Idx) 1).val = 512 * (b.val % 8) + (x 1).val := by
    rw [← hi]; show tileAt b.val 1 + 1 * (x 1).val = _; rw [one_mul]; rfl
  have hx0 : (x 0).val < 512 := (x 0).isLt
  have hx1 : (x 1).val < 512 := (x 1).isLt
  unfold resVal
  have hb : sl 128 (((i : S8192x4096.Idx) 0).val / 512 * 8 + ((i : S8192x4096.Idx) 1).val / 512) = b := by
    apply Fin.ext; show _ % 128 = _; rw [h0, h1]; omega
  rw [hb]
  have hx : ValueIdx.ix2 (⟨((i : S8192x4096.Idx) 0).val % 512, Nat.mod_lt _ (by decide)⟩ : Fin 512) (⟨((i : S8192x4096.Idx) 1).val % 512, Nat.mod_lt _ (by decide)⟩ : Fin 512) = x := by
    rw [ValueIdx.eq_ix2 x]
    exact congrArg₂ ValueIdx.ix2 (Fin.ext (by show _ % 512 = (x 0).val; omega)) (Fin.ext (by show _ % 512 = (x 1).val; omega))
  exact congrArg (tileVal c XA XB b) hx

theorem read_resVal (b : Fin 128) : (tile b).view.read (Elt F) (resVal c XA XB) = tileVal c XA XB b :=
  funext fun x => resVal_at c XA XB b x

/-- A tile landed at its words is the tile at the result. -/
theorem tile_landed (b : Fin 128) (w : S512x512.Idx → Elt F .bf16) (hw : w = tileVal c XA XB b) (O) :
    (tileP c (putO c b w O) b : sProp 𝕄) = tileP c (resVal c XA XB) b :=
  pointsTo_congr (agree_of_read (tile b).view (g := resVal c XA XB) ((View.read_writes_whole (tile b).view O w).trans (hw.trans (read_resVal c XA XB b).symm)))

/-- What a trip stores in its slot: its tile. -/
theorem tile_stored (k : Fin k0_t1_loop.trips) (hh2 hh3 hh4) (fA fB f) :
    (slotO (sl 2 k.val)).view.read (Elt F)
      (View.write (Elt F) (ringO.access (Rect.unit (s := S2x512x512) (k0_off22 (issO k)) S1x512x512.size hh4)) f
        (k0_pay2 (k0_pay1
          (ringA.view.readAt (Elt F) (Rect.unit (s := S2x512x11008) (k0_off20 (useA k)) S1x512x11008.size hh2).toLoadRect
            (putA c XA (sl 2 (k.val / 8)) (sl 16 (k.val / 8)) fA))
          (ringB.view.readAt (Elt F) (Rect.unit (s := S3x11008x512) (k0_off21 (useB k)) S1x11008x512.size hh3).toLoadRect
            (putB c XB (sl 3 k.val) (sl 8 k.val) fB)))) Finset.univ)
      = tileVal c XA XB (sl 128 k.val) := by
  refine (read_store (o22 k) hh4 f _).trans ?_
  have hk : k.val < 128 := lt_trips k
  have hb : (sl 128 k.val).val = k.val := Nat.mod_eq_of_lt hk
  unfold k0_pay1 tileVal
  dsimp only
  rw [hb]
  rw [shapeCast_loadA c XA (o20 k), shapeCast_loadB c XB (o21 k)]

end Cert.Proof.Down

end
-- ==== Proof.Inv.lean ====
/-
  What the pipeline holds before each trip, and how a trip takes its part out of it and puts the next one back.
-/
module

public import proofs.«01_k».proof.Proof.Value

@[expose] public section

set_option maxRecDepth 16384

noncomputable section

namespace Cert.Proof.Down

open Cert.KernelIdeal Cert.KernelIdeal.Gen
open Idealize.ShloMosaic Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (XA : Buf (Elt F) (lhs.view.loc (c : Thread nD τ))) (XB : Buf (Elt F) (rhs.view.loc (c : Thread nD τ)))

variable (O0 : Buf (Elt F) (res.view.loc (c : Thread nD τ)))

omit [FloatOps F] in
/-- A member apart from the others. -/
theorem bigSep_apart {I : Type} [DecidableEq I] {S : Finset I} {i : I} (h : i ∈ S) (Φ : I → sProp 𝕄) :
    bigSep S Φ = iprop(Φ i ∗ bigSep (S.erase i) Φ) := by
  conv_lhs => rw [← Finset.insert_erase h]
  exact bigSep_insert (Finset.notMem_erase i S)

theorem sl_congr {n : ℕ} [NeZero n] {a b : ℕ} (h : a % n = b % n) : sl n a = sl n b := Fin.ext h
theorem sl_ne {n : ℕ} [NeZero n] {a b : ℕ} (h : a % n ≠ b % n) : sl n a ≠ sl n b := fun e => h (congrArg Fin.val e)

/-! ## The left operand: block row `t / 8` on its way before the row's first trip, kept in its slot during the row -/

def invA (t : ℕ) : sProp 𝕄 :=
  if t = 128 then iprop(freeA c (sl 2 0) ∗ freeA c (sl 2 1) ∗ bigSep Finset.univ (homeA c XA))
  else if t % 8 = 0 then iprop(flyA c XA (sl 2 (t / 8)) (sl 16 (t / 8)) ∗ freeA c (sl 2 (t / 8 + 1)) ∗ bigSep (Finset.univ.erase (sl 16 (t / 8))) (homeA c XA))
  else iprop(cellA (F := F) c (sl 2 (t / 8)) ∗ keptA c XA (sl 2 (t / 8)) (sl 16 (t / 8)) ∗ freeA c (sl 2 (t / 8 + 1)) ∗ bigSep Finset.univ (homeA c XA))

theorem invA_begin (k : ℕ) (h : k % 8 = 0) (hk : k < 128) :
    invA c XA k ⊢ iprop(flyA c XA (sl 2 (k / 8)) (sl 16 (k / 8))
      ∗ (iprop(cellA (F := F) c (sl 2 (k / 8)) ∗ keptA c XA (sl 2 (k / 8)) (sl 16 (k / 8)) ∗ homeA c XA (sl 16 (k / 8))) -∗ invA c XA (k + 1))) := by
  unfold invA
  rw [if_neg (by omega), if_pos h, if_neg (by omega), if_neg (by omega), show (k + 1) / 8 = k / 8 by omega,
    bigSep_apart (Finset.mem_univ (sl 16 (k / 8))) (homeA c XA)]
  iintro ⟨HF, Hfree, Hh⟩
  isplitl [HF]; · iexact HF
  iintro ⟨Hc, Hk, H1⟩
  isplitl [Hc]; · iexact Hc
  isplitl [Hk]; · iexact Hk
  isplitl [Hfree]; · iexact Hfree
  isplitl [H1]; · iexact H1
  iexact Hh

theorem invA_keep (k : ℕ) (h : k % 8 ≠ 0) (h7 : k % 8 ≠ 7) (hk : k < 128) :
    invA c XA k ⊢ iprop(keptA c XA (sl 2 (k / 8)) (sl 16 (k / 8)) ∗ (keptA c XA (sl 2 (k / 8)) (sl 16 (k / 8)) -∗ invA c XA (k + 1))) := by
  unfold invA
  rw [if_neg (by omega), if_neg h, if_neg (by omega), if_neg (by omega), show (k + 1) / 8 = k / 8 by omega]
  iintro ⟨Hc, Hk, Hfree, Hh⟩
  isplitl [Hk]; · iexact Hk
  iintro Hk
  isplitl [Hc]; · iexact Hc
  isplitl [Hk]; · iexact Hk
  isplitl [Hfree]; · iexact Hfree
  iexact Hh

theorem invA_end (k : ℕ) (hk : k = 127) :
    invA c XA k ⊢ iprop(keptA c XA (sl 2 (k / 8)) (sl 16 (k / 8)) ∗ (keptA c XA (sl 2 (k / 8)) (sl 16 (k / 8)) -∗ invA c XA (k + 1))) := by
  subst hk
  unfold invA
  rw [if_neg (by decide), if_neg (by decide), if_pos rfl, show sl 2 (127 / 8) = sl 2 1 from rfl, show sl 2 (127 / 8 + 1) = sl 2 0 from rfl]
  iintro ⟨Hc, Hk, Hfree, Hh⟩
  isplitl [Hk]; · iexact Hk
  iintro ⟨%f, Hk⟩
  isplitl [Hfree]; · iexact Hfree
  isplitl [Hc Hk]
  · isplitl [Hc]; · iexact Hc
    iexists _; iexact Hk
  iexact Hh

theorem invA_next (k : ℕ) (h : k % 8 = 7) (hk : k < 127) :
    invA c XA k ⊢ iprop(iprop(keptA c XA (sl 2 (k / 8)) (sl 16 (k / 8)) ∗ freeA c (sl 2 (k / 8 + 1)) ∗ homeA c XA (sl 16 (k / 8 + 1)))
      ∗ (iprop(keptA c XA (sl 2 (k / 8)) (sl 16 (k / 8)) ∗ flyA c XA (sl 2 (k / 8 + 1)) (sl 16 (k / 8 + 1))) -∗ invA c XA (k + 1))) := by
  unfold invA
  rw [if_neg (by omega), if_neg (by omega), if_neg (by omega), if_pos (by omega), show (k + 1) / 8 = k / 8 + 1 by omega,
    bigSep_apart (Finset.mem_univ (sl 16 (k / 8 + 1))) (homeA c XA), show sl 2 (k / 8 + 1 + 1) = sl 2 (k / 8) from sl_congr (by omega)]
  iintro ⟨Hc, Hk, Hfree, H1, Hh⟩
  isplitl [Hk Hfree H1]
  · isplitl [Hk]; · iexact Hk
    isplitl [Hfree]; · iexact Hfree
    iexact H1
  iintro ⟨⟨%f, Hk⟩, HF⟩
  isplitl [HF]; · iexact HF
  isplitl [Hc Hk]
  · isplitl [Hc]; · iexact Hc
    iexists _; iexact Hk
  iexact Hh

/-! ## The right operand: block columns `t` and `t + 1` on their way -/

def invB (t : ℕ) : sProp 𝕄 :=
  if t < 127 then iprop(flyB c XB (sl 3 t) (sl 8 t) ∗ flyB c XB (sl 3 (t + 1)) (sl 8 (t + 1)) ∗ freeB c (sl 3 (t + 2))
    ∗ bigSep ((Finset.univ.erase (sl 8 t)).erase (sl 8 (t + 1))) (homeB c XB))
  else if t = 127 then iprop(flyB c XB (sl 3 t) (sl 8 t) ∗ freeB c (sl 3 (t + 1)) ∗ freeB c (sl 3 (t + 2)) ∗ bigSep (Finset.univ.erase (sl 8 t)) (homeB c XB))
  else iprop(freeB c (sl 3 t) ∗ freeB c (sl 3 (t + 1)) ∗ freeB c (sl 3 (t + 2)) ∗ bigSep Finset.univ (homeB c XB))

theorem sl3_back (k : ℕ) : sl 3 (k + 1 + 2) = sl 3 k := sl_congr (by omega)

theorem invB_go (k : ℕ) (hk : k < 126) :
    invB c XB k ⊢ iprop(iprop(flyB c XB (sl 3 k) (sl 8 k) ∗ flyB c XB (sl 3 (k + 1)) (sl 8 (k + 1)) ∗ freeB c (sl 3 (k + 2)) ∗ homeB c XB (sl 8 (k + 2)))
      ∗ (iprop(flyB c XB (sl 3 (k + 1)) (sl 8 (k + 1)) ∗ flyB c XB (sl 3 (k + 2)) (sl 8 (k + 2)) ∗ freeB c (sl 3 k) ∗ homeB c XB (sl 8 k)) -∗ invB c XB (k + 1))) := by
  have e1 : sl 8 (k + 2) ∈ (Finset.univ.erase (sl 8 k)).erase (sl 8 (k + 1)) :=
    Finset.mem_erase.mpr ⟨sl_ne (by omega), Finset.mem_erase.mpr ⟨sl_ne (by omega), Finset.mem_univ _⟩⟩
  have e2 : sl 8 k ∈ (Finset.univ.erase (sl 8 (k + 1))).erase (sl 8 (k + 1 + 1)) :=
    Finset.mem_erase.mpr ⟨sl_ne (by omega), Finset.mem_erase.mpr ⟨sl_ne (by omega), Finset.mem_univ _⟩⟩
  have e3 : ((Finset.univ.erase (sl 8 k)).erase (sl 8 (k + 1))).erase (sl 8 (k + 2)) = ((Finset.univ.erase (sl 8 (k + 1))).erase (sl 8 (k + 1 + 1))).erase (sl 8 k) := by
    ext b; simp only [Finset.mem_erase, Finset.mem_univ, and_true, show k + 1 + 1 = k + 2 from rfl]; tauto
  unfold invB
  rw [if_pos (by omega), if_pos (by omega), bigSep_apart e1 (homeB c XB), bigSep_apart e2 (homeB c XB), e3, sl3_back]
  iintro ⟨H0, H1, Hf, Hh, Hr⟩
  isplitl [H0 H1 Hf Hh]
  · isplitl [H0]; · iexact H0
    isplitl [H1]; · iexact H1
    isplitl [Hf]; · iexact Hf
    iexact Hh
  iintro ⟨H1, H2, Hf, Hh⟩
  isplitl [H1]; · iexact H1
  isplitl [H2]; · iexact H2
  isplitl [Hf]; · iexact Hf
  isplitl [Hh]; · iexact Hh
  iexact Hr

theorem invB_end (k : ℕ) (hk : 126 ≤ k) (hk' : k < 128) :
    invB c XB k ⊢ iprop(flyB c XB (sl 3 k) (sl 8 k) ∗ (iprop(freeB c (sl 3 k) ∗ homeB c XB (sl 8 k)) -∗ invB c XB (k + 1))) := by
  unfold invB
  rcases (by omega : k = 126 ∨ k = 127) with h | h
  · subst h
    have e : (sl 8 126) ∈ (Finset.univ.erase (sl 8 (126 + 1)) : Finset (Fin 8)) := Finset.mem_erase.mpr ⟨sl_ne (by decide), Finset.mem_univ _⟩
    rw [if_pos (by decide), if_neg (by decide), if_pos rfl, bigSep_apart e (homeB c XB), Finset.erase_right_comm, sl3_back]
    iintro ⟨H0, H1, Hf, Hr⟩
    isplitl [H0]; · iexact H0
    iintro ⟨Hf', Hh⟩
    isplitl [H1]; · iexact H1
    isplitl [Hf]; · iexact Hf
    isplitl [Hf']; · iexact Hf'
    isplitl [Hh]; · iexact Hh
    iexact Hr
  · subst h
    rw [if_neg (by decide), if_pos rfl, if_neg (by decide), if_neg (by decide), bigSep_apart (Finset.mem_univ (sl 8 127)) (homeB c XB), sl3_back]
    iintro ⟨H0, H1, Hf, Hr⟩
    isplitl [H0]; · iexact H0
    iintro ⟨Hf', Hh⟩
    isplitl [H1]; · iexact H1
    isplitl [Hf]; · iexact Hf
    isplitl [Hf']; · iexact Hf'
    isplitl [Hh]; · iexact Hh
    iexact Hr

/-! ## The result: tile `t - 1` on its way out, those before it at the result, the others as they were -/

abbrev doneSet (t : ℕ) : Finset (Fin 128) := Finset.univ.filter fun b => b.val + 1 < t
abbrev todoSet (t : ℕ) : Finset (Fin 128) := Finset.univ.filter fun b => t ≤ b.val

def tiles (t : ℕ) : sProp 𝕄 := iprop(bigSep (doneSet t) (tileP c (resVal c XA XB)) ∗ bigSep (todoSet t) (tileP c O0))

def invO (t : ℕ) : sProp 𝕄 :=
  if t = 0 then iprop(freeO c (sl 2 0) ∗ freeO c (sl 2 1) ∗ tiles c XA XB O0 0)
  else iprop(freeO c (sl 2 t) ∗ flyO c (sl 2 (t + 1)) (sl 128 (t - 1)) (tileVal c XA XB (sl 128 (t - 1))) ∗ tiles c XA XB O0 t)

theorem sl128_val {k : ℕ} (h : k < 128) : (sl 128 k).val = k := Nat.mod_eq_of_lt h

theorem todo_mem (k : ℕ) (hk : k < 128) : sl 128 k ∈ todoSet k := by
  rw [Finset.mem_filter, sl128_val hk]; exact ⟨Finset.mem_univ _, le_rfl⟩
theorem todo_erase (k : ℕ) (hk : k < 128) : (todoSet k).erase (sl 128 k) = todoSet (k + 1) := by
  ext b; simp only [Finset.mem_erase, Finset.mem_filter, Finset.mem_univ, true_and, ne_eq, Fin.ext_iff, sl128_val hk]; omega
theorem done_mem (k : ℕ) (hk : k < 128) (h0 : k ≠ 0) : sl 128 (k - 1) ∈ doneSet (k + 1) := by
  rw [Finset.mem_filter, sl128_val (by omega)]; exact ⟨Finset.mem_univ _, by omega⟩
theorem done_erase (k : ℕ) (hk : k < 128) (h0 : k ≠ 0) : (doneSet (k + 1)).erase (sl 128 (k - 1)) = doneSet k := by
  ext b; simp only [Finset.mem_erase, Finset.mem_filter, Finset.mem_univ, true_and, ne_eq, Fin.ext_iff, sl128_val (show k - 1 < 128 by omega)]; omega

theorem invO_first (k : ℕ) (h : k = 0) :
    invO c XA XB O0 k ⊢ iprop(iprop(freeO c (sl 2 k) ∗ tileP c O0 (sl 128 k))
      ∗ (flyO c (sl 2 k) (sl 128 k) (tileVal c XA XB (sl 128 k)) -∗ invO c XA XB O0 (k + 1))) := by
  subst h
  unfold invO tiles
  rw [if_pos rfl, if_neg (by decide), bigSep_apart (todo_mem 0 (by decide)) (tileP c O0), todo_erase 0 (by decide),
    show doneSet (0 + 1) = doneSet 0 from by decide +kernel]
  iintro ⟨Hf, Hf', Hd, Ht, Hr⟩
  isplitl [Hf Ht]
  · isplitl [Hf]; · iexact Hf
    iexact Ht
  iintro HF
  isplitl [Hf']; · iexact Hf'
  isplitl [HF]; · iexact HF
  isplitl [Hd]; · iexact Hd
  iexact Hr

theorem invO_go (k : ℕ) (h0 : k ≠ 0) (hk : k < 128) :
    invO c XA XB O0 k ⊢ iprop(iprop(freeO c (sl 2 k) ∗ flyO c (sl 2 (k + 1)) (sl 128 (k - 1)) (tileVal c XA XB (sl 128 (k - 1))) ∗ tileP c O0 (sl 128 k))
      ∗ (iprop(flyO c (sl 2 k) (sl 128 k) (tileVal c XA XB (sl 128 k)) ∗ freeO c (sl 2 (k + 1)) ∗ tileP c (resVal c XA XB) (sl 128 (k - 1))) -∗ invO c XA XB O0 (k + 1))) := by
  unfold invO tiles
  rw [if_neg h0, if_neg (by omega), bigSep_apart (todo_mem k hk) (tileP c O0), todo_erase k hk,
    bigSep_apart (done_mem k hk h0) (tileP c (resVal c XA XB)), done_erase k hk h0, show sl 2 (k + 1 + 1) = sl 2 k from sl_congr (by omega),
    show k + 1 - 1 = k from rfl]
  iintro ⟨Hf, HF, Hd, Ht, Hr⟩
  isplitl [Hf HF Ht]
  · isplitl [Hf]; · iexact Hf
    isplitl [HF]; · iexact HF
    iexact Ht
  iintro ⟨HF, Hf, H1⟩
  isplitl [Hf]; · iexact Hf
  isplitl [HF]; · iexact HF
  isplitl [H1 Hd]
  · isplitl [H1]; · iexact H1
    iexact Hd
  iexact Hr

/-- All of it, before trip `t`. -/
def invAt (t : ℕ) : sProp 𝕄 :=
  iprop(invA c XA t ∗ invB c XB t ∗ invO c XA XB O0 t ∗ ∃ W, owes (c : Thread nD τ) 0 W)

end Cert.Proof.Down

end
-- ==== Proof.TripFirst.lean ====
/-
  The first trip: the left slot is waited for, no result is in flight yet.
-/
module

public import proofs.«01_k».proof.Proof.Value

@[expose] public section

set_option maxRecDepth 16384

noncomputable section

namespace Cert.Proof.Down

open Cert.KernelIdeal Cert.KernelIdeal.Gen
open Idealize.ShloMosaic Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XA : Buf (Elt F) (lhs.view.loc (c : Thread nD τ))) (XB : Buf (Elt F) (rhs.view.loc (c : Thread nD τ)))
  (O0 : Buf (Elt F) (res.view.loc (c : Thread nD τ)))

set_option maxHeartbeats 4000000 in
theorem tripFirst (k : Fin k0_t1_loop.trips) (u v w : BitVec 32) (x : BitVec 1) (h0 : k.val = 0)
    (Q : Carried → sProp 𝕄) :
    iprop((flyA c XA (sl 2 (k.val / 8)) (sl 16 (k.val / 8))
      ∗ flyB c XB (sl 3 k.val) (sl 8 k.val) ∗ flyB c XB (sl 3 (k.val + 1)) (sl 8 (k.val + 1)) ∗ freeB c (sl 3 (k.val + 2)) ∗ homeB c XB (sl 8 (k.val + 2))
      ∗ freeO c (sl 2 k.val) ∗ tileP c O0 (sl 128 k.val)
      ∗ ∃ W, owes (c : Thread nD τ) 0 W)
      ∗ (iprop(iprop(cellA (F := F) c (sl 2 (k.val / 8)) ∗ keptA c XA (sl 2 (k.val / 8)) (sl 16 (k.val / 8)) ∗ homeA c XA (sl 16 (k.val / 8)))
      ∗ flyB c XB (sl 3 (k.val + 1)) (sl 8 (k.val + 1)) ∗ flyB c XB (sl 3 (k.val + 2)) (sl 8 (k.val + 2)) ∗ freeB c (sl 3 k.val) ∗ homeB c XB (sl 8 k.val)
      ∗ flyO c (sl 2 k.val) (sl 128 k.val) (tileVal c XA XB (sl 128 k.val))
      ∗ ∃ W, owes (c : Thread nD τ) 0 W) -∗ Q (carried (k.val + 1))))
      ⊢ wp frame (wpE (defs₀ (F := F)) 𝒱₀ (c : Thread nD τ) none) Set.univ (tripG (F := F) k u v w x) Q := by
  have hlt := lt_trips k
  have c2 : ¬ k0_cond2 k (row k) (col k) = 1#1 := by rw [c2_iff]; omega
  have c3 : k0_cond3 k (col k) = 1#1 := by rw [c3_iff]; omega
  have c4 : k0_cond4 k (row k) (col k) = 1#1 := by rw [c4_iff]; omega
  have c12 : ¬ k0_cond12 k (row k) (col k) = 1#1 := by rw [c12_iff]; omega
  have c5 := c5 k
  have c9 := c9 k
  have k1 := chk1 k
  have k2 := chk2 k
  have k3 := chk3 k
  have k4 := chk4 k
  iintro ⟨⟨⟨%fA, HA⟩, ⟨%f1, HB1⟩, HB2, ⟨Hc3, %f3, HB3⟩, Hh, ⟨HcO, %fO, HO⟩, HT, ⟨%W, HW⟩⟩, HQ⟩
  dsimp only [tripG, carried]
  sl_unfold [k0_t1_body]
  sl_exec
  sl_step
  have n1 : ∀ k : Fin k0_t1_loop.trips, tripFirst.sl.v173_r0 k = issA (k.val + 1) := by decide +kernel
  have n2 : ∀ k : Fin k0_t1_loop.trips, tripFirst.sl.v269_r0 k = useA (k.val + 1) := by decide +kernel
  have n3 : ∀ k : Fin k0_t1_loop.trips, tripFirst.sl.v183_r0 k = issB (k.val + 1) := by decide +kernel
  have n4 : ∀ k : Fin k0_t1_loop.trips, tripFirst.sl.v273_r0 k = useB (k.val + 1) := by decide +kernel
  have n5 : ∀ k : Fin k0_t1_loop.trips, tripFirst.sl.v243_r0 k = issO (k.val + 1) := by decide +kernel
  have n6 : ∀ k : Fin k0_t1_loop.trips, tripFirst.sl.v265_r0 k = useO (k.val + 1) := by decide +kernel
  have n7 : ∀ k : Fin k0_t1_loop.trips, tripFirst.sl.v141_r0 k = row (k.val + 1) := by decide +kernel
  have n8 : ∀ k : Fin k0_t1_loop.trips, tripFirst.sl.v137_r0 k = col (k.val + 1) := by decide +kernel
  rw [n1 k, n2 k, n3 k, n4 k, n5 k, n6 k, n7 k, n8 k]
  iapply HQ
  isplitl [HA HA_dst HA_src]
  · isplitl [HA]; · iexact HA
    isplitl [HA_dst]; · iexists _; iexact HA_dst
    iexact HA_src
  isplitl [HB2]; · iexact HB2
  isplitl [Hc3]; · iexists _; iexact Hc3
  isplitl [HB1 HB1_dst]
  · isplitl [HB1]; · iexact HB1
    iexists _; iexact HB1_dst
  isplitl [HB1_src]; · iexact HB1_src
  isplitl [HcO]
  · iexists _, _
    isplitr
    rotate_left
    · iexact HcO
    · ipureintro
      exact tile_stored c XA XB k _ _ _ _ _ _
  iexists _; iexact HW

end Cert.Proof.Down

end
-- ==== Proof.TripRow.lean ====
/-
  A trip that begins a block row: the left slot is waited for.
-/
module

public import proofs.«01_k».proof.Proof.Value

@[expose] public section

set_option maxRecDepth 16384

noncomputable section

namespace Cert.Proof.Down

open Cert.KernelIdeal Cert.KernelIdeal.Gen
open Idealize.ShloMosaic Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XA : Buf (Elt F) (lhs.view.loc (c : Thread nD τ))) (XB : Buf (Elt F) (rhs.view.loc (c : Thread nD τ)))
  (O0 : Buf (Elt F) (res.view.loc (c : Thread nD τ)))

set_option maxHeartbeats 4000000 in
theorem tripRow (k : Fin k0_t1_loop.trips) (u v w : BitVec 32) (x : BitVec 1) (h0 : k.val % 8 = 0) (hk : k.val ≠ 0)
    (Q : Carried → sProp 𝕄) :
    iprop((flyA c XA (sl 2 (k.val / 8)) (sl 16 (k.val / 8))
      ∗ flyB c XB (sl 3 k.val) (sl 8 k.val) ∗ flyB c XB (sl 3 (k.val + 1)) (sl 8 (k.val + 1)) ∗ freeB c (sl 3 (k.val + 2)) ∗ homeB c XB (sl 8 (k.val + 2))
      ∗ freeO c (sl 2 k.val) ∗ flyO c (sl 2 (k.val + 1)) (sl 128 (k.val - 1)) (tileVal c XA XB (sl 128 (k.val - 1))) ∗ tileP c O0 (sl 128 k.val)
      ∗ ∃ W, owes (c : Thread nD τ) 0 W)
      ∗ (iprop(iprop(cellA (F := F) c (sl 2 (k.val / 8)) ∗ keptA c XA (sl 2 (k.val / 8)) (sl 16 (k.val / 8)) ∗ homeA c XA (sl 16 (k.val / 8)))
      ∗ flyB c XB (sl 3 (k.val + 1)) (sl 8 (k.val + 1)) ∗ flyB c XB (sl 3 (k.val + 2)) (sl 8 (k.val + 2)) ∗ freeB c (sl 3 k.val) ∗ homeB c XB (sl 8 k.val)
      ∗ flyO c (sl 2 k.val) (sl 128 k.val) (tileVal c XA XB (sl 128 k.val)) ∗ freeO c (sl 2 (k.val + 1)) ∗ tileP c (resVal c XA XB) (sl 128 (k.val - 1))
      ∗ ∃ W, owes (c : Thread nD τ) 0 W) -∗ Q (carried (k.val + 1))))
      ⊢ wp frame (wpE (defs₀ (F := F)) 𝒱₀ (c : Thread nD τ) none) Set.univ (tripG (F := F) k u v w x) Q := by
  have hlt := lt_trips k
  have c2 : ¬ k0_cond2 k (row k) (col k) = 1#1 := by rw [c2_iff]; omega
  have c3 : k0_cond3 k (col k) = 1#1 := by rw [c3_iff]; omega
  have c4 : k0_cond4 k (row k) (col k) = 1#1 := by rw [c4_iff]; omega
  have c12 : k0_cond12 k (row k) (col k) = 1#1 := by rw [c12_iff]; omega
  have c5 := c5 k
  have c9 := c9 k
  have k1 := chk1 k
  have k2 := chk2 k
  have k3 := chk3 k
  have k4 := chk4 k
  iintro ⟨⟨⟨%fA, HA⟩, ⟨%f1, HB1⟩, HB2, ⟨Hc3, %f3, HB3⟩, Hh, ⟨HcO, %fO, HO⟩, ⟨%O1, %g1, %e1, HF⟩, HT, ⟨%W, HW⟩⟩, HQ⟩
  dsimp only [tripG, carried]
  sl_unfold [k0_t1_body]
  sl_exec
  sl_step
  have n1 : ∀ k : Fin k0_t1_loop.trips, tripRow.sl.v173_r0 k = issA (k.val + 1) := by decide +kernel
  have n2 : ∀ k : Fin k0_t1_loop.trips, tripRow.sl.v269_r0 k = useA (k.val + 1) := by decide +kernel
  have n3 : ∀ k : Fin k0_t1_loop.trips, tripRow.sl.v183_r0 k = issB (k.val + 1) := by decide +kernel
  have n4 : ∀ k : Fin k0_t1_loop.trips, tripRow.sl.v273_r0 k = useB (k.val + 1) := by decide +kernel
  have n5 : ∀ k : Fin k0_t1_loop.trips, tripRow.sl.v243_r0 k = issO (k.val + 1) := by decide +kernel
  have n6 : ∀ k : Fin k0_t1_loop.trips, tripRow.sl.v265_r0 k = useO (k.val + 1) := by decide +kernel
  have n7 : ∀ k : Fin k0_t1_loop.trips, tripRow.sl.v141_r0 k = row (k.val + 1) := by decide +kernel
  have n8 : ∀ k : Fin k0_t1_loop.trips, tripRow.sl.v137_r0 k = col (k.val + 1) := by decide +kernel
  rw [n1 k, n2 k, n3 k, n4 k, n5 k, n6 k, n7 k, n8 k]
  iapply HQ
  isplitl [HA HA_dst HA_src]
  · isplitl [HA]; · iexact HA
    isplitl [HA_dst]; · iexists _; iexact HA_dst
    iexact HA_src
  isplitl [HB2]; · iexact HB2
  isplitl [Hc3]; · iexists _; iexact Hc3
  isplitl [HB1 HB1_dst]
  · isplitl [HB1]; · iexact HB1
    iexists _; iexact HB1_dst
  isplitl [HB1_src]; · iexact HB1_src
  isplitl [HcO]
  · iexists _, _
    isplitr
    rotate_left
    · iexact HcO
    · ipureintro
      exact tile_stored c XA XB k _ _ _ _ _ _
  isplitl [HF HF_src]
  · isplitl [HF]; · iexact HF
    iexists _; iexact HF_src
  isplitl [HF_dst]
  · rw [← tile_landed c XA XB (sl 128 (k.val - 1)) _ e1 O1]
    iexact HF_dst
  iexists _; iexact HW

end Cert.Proof.Down

end
-- ==== Proof.TripMid.lean ====
/-
  A trip inside a block row: the left block is kept, the right one after next is fetched.
-/
module

public import proofs.«01_k».proof.Proof.Value

@[expose] public section

set_option maxRecDepth 16384

noncomputable section

namespace Cert.Proof.Down

open Cert.KernelIdeal Cert.KernelIdeal.Gen
open Idealize.ShloMosaic Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XA : Buf (Elt F) (lhs.view.loc (c : Thread nD τ))) (XB : Buf (Elt F) (rhs.view.loc (c : Thread nD τ)))
  (O0 : Buf (Elt F) (res.view.loc (c : Thread nD τ)))

set_option maxHeartbeats 4000000 in
theorem tripMid (k : Fin k0_t1_loop.trips) (u v w : BitVec 32) (x : BitVec 1) (h0 : k.val % 8 ≠ 0) (h7 : k.val % 8 ≠ 7) (hk : k.val < 126)
    (Q : Carried → sProp 𝕄) :
    iprop((keptA c XA (sl 2 (k.val / 8)) (sl 16 (k.val / 8))
      ∗ flyB c XB (sl 3 k.val) (sl 8 k.val) ∗ flyB c XB (sl 3 (k.val + 1)) (sl 8 (k.val + 1)) ∗ freeB c (sl 3 (k.val + 2)) ∗ homeB c XB (sl 8 (k.val + 2))
      ∗ freeO c (sl 2 k.val) ∗ flyO c (sl 2 (k.val + 1)) (sl 128 (k.val - 1)) (tileVal c XA XB (sl 128 (k.val - 1))) ∗ tileP c O0 (sl 128 k.val)
      ∗ ∃ W, owes (c : Thread nD τ) 0 W)
      ∗ (iprop(keptA c XA (sl 2 (k.val / 8)) (sl 16 (k.val / 8))
      ∗ flyB c XB (sl 3 (k.val + 1)) (sl 8 (k.val + 1)) ∗ flyB c XB (sl 3 (k.val + 2)) (sl 8 (k.val + 2)) ∗ freeB c (sl 3 k.val) ∗ homeB c XB (sl 8 k.val)
      ∗ flyO c (sl 2 k.val) (sl 128 k.val) (tileVal c XA XB (sl 128 k.val)) ∗ freeO c (sl 2 (k.val + 1)) ∗ tileP c (resVal c XA XB) (sl 128 (k.val - 1))
      ∗ ∃ W, owes (c : Thread nD τ) 0 W) -∗ Q (carried (k.val + 1))))
      ⊢ wp frame (wpE (defs₀ (F := F)) 𝒱₀ (c : Thread nD τ) none) Set.univ (tripG (F := F) k u v w x) Q := by
  have hlt := lt_trips k
  have c2 : ¬ k0_cond2 k (row k) (col k) = 1#1 := by rw [c2_iff]; omega
  have c3 : k0_cond3 k (col k) = 1#1 := by rw [c3_iff]; omega
  have c4 : ¬ k0_cond4 k (row k) (col k) = 1#1 := by rw [c4_iff]; omega
  have c12 : k0_cond12 k (row k) (col k) = 1#1 := by rw [c12_iff]; omega
  have c5 := c5 k
  have c9 := c9 k
  have k1 := chk1 k
  have k2 := chk2 k
  have k3 := chk3 k
  have k4 := chk4 k
  iintro ⟨⟨⟨%fA, HA⟩, ⟨%f1, HB1⟩, HB2, ⟨Hc3, %f3, HB3⟩, Hh, ⟨HcO, %fO, HO⟩, ⟨%O1, %g1, %e1, HF⟩, HT, ⟨%W, HW⟩⟩, HQ⟩
  dsimp only [tripG, carried]
  sl_unfold [k0_t1_body]
  sl_exec
  sl_step
  have n1 : ∀ k : Fin k0_t1_loop.trips, tripMid.sl.v173_r0 k = issA (k.val + 1) := by decide +kernel
  have n2 : ∀ k : Fin k0_t1_loop.trips, tripMid.sl.v269_r0 k = useA (k.val + 1) := by decide +kernel
  have n3 : ∀ k : Fin k0_t1_loop.trips, tripMid.sl.v183_r0 k = issB (k.val + 1) := by decide +kernel
  have n4 : ∀ k : Fin k0_t1_loop.trips, tripMid.sl.v273_r0 k = useB (k.val + 1) := by decide +kernel
  have n5 : ∀ k : Fin k0_t1_loop.trips, tripMid.sl.v243_r0 k = issO (k.val + 1) := by decide +kernel
  have n6 : ∀ k : Fin k0_t1_loop.trips, tripMid.sl.v265_r0 k = useO (k.val + 1) := by decide +kernel
  have n7 : ∀ k : Fin k0_t1_loop.trips, tripMid.sl.v141_r0 k = row (k.val + 1) := by decide +kernel
  have n8 : ∀ k : Fin k0_t1_loop.trips, tripMid.sl.v137_r0 k = col (k.val + 1) := by decide +kernel
  rw [n1 k, n2 k, n3 k, n4 k, n5 k, n6 k, n7 k, n8 k]
  iapply HQ
  isplitl [HA]; · iexists _; iexact HA
  isplitl [HB2]; · iexact HB2
  isplitl [Hc3]; · iexists _; iexact Hc3
  isplitl [HB1 HB1_dst]
  · isplitl [HB1]; · iexact HB1
    iexists _; iexact HB1_dst
  isplitl [HB1_src]; · iexact HB1_src
  isplitl [HcO]
  · iexists _, _
    isplitr
    rotate_left
    · iexact HcO
    · ipureintro
      exact tile_stored c XA XB k _ _ _ _ _ _
  isplitl [HF HF_src]
  · isplitl [HF]; · iexact HF
    iexists _; iexact HF_src
  isplitl [HF_dst]
  · rw [← tile_landed c XA XB (sl 128 (k.val - 1)) _ e1 O1]
    iexact HF_dst
  iexists _; iexact HW

end Cert.Proof.Down

end
-- ==== Proof.TripNext.lean ====
/-
  A trip that ends a block row: the next left block is fetched.
-/
module

public import proofs.«01_k».proof.Proof.Value

@[expose] public section

set_option maxRecDepth 16384

noncomputable section

namespace Cert.Proof.Down

open Cert.KernelIdeal Cert.KernelIdeal.Gen
open Idealize.ShloMosaic Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XA : Buf (Elt F) (lhs.view.loc (c : Thread nD τ))) (XB : Buf (Elt F) (rhs.view.loc (c : Thread nD τ)))
  (O0 : Buf (Elt F) (res.view.loc (c : Thread nD τ)))

set_option maxHeartbeats 4000000 in
theorem tripNext (k : Fin k0_t1_loop.trips) (u v w : BitVec 32) (x : BitVec 1) (h7 : k.val % 8 = 7) (hk : k.val < 126)
    (Q : Carried → sProp 𝕄) :
    iprop((iprop(keptA c XA (sl 2 (k.val / 8)) (sl 16 (k.val / 8)) ∗ freeA c (sl 2 (k.val / 8 + 1)) ∗ homeA c XA (sl 16 (k.val / 8 + 1)))
      ∗ flyB c XB (sl 3 k.val) (sl 8 k.val) ∗ flyB c XB (sl 3 (k.val + 1)) (sl 8 (k.val + 1)) ∗ freeB c (sl 3 (k.val + 2)) ∗ homeB c XB (sl 8 (k.val + 2))
      ∗ freeO c (sl 2 k.val) ∗ flyO c (sl 2 (k.val + 1)) (sl 128 (k.val - 1)) (tileVal c XA XB (sl 128 (k.val - 1))) ∗ tileP c O0 (sl 128 k.val)
      ∗ ∃ W, owes (c : Thread nD τ) 0 W)
      ∗ (iprop(iprop(keptA c XA (sl 2 (k.val / 8)) (sl 16 (k.val / 8)) ∗ flyA c XA (sl 2 (k.val / 8 + 1)) (sl 16 (k.val / 8 + 1)))
      ∗ flyB c XB (sl 3 (k.val + 1)) (sl 8 (k.val + 1)) ∗ flyB c XB (sl 3 (k.val + 2)) (sl 8 (k.val + 2)) ∗ freeB c (sl 3 k.val) ∗ homeB c XB (sl 8 k.val)
      ∗ flyO c (sl 2 k.val) (sl 128 k.val) (tileVal c XA XB (sl 128 k.val)) ∗ freeO c (sl 2 (k.val + 1)) ∗ tileP c (resVal c XA XB) (sl 128 (k.val - 1))
      ∗ ∃ W, owes (c : Thread nD τ) 0 W) -∗ Q (carried (k.val + 1))))
      ⊢ wp frame (wpE (defs₀ (F := F)) 𝒱₀ (c : Thread nD τ) none) Set.univ (tripG (F := F) k u v w x) Q := by
  have hlt := lt_trips k
  have c2 : k0_cond2 k (row k) (col k) = 1#1 := by rw [c2_iff]; omega
  have c3 : k0_cond3 k (col k) = 1#1 := by rw [c3_iff]; omega
  have c4 : ¬ k0_cond4 k (row k) (col k) = 1#1 := by rw [c4_iff]; omega
  have c12 : k0_cond12 k (row k) (col k) = 1#1 := by rw [c12_iff]; omega
  have c5 := c5 k
  have c9 := c9 k
  have k1 := chk1 k
  have k2 := chk2 k
  have k3 := chk3 k
  have k4 := chk4 k
  iintro ⟨⟨⟨⟨%fA, HA⟩, ⟨HcA, %fN, HN⟩, HhA⟩, ⟨%f1, HB1⟩, HB2, ⟨Hc3, %f3, HB3⟩, Hh, ⟨HcO, %fO, HO⟩, ⟨%O1, %g1, %e1, HF⟩, HT, ⟨%W, HW⟩⟩, HQ⟩
  dsimp only [tripG, carried]
  sl_unfold [k0_t1_body]
  sl_exec
  sl_step
  have n1 : ∀ k : Fin k0_t1_loop.trips, tripNext.sl.v173_r0 k = issA (k.val + 1) := by decide +kernel
  have n2 : ∀ k : Fin k0_t1_loop.trips, tripNext.sl.v269_r0 k = useA (k.val + 1) := by decide +kernel
  have n3 : ∀ k : Fin k0_t1_loop.trips, tripNext.sl.v183_r0 k = issB (k.val + 1) := by decide +kernel
  have n4 : ∀ k : Fin k0_t1_loop.trips, tripNext.sl.v273_r0 k = useB (k.val + 1) := by decide +kernel
  have n5 : ∀ k : Fin k0_t1_loop.trips, tripNext.sl.v243_r0 k = issO (k.val + 1) := by decide +kernel
  have n6 : ∀ k : Fin k0_t1_loop.trips, tripNext.sl.v265_r0 k = useO (k.val + 1) := by decide +kernel
  have n7 : ∀ k : Fin k0_t1_loop.trips, tripNext.sl.v141_r0 k = row (k.val + 1) := by decide +kernel
  have n8 : ∀ k : Fin k0_t1_loop.trips, tripNext.sl.v137_r0 k = col (k.val + 1) := by decide +kernel
  rw [n1 k, n2 k, n3 k, n4 k, n5 k, n6 k, n7 k, n8 k]
  iapply HQ
  isplitl [HA HcA]
  · isplitl [HA]; · iexists _; iexact HA
    iexists _; iexact HcA
  isplitl [HB2]; · iexact HB2
  isplitl [Hc3]; · iexists _; iexact Hc3
  isplitl [HB1 HB1_dst]
  · isplitl [HB1]; · iexact HB1
    iexists _; iexact HB1_dst
  isplitl [HB1_src]; · iexact HB1_src
  isplitl [HcO]
  · iexists _, _
    isplitr
    rotate_left
    · iexact HcO
    · ipureintro
      exact tile_stored c XA XB k _ _ _ _ _ _
  isplitl [HF HF_src]
  · isplitl [HF]; · iexact HF
    iexists _; iexact HF_src
  isplitl [HF_dst]
  · rw [← tile_landed c XA XB (sl 128 (k.val - 1)) _ e1 O1]
    iexact HF_dst
  iexists _; iexact HW

end Cert.Proof.Down

end
-- ==== Proof.TripLast.lean ====
/-
  The last two trips: nothing more is fetched.
-/
module

public import proofs.«01_k».proof.Proof.Value

@[expose] public section

set_option maxRecDepth 16384

noncomputable section

namespace Cert.Proof.Down

open Cert.KernelIdeal Cert.KernelIdeal.Gen
open Idealize.ShloMosaic Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XA : Buf (Elt F) (lhs.view.loc (c : Thread nD τ))) (XB : Buf (Elt F) (rhs.view.loc (c : Thread nD τ)))
  (O0 : Buf (Elt F) (res.view.loc (c : Thread nD τ)))

set_option maxHeartbeats 4000000 in
theorem tripLast (k : Fin k0_t1_loop.trips) (u v w : BitVec 32) (x : BitVec 1) (hk : 126 ≤ k.val)
    (Q : Carried → sProp 𝕄) :
    iprop((keptA c XA (sl 2 (k.val / 8)) (sl 16 (k.val / 8))
      ∗ flyB c XB (sl 3 k.val) (sl 8 k.val)
      ∗ freeO c (sl 2 k.val) ∗ flyO c (sl 2 (k.val + 1)) (sl 128 (k.val - 1)) (tileVal c XA XB (sl 128 (k.val - 1))) ∗ tileP c O0 (sl 128 k.val)
      ∗ ∃ W, owes (c : Thread nD τ) 0 W)
      ∗ (iprop(keptA c XA (sl 2 (k.val / 8)) (sl 16 (k.val / 8))
      ∗ freeB c (sl 3 k.val) ∗ homeB c XB (sl 8 k.val)
      ∗ flyO c (sl 2 k.val) (sl 128 k.val) (tileVal c XA XB (sl 128 k.val)) ∗ freeO c (sl 2 (k.val + 1)) ∗ tileP c (resVal c XA XB) (sl 128 (k.val - 1))
      ∗ ∃ W, owes (c : Thread nD τ) 0 W) -∗ Q (carried (k.val + 1))))
      ⊢ wp frame (wpE (defs₀ (F := F)) 𝒱₀ (c : Thread nD τ) none) Set.univ (tripG (F := F) k u v w x) Q := by
  have hlt := lt_trips k
  have c2 : ¬ k0_cond2 k (row k) (col k) = 1#1 := by rw [c2_iff]; omega
  have c3 : ¬ k0_cond3 k (col k) = 1#1 := by rw [c3_iff]; omega
  have c4 : ¬ k0_cond4 k (row k) (col k) = 1#1 := by rw [c4_iff]; omega
  have c12 : k0_cond12 k (row k) (col k) = 1#1 := by rw [c12_iff]; omega
  have c5 := c5 k
  have c9 := c9 k
  have k1 := chk1 k
  have k2 := chk2 k
  have k3 := chk3 k
  have k4 := chk4 k
  iintro ⟨⟨⟨%fA, HA⟩, ⟨%f1, HB1⟩, ⟨HcO, %fO, HO⟩, ⟨%O1, %g1, %e1, HF⟩, HT, ⟨%W, HW⟩⟩, HQ⟩
  dsimp only [tripG, carried]
  sl_unfold [k0_t1_body]
  sl_exec
  sl_step
  have n1 : ∀ k : Fin k0_t1_loop.trips, tripLast.sl.v173_r0 k = issA (k.val + 1) := by decide +kernel
  have n2 : ∀ k : Fin k0_t1_loop.trips, tripLast.sl.v269_r0 k = useA (k.val + 1) := by decide +kernel
  have n3 : ∀ k : Fin k0_t1_loop.trips, tripLast.sl.v183_r0 k = issB (k.val + 1) := by decide +kernel
  have n4 : ∀ k : Fin k0_t1_loop.trips, tripLast.sl.v273_r0 k = useB (k.val + 1) := by decide +kernel
  have n5 : ∀ k : Fin k0_t1_loop.trips, tripLast.sl.v243_r0 k = issO (k.val + 1) := by decide +kernel
  have n6 : ∀ k : Fin k0_t1_loop.trips, tripLast.sl.v265_r0 k = useO (k.val + 1) := by decide +kernel
  have n7 : ∀ k : Fin k0_t1_loop.trips, tripLast.sl.v141_r0 k = row (k.val + 1) := by decide +kernel
  have n8 : ∀ k : Fin k0_t1_loop.trips, tripLast.sl.v137_r0 k = col (k.val + 1) := by decide +kernel
  rw [n1 k, n2 k, n3 k, n4 k, n5 k, n6 k, n7 k, n8 k]
  iapply HQ
  isplitl [HA]; · iexists _; iexact HA
  isplitl [HB1 HB1_dst]
  · isplitl [HB1]; · iexact HB1
    iexists _; iexact HB1_dst
  isplitl [HB1_src]; · iexact HB1_src
  isplitl [HcO]
  · iexists _, _
    isplitr
    rotate_left
    · iexact HcO
    · ipureintro
      exact tile_stored c XA XB k _ _ _ _ _ _
  isplitl [HF HF_src]
  · isplitl [HF]; · iexact HF
    iexists _; iexact HF_src
  isplitl [HF_dst]
  · rw [← tile_landed c XA XB (sl 128 (k.val - 1)) _ e1 O1]
    iexact HF_dst
  iexists _; iexact HW

end Cert.Proof.Down

end
-- ==== Proof.Loop.lean ====
/-
  The loop by its invariant, one trip at a time by the five cases; and the kernel's body around it.
-/
module

public import proofs.«01_k».proof.Proof.Inv
public import proofs.«01_k».proof.Proof.Gen.KernelIdeal.Loops
public import proofs.«01_k».proof.Proof.TripFirst
public import proofs.«01_k».proof.Proof.TripRow
public import proofs.«01_k».proof.Proof.TripMid
public import proofs.«01_k».proof.Proof.TripNext
public import proofs.«01_k».proof.Proof.TripLast

@[expose] public section

set_option maxRecDepth 16384

noncomputable section

namespace Cert.Proof.Down

open Cert.KernelIdeal Cert.KernelIdeal.Gen
open Idealize.ShloMosaic Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (XA : Buf (Elt F) (lhs.view.loc (c : Thread nD τ))) (XB : Buf (Elt F) (rhs.view.loc (c : Thread nD τ)))

variable (O0 : Buf (Elt F) (res.view.loc (c : Thread nD τ)))

/-- A trip takes the pipeline from trip `k`'s state to trip `k + 1`'s. -/
theorem trip (k : Fin k0_t1_loop.trips) (u v w : BitVec 32) (x : BitVec 1) (Q : Carried → sProp 𝕄) :
    iprop(invAt c XA XB O0 k.val ∗ (invAt c XA XB O0 (k.val + 1) -∗ Q (carried (k.val + 1))))
      ⊢ wp frame (wpE (defs₀ (F := F)) 𝒱₀ (c : Thread nD τ) none) Set.univ (tripG (F := F) k u v w x) Q := by
  have hk := lt_trips k
  unfold invAt
  iintro ⟨⟨HA, HB, HO, HW⟩, HQ⟩
  by_cases h0 : k.val = 0
  · ihave HA := (invA_begin c XA k.val (by omega) hk) $$ HA
    ihave HB := (invB_go c XB k.val (by omega)) $$ HB
    ihave HO := (invO_first c XA XB O0 k.val h0) $$ HO
    icases HA with ⟨HA, KA⟩
    icases HB with ⟨⟨HB1, HB2, HB3, HB4⟩, KB⟩
    icases HO with ⟨⟨HO1, HO2⟩, KO⟩
    iapply (tripFirst c XA XB O0 k u v w x h0 Q)
    isplitl [HA HB1 HB2 HB3 HB4 HO1 HO2 HW]
    · iframe
    iintro ⟨HA, HB1, HB2, HB3, HB4, HO, HW⟩
    iapply HQ
    isplitl [HA KA]; · iapply KA; iexact HA
    isplitl [HB1 HB2 HB3 HB4 KB]
    · iapply KB; iframe
    isplitl [HO KO]; · iapply KO; iexact HO
    iexact HW
  by_cases h8 : k.val % 8 = 0
  · ihave HA := (invA_begin c XA k.val (by omega) hk) $$ HA
    ihave HB := (invB_go c XB k.val (by omega)) $$ HB
    ihave HO := (invO_go c XA XB O0 k.val h0 hk) $$ HO
    icases HA with ⟨HA, KA⟩
    icases HB with ⟨⟨HB1, HB2, HB3, HB4⟩, KB⟩
    icases HO with ⟨⟨HO1, HO2, HO3⟩, KO⟩
    iapply (tripRow c XA XB O0 k u v w x h8 h0 Q)
    isplitl [HA HB1 HB2 HB3 HB4 HO1 HO2 HO3 HW]
    · iframe
    iintro ⟨HA, HB1, HB2, HB3, HB4, HO1, HO2, HO3, HW⟩
    iapply HQ
    isplitl [HA KA]
    · iapply KA; iframe
    isplitl [HB1 HB2 HB3 HB4 KB]
    · iapply KB; iframe
    isplitl [HO1 HO2 HO3 KO]
    · iapply KO; iframe
    iexact HW
  by_cases h7 : k.val = 127
  · ihave HA := (invA_end c XA k.val (by omega)) $$ HA
    ihave HB := (invB_end c XB k.val (by omega) hk) $$ HB
    ihave HO := (invO_go c XA XB O0 k.val h0 hk) $$ HO
    icases HA with ⟨HA, KA⟩
    icases HB with ⟨HB1, KB⟩
    icases HO with ⟨⟨HO1, HO2, HO3⟩, KO⟩
    iapply (tripLast c XA XB O0 k u v w x (by omega) Q)
    isplitl [HA HB1 HO1 HO2 HO3 HW]
    · iframe
    iintro ⟨HA, HB1, HB2, HO1, HO2, HO3, HW⟩
    iapply HQ
    isplitl [HA KA]
    · iapply KA; iframe
    isplitl [HB1 HB2 KB]
    · iapply KB; iframe
    isplitl [HO1 HO2 HO3 KO]
    · iapply KO; iframe
    iexact HW
  by_cases h6 : k.val = 126
  · ihave HA := (invA_keep c XA k.val (by omega) (by omega) hk) $$ HA
    ihave HB := (invB_end c XB k.val (by omega) hk) $$ HB
    ihave HO := (invO_go c XA XB O0 k.val h0 hk) $$ HO
    icases HA with ⟨HA, KA⟩
    icases HB with ⟨HB1, KB⟩
    icases HO with ⟨⟨HO1, HO2, HO3⟩, KO⟩
    iapply (tripLast c XA XB O0 k u v w x (by omega) Q)
    isplitl [HA HB1 HO1 HO2 HO3 HW]
    · iframe
    iintro ⟨HA, HB1, HB2, HO1, HO2, HO3, HW⟩
    iapply HQ
    isplitl [HA KA]
    · iapply KA; iframe
    isplitl [HB1 HB2 KB]
    · iapply KB; iframe
    isplitl [HO1 HO2 HO3 KO]
    · iapply KO; iframe
    iexact HW
  by_cases h5 : k.val % 8 = 7
  · ihave HA := (invA_next c XA k.val (by omega) (by omega)) $$ HA
    ihave HB := (invB_go c XB k.val (by omega)) $$ HB
    ihave HO := (invO_go c XA XB O0 k.val h0 hk) $$ HO
    icases HA with ⟨⟨HA1, HA2, HA3⟩, KA⟩
    icases HB with ⟨⟨HB1, HB2, HB3, HB4⟩, KB⟩
    icases HO with ⟨⟨HO1, HO2, HO3⟩, KO⟩
    iapply (tripNext c XA XB O0 k u v w x h5 (by omega) Q)
    isplitl [HA1 HA2 HA3 HB1 HB2 HB3 HB4 HO1 HO2 HO3 HW]
    · iframe
    iintro ⟨⟨HA1, HA2⟩, HB1, HB2, HB3, HB4, HO1, HO2, HO3, HW⟩
    iapply HQ
    isplitl [HA1 HA2 KA]
    · iapply KA; iframe
    isplitl [HB1 HB2 HB3 HB4 KB]
    · iapply KB; iframe
    isplitl [HO1 HO2 HO3 KO]
    · iapply KO; iframe
    iexact HW
  · ihave HA := (invA_keep c XA k.val (by omega) (by omega) hk) $$ HA
    ihave HB := (invB_go c XB k.val (by omega)) $$ HB
    ihave HO := (invO_go c XA XB O0 k.val h0 hk) $$ HO
    icases HA with ⟨HA, KA⟩
    icases HB with ⟨⟨HB1, HB2, HB3, HB4⟩, KB⟩
    icases HO with ⟨⟨HO1, HO2, HO3⟩, KO⟩
    iapply (tripMid c XA XB O0 k u v w x h8 h5 (by omega) Q)
    isplitl [HA HB1 HB2 HB3 HB4 HO1 HO2 HO3 HW]
    · iframe
    iintro ⟨HA, HB1, HB2, HB3, HB4, HO1, HO2, HO3, HW⟩
    iapply HQ
    isplitl [HA KA]
    · iapply KA; iframe
    isplitl [HB1 HB2 HB3 HB4 KB]
    · iapply KB; iframe
    isplitl [HO1 HO2 HO3 KO]
    · iapply KO; iframe
    iexact HW

/-- The pipeline's state before trip `t`, with the words the loop carries. -/
@[irreducible] def invL (t : ℕ) (a : Carried) : sProp 𝕄 := iprop(⌜a = carried t⌝ ∗ invAt c XA XB O0 t)

set_option warn.classDefReducibility false in
@[sl_loop] def loopInv (u v w : BitVec 32) (x : BitVec 1) (init : Carried) :
    LoopInvTy_k0_t1 (F := F) Unit ℕ (UU nD τ) ℕ 𝒱₀ c none Set.univ lhs (Memref.isWhole_whole _) rhs (Memref.isWhole_whole _) res (Memref.isWhole_whole _)
      ringA (Memref.isWhole_whole _) cc0_scoped1 ringB (Memref.isWhole_whole _) cc0_scoped3 ringO (Memref.isWhole_whole _) cc0_scoped5 u v x w init where
  inv k a := invL c XA XB O0 k a
  step k a := by
    unfold invL
    iintro ⟨%e, H⟩
    subst e
    iapply (trip c XA XB O0 k u v w x _)
    isplitl [H]; · iexact H
    iintro H
    isplitr; · ipureintro; rfl
    iexact H

/-- What the body is handed: the operands and the result whole, as their blocks; every slot free. -/
abbrev PRE : sProp 𝕄 :=
  iprop(bigSep Finset.univ (homeA c XA) ∗ bigSep Finset.univ (homeB c XB) ∗ bigSep Finset.univ (tileP c O0)
    ∗ (freeA c 0 ∗ freeA c 1) ∗ (freeB c 0 ∗ freeB c 1 ∗ freeB c 2) ∗ (freeO c 0 ∗ freeO c 1) ∗ ∃ W, owes (c : Thread nD τ) 0 W)
/-- The same with the blocks and slots the prologue starts on apart. -/
abbrev PRE' : sProp 𝕄 :=
  iprop((homeA c XA (sl 16 (0 / 8)) ∗ bigSep (Finset.univ.erase (sl 16 (0 / 8))) (homeA c XA))
    ∗ (homeB c XB (sl 8 0) ∗ homeB c XB (sl 8 (0 + 1)) ∗ bigSep ((Finset.univ.erase (sl 8 0)).erase (sl 8 (0 + 1))) (homeB c XB)) ∗ bigSep Finset.univ (tileP c O0)
    ∗ (freeA c (sl 2 (0 / 8)) ∗ freeA c (sl 2 (0 / 8 + 1))) ∗ (freeB c (sl 3 0) ∗ freeB c (sl 3 (0 + 1)) ∗ freeB c (sl 3 (0 + 2))) ∗ (freeO c (sl 2 0) ∗ freeO c (sl 2 1)) ∗ ∃ W, owes (c : Thread nD τ) 0 W)
theorem PRE_apart : PRE c XA XB O0 ⊢ PRE' c XA XB O0 := by
  have e1 : sl 8 (0 + 1) ∈ (Finset.univ.erase (sl 8 0) : Finset (Fin 8)) := Finset.mem_erase.mpr ⟨sl_ne (by decide), Finset.mem_univ _⟩
  unfold PRE PRE'
  rw [bigSep_apart (Finset.mem_univ (sl 16 (0 / 8))) (homeA c XA), bigSep_apart (Finset.mem_univ (sl 8 0)) (homeB c XB), bigSep_apart e1 (homeB c XB)]
  exact .rfl
/-- What it hands back: the same, the result computed. -/
abbrev POST : sProp 𝕄 :=
  iprop(bigSep Finset.univ (homeA c XA) ∗ bigSep Finset.univ (homeB c XB) ∗ bigSep Finset.univ (tileP c (resVal c XA XB))
    ∗ (freeA c 0 ∗ freeA c 1) ∗ (freeB c 0 ∗ freeB c 1 ∗ freeB c 2) ∗ (freeO c 0 ∗ freeO c 1) ∗ ∃ W, owes (c : Thread nD τ) 0 W)

/-- The kernel on its buffers. -/
abbrev bodyG : Prog (TpuEff nD τ sig (Elt F) Λ₀ .tc) PUnit :=
  cc0_ffn_down lhs (Memref.isWhole_whole _) rhs (Memref.isWhole_whole _) res (Memref.isWhole_whole _)
    ringA (Memref.isWhole_whole _) cc0_scoped1 ringB (Memref.isWhole_whole _) cc0_scoped3 ringO (Memref.isWhole_whole _) cc0_scoped5

/-- The prologue's three transfers are the state before the first trip. -/
theorem inv_start :
    iprop((flyA c XA (sl 2 (0 / 8)) (sl 16 (0 / 8)) ∗ freeA c (sl 2 (0 / 8 + 1)) ∗ bigSep (Finset.univ.erase (sl 16 (0 / 8))) (homeA c XA))
      ∗ (flyB c XB (sl 3 0) (sl 8 0) ∗ flyB c XB (sl 3 (0 + 1)) (sl 8 (0 + 1)) ∗ freeB c (sl 3 (0 + 2)) ∗ bigSep ((Finset.univ.erase (sl 8 0)).erase (sl 8 (0 + 1))) (homeB c XB))
      ∗ ((freeO c (sl 2 0) ∗ freeO c (sl 2 1)) ∗ bigSep Finset.univ (tileP c O0)) ∗ ∃ W, owes (c : Thread nD τ) 0 W)
      ⊢ invL c XA XB O0 0 (1#32, 0#32, 2#32, 0#32, 0#32, 0#32, 0#32, 0#32) := by
  unfold invL invAt invA invB invO tiles
  rw [if_neg (by decide), if_pos (by decide), if_pos (by decide), if_pos rfl, show doneSet 0 = ∅ from by decide +kernel, bigSep_empty, show todoSet 0 = Finset.univ from by decide +kernel]
  iintro ⟨HA, HB, ⟨⟨HO1, HO2⟩, HT⟩, HW⟩
  isplitr; · ipureintro; exact carried_zero.symm
  isplitl [HA]; · iexact HA
  isplitl [HB]; · iexact HB
  isplitl [HO1 HO2 HT]
  · isplitl [HO1]; · iexact HO1
    isplitl [HO2]; · iexact HO2
    isplitr; · iempintro
    iexact HT
  iexact HW

theorem doneSet_last : doneSet 129 = Finset.univ := by decide +kernel
theorem doneSet_128 : doneSet 128 = Finset.univ.erase (sl 128 127) := by decide +kernel
theorem todoSet_128 : todoSet 128 = ∅ := by decide +kernel

/-- After the last trip only the last tile is on its way. -/
theorem inv_finish :
    invAt c XA XB O0 128 ⊢ iprop(flyO c (sl 2 (128 + 1)) (sl 128 (128 - 1)) (tileVal c XA XB (sl 128 (128 - 1))) ∗ (∃ W, owes (c : Thread nD τ) 0 W)
      ∗ (iprop((freeO c (sl 2 (128 + 1)) ∗ tileP c (resVal c XA XB) (sl 128 (128 - 1))) ∗ ∃ W, owes (c : Thread nD τ) 0 W) -∗ POST c XA XB)) := by
  unfold invAt invA invB invO tiles
  rw [if_pos rfl, if_neg (by decide), if_neg (by decide), if_neg (by decide), doneSet_128, todoSet_128, bigSep_empty]
  unfold POST
  rw [bigSep_apart (Finset.mem_univ (sl 128 127)) (tileP c (resVal c XA XB))]
  iintro ⟨⟨HA0, HA1, HAh⟩, ⟨HB0, HB1, HB2, HBh⟩, ⟨HO0, HF, HT, -⟩, HW⟩
  isplitl [HF]; · iexact HF
  isplitl [HW]; · iexact HW
  iintro ⟨⟨HO1, Ht⟩, HW⟩
  isplitl [HAh]; · iexact HAh
  isplitl [HBh]; · iexact HBh
  isplitl [Ht HT]
  · isplitl [Ht]; · iexact Ht
    iexact HT
  isplitl [HA0 HA1]
  · isplitl [HA0]; · iexact HA0
    iexact HA1
  isplitl [HB0 HB1 HB2]
  · isplitl [HB1]; · iexact HB1
    isplitl [HB2]; · iexact HB2
    iexact HB0
  isplitl [HO0 HO1]
  · isplitl [HO0]; · iexact HO0
    iexact HO1
  iexact HW

theorem inv_exit (a : Carried) :
    invL c XA XB O0 (Scf.trips k0_t1_loop.lb k0_t1_loop.ub k0_t1_loop.st) a ⊢ iprop(⌜a = carried 128⌝ ∗ invAt c XA XB O0 128) := by
  rw [show Scf.trips k0_t1_loop.lb k0_t1_loop.ub k0_t1_loop.st = 128 from trips_eq]
  unfold invL
  exact .rfl

set_option maxHeartbeats 4000000 in
theorem bodyRun (Q : PUnit → sProp 𝕄) :
    iprop(PRE' c XA XB O0 ∗ (POST c XA XB -∗ Q ⟨⟩)) ⊢ wp frame (wpE (defs₀ (F := F)) 𝒱₀ (c : Thread nD τ) none) Set.univ (bodyG (F := F)) Q := by
  iintro ⟨⟨⟨HhA, HAr⟩, ⟨HhB, HhB', HBr⟩, HT, ⟨⟨HcA, %fA, HA⟩, HfA⟩, ⟨⟨HcB, %fB, HB⟩, ⟨HcB', %fB', HB'⟩, HfB⟩, HfO, ⟨%W, HW⟩⟩, HQ⟩
  sl_exec
  ihave HI := (inv_start c XA XB O0) $$ [HcA HfA HAr HcB HcB' HfB HBr HfO HT HW]
  · isplitl [HcA HfA HAr]
    · isplitl [HcA]; · iexists _; iexact HcA
      isplitl [HfA]; · iexact HfA
      iexact HAr
    isplitl [HcB HcB' HfB HBr]
    · isplitl [HcB]; · iexists _; iexact HcB
      isplitl [HcB']; · iexists _; iexact HcB'
      isplitl [HfB]; · iexact HfB
      iexact HBr
    isplitl [HfO HT]
    · isplitl [HfO]; · iexact HfO
      iexact HT
    iexists _; iexact HW
  sl_exec
  ihave HE := (inv_exit c XA XB O0 _) $$ HI
  icases HE with ⟨%e, HE⟩
  subst e
  ihave HD := (inv_finish c XA XB O0) $$ HE
  icases HD with ⟨⟨%O1, %g1, %e1, HF⟩, ⟨%W1, HW⟩, HP⟩
  have k5 := chk5
  have k6 := chk6
  dsimp only [carried]
  sl_exec
  sl_step
  iapply HQ
  iapply HP
  isplitl [HF HF_dst HF_src]
  · isplitl [HF HF_src]
    · isplitl [HF]; · iexact HF
      iexists _; iexact HF_src
    rw [← tile_landed c XA XB (sl 128 (128 - 1)) _ e1 O1]
    iexact HF_dst
  iexists _; iexact HW

end Cert.Proof.Down

end
-- ==== Proof.Whole.lean ====
/-
  The operands and the result whole are their blocks; a ring whole is its slots.
-/
module

public import proofs.«01_k».proof.Proof.Pieces

@[expose] public section

set_option maxRecDepth 16384

noncomputable section

namespace Cert.Proof.Down

open Cert.KernelIdeal Cert.KernelIdeal.Gen
open Idealize.ShloMosaic Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

theorem entails_of_eq {P Q : sProp 𝕄} (e : P = Q) : P ⊢ Q := e ▸ .rfl

/-! ## Pieces told apart by a number -/

theorem apart_of {I : Type} [DecidableEq I] {n : ℕ} {G : Fin n → Finset I} {f : I → ℕ} (h : ∀ b y, y ∈ G b ↔ f y = b.val) :
    ∀ b b' : Fin n, b ≠ b' → Disjoint (G b) (G b') := by
  intro b b' hne; rw [Finset.disjoint_left]; intro y hy hy'; rw [h] at hy hy'; exact hne (Fin.ext (hy.symm.trans hy'))
theorem cover_of {I : Type} [DecidableEq I] [Fintype I] {n : ℕ} {G : Fin n → Finset I} {f : I → ℕ} (h : ∀ b y, y ∈ G b ↔ f y = b.val)
    (hf : ∀ y, f y < n) : (Finset.univ : Finset (Fin n)).biUnion G = Finset.univ := by
  ext y; simp only [Finset.mem_biUnion, Finset.mem_univ, true_and, iff_true]; exact ⟨⟨f y, hf y⟩, by rw [h]⟩

/-! ## The pieces' index sets -/

abbrev setA (b : Fin 16) : Finset S8192x11008.Idx := (Rect.unit (s := S8192x11008) (rowAt b.val) S512x11008.size (rowAt_inb b)).set
theorem blkA_set (b : Fin 16) : (blkA b).view.set = setA b := View.set_slice_whole _ _
theorem mem_setA (b : Fin 16) (y : S8192x11008.Idx) : y ∈ setA b ↔ (y 0).val / 512 = b.val := by
  rw [Rect.mem_set_unit]
  have hb := b.isLt
  have h0 : (y 0).val < 8192 := (y 0).isLt
  have h1 : (y 1).val < 11008 := (y 1).isLt
  constructor
  · intro H
    have a0 : 512 * b.val ≤ (y 0).val ∧ (y 0).val < 512 * b.val + 512 := H 0
    have a1 : 0 ≤ (y 1).val ∧ (y 1).val < 0 + 11008 := H 1
    omega
  · intro H i; fin_cases i
    · show 512 * b.val ≤ (y 0).val ∧ (y 0).val < 512 * b.val + 512; omega
    · show 0 ≤ (y 1).val ∧ (y 1).val < 0 + 11008; omega
theorem setA_apart : ∀ b b' : Fin 16, b ≠ b' → Disjoint (setA b) (setA b') := apart_of mem_setA
theorem setA_cover : (Finset.univ : Finset (Fin 16)).biUnion setA = Finset.univ :=
  cover_of mem_setA fun y => by have h0 : (y 0).val < 8192 := (y 0).isLt; have h1 : (y 1).val < 11008 := (y 1).isLt; omega
abbrev setB (b : Fin 8) : Finset S11008x4096.Idx := (Rect.unit (s := S11008x4096) (colAt b.val) S11008x512.size (colAt_inb b)).set
theorem blkB_set (b : Fin 8) : (blkB b).view.set = setB b := View.set_slice_whole _ _
theorem mem_setB (b : Fin 8) (y : S11008x4096.Idx) : y ∈ setB b ↔ (y 1).val / 512 = b.val := by
  rw [Rect.mem_set_unit]
  have hb := b.isLt
  have h0 : (y 0).val < 11008 := (y 0).isLt
  have h1 : (y 1).val < 4096 := (y 1).isLt
  constructor
  · intro H
    have a0 : 0 ≤ (y 0).val ∧ (y 0).val < 0 + 11008 := H 0
    have a1 : 512 * b.val ≤ (y 1).val ∧ (y 1).val < 512 * b.val + 512 := H 1
    omega
  · intro H i; fin_cases i
    · show 0 ≤ (y 0).val ∧ (y 0).val < 0 + 11008; omega
    · show 512 * b.val ≤ (y 1).val ∧ (y 1).val < 512 * b.val + 512; omega
theorem setB_apart : ∀ b b' : Fin 8, b ≠ b' → Disjoint (setB b) (setB b') := apart_of mem_setB
theorem setB_cover : (Finset.univ : Finset (Fin 8)).biUnion setB = Finset.univ :=
  cover_of mem_setB fun y => by have h0 : (y 0).val < 11008 := (y 0).isLt; have h1 : (y 1).val < 4096 := (y 1).isLt; omega
abbrev setT (b : Fin 128) : Finset S8192x4096.Idx := (Rect.unit (s := S8192x4096) (tileAt b.val) S512x512.size (tileAt_inb b)).set
theorem tile_set (b : Fin 128) : (tile b).view.set = setT b := View.set_slice_whole _ _
theorem mem_setT (b : Fin 128) (y : S8192x4096.Idx) : y ∈ setT b ↔ (y 0).val / 512 * 8 + (y 1).val / 512 = b.val := by
  rw [Rect.mem_set_unit]
  have hb := b.isLt
  have h0 : (y 0).val < 8192 := (y 0).isLt
  have h1 : (y 1).val < 4096 := (y 1).isLt
  constructor
  · intro H
    have a0 : 512 * (b.val / 8) ≤ (y 0).val ∧ (y 0).val < 512 * (b.val / 8) + 512 := H 0
    have a1 : 512 * (b.val % 8) ≤ (y 1).val ∧ (y 1).val < 512 * (b.val % 8) + 512 := H 1
    omega
  · intro H i; fin_cases i
    · show 512 * (b.val / 8) ≤ (y 0).val ∧ (y 0).val < 512 * (b.val / 8) + 512; omega
    · show 512 * (b.val % 8) ≤ (y 1).val ∧ (y 1).val < 512 * (b.val % 8) + 512; omega
theorem setT_apart : ∀ b b' : Fin 128, b ≠ b' → Disjoint (setT b) (setT b') := apart_of mem_setT
theorem setT_cover : (Finset.univ : Finset (Fin 128)).biUnion setT = Finset.univ :=
  cover_of mem_setT fun y => by have h0 : (y 0).val < 8192 := (y 0).isLt; have h1 : (y 1).val < 4096 := (y 1).isLt; omega
abbrev setSA (b : Fin 2) : Finset S2x512x11008.Idx := (Rect.unit (s := S2x512x11008) (at3 b.val) S1x512x11008.size (slotA_inb b)).set
theorem slotA_set (b : Fin 2) : (slotA b).view.set = setSA b := (View.set_reshape _ _).trans (View.set_slice_whole _ _)
theorem mem_setSA (b : Fin 2) (y : S2x512x11008.Idx) : y ∈ setSA b ↔ (y 0).val = b.val := by
  rw [Rect.mem_set_unit]
  have hb := b.isLt
  have h0 : (y 0).val < 2 := (y 0).isLt
  have h1 : (y 1).val < 512 := (y 1).isLt
  have h2 : (y 2).val < 11008 := (y 2).isLt
  constructor
  · intro H
    have a0 : b.val ≤ (y 0).val ∧ (y 0).val < b.val + 1 := H 0
    have a1 : 0 ≤ (y 1).val ∧ (y 1).val < 0 + 512 := H 1
    have a2 : 0 ≤ (y 2).val ∧ (y 2).val < 0 + 11008 := H 2
    omega
  · intro H i; fin_cases i
    · show b.val ≤ (y 0).val ∧ (y 0).val < b.val + 1; omega
    · show 0 ≤ (y 1).val ∧ (y 1).val < 0 + 512; omega
    · show 0 ≤ (y 2).val ∧ (y 2).val < 0 + 11008; omega
theorem setSA_apart : ∀ b b' : Fin 2, b ≠ b' → Disjoint (setSA b) (setSA b') := apart_of mem_setSA
theorem setSA_cover : (Finset.univ : Finset (Fin 2)).biUnion setSA = Finset.univ :=
  cover_of mem_setSA fun y => by have h0 : (y 0).val < 2 := (y 0).isLt; have h1 : (y 1).val < 512 := (y 1).isLt; have h2 : (y 2).val < 11008 := (y 2).isLt; omega
abbrev setSB (b : Fin 3) : Finset S3x11008x512.Idx := (Rect.unit (s := S3x11008x512) (at3 b.val) S1x11008x512.size (slotB_inb b)).set
theorem slotB_set (b : Fin 3) : (slotB b).view.set = setSB b := (View.set_reshape _ _).trans (View.set_slice_whole _ _)
theorem mem_setSB (b : Fin 3) (y : S3x11008x512.Idx) : y ∈ setSB b ↔ (y 0).val = b.val := by
  rw [Rect.mem_set_unit]
  have hb := b.isLt
  have h0 : (y 0).val < 3 := (y 0).isLt
  have h1 : (y 1).val < 11008 := (y 1).isLt
  have h2 : (y 2).val < 512 := (y 2).isLt
  constructor
  · intro H
    have a0 : b.val ≤ (y 0).val ∧ (y 0).val < b.val + 1 := H 0
    have a1 : 0 ≤ (y 1).val ∧ (y 1).val < 0 + 11008 := H 1
    have a2 : 0 ≤ (y 2).val ∧ (y 2).val < 0 + 512 := H 2
    omega
  · intro H i; fin_cases i
    · show b.val ≤ (y 0).val ∧ (y 0).val < b.val + 1; omega
    · show 0 ≤ (y 1).val ∧ (y 1).val < 0 + 11008; omega
    · show 0 ≤ (y 2).val ∧ (y 2).val < 0 + 512; omega
theorem setSB_apart : ∀ b b' : Fin 3, b ≠ b' → Disjoint (setSB b) (setSB b') := apart_of mem_setSB
theorem setSB_cover : (Finset.univ : Finset (Fin 3)).biUnion setSB = Finset.univ :=
  cover_of mem_setSB fun y => by have h0 : (y 0).val < 3 := (y 0).isLt; have h1 : (y 1).val < 11008 := (y 1).isLt; have h2 : (y 2).val < 512 := (y 2).isLt; omega
abbrev setSO (b : Fin 2) : Finset S2x512x512.Idx := (Rect.unit (s := S2x512x512) (at3 b.val) S1x512x512.size (slotO_inb b)).set
theorem slotO_set (b : Fin 2) : (slotO b).view.set = setSO b := (View.set_reshape _ _).trans (View.set_slice_whole _ _)
theorem mem_setSO (b : Fin 2) (y : S2x512x512.Idx) : y ∈ setSO b ↔ (y 0).val = b.val := by
  rw [Rect.mem_set_unit]
  have hb := b.isLt
  have h0 : (y 0).val < 2 := (y 0).isLt
  have h1 : (y 1).val < 512 := (y 1).isLt
  have h2 : (y 2).val < 512 := (y 2).isLt
  constructor
  · intro H
    have a0 : b.val ≤ (y 0).val ∧ (y 0).val < b.val + 1 := H 0
    have a1 : 0 ≤ (y 1).val ∧ (y 1).val < 0 + 512 := H 1
    have a2 : 0 ≤ (y 2).val ∧ (y 2).val < 0 + 512 := H 2
    omega
  · intro H i; fin_cases i
    · show b.val ≤ (y 0).val ∧ (y 0).val < b.val + 1; omega
    · show 0 ≤ (y 1).val ∧ (y 1).val < 0 + 512; omega
    · show 0 ≤ (y 2).val ∧ (y 2).val < 0 + 512; omega
theorem setSO_apart : ∀ b b' : Fin 2, b ≠ b' → Disjoint (setSO b) (setSO b') := apart_of mem_setSO
theorem setSO_cover : (Finset.univ : Finset (Fin 2)).biUnion setSO = Finset.univ :=
  cover_of mem_setSO fun y => by have h0 : (y 0).val < 2 := (y 0).isLt; have h1 : (y 1).val < 512 := (y 1).isLt; have h2 : (y 2).val < 512 := (y 2).isLt; omega

/-! ## Whole and in pieces -/

variable (c : Dev nD)

theorem wholeA_eq (X : Buf (Elt F) (lhs.view.loc (c : Thread nD τ))) :
    (((c : Thread nD τ).loc main_arg0) ↦{fullShare} X : sProp 𝕄) = bigSep Finset.univ (homeA c X) := by
  rw [Ring.pointsTo_blocks (ℓ := (c : Thread nD τ).loc main_arg0) setA setA_apart setA_cover]
  exact bigSep_congr fun b _ => by rw [← blkA_set]; rfl
theorem wholeB_eq (X : Buf (Elt F) (rhs.view.loc (c : Thread nD τ))) :
    (((c : Thread nD τ).loc main_arg1) ↦{fullShare} X : sProp 𝕄) = bigSep Finset.univ (homeB c X) := by
  rw [Ring.pointsTo_blocks (ℓ := (c : Thread nD τ).loc main_arg1) setB setB_apart setB_cover]
  exact bigSep_congr fun b _ => by rw [← blkB_set]; rfl
theorem wholeT_eq (X : Buf (Elt F) (res.view.loc (c : Thread nD τ))) :
    (((c : Thread nD τ).loc main_v0) ↦{fullShare} X : sProp 𝕄) = bigSep Finset.univ (tileP c X) := by
  rw [Ring.pointsTo_blocks (ℓ := (c : Thread nD τ).loc main_v0) setT setT_apart setT_cover]
  exact bigSep_congr fun b _ => by rw [← tile_set]; rfl
theorem holdA_eq (s : Fin 2) (f) : holdA c s f = (((c : Thread nD τ).loc cc0_scoped0) ↦[setSA s]{fullShare} f : sProp 𝕄) :=
  congrArg (fun S => (_ ↦[S]{fullShare} f : sProp 𝕄)) (slotA_set s)
theorem holdA_split :
    iprop(∃ f : Buf (Elt F) ((c : Thread nD τ).loc cc0_scoped0), ((c : Thread nD τ).loc cc0_scoped0) ↦{fullShare} f) ⊢ (iprop((∃ f, holdA c 0 f) ∗ ∃ f, holdA c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped0) setSA setSA_apart setSA_cover f).trans (Ring.bigSep_fin2 _))) $$ H
  icases H2 with ⟨H0, H1⟩
  isplitl [H0]
  · iexists f; iapply (entails_of_eq (holdA_eq c 0 f).symm); iexact H0
  iexists f; iapply (entails_of_eq (holdA_eq c 1 f).symm); iexact H1
theorem holdA_join :
    iprop((∃ f, holdA c 0 f) ∗ ∃ f, holdA c 1 f) ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) setSA setSA_apart setSA_cover f0)
  irw [Ring.bigSep_fin2]
  isplitl [H0]
  · iexists f0; iapply (entails_of_eq (holdA_eq c 0 f0)); iexact H0
  iexists f1; iapply (entails_of_eq (holdA_eq c 1 f1)); iexact H1
theorem holdB_eq (s : Fin 3) (f) : holdB c s f = (((c : Thread nD τ).loc cc0_scoped2) ↦[setSB s]{fullShare} f : sProp 𝕄) :=
  congrArg (fun S => (_ ↦[S]{fullShare} f : sProp 𝕄)) (slotB_set s)
theorem holdB_split :
    iprop(∃ f : Buf (Elt F) ((c : Thread nD τ).loc cc0_scoped2), ((c : Thread nD τ).loc cc0_scoped2) ↦{fullShare} f) ⊢ (iprop((∃ f, holdB c 0 f) ∗ (∃ f, holdB c 1 f) ∗ ∃ f, holdB c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped2) setSB setSB_apart setSB_cover f).trans (Ring.bigSep_fin3 _))) $$ H
  icases H2 with ⟨H0, H1, H2⟩
  isplitl [H0]
  · iexists f; iapply (entails_of_eq (holdB_eq c 0 f).symm); iexact H0
  isplitl [H1]
  · iexists f; iapply (entails_of_eq (holdB_eq c 1 f).symm); iexact H1
  iexists f; iapply (entails_of_eq (holdB_eq c 2 f).symm); iexact H2
theorem holdB_join :
    iprop((∃ f, holdB c 0 f) ∗ (∃ f, holdB c 1 f) ∗ ∃ f, holdB c 2 f) ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped2) setSB setSB_apart setSB_cover f0)
  irw [Ring.bigSep_fin3]
  isplitl [H0]
  · iexists f0; iapply (entails_of_eq (holdB_eq c 0 f0)); iexact H0
  isplitl [H1]
  · iexists f1; iapply (entails_of_eq (holdB_eq c 1 f1)); iexact H1
  iexists f2; iapply (entails_of_eq (holdB_eq c 2 f2)); iexact H2
theorem holdO_eq (s : Fin 2) (f) : holdO c s f = (((c : Thread nD τ).loc cc0_scoped4) ↦[setSO s]{fullShare} f : sProp 𝕄) :=
  congrArg (fun S => (_ ↦[S]{fullShare} f : sProp 𝕄)) (slotO_set s)
theorem holdO_split :
    iprop(∃ f : Buf (Elt F) ((c : Thread nD τ).loc cc0_scoped4), ((c : Thread nD τ).loc cc0_scoped4) ↦{fullShare} f) ⊢ (iprop((∃ f, holdO c 0 f) ∗ ∃ f, holdO c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped4) setSO setSO_apart setSO_cover f).trans (Ring.bigSep_fin2 _))) $$ H
  icases H2 with ⟨H0, H1⟩
  isplitl [H0]
  · iexists f; iapply (entails_of_eq (holdO_eq c 0 f).symm); iexact H0
  iexists f; iapply (entails_of_eq (holdO_eq c 1 f).symm); iexact H1
theorem holdO_join :
    iprop((∃ f, holdO c 0 f) ∗ ∃ f, holdO c 1 f) ⊢ (iprop(∃ f : Buf (Elt F) ((c : Thread nD τ).loc cc0_scoped4), ((c : Thread nD τ).loc cc0_scoped4) ↦{fullShare} f) : sProp 𝕄) := by
  iintro ⟨⟨%f0, H0⟩, ⟨%f1, H1⟩⟩
  iapply (Ring.pointsTo_blocks_join_exists (ℓ := (c : Thread nD τ).loc cc0_scoped4) setSO setSO_apart setSO_cover f0)
  irw [Ring.bigSep_fin2]
  isplitl [H0]
  · iexists f0; iapply (entails_of_eq (holdO_eq c 0 f0)); iexact H0
  iexists f1; iapply (entails_of_eq (holdO_eq c 1 f1)); iexact H1

end Cert.Proof.Down

end
-- ==== Proof.Run.lean ====
/-
  The launch: from any memory with zero counters every execution ends, the operands as they were, the result at the
  product, every counter at zero.
-/
module

public import proofs.«01_k».proof.Proof.Loop
public import proofs.«01_k».proof.Proof.Whole
public import proofs.«01_k».proof.Proof.Gen.KernelIdeal.Launch
public import proofs.«01_k».proof.Proof.Gen.KernelIdeal.Points
public import Idealize.ShloMosaic.Lib.Pipeline.KitQuiescent

@[expose] public section

set_option maxRecDepth 16384

noncomputable section

namespace Cert.Proof.Down

open Cert.KernelIdeal Cert.KernelIdeal.Gen
open Idealize.ShloMosaic Idealize.ShloMosaic.TcCoe Idealize.ShloMosaic.Tactic
open Idealize.ShloMosaic.Ring (sl)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
abbrev EP : Emb (UR sig nD τ) (MT nD τ sig Unit (Elt F) ℕ (UU nD τ) ℕ) := embL

variable (m : (ℓ : Loc nD τ sig) → Buf (Elt F) ℓ) (ρ : Dev nD → PrngReg)

/-- The operands and the result as the launch finds them. -/
abbrev inA (c : Dev nD) : Buf (Elt F) (lhs.view.loc (c : Thread nD τ)) := m _
abbrev inB (c : Dev nD) : Buf (Elt F) (rhs.view.loc (c : Thread nD τ)) := m _
abbrev inO (c : Dev nD) : Buf (Elt F) (res.view.loc (c : Thread nD τ)) := m _

/-! ## The kernel's own semaphores -/

abbrev osem : Fin 7 → SemLoc sig :=
  ![.dma (semA 0).sem, .dma (semA 1).sem, .dma (semB 0).sem, .dma (semB 1).sem, .dma (semB 2).sem, .dma (semO 0).sem, .dma (semO 1).sem]
theorem ownSemFacts : Pipeline.OwnSemFacts cfg0.spec osem := by decide

theorem ownSems0_eq (c : Dev nD) : (Pipeline.ownSems0 (Ix := Unit) (Name := ℕ) (U := UU nD τ) (Lvl := ℕ) (Val := Elt F) (τ := τ) osem c : sProp 𝕄)
    = iprop(cellA c 0 ∗ cellA c 1 ∗ cellB c 0 ∗ cellB c 1 ∗ cellB c 2 ∗ cellO c 0 ∗ cellO c 1) := by
  unfold Pipeline.ownSems0
  rw [bigSep_univ_eq_bigSepL [(0 : Fin 7), 1, 2, 3, 4, 5, 6] (by decide) (by decide)]
  rfl

/-! ## The region's state -/

/-- The operands' blocks home, the result's tiles at `O`, every slot free. -/
def state (c : Dev nD) (O : Buf (Elt F) (res.view.loc (c : Thread nD τ))) : sProp 𝕄 :=
  iprop(bigSep Finset.univ (homeA c (inA m c)) ∗ bigSep Finset.univ (homeB c (inB m c)) ∗ bigSep Finset.univ (tileP c O)
    ∗ (freeA c 0 ∗ freeA c 1) ∗ (freeB c 0 ∗ freeB c 1 ∗ freeB c 2) ∗ (freeO c 0 ∗ freeO c 1))
/-- What the launch holds of it beside the rings. -/
def held (c : Dev nD) (O : Buf (Elt F) (res.view.loc (c : Thread nD τ))) : sProp 𝕄 :=
  iprop((((c : Thread nD τ).loc main_arg0) ↦{fullShare} inA m c) ∗ (((c : Thread nD τ).loc main_arg1) ↦{fullShare} inB m c) ∗ (((c : Thread nD τ).loc main_v0) ↦{fullShare} O))

theorem state_in (c : Dev nD) (O : Buf (Elt F) (res.view.loc (c : Thread nD τ))) :
    iprop((held m c O ∗ Pipeline.ownSems0 osem c) ∗ Pipeline.scopedRest cfg0.spec c) ⊢ state m c O := by
  rw [scopedRest0_eq, ownSems0_eq]
  unfold held state
  rw [wholeA_eq, wholeB_eq, wholeT_eq]
  iintro ⟨⟨⟨HA, HB, HT⟩, HA0, HA1, HB0, HB1, HB2, HO0, HO1⟩, RA, RB, RO⟩
  ihave SA := (holdA_split c) $$ RA
  ihave SB := (holdB_split c) $$ RB
  ihave SO := (holdO_split c) $$ RO
  icases SA with ⟨SA0, SA1⟩
  icases SB with ⟨SB0, SB1, SB2⟩
  icases SO with ⟨SO0, SO1⟩
  isplitl [HA]; · iexact HA
  isplitl [HB]; · iexact HB
  isplitl [HT]; · iexact HT
  isplitl [HA0 SA0 HA1 SA1]
  · isplitl [HA0 SA0]
    · isplitl [HA0]; · iexact HA0
      iexact SA0
    isplitl [HA1]; · iexact HA1
    iexact SA1
  isplitl [HB0 SB0 HB1 SB1 HB2 SB2]
  · isplitl [HB0 SB0]
    · isplitl [HB0]; · iexact HB0
      iexact SB0
    isplitl [HB1 SB1]
    · isplitl [HB1]; · iexact HB1
      iexact SB1
    isplitl [HB2]; · iexact HB2
    iexact SB2
  isplitl [HO0 SO0]
  · isplitl [HO0]; · iexact HO0
    iexact SO0
  isplitl [HO1]; · iexact HO1
  iexact SO1

theorem state_out (c : Dev nD) (O : Buf (Elt F) (res.view.loc (c : Thread nD τ))) :
    state m c O ⊢ iprop(held m c O ∗ Pipeline.ownSems0 osem c ∗ Pipeline.scopedRest cfg0.spec c) := by
  rw [scopedRest0_eq, ownSems0_eq]
  unfold held state
  rw [wholeA_eq, wholeB_eq, wholeT_eq]
  iintro ⟨HA, HB, HT, ⟨⟨HA0, SA0⟩, HA1, SA1⟩, ⟨⟨HB0, SB0⟩, ⟨HB1, SB1⟩, HB2, SB2⟩, ⟨HO0, SO0⟩, HO1, SO1⟩
  isplitl [HA HB HT]
  · iframe
  isplitl [HA0 HA1 HB0 HB1 HB2 HO0 HO1]
  · iframe
  isplitl [SA0 SA1]
  · iapply (holdA_join c); isplitl [SA0]; · iexact SA0
    iexact SA1
  isplitl [SB0 SB1 SB2]
  · iapply (holdB_join c); isplitl [SB0]; · iexact SB0
    isplitl [SB1]; · iexact SB1
    iexact SB2
  iapply (holdO_join c); isplitl [SO0]; · iexact SO0
  iexact SO1

def dats (_ : Fin 1) (c : Dev nD) : Dat τ (Elt F) Unit ℕ (UU nD τ) ℕ cfg0 c where
  A w := w.elim0
  after w t := w.elim0
  Φ t := state m c (if t.val = 0 then inO m c else resVal c (inA m c) (inB m c))
  q _ := fullShare
  owed _ := 0

theorem state_first (c : Dev nD) (t : Fin cfg0.N) : (dats m 0 c).Φ t.castSucc = state m c (inO m c) := by
  have h : t.val < 1 := t.isLt
  dsimp only [dats]
  rw [if_pos (show t.castSucc.val = 0 by show t.val = 0; omega)]
theorem state_next (c : Dev nD) (t : Fin cfg0.N) : (dats m 0 c).Φ t.succ = state m c (resVal c (inA m c) (inB m c)) := by
  dsimp only [dats]
  rw [if_neg (show t.succ.val ≠ 0 by show t.val + 1 ≠ 0; omega)]

/-! ## The body -/

theorem defs_tc : (defs₀ (F := F)) .tc cfg0.body = fun a => bodyG := rfl
theorem prog_eq (t : Fin cfg0.N) : (defs₀ (F := F)) .tc cfg0.body (cfg0.bodyArgs t (cfg0.slots t)) = bodyG :=
  (congrFun defs_tc _).trans rfl

theorem no_windows (Φ : Fin cfg0.W → sProp 𝕄) : bigSep Finset.univ Φ = BI.emp := by
  rw [show (Finset.univ : Finset (Fin cfg0.W)) = ∅ from rfl, bigSep_empty]

set_option backward.isDefEq.respectTransparency.types false in
theorem body_obligation (c : Dev nD) : BodyObligation (dats (F := F) m 0 c) (defs₀ (F := F)) 𝒱₀ () Set.univ := fun t => by
  rw [no_windows, no_windows, state_first, state_next]
  unfold Dat.owesAt Pipeline.owesWithin
  rw [show (dats m 0 c).owed t.castSucc = 0 from rfl, show (dats m 0 c).owed t.succ = 0 from rfl]
  sl_rw [prog_eq t]
  unfold state
  iintro ⟨⟨HA, HB, HT, HfA, HfB, HfO⟩, ⟨%W, -, HW⟩, HN⟩
  iapply (bodyRun c (inA m c) (inB m c) (inO m c) _)
  isplitl [HA HB HT HfA HfB HfO HW]
  · iapply (PRE_apart c (inA m c) (inB m c) (inO m c))
    isplitl [HA]; · iexact HA
    isplitl [HB]; · iexact HB
    isplitl [HT]; · iexact HT
    isplitl [HfA]; · iexact HfA
    isplitl [HfB]; · iexact HfB
    isplitl [HfO]; · iexact HfO
    iexists W; iexact HW
  iintro ⟨HA, HB, HT, HfA, HfB, HfO, ⟨%W', HW⟩⟩
  isplitl [HA HB HT HfA HfB HfO]
  · isplitl [HA]; · iexact HA
    isplitl [HB]; · iexact HB
    isplitl [HT]; · iexact HT
    isplitl [HfA]; · iexact HfA
    isplitl [HfB]; · iexact HfB
    iexact HfO
  isplitl [HW]
  · iexists W'; isplitr; · ipureintro; exact fun _ _ => Or.inl trivial
    iexact HW
  iexact HN

/-! ## The run -/

def u₀ : UU nD τ := (initOf (Pipeline.cells cfgs cellOf_inj) (Pipeline.launchToks cfgs cellOf_inj), 1)

/-- What a final memory holds on core `c`. -/
def QY (c : Dev nD) (s : MemSt nD τ sig (Elt F)) : Prop :=
  s.mem ((c : Thread nD τ).loc main_v0) = resVal c (inA m c) (inB m c)
    ∧ s.mem ((c : Thread nD τ).loc main_arg0) = m ((c : Thread nD τ).loc main_arg0) ∧ s.mem ((c : Thread nD τ).loc main_arg1) = m ((c : Thread nD τ).loc main_arg1)

set_option backward.isDefEq.respectTransparency.types false in
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun c w => w.elim0)
    (X := fun c => iprop(held m c (inO m c) ∗ Pipeline.ownSems0 osem c)) (Y := fun c => held m c (resVal c (inA m c) (inB m c))) (Z := fun _ => iprop(emp))
    (hX := fun c => by
      rw [unscopedRest0_eq]
      unfold held
      iintro ⟨H0, HS, -, -, -⟩; imodintro
      isplitl [H0 HS]
      · isplitl [H0]; · iexact H0
        iexact HS
      iempintro)
    (hin := fun c => state_in m c (inO m c))
    (hout := fun c => state_out m c (resVal c (inA m c) (inB m c)))
    (QY := QY m)
    (hY := fun c s' => by
      unfold held
      iintro ⟨⟨H0, H1, H2⟩, -, HSI⟩
      icombine HSI H0 gives %h0
      icombine HSI H1 gives %h1
      icombine HSI H2 gives %h2
      imodintro
      isplitr; · ipureintro; exact ⟨Buf.eq_of_forall_mem_univ h2, Buf.eq_of_forall_mem_univ h0, Buf.eq_of_forall_mem_univ h1⟩
      iexact HSI)
    (hQ := fun _ hh hz => ⟨fun c => (hh c).2, hz⟩)

end Cert.Proof.Down

end
-- ==== Proof.Product.lean ====
/-
  At the reals the kernel's result is the reference's product: each position's sum over the shared axis is its
  tile's sum of the blocks' entries.
-/
module

public import proofs.«01_k».proof.Proof.Value
public import proofs.«01_k».proof.Proof.Gen.ReferenceIdeal
public import Idealize.ShloMosaic.Lib.Pointwise

@[expose] public section

set_option maxRecDepth 16384

noncomputable section

namespace Cert.Proof.Down

open Cert.KernelIdeal Cert.KernelIdeal.Gen
open Idealize.ShloMosaic Idealize.ShloMosaic.TcCoe
open Idealize.ShloMosaic.Ring (sl)

variable (c : Dev nD) (XA : FVec Ideal S8192x11008 .bf16) (XB : FVec Ideal S11008x4096 .bf16)

theorem read_blkA (i : Fin 16) (r : Fin 512) (k : Fin 11008) :
    (blkA i).view.read (Elt Ideal) XA (ix2 r k) = XA (ix2 (⟨512 * i.val + r.val, by have := i.isLt; have := r.isLt; omega⟩ : Fin 8192) k) := by
  refine congrArg XA ?_
  refine (eq_ix2 _).trans (congrArg₂ ix2 (Fin.ext ?_) (Fin.ext ?_))
  · show 512 * i.val + 1 * r.val = _; rw [one_mul]
  · show 0 + 1 * k.val = _; rw [one_mul, zero_add]

theorem read_blkB (j : Fin 8) (k : Fin 11008) (q : Fin 512) :
    (blkB j).view.read (Elt Ideal) XB (ix2 k q) = XB (ix2 k (⟨512 * j.val + q.val, by have := j.isLt; have := q.isLt; omega⟩ : Fin 4096)) := by
  refine congrArg XB ?_
  refine (eq_ix2 _).trans (congrArg₂ ix2 (Fin.ext ?_) (Fin.ext ?_))
  · show 0 + 1 * k.val = _; rw [one_mul, zero_add]
  · show 512 * j.val + 1 * q.val = _; rw [one_mul]

theorem tileVal_apply (b : Fin 128) (x : S512x512.Idx) :
    tileVal (F := Ideal) c XA XB b x = ∑ k : Fin 11008, (blkA (sl 16 (b.val / 8))).view.read (Elt Ideal) XA (ix2 (x 0) k) * (blkB (sl 8 b.val)).view.read (Elt Ideal) XB (ix2 k (x 1)) := by
  unfold tileVal
  generalize (blkA (sl 16 (b.val / 8))).view.read (Elt Ideal) XA = A
  generalize (blkB (sl 8 b.val)).view.read (Elt Ideal) XB = B
  simp only [pointwise]
  exact zero_add _

theorem product_apply (y : S8192x4096.Idx) :
    (truncf .bf16 (Host.dotGeneral Cert.ReferenceIdeal.dot_S8192x11008_S11008x4096_S8192x4096_1_0_0_1_n_n none XA XB : FVec Ideal S8192x4096 .f32)
      Cert.ReferenceIdeal.Gen.bitsLt_bf16_f32 : FVec Ideal S8192x4096 .bf16) y = ∑ k : Fin 11008, XA (ix2 (y 0) k) * XB (ix2 k (y 1)) := by
  simp only [pointwise]
  exact zero_add _

theorem resVal_eq :
    resVal (F := Ideal) c XA XB = (truncf .bf16 (Host.dotGeneral Cert.ReferenceIdeal.dot_S8192x11008_S11008x4096_S8192x4096_1_0_0_1_n_n none XA XB : FVec Ideal S8192x4096 .f32)
      Cert.ReferenceIdeal.Gen.bitsLt_bf16_f32 : FVec Ideal S8192x4096 .bf16) := by
  funext y
  have h0 : (y 0).val < 8192 := (y 0).isLt
  have h1 : (y 1).val < 4096 := (y 1).isLt
  refine Eq.trans ?_ (product_apply XA XB y).symm
  refine (tileVal_apply c XA XB _ _).trans ?_
  refine Finset.sum_congr rfl fun k _ => ?_
  refine (congrArg₂ (· * ·) (read_blkA XA _ _ k) (read_blkB XB _ k _)).trans ?_
  refine congrArg₂ (fun a b => XA a * XB b) (congrArg (ix2 · k) (Fin.ext ?_)) (congrArg (ix2 k ·) (Fin.ext ?_))
  · show 512 * (((((y 0).val / 512 * 8 + (y 1).val / 512) % 128) / 8) % 16) + (y 0).val % 512 = (y 0).val; omega
  · show 512 * ((((y 0).val / 512 * 8 + (y 1).val / 512) % 128) % 8) + (y 1).val % 512 = (y 1).val; omega

end Cert.Proof.Down

end
-- ==== Proof.GateUp.lean ====
/-
  The gate and up projections: every grid point writes its tile of silu(u·g) · (u·w), and the slab of the third
  weight it carries along.
-/
module

public import proofs.«01_k».proof.Proof.Gen.GateUp
public import proofs.«01_k».proof.Proof.Gen.GateUpIdeal.Value
public import proofs.«01_k».proof.Proof.Gen.GateUpReferenceIdeal.Run
public import Idealize.ShloMosaic.Lib.Pointwise
public import Idealize.ShloMosaic.Lib.Pipeline.Value

@[expose] public section

set_option maxRecDepth 16384

noncomputable section

namespace Cert.Proof.Gate

open Cert.GateUpIdeal Cert.GateUpIdeal.Gen
open Idealize.ShloMosaic Idealize.ShloMosaic.TcCoe Idealize.SL.Sem

variable (m : (ℓ : Loc nD τ sig) → Buf (Elt Ideal) ℓ) (c : Dev nD)

abbrev inU : FVec Ideal S8192x4096 .bf16 := m ((c : Thread nD τ).loc main_arg0)
abbrev inG : FVec Ideal S4x4096x11008 .f32 := m ((c : Thread nD τ).loc main_arg1)
abbrev inW : FVec Ideal S4x4096x11008 .f32 := m ((c : Thread nD τ).loc main_arg2)
abbrev inD : FVec Ideal S4x11008x4096 .f32 := m ((c : Thread nD τ).loc main_arg3)

/-- What the two dot products of one position give. -/
def silu (g h : EReal) : EReal := g * Ideal.logistic g * h

/-- The hidden activations over layer 0's weights. -/
def hid (U : FVec Ideal S8192x4096 .bf16) (G W : FVec Ideal S4x4096x11008 .f32) : FVec Ideal S8192x11008 .bf16 := fun y =>
  silu (∑ k : Fin 4096, U (ix2 (y 0) k) * G (ix3 0 k (y 1))) (∑ k : Fin 4096, U (ix2 (y 0) k) * W (ix3 0 k (y 1)))

/-- Layer 0 of the third weight. -/
def cast (D : FVec Ideal S4x11008x4096 .f32) : FVec Ideal S11008x4096 .bf16 := fun y => D (ix3 0 (y 0) (y 1))

theorem places : ∀ t : Fin grid0.N,
    (win0_0.index t 0 = t.val / 43 ∧ win0_0.index t 1 = 0)
    ∧ (win0_1.index t 0 = 0 ∧ win0_1.index t 1 = 0 ∧ win0_1.index t 2 = t.val % 43)
    ∧ (win0_2.index t 0 = 0 ∧ win0_2.index t 1 = 0 ∧ win0_2.index t 2 = t.val % 43)
    ∧ (win0_3.index t 0 = 0 ∧ win0_3.index t 1 = t.val ∧ win0_3.index t 2 = 0)
    ∧ (win0_4.index t 0 = t.val / 43 ∧ win0_4.index t 1 = t.val % 43)
    ∧ (win0_5.index t 0 = t.val ∧ win0_5.index t 1 = 0) := by decide +kernel

theorem lt172 (t : Fin cfg0.N) : t.val < 172 := t.isLt.trans_eq N_0

def row (t : Fin cfg0.N) (r : Fin 2048) : Fin 8192 := ⟨t.val / 43 * 2048 + r.val, by have := lt172 t; have := r.isLt; omega⟩
def col (t : Fin cfg0.N) (q : Fin 256) : Fin 11008 := ⟨t.val % 43 * 256 + q.val, by have := q.isLt; omega⟩
def slab (t : Fin cfg0.N) (r : Fin 64) : Fin 11008 := ⟨t.val * 64 + r.val, by have := lt172 t; have := r.isLt; omega⟩

theorem idx_ext₃ {n : Fin 3 → ℕ} {x y : (a : Fin 3) → Fin (n a)} (h0 : (x 0 : ℕ) = y 0) (h1 : (x 1 : ℕ) = y 1) (h2 : (x 2 : ℕ) = y 2) : x = y :=
  funext fun a => Fin.ext (match a with | 0 => h0 | 1 => h1 | 2 => h2)

theorem read0 (t : Fin cfg0.N) (r : Fin 2048) (k : Fin 4096) : iblk m c 0 t (ix2 r k) = inU m c (ix2 (row t r) k) := by
  refine congrArg (inU m c) (Shape.idx_ext₂ ?_ ?_)
  · refine (win0_0.rect_emb_val t (ix2 r k) 0).trans ?_
    rw [(places t).1.1]; rfl
  · exact win0_0.rect_emb_val_of_index_zero t 1 (places t).1.2 (ix2 r k)

theorem read1 (t : Fin cfg0.N) (k : Fin 4096) (q : Fin 256) : iblk m c 1 t (ix3 0 k q) = inG m c (ix3 0 k (col t q)) := by
  refine congrArg (inG m c) (idx_ext₃ ?_ ?_ ?_)
  · exact win0_1.rect_emb_val_of_index_zero t 0 (places t).2.1.1 (ix3 0 k q)
  · exact win0_1.rect_emb_val_of_index_zero t 1 (places t).2.1.2.1 (ix3 0 k q)
  · refine (win0_1.rect_emb_val t (ix3 0 k q) 2).trans ?_
    rw [(places t).2.1.2.2]; rfl

theorem read2 (t : Fin cfg0.N) (k : Fin 4096) (q : Fin 256) : iblk m c 2 t (ix3 0 k q) = inW m c (ix3 0 k (col t q)) := by
  refine congrArg (inW m c) (idx_ext₃ ?_ ?_ ?_)
  · exact win0_2.rect_emb_val_of_index_zero t 0 (places t).2.2.1.1 (ix3 0 k q)
  · exact win0_2.rect_emb_val_of_index_zero t 1 (places t).2.2.1.2.1 (ix3 0 k q)
  · refine (win0_2.rect_emb_val t (ix3 0 k q) 2).trans ?_
    rw [(places t).2.2.1.2.2]; rfl

theorem read3 (t : Fin cfg0.N) (r : Fin 64) (q : Fin 4096) : iblk m c 3 t (ix3 0 r q) = inD m c (ix3 0 (slab t r) q) := by
  refine congrArg (inD m c) (idx_ext₃ ?_ ?_ ?_)
  · exact win0_3.rect_emb_val_of_index_zero t 0 (places t).2.2.2.1.1 (ix3 0 r q)
  · refine (win0_3.rect_emb_val t (ix3 0 r q) 1).trans ?_
    rw [(places t).2.2.2.1.2.1]; rfl
  · exact win0_3.rect_emb_val_of_index_zero t 2 (places t).2.2.2.1.2.2 (ix3 0 r q)

/-- The weight's block as the matrix the product takes. -/
theorem flat_apply (v : Vec Ideal S1x4096x256 .f32) (x : S4096x256.Idx) : k0_pay2 v x = v (ix3 0 (x 0) (x 1)) := by
  refine shapeCast_apply _ _ x (ix3 0 (x 0) (x 1)) ?_
  rw [Shape.rowMajor_val_three, Shape.rowMajor_val_two]
  show (0 * 4096 + (x 0).val) * 256 + (x 1).val = (x 0).val * 256 + (x 1).val; omega

theorem pay_apply (g w : Vec Ideal S1x4096x256 .f32) (u : Vec Ideal S1024x4096 .bf16) (y : S1024x256.Idx) :
    k0_pay4 g w u y = silu (∑ k : Fin 4096, u (ix2 (y 0) k) * g (ix3 0 k (y 1))) (∑ k : Fin 4096, u (ix2 (y 0) k) * w (ix3 0 k (y 1))) := by
  have e (v : Vec Ideal S1x4096x256 .f32) : (matmul (φ₁ := .bf16) (φ₂ := .bf16) dot_S1024x4096_S4096x256_S1024x256_1_0_0_1_n_n none u (k0_pay2 v : FVec Ideal S4096x256 .bf16) (constant S1024x256 .f32 0x00000000#32) : FVec Ideal S1024x256 .f32) y
      = ∑ k : Fin 4096, u (ix2 (y 0) k) * v (ix3 0 k (y 1)) := by
    generalize hX : k0_pay2 v = X
    simp only [pointwise]
    refine (zero_add _).trans (Finset.sum_congr rfl fun k _ => ?_)
    subst hX
    exact congrArg₂ (· * ·) rfl (flat_apply v _)
  exact congrArg₂ silu (e g) (e w)

theorem pay5_eq (g w : Vec Ideal S1x4096x256 .f32) (u : Vec Ideal S1024x4096 .bf16) : k0_pay5 g w u = k0_pay4 g w u := rfl

theorem hz3 : (![0, 0, 0] : Fin 3 → Nat) = fun _ => 0 := funext fun a => by fin_cases a <;> rfl

/-- Element `y` of point `t`'s tile in the hidden activations, and of its slab in the weight. -/
theorem emb4 (t : Fin cfg0.N) (y : S2048x256.Idx) : ((cfg0.win 4).blk t).view.emb y = (ix2 (row t (y 0)) (col t (y 1)) : S8192x11008.Idx) := by
  refine Shape.idx_ext₂ ?_ ?_
  · refine (win0_4.rect_emb_val t y 0).trans ?_
    rw [(places t).2.2.2.2.1.1]; rfl
  · refine (win0_4.rect_emb_val t y 1).trans ?_
    rw [(places t).2.2.2.2.1.2]; rfl

theorem emb5 (t : Fin cfg0.N) (y : S64x4096.Idx) : ((cfg0.win 5).blk t).view.emb y = (ix2 (slab t (y 0)) (y 1) : S11008x4096.Idx) := by
  refine Shape.idx_ext₂ ?_ ?_
  · refine (win0_5.rect_emb_val t y 0).trans ?_
    rw [(places t).2.2.2.2.2.1]; rfl
  · exact win0_5.rect_emb_val_of_index_zero t 1 (places t).2.2.2.2.2.2 y

/-- The tile over its operands' blocks. -/
def tile (u : Vec Ideal S2048x4096 .bf16) (g w : Vec Ideal S1x4096x256 .f32) : Vec Ideal S2048x256 .bf16 := fun y =>
  silu (∑ k : Fin 4096, u (ix2 (y 0) k) * g (ix3 0 k (y 1))) (∑ k : Fin 4096, u (ix2 (y 0) k) * w (ix3 0 k (y 1)))

theorem out_eq (u : Vec Ideal S2048x4096 .bf16) (g w : Vec Ideal S1x4096x256 .f32) (d : Vec Ideal S1x64x4096 .f32) (y : S2048x256.Idx) :
    out0_4 u g w d y = tile u g w y := by
  unfold out0_4
  rw [View.ld_unit_zero hz3, View.ld_unit_zero hz3]
  refine View.canon_apply_of_pieces (tile u g w) _ ?_ y (cover0_4 _ _ y)
  have idx (o : Nat) (inb : ∀ a, (![o, 0] : Fin 2 → Nat) a + S1024x4096.size a ≤ S2048x4096.size a)
      (inb' : ∀ a, (![o, 0] : Fin 2 → Nat) a + S1024x256.size a ≤ S2048x256.size a) (x : S1024x256.Idx) (k : Fin 4096) :
      (Rect.unit (s := S2048x4096) ![o, 0] S1024x4096.size inb).idx (ix2 (x 0) k)
        = ix2 ((Rect.unit (s := S2048x256) ![o, 0] S1024x256.size inb').idx x 0) k :=
    Shape.idx_ext₂ rfl (by show 0 + 1 * k.val = k.val; omega)
  have one (o : Nat) (inb : ∀ a, (![o, 0] : Fin 2 → Nat) a + S1024x256.size a ≤ S2048x256.size a) (x : S1024x256.Idx) :
      (Rect.unit (s := S2048x256) ![o, 0] S1024x256.size inb).idx x 1 = x 1 := Fin.ext (by show 0 + 1 * (x 1).val = _; omega)
  intro pc hpc
  rcases List.mem_cons.mp hpc with rfl | hpc
  · intro x
    refine (pay_apply g w _ x).trans ?_
    refine congrArg₂ silu (Finset.sum_congr rfl fun k _ => ?_) (Finset.sum_congr rfl fun k _ => ?_)
    · exact congrArg₂ (· * ·) (congrArg u (idx 1024 inb_S2048x4096_S1024x4096_1024_0 inb_S2048x256_S1024x256_1024_0 x k)) (congrArg g (congrArg (ix3 0 k) (one 1024 inb_S2048x256_S1024x256_1024_0 x).symm))
    · exact congrArg₂ (· * ·) (congrArg u (idx 1024 inb_S2048x4096_S1024x4096_1024_0 inb_S2048x256_S1024x256_1024_0 x k)) (congrArg w (congrArg (ix3 0 k) (one 1024 inb_S2048x256_S1024x256_1024_0 x).symm))
  rcases List.mem_cons.mp hpc with rfl | hpc
  · intro x
    refine (pay_apply g w _ x).trans ?_
    refine congrArg₂ silu (Finset.sum_congr rfl fun k _ => ?_) (Finset.sum_congr rfl fun k _ => ?_)
    · exact congrArg₂ (· * ·) (congrArg u (idx 0 inb_S2048x4096_S1024x4096_0_0 inb_S2048x256_S1024x256_0_0 x k)) (congrArg g (congrArg (ix3 0 k) (one 0 inb_S2048x256_S1024x256_0_0 x).symm))
    · exact congrArg₂ (· * ·) (congrArg u (idx 0 inb_S2048x4096_S1024x4096_0_0 inb_S2048x256_S1024x256_0_0 x k)) (congrArg w (congrArg (ix3 0 k) (one 0 inb_S2048x256_S1024x256_0_0 x).symm))
  nomatch hpc

theorem flushed4_eq (t : Fin cfg0.N) :
    (dats m 0 c).flushed 4 t = ((cfg0.win 4).blk t).view.read (Elt Ideal) (hid (inU m c) (inG m c) (inW m c)) := by
  refine (Value.flushed4 m c t).trans (funext fun (y : S2048x256.Idx) => ?_)
  refine Eq.trans ?_ (congrArg (hid (inU m c) (inG m c) (inW m c)) (emb4 t y)).symm
  refine (out_eq _ _ _ _ y).trans ?_
  refine congrArg₂ silu (Finset.sum_congr rfl fun k _ => ?_) (Finset.sum_congr rfl fun k _ => ?_)
  · exact congrArg₂ (· * ·) (read0 m c t (y 0) k) (read1 m c t k (y 1))
  · exact congrArg₂ (· * ·) (read0 m c t (y 0) k) (read2 m c t k (y 1))

theorem flushed5_eq (t : Fin cfg0.N) :
    (dats m 0 c).flushed 5 t = ((cfg0.win 5).blk t).view.read (Elt Ideal) (cast (inD m c)) := by
  refine (Value.flushed5 m c t).trans (funext fun (y : S64x4096.Idx) => ?_)
  refine Eq.trans ?_ (congrArg (cast (inD m c)) (emb5 t y)).symm
  show out0_5 (iblk m c 0 t) (iblk m c 1 t) (iblk m c 2 t) (iblk m c 3 t) y = _
  unfold out0_5
  rw [View.ld_unit_zero hz3]
  refine (Value.canon5_eq _ y).trans ?_
  exact (congrArg (iblk m c 3 t) (idx_ext₃ rfl rfl rfl : Value.ix5_0 y = ix3 0 (y 0) (y 1))).trans (read3 m c t (y 0) (y 1))

theorem cover4 (i : S8192x11008.Idx) : ∃ t : Fin cfg0.N, (cfg0.win 4).flush t = true ∧ i ∈ ((cfg0.win 4).blk t).view.set := by
  have h0 : (i 0).val < 8192 := (i 0).isLt
  have h1 : (i 1).val < 11008 := (i 1).isLt
  have hN : cfg0.N = 172 := N_0
  let t : Fin cfg0.N := ⟨(i 0).val / 2048 * 43 + (i 1).val / 256, by omega⟩
  let y : S2048x256.Idx := ix2 ⟨(i 0).val % 2048, by omega⟩ ⟨(i 1).val % 256, by omega⟩
  have e : ((cfg0.win 4).blk t).view.emb y = i := (emb4 t y).trans (Shape.idx_ext₂
    (by show ((i 0).val / 2048 * 43 + (i 1).val / 256) / 43 * 2048 + (i 0).val % 2048 = (i 0).val; omega)
    (by show ((i 0).val / 2048 * 43 + (i 1).val / 256) % 43 * 256 + (i 1).val % 256 = (i 1).val; omega))
  exact ⟨t, flush0_4 t, e ▸ ((cfg0.win 4).blk t).view.emb_mem_set y⟩

theorem cover5 (i : S11008x4096.Idx) : ∃ t : Fin cfg0.N, (cfg0.win 5).flush t = true ∧ i ∈ ((cfg0.win 5).blk t).view.set := by
  have h0 : (i 0).val < 11008 := (i 0).isLt
  have hN : cfg0.N = 172 := N_0
  let t : Fin cfg0.N := ⟨(i 0).val / 64, by omega⟩
  let y : S64x4096.Idx := ix2 ⟨(i 0).val % 64, by omega⟩ (i 1)
  have e : ((cfg0.win 5).blk t).view.emb y = i := (emb5 t y).trans (Shape.idx_ext₂
    (by show (i 0).val / 64 * 64 + (i 0).val % 64 = (i 0).val; omega) rfl)
  exact ⟨t, flush0_5 t, e ▸ ((cfg0.win 5).blk t).view.emb_mem_set y⟩

theorem final4 : (dats m 0 c).arrAt 4 cfg0.N = hid (inU m c) (inG m c) (inW m c) :=
  (dats m 0 c).arrAt_eq_of_cover 4 _ (fun t _ => flushed4_eq m c t) cover4

theorem final5 : (dats m 0 c).arrAt 5 cfg0.N = cast (inD m c) :=
  (dats m 0 c).arrAt_eq_of_cover 5 _ (fun t _ => flushed5_eq m c t) cover5

/-! ## The reference's terms -/

section Reference

open Cert.GateUpReferenceIdeal.Gen

/-- Layer 0 of a weight, as the reference slices it. -/
theorem layer_apply (G : FVec Ideal S4x4096x11008 .f32) (x : Cert.GateUpReferenceIdeal.S4096x11008.Idx) :
    shapeCast Cert.GateUpReferenceIdeal.S4096x11008 (extractStridedSlice Cert.GateUpReferenceIdeal.S1x4096x11008 ![0, 0, 0] G slices_S4x4096x11008_S1x4096x11008_0_0_0)
      shapeCasts_S1x4096x11008_S4096x11008 x = G (ix3 0 (x 0) (x 1)) := by
  refine (shapeCast_apply _ _ x (ix3 0 (x 0) (x 1)) ?_).trans ?_
  · rw [Shape.rowMajor_val_three, Shape.rowMajor_val_two]
    show (0 * 4096 + (x 0).val) * 11008 + (x 1).val = (x 0).val * 11008 + (x 1).val; omega
  · exact congrArg G (idx_ext₃ rfl (Nat.zero_add _) (Nat.zero_add _))

theorem dot_apply (U : FVec Ideal S8192x4096 .bf16) (X : FVec Ideal Cert.GateUpReferenceIdeal.S4096x11008 .f32) (y : S8192x11008.Idx) :
    (Host.dotGeneral Cert.GateUpReferenceIdeal.dot_S8192x4096_S4096x11008_S8192x11008_1_0_0_1_n_n none
      (extf .f32 U Cert.GateUpReferenceIdeal.Gen.bitsLt_bf16_f32) X : FVec Ideal S8192x11008 .f32) y = ∑ k : Fin 4096, U (ix2 (y 0) k) * X (ix2 k (y 1)) := by
  simp only [pointwise]
  exact zero_add _

/-- The reference's logistic and products at one position. -/
theorem silu_apply (X Y : FVec Ideal S8192x11008 .f32) (y : S8192x11008.Idx) :
    (truncf .bf16 (mulf (mulf X (Host.divf (broadcastInDim Cert.GateUpReferenceIdeal.S8192x11008 ![] bcast_S_S8192x11008 (constant Cert.GateUpReferenceIdeal.S_ .f32 0x3F800000#32))
      (addf (broadcastInDim Cert.GateUpReferenceIdeal.S8192x11008 ![] bcast_S_S8192x11008 (constant Cert.GateUpReferenceIdeal.S_ .f32 0x3F800000#32))
        (Host.exp (Host.negf X))))) Y) Cert.GateUpReferenceIdeal.Gen.bitsLt_bf16_f32 : FVec Ideal S8192x11008 .bf16) y = silu (X y) (Y y) := by
  simp only [pointwise]
  unfold silu Ideal.logistic
  simp

theorem hid_eq (U : FVec Ideal S8192x4096 .bf16) (G W : FVec Ideal S4x4096x11008 .f32) (y : S8192x11008.Idx)
    (X Y : FVec Ideal S8192x11008 .f32)
    (hX : X = Host.dotGeneral Cert.GateUpReferenceIdeal.dot_S8192x4096_S4096x11008_S8192x11008_1_0_0_1_n_n none (extf .f32 U Cert.GateUpReferenceIdeal.Gen.bitsLt_bf16_f32)
      (shapeCast Cert.GateUpReferenceIdeal.S4096x11008 (extractStridedSlice Cert.GateUpReferenceIdeal.S1x4096x11008 ![0, 0, 0] G slices_S4x4096x11008_S1x4096x11008_0_0_0) shapeCasts_S1x4096x11008_S4096x11008))
    (hY : Y = Host.dotGeneral Cert.GateUpReferenceIdeal.dot_S8192x4096_S4096x11008_S8192x11008_1_0_0_1_n_n none (extf .f32 U Cert.GateUpReferenceIdeal.Gen.bitsLt_bf16_f32)
      (shapeCast Cert.GateUpReferenceIdeal.S4096x11008 (extractStridedSlice Cert.GateUpReferenceIdeal.S1x4096x11008 ![0, 0, 0] W slices_S4x4096x11008_S1x4096x11008_0_0_0) shapeCasts_S1x4096x11008_S4096x11008)) :
    silu (X y) (Y y) = hid U G W y := by
  subst hX hY
  refine congrArg₂ silu ((dot_apply U _ y).trans ?_) ((dot_apply U _ y).trans ?_) <;>
    exact Finset.sum_congr rfl fun k _ => congrArg₂ (· * ·) rfl (layer_apply _ _)

theorem slab_apply (D : FVec Ideal S4x11008x4096 .f32) (x : Cert.GateUpReferenceIdeal.S11008x4096.Idx) :
    shapeCast Cert.GateUpReferenceIdeal.S11008x4096 (extractStridedSlice Cert.GateUpReferenceIdeal.S1x11008x4096 ![0, 0, 0] D slices_S4x11008x4096_S1x11008x4096_0_0_0)
      shapeCasts_S1x11008x4096_S11008x4096 x = D (ix3 0 (x 0) (x 1)) := by
  refine (shapeCast_apply _ _ x (ix3 0 (x 0) (x 1)) ?_).trans ?_
  · rw [Shape.rowMajor_val_three, Shape.rowMajor_val_two]
    show (0 * 11008 + (x 0).val) * 4096 + (x 1).val = (x 0).val * 4096 + (x 1).val; omega
  · exact congrArg D (idx_ext₃ rfl (Nat.zero_add _) (Nat.zero_add _))

theorem cast_eq (D : FVec Ideal S4x11008x4096 .f32) :
    (truncf .bf16 (shapeCast Cert.GateUpReferenceIdeal.S11008x4096 (extractStridedSlice Cert.GateUpReferenceIdeal.S1x11008x4096 ![0, 0, 0] D slices_S4x11008x4096_S1x11008x4096_0_0_0)
      shapeCasts_S1x11008x4096_S11008x4096 : FVec Ideal S11008x4096 .f32) Cert.GateUpReferenceIdeal.Gen.bitsLt_bf16_f32 : FVec Ideal S11008x4096 .bf16) = cast D :=
  funext fun x => slab_apply D x

end Reference

/-! ## The words' program runs the same text -/

theorem bodies_eq : Cert.GateUp.defs₀ (F := Bits) = Cert.GateUpIdeal.defs₀ := by
  unfold Cert.GateUp.defs₀ Cert.GateUpIdeal.defs₀
  refine congrArg Defs.onTc (funext fun l => funext fun x => ?_)
  match l, x with
  | 0, (t, s) => rfl

theorem defs_eq : Cert.GateUp.defs (F := Bits) = Cert.GateUpIdeal.defs :=
  congrArg (Idealize.ShloMosaic.Pipeline.defs Cert.GateUp.pcfgs) bodies_eq

end Cert.Proof.Gate

end
-- ==== Proof.InProj.lean ====
/-
  The input projection: every grid point writes its tile of the product with the transposed weight; the first point
  of a row of tiles also leaves the gate columns' tile, which stays in its buffer until the row's last point.
-/
module

public import proofs.«01_k».proof.Proof.Gen.InProj
public import proofs.«01_k».proof.Proof.Gen.InProjIdeal.Frame
public import proofs.«01_k».proof.Proof.Gen.InProjIdeal.Skeleton
public import Idealize.ShloMosaic.Lib.Claim

@[expose] public section

set_option maxRecDepth 16384

noncomputable section

namespace Cert.Proof.In

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rA : Rect S1024x4096 := Rect.unit (s := S1024x4096) ![0, 0] S1024x4096.size inb_S1024x4096_S1024x4096_0_0
abbrev rW : Rect S1x768x4096 := Rect.unit (s := S1x768x4096) ![0, 0, 0] S1x768x4096.size inb_S1x768x4096_S1x768x4096_0_0_0
abbrev rG : Rect S1x16x4096 := Rect.unit (s := S1x16x4096) ![0, 0, 0] S1x16x4096.size inb_S1x16x4096_S1x16x4096_0_0_0
abbrev rO : Rect S1024x768 := Rect.unit (s := S1024x768) ![0, 0] S1024x768.size inb_S1024x768_S1024x768_0_0
abbrev rF : Rect S1024x128 := Rect.unit (s := S1024x128) ![0, 0] S1024x128.size inb_S1024x128_S1024x128_0_0

/-- The tile of the product, and the gate columns' tile. -/
def tileO (a : Vec F S1024x4096 .bf16) (w : Vec F S1x768x4096 .f32) : Vec F S1024x768 .bf16 :=
  View.canon [⟨rO, k0_pay1 (View.ld a rA) (View.ld w rW)⟩]
def tileF (a : Vec F S1024x4096 .bf16) (g : Vec F S1x16x4096 .f32) : Vec F S1024x128 .f32 :=
  View.canon [⟨rF, k0_pay2 (View.ld a rA) (View.ld g rG)⟩]

theorem coverO (p : Vec F S1024x768 .bf16) (y : S1024x768.Idx) : ∃ pc ∈ ([⟨rO, p⟩] : List (View.Piece (Elt F) S1024x768 .bf16)), y ∈ pc.1.set :=
  View.cover_of_tiled [⟨rO, p⟩] S1024x768.size (by rfl) y
theorem coverF (p : Vec F S1024x128 .f32) (y : S1024x128.Idx) : ∃ pc ∈ ([⟨rF, p⟩] : List (View.Piece (Elt F) S1024x128 .f32)), y ∈ pc.1.set :=
  View.cover_of_tiled [⟨rF, p⟩] S1024x128.size (by rfl) y

set_option maxHeartbeats 1000000 in
/-- The body at the first point of a row of tiles. -/
theorem first_runs (c : Dev nD) (E : Set ℕ) (i : grid0.Coords) (hc : k0_cond1 i = 1#1)
    (arg2 : Memref sig .tc .vmem S1024x4096 .bf16) (harg2 : arg2.IsWhole) (arg3 : Memref sig .tc .vmem S1x768x4096 .f32) (harg3 : arg3.IsWhole)
    (arg4 : Memref sig .tc .vmem S1x16x4096 .f32) (harg4 : arg4.IsWhole) (arg5 : Memref sig .tc .vmem S1024x768 .bf16) (harg5 : arg5.IsWhole)
    (arg6 : Memref sig .tc .vmem S1024x128 .f32) (harg6 : arg6.IsWhole)
    (a : Vec F S1024x4096 .bf16) (w : Vec F S1x768x4096 .f32) (g : Vec F S1x16x4096 .f32) (K : PUnit → sProp 𝕄) :
    iprop(owns (c : Thread nD τ) arg2 fullShare a ∗ owns (c : Thread nD τ) arg3 fullShare w ∗ owns (c : Thread nD τ) arg4 fullShare g
        ∗ (∃ d, owns (c : Thread nD τ) arg5 fullShare d) ∗ (∃ d, owns (c : Thread nD τ) arg6 fullShare d)
        ∗ (iprop(owns (c : Thread nD τ) arg2 fullShare a ∗ owns (c : Thread nD τ) arg3 fullShare w ∗ owns (c : Thread nD τ) arg4 fullShare g
            ∗ owns (c : Thread nD τ) arg5 fullShare (tileO a w) ∗ owns (c : Thread nD τ) arg6 fullShare (tileF a g)) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  iexists _; isplitr
  swap; · iexact H4
  ipureintro
  exact View.read_writes_eq_canon _ _ _ (coverF _)

set_option maxHeartbeats 1000000 in
/-- The body at a later point of the row. -/
theorem later_runs (c : Dev nD) (E : Set ℕ) (i : grid0.Coords) (hc : ¬ k0_cond1 i = 1#1)
    (arg2 : Memref sig .tc .vmem S1024x4096 .bf16) (harg2 : arg2.IsWhole) (arg3 : Memref sig .tc .vmem S1x768x4096 .f32) (harg3 : arg3.IsWhole)
    (arg4 : Memref sig .tc .vmem S1x16x4096 .f32) (harg4 : arg4.IsWhole) (arg5 : Memref sig .tc .vmem S1024x768 .bf16) (harg5 : arg5.IsWhole)
    (arg6 : Memref sig .tc .vmem S1024x128 .f32) (harg6 : arg6.IsWhole)
    (a : Vec F S1024x4096 .bf16) (w : Vec F S1x768x4096 .f32) (K : PUnit → sProp 𝕄) :
    iprop(owns (c : Thread nD τ) arg2 fullShare a ∗ owns (c : Thread nD τ) arg3 fullShare w ∗ (∃ d, owns (c : Thread nD τ) arg5 fullShare d)
        ∗ (iprop(owns (c : Thread nD τ) arg2 fullShare a ∗ owns (c : Thread nD τ) arg3 fullShare w
            ∗ owns (c : Thread nD τ) arg5 fullShare (tileO a w)) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f0, %hf0, H0⟩, ⟨%f1, %hf1, H1⟩, ⟨%d3, %f3, -, H3⟩, Hk⟩
  subst hf0 hf1
  sl_exec (disch := sl_exact hc)
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  exact View.read_writes_eq_canon _ _ _ (coverO _)

/-! ## The proof data -/

theorem lt128 (t : Fin cfg0.N) : t.val < 128 := t.isLt.trans_eq N_0

/-- The first point of the row of tiles `t` is in. -/
def start (t : Fin cfg0.N) : Fin cfg0.N := ⟨t.val / 16 * 16, by have := t.isLt; omega⟩

theorem start_self (t : Fin cfg0.N) (h : t.val % 16 = 0) : start t = t := Fin.ext (by show t.val / 16 * 16 = t.val; omega)
theorem start_prev (t : Fin cfg0.N) (h : t.val % 16 ≠ 0) : start ⟨t.val - 1, Nat.lt_of_le_of_lt (Nat.sub_le _ _) t.isLt⟩ = start t :=
  Fin.ext (by show (t.val - 1) / 16 * 16 = t.val / 16 * 16; omega)

theorem cond_iff : ∀ t : Fin grid0.N, k0_cond1 (grid0.coords t) = 1#1 ↔ t.val % 16 = 0 := by decide +kernel

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => tileO (iblk m c 0 t) (X0_1 m c t)
    | ⟨4, _⟩ => tileF (iblk m c 0 (start t)) (iblk m c 2 (start t))
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = tileO (iblk m c 0 t) (X0_1 m c t) := by dsimp only [dats]
theorem after4 (c : Dev nD) (t : Fin cfg0.N) : (dats m 0 c).after 4 t = tileF (iblk m c 0 (start t)) (iblk m c 2 (start t)) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- A later point of a row finds the gate tile its first point left. -/
theorem before4 (c : Dev nD) (n : ℕ) : ∀ (hn : n < cfg0.N) (h : n % 16 ≠ 0) (d), (dats m 0 c).before 4 ⟨n, hn⟩ d = (dats m 0 c).after 4 ⟨n, hn⟩ := by
  induction n with
  | zero => intro hn h; exact absurd rfl h
  | succ k ih =>
    intro hn h d
    have hk : k < cfg0.N := Nat.lt_of_succ_lt hn
    have hfl : (cfg0.win 4).flush ⟨k, hk⟩ = false := by
      refine Bool.eq_false_iff.mpr fun hf => ?_
      have := (flush0_4 ⟨k, hk⟩).mp hf
      dsimp only at this; omega
    have hab : (dats m 0 c).after 4 ⟨k, hk⟩ = (dats m 0 c).after 4 ⟨k + 1, hn⟩ := by
      rw [after4, after4]
      have e : start (⟨k, hk⟩ : Fin cfg0.N) = start ⟨k + 1, hn⟩ := start_prev ⟨k + 1, hn⟩ h
      rw [e]
    refine ((dats m 0 c).before_of_pos 4 ⟨k + 1, hn⟩ (Nat.succ_ne_zero k) ((cfg0.win 4).fetch_out rfl _) d).trans ?_
    refine (if_neg (fun hh => Bool.false_ne_true (hfl.symm.trans hh))).trans ?_
    refine Eq.trans ?_ hab
    by_cases hz : k % 16 = 0
    · have hi : cfg0.idle 4 (cfg0.grid.coords ⟨k, hk⟩) = false := by
        show (!(k0_cond1 (grid0.coords ⟨k, hk⟩) == 1#1)) = false
        rw [(cond_iff ⟨k, hk⟩).mpr hz]; rfl
      show (dats m 0 c).left 4 ⟨k, hk⟩ d = _
      unfold Dat.left; rw [hi]
      exact (Pipeline.fill_of_clip_none (cfg := cfg0) 4 _ (fun _ => rfl) d ((dats m 0 c).after 4 ⟨k, hk⟩) _).trans (Pipeline.Window.fill_cut _ _ _)
    · have hi : cfg0.idle 4 (cfg0.grid.coords ⟨k, hk⟩) = true := by
        show (!(k0_cond1 (grid0.coords ⟨k, hk⟩) == 1#1)) = true
        have : ¬ k0_cond1 (grid0.coords ⟨k, hk⟩) = 1#1 := fun e => hz ((cond_iff ⟨k, hk⟩).mp e)
        rw [beq_eq_false_iff_ne.mpr this]; rfl
      show (dats m 0 c).left 4 ⟨k, hk⟩ d = _
      unfold Dat.left; rw [hi]
      exact ih hk hz d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases hz : t.val % 16 = 0
  · rw [after4, start_self t hz]
    iintro ⟨HΦ, Ho, ⟨%d0, H0⟩, ⟨%d1, H1⟩, ⟨%d2, H2⟩, ⟨%d3, H3⟩, ⟨%d4, H4⟩⟩
    iapply (first_runs c Set.univ (grid0.coords t) ((cond_iff t).mpr hz) _ _ _ _ _ _ _ _ _ _ (iblk m c 0 t) (X0_1 m c t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have hb (d) : (dats m 0 c).before 4 t d = (dats m 0 c).after 4 t := before4 m c t.val t.isLt hz d
    simp only [hb]
    iintro ⟨HΦ, Ho, ⟨%d0, H0⟩, ⟨%d1, H1⟩, ⟨%d2, H2⟩, ⟨%d3, H3⟩, ⟨%d4, H4⟩⟩
    iapply (later_runs c Set.univ (grid0.coords t) (fun e => hz ((cond_iff t).mp e)) _ _ _ _ _ _ _ _ _ _ (iblk m c 0 t) (X0_1 m c t) _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

/-- The gate tile's buffer as the loop states it after the body: at a later point that does not write it back, what
    was found — the same tile. -/
theorem leaves4 (c : Dev nD) (t : Fin cfg0.N) :
    owns (c : Thread nD τ) (st0_4 t) fullShare ((dats m 0 c).after 4 t) ⊢ ((dats m 0 c).leavesExact 4 t : sProp 𝕄) := by
  by_cases hz : t.val % 16 = 0
  · have hi : cfg0.idle 4 (cfg0.grid.coords t) = false := by
      show (!(k0_cond1 (grid0.coords t) == 1#1)) = false
      rw [(cond_iff t).mpr hz]; rfl
    unfold Dat.leavesExact; rw [hi]
  · unfold Dat.leavesExact
    cases cfg0.idle 4 (cfg0.grid.coords t)
    · exact .rfl
    · cases (cfg0.win 4).flush t
      · dsimp only
        rw [← before4 m c t.val t.isLt hz (fun _ => Classical.choice inferInstance)]
        iintro H; iexists _; iexact H
      · exact .rfl

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (leaves4 m c t)
  iexact H4

/-! ## The run -/

set_option backward.isDefEq.respectTransparency.types false in
set_option maxHeartbeats 800000 in
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Proof.In

end
-- ==== Proof.InProjValue.lean ====
/-
  The input projection's two arrays after its run: the product with layer 0's weight, and the gate columns padded
  with zeros.
-/
module

public import proofs.«01_k».proof.Proof.InProj
public import proofs.«01_k».proof.Proof.Gen.InProjReferenceIdeal.Run
public import Idealize.ShloMosaic.Lib.Pointwise
public import Idealize.ShloMosaic.Lib.KernelVsHost
public import Idealize.ShloMosaic.Lib.Pipeline.Value

@[expose] public section

set_option maxRecDepth 16384

noncomputable section

namespace Cert.Proof.In

open Cert.InProjIdeal Cert.InProjIdeal.Gen
open Idealize.ShloMosaic Idealize.ShloMosaic.TcCoe Idealize.SL.Sem

variable (m : (ℓ : Loc nD τ sig) → Buf (Elt Ideal) ℓ) (c : Dev nD)

abbrev inU : FVec Ideal S8192x4096 .bf16 := m ((c : Thread nD τ).loc main_arg0)
abbrev inW : FVec Ideal S4x4096x12304 .f32 := m ((c : Thread nD τ).loc main_arg1)

/-- One element of the product with layer 0's weight. -/
def prod (U : FVec Ideal S8192x4096 .bf16) (W : FVec Ideal S4x4096x12304 .f32) (r : Fin 8192) (q : Fin 12304) : EReal :=
  ∑ k : Fin 4096, U (ix2 r k) * W (ix3 0 k q)

/-- Its leading columns. -/
def proj (U : FVec Ideal S8192x4096 .bf16) (W : FVec Ideal S4x4096x12304 .f32) : FVec Ideal S8192x12288 .bf16 := fun y =>
  prod U W (y 0) (Fin.castLE (by decide) (y 1))

/-- Its last sixteen columns, in 128 lanes. -/
def gate (U : FVec Ideal S8192x4096 .bf16) (W : FVec Ideal S4x4096x12304 .f32) : FVec Ideal S8192x128 .f32 := fun y =>
  if h : (y 1).val < 16 then prod U W (y 0) ⟨12288 + (y 1).val, by omega⟩ else 0

theorem places : ∀ t : Fin grid0.N,
    (win0_0.index t 0 = t.val / 16 ∧ win0_0.index t 1 = 0)
    ∧ (win0_1.index t 0 = 0 ∧ win0_1.index t 1 = t.val % 16 ∧ win0_1.index t 2 = 0)
    ∧ (win0_2.index t 0 = 0 ∧ win0_2.index t 1 = 768 ∧ win0_2.index t 2 = 0)
    ∧ (win0_3.index t 0 = t.val / 16 ∧ win0_3.index t 1 = t.val % 16)
    ∧ (win0_4.index t 0 = t.val / 16 ∧ win0_4.index t 1 = 0) := by decide +kernel

def row (t : Fin cfg0.N) (r : Fin 1024) : Fin 8192 := ⟨t.val / 16 * 1024 + r.val, by have := lt128 t; have := r.isLt; omega⟩
def col (t : Fin cfg0.N) (q : Fin 768) : Fin 12288 := ⟨t.val % 16 * 768 + q.val, by have := q.isLt; omega⟩

theorem row_start (t : Fin cfg0.N) (r : Fin 1024) : row (start t) r = row t r :=
  Fin.ext (by show t.val / 16 * 16 / 16 * 1024 + r.val = t.val / 16 * 1024 + r.val; omega)

theorem idx_ext₃ {n : Fin 3 → ℕ} {x y : (a : Fin 3) → Fin (n a)} (h0 : (x 0 : ℕ) = y 0) (h1 : (x 1 : ℕ) = y 1) (h2 : (x 2 : ℕ) = y 2) : x = y :=
  funext fun a => Fin.ext (match a with | 0 => h0 | 1 => h1 | 2 => h2)

/-- The weight as the call finds it: transposed. -/
theorem weight_eq : V m c main_v0 = transpose S4x12304x4096 [0, 2, 1] (inW m c) transposes_S4x4096x12304_S4x12304x4096_0_2_1 := rfl

theorem weight_apply (l : Fin 4) (q : Fin 12304) (k : Fin 4096) : (V m c main_v0 : FVec Ideal S4x12304x4096 .f32) (ix3 l q k) = inW m c (ix3 l k q) := by
  rw [weight_eq]
  exact transpose_apply _ _ _ _ (ix3 l k q) fun b => match b with | ⟨0, _⟩ => rfl | ⟨1, _⟩ => rfl | ⟨2, _⟩ => rfl

theorem read0 (t : Fin cfg0.N) (r : Fin 1024) (k : Fin 4096) : iblk m c 0 t (ix2 r k) = inU m c (ix2 (row t r) k) := by
  refine (congrArg (V m c main_arg0 : FVec Ideal S8192x4096 .bf16) (Shape.idx_ext₂ (y := ix2 (row t r) k) ?_ ?_)).trans (congrFun (V_main_arg0 m c) _)
  · refine (win0_0.rect_emb_val t (ix2 r k) 0).trans ?_
    rw [(places t).1.1]; rfl
  · exact win0_0.rect_emb_val_of_index_zero t 1 (places t).1.2 (ix2 r k)

theorem read1 (t : Fin cfg0.N) (q : Fin 768) (k : Fin 4096) :
    X0_1 m c t (ix3 0 q k) = inW m c (ix3 0 k (Fin.castLE (by decide) (col t q))) := by
  unfold X0_1 Pipeline.Window.fill
  rw [dif_pos (moved0_1 t _)]
  refine (congrArg (V m c main_v0 : FVec Ideal S4x12304x4096 .f32) (idx_ext₃ (y := ix3 0 (Fin.castLE (by decide) (col t q)) k) ?_ ?_ ?_)).trans (weight_apply m c _ _ _)
  · refine (win0_1.rect_emb_val_of_index_zero t 0 (places t).2.1.1 _).trans ?_; rfl
  · refine (win0_1.rect_emb_val t _ 1).trans ?_
    rw [(places t).2.1.2.1]; rfl
  · refine (win0_1.rect_emb_val_of_index_zero t 2 (places t).2.1.2.2 _).trans ?_; rfl

theorem read2 (t : Fin cfg0.N) (q : Fin 16) (k : Fin 4096) :
    iblk m c 2 t (ix3 0 q k) = inW m c (ix3 0 k ⟨12288 + q.val, by omega⟩) := by
  refine (congrArg (V m c main_v0 : FVec Ideal S4x12304x4096 .f32) (idx_ext₃ (y := ix3 0 ⟨12288 + q.val, by omega⟩ k) ?_ ?_ ?_)).trans (weight_apply m c _ _ _)
  · exact win0_2.rect_emb_val_of_index_zero t 0 (places t).2.2.1.1 (ix3 0 q k)
  · refine (win0_2.rect_emb_val t (ix3 0 q k) 1).trans ?_
    rw [(places t).2.2.1.2.1]; rfl
  · exact win0_2.rect_emb_val_of_index_zero t 2 (places t).2.2.1.2.2 (ix3 0 q k)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (a : Vec Ideal S1024x4096 .bf16) (w : Vec Ideal S1x768x4096 .f32) (y : S1024x768.Idx) :
    k0_pay1 a w y = ∑ k : Fin 4096, a (ix2 (y 0) k) * w (ix3 0 (y 1) k) := by
  unfold k0_pay1
  generalize hX : shapeCast S768x4096 w shapeCasts_S1x768x4096_S768x4096 = X
  simp only [pointwise]
  refine (zero_add _).trans (Finset.sum_congr rfl fun k _ => ?_)
  subst hX
  refine congrArg₂ (· * ·) rfl (shapeCast_apply _ _ _ (ix3 0 (y 1) k) ?_)
  rw [Shape.rowMajor_val_three, Shape.rowMajor_val_two]
  show (0 * 768 + (y 1).val) * 4096 + k.val = (y 1).val * 4096 + k.val; omega

theorem tileO_apply (a : Vec Ideal S1024x4096 .bf16) (w : Vec Ideal S1x768x4096 .f32) (y : S1024x768.Idx) :
    tileO a w y = ∑ k : Fin 4096, a (ix2 (y 0) k) * w (ix3 0 (y 1) k) := by
  unfold tileO
  rw [View.canon_unit_zero hz2, View.ld_unit_zero hz2, View.ld_unit_zero hz3]
  exact pay1_apply a w y

/-- A lane of the gate tile: one of the sixteen columns, or a sum of products with zero. -/
theorem pay2_apply (a : Vec Ideal S1024x4096 .bf16) (g : Vec Ideal S1x16x4096 .f32) (y : S1024x128.Idx) :
    k0_pay2 a g y = if h : (y 1).val < 16 then ∑ k : Fin 4096, a (ix2 (y 0) k) * g (ix3 0 ⟨(y 1).val, h⟩ k) else 0 := by
  unfold k0_pay2
  generalize hX : (concatenate S128x4096 0 [⟨S16x4096, truncf .bf16 (shapeCast S16x4096 g shapeCasts_S1x16x4096_S16x4096 : FVec Ideal S16x4096 .f32) bitsLt_bf16_f32⟩,
    ⟨S112x4096, broadcast S112x4096 (Scalar.ofBits .bf16 0x0000#16 : Ideal .bf16)⟩] concatenates_S16x4096_S112x4096_S128x4096_d0 : FVec Ideal S128x4096 .bf16) = X
  simp only [pointwise]
  refine (zero_add _).trans ?_
  subst hX
  split
  · rename_i h
    refine Finset.sum_congr rfl fun k _ => congrArg₂ (· * ·) rfl ?_
    refine (concatenate_pair_apply_left (t := S128x4096) (s₁ := S16x4096) (s₂ := S112x4096) 0 _ _ _ _ rfl (ix2 ⟨(y 1).val, h⟩ k) fun b => ?_).trans ?_
    · match b with | ⟨0, _⟩ => rfl | ⟨1, _⟩ => rfl
    · refine shapeCast_apply g shapeCasts_S1x16x4096_S16x4096 _ (ix3 0 ⟨(y 1).val, h⟩ k) ?_
      rw [Shape.rowMajor_val_three, Shape.rowMajor_val_two]
      show (0 * 16 + (y 1).val) * 4096 + k.val = (y 1).val * 4096 + k.val; omega
  · rename_i h
    have hy : (y 1).val < 128 := (y 1).isLt
    refine Finset.sum_eq_zero fun k _ => ?_
    refine (congrArg₂ (· * ·) rfl ?_).trans (mul_zero (a (ix2 (y 0) k) : EReal))
    refine (concatenate_pair_apply_right (t := S128x4096) (s₁ := S16x4096) (s₂ := S112x4096) 0 _ _ _ _ rfl rfl (ix2 ⟨(y 1).val - 16, by omega⟩ k) (fun b hb => ?_) ?_).trans ?_
    · match b with | ⟨0, _⟩ => exact absurd rfl hb | ⟨1, _⟩ => rfl
    · show (y 1).val - 16 + 16 = (y 1).val; omega
    · simp [pointwise]

theorem tileF_apply (a : Vec Ideal S1024x4096 .bf16) (g : Vec Ideal S1x16x4096 .f32) (y : S1024x128.Idx) :
    tileF a g y = if h : (y 1).val < 16 then ∑ k : Fin 4096, a (ix2 (y 0) k) * g (ix3 0 ⟨(y 1).val, h⟩ k) else 0 := by
  unfold tileF
  rw [View.canon_unit_zero hz2, View.ld_unit_zero hz2, View.ld_unit_zero hz3]
  exact pay2_apply a g y

/-! ## The arrays -/

theorem emb3 (t : Fin cfg0.N) (y : S1024x768.Idx) : ((cfg0.win 3).blk t).view.emb y = (ix2 (row t (y 0)) (col t (y 1)) : S8192x12288.Idx) := by
  refine Shape.idx_ext₂ ?_ ?_
  · refine (win0_3.rect_emb_val t y 0).trans ?_
    rw [(places t).2.2.2.1.1]; rfl
  · refine (win0_3.rect_emb_val t y 1).trans ?_
    rw [(places t).2.2.2.1.2]; rfl

theorem emb4 (t : Fin cfg0.N) (y : S1024x128.Idx) : ((cfg0.win 4).blk t).view.emb y = (ix2 (row t (y 0)) (y 1) : S8192x128.Idx) := by
  refine Shape.idx_ext₂ ?_ ?_
  · refine (win0_4.rect_emb_val t y 0).trans ?_
    rw [(places t).2.2.2.2.1]; rfl
  · exact win0_4.rect_emb_val_of_index_zero t 1 (places t).2.2.2.2.2 y

theorem proj_apply (U : FVec Ideal S8192x4096 .bf16) (W : FVec Ideal S4x4096x12304 .f32) (r : Fin 8192) (q : Fin 12288) :
    proj U W (ix2 r q) = ∑ k : Fin 4096, U (ix2 r k) * W (ix3 0 k (Fin.castLE (by decide) q)) := rfl

theorem gate_apply_of_lt (U : FVec Ideal S8192x4096 .bf16) (W : FVec Ideal S4x4096x12304 .f32) (r : Fin 8192) (q : Fin 128) (h : q.val < 16) :
    gate U W (ix2 r q) = ∑ k : Fin 4096, U (ix2 r k) * W (ix3 0 k ⟨12288 + q.val, by omega⟩) := dif_pos h

theorem gate_apply_of_not_lt (U : FVec Ideal S8192x4096 .bf16) (W : FVec Ideal S4x4096x12304 .f32) (r : Fin 8192) (q : Fin 128) (h : ¬ q.val < 16) :
    gate U W (ix2 r q) = 0 := dif_neg h

theorem flushed3 (t : Fin cfg0.N) :
    (dats m 0 c).flushed 3 t = ((cfg0.win 3).blk t).view.read (Elt Ideal) (proj (inU m c) (inW m c)) := by
  show (cfg0.win 3).cut (grid0.coords t) ((dats m 0 c).after 3 t) = _
  rw [after3]
  refine funext fun (y : S1024x768.Idx) => ?_
  refine Eq.trans ?_ (congrArg (proj (inU m c) (inW m c)) (emb3 t y)).symm
  show tileO (iblk m c 0 t) (X0_1 m c t) y = _
  refine (tileO_apply _ _ y).trans (Eq.trans ?_ (proj_apply _ _ (row t (y 0)) (col t (y 1))).symm)
  refine Finset.sum_congr rfl fun k _ => ?_
  exact congrArg₂ (· * ·) (read0 m c t (y 0) k) (read1 m c t (y 1) k)

theorem flushed4 (t : Fin cfg0.N) :
    (dats m 0 c).flushed 4 t = ((cfg0.win 4).blk t).view.read (Elt Ideal) (gate (inU m c) (inW m c)) := by
  show (cfg0.win 4).cut (grid0.coords t) ((dats m 0 c).after 4 t) = _
  rw [after4]
  refine funext fun (y : S1024x128.Idx) => ?_
  refine Eq.trans ?_ (congrArg (gate (inU m c) (inW m c)) (emb4 t y)).symm
  show tileF (iblk m c 0 (start t)) (iblk m c 2 (start t)) y = _
  refine (tileF_apply _ _ y).trans ?_
  by_cases h : (y 1).val < 16
  · refine (dif_pos h).trans (Eq.trans ?_ (gate_apply_of_lt _ _ (row t (y 0)) (y 1) h).symm)
    refine Finset.sum_congr rfl fun k _ => congrArg₂ (· * ·) ?_ (read2 m c (start t) ⟨(y 1).val, h⟩ k)
    exact (read0 m c (start t) (y 0) k).trans (congrArg (fun r => inU m c (ix2 r k)) (row_start t (y 0)))
  · exact (dif_neg h).trans (gate_apply_of_not_lt _ _ (row t (y 0)) (y 1) h).symm

theorem cover3 (i : S8192x12288.Idx) : ∃ t : Fin cfg0.N, (cfg0.win 3).flush t = true ∧ i ∈ ((cfg0.win 3).blk t).view.set := by
  have h0 : (i 0).val < 8192 := (i 0).isLt
  have h1 : (i 1).val < 12288 := (i 1).isLt
  have hN : cfg0.N = 128 := N_0
  let t : Fin cfg0.N := ⟨(i 0).val / 1024 * 16 + (i 1).val / 768, by omega⟩
  let y : S1024x768.Idx := ix2 ⟨(i 0).val % 1024, by omega⟩ ⟨(i 1).val % 768, by omega⟩
  have e : ((cfg0.win 3).blk t).view.emb y = i := (emb3 t y).trans (Shape.idx_ext₂
    (by show ((i 0).val / 1024 * 16 + (i 1).val / 768) / 16 * 1024 + (i 0).val % 1024 = (i 0).val; omega)
    (by show ((i 0).val / 1024 * 16 + (i 1).val / 768) % 16 * 768 + (i 1).val % 768 = (i 1).val; omega))
  exact ⟨t, flush0_3 t, e ▸ ((cfg0.win 3).blk t).view.emb_mem_set y⟩

theorem cover4 (i : S8192x128.Idx) : ∃ t : Fin cfg0.N, (cfg0.win 4).flush t = true ∧ i ∈ ((cfg0.win 4).blk t).view.set := by
  have h0 : (i 0).val < 8192 := (i 0).isLt
  have hN : cfg0.N = 128 := N_0
  let t : Fin cfg0.N := ⟨(i 0).val / 1024 * 16 + 15, by omega⟩
  let y : S1024x128.Idx := ix2 ⟨(i 0).val % 1024, by omega⟩ (i 1)
  have e : ((cfg0.win 4).blk t).view.emb y = i := (emb4 t y).trans (Shape.idx_ext₂
    (by show ((i 0).val / 1024 * 16 + 15) / 16 * 1024 + (i 0).val % 1024 = (i 0).val; omega) rfl)
  exact ⟨t, (flush0_4 t).mpr (by show ((i 0).val / 1024 * 16 + 15) % 16 = 15; omega), e ▸ ((cfg0.win 4).blk t).view.emb_mem_set y⟩

theorem final3 : (dats m 0 c).arrAt 3 cfg0.N = proj (inU m c) (inW m c) :=
  (dats m 0 c).arrAt_eq_of_cover 3 _ (fun t _ => flushed3 m c t) cover3

theorem final4 : (dats m 0 c).arrAt 4 cfg0.N = gate (inU m c) (inW m c) :=
  (dats m 0 c).arrAt_eq_of_cover 4 _ (fun t _ => flushed4 m c t) cover4

/-- The run with both arrays at their values. -/
theorem run_value (ρ : Dev nD → PrngReg) : θ_run defs (onTc (τ := τ) (main (F := Ideal))) ⟨m, fun _ => 0, ρ⟩ fun r => ∀ c : Dev nD,
      r.2.mem ((c : Thread nD τ).loc main_v1_0) = proj (inU m c) (inW m c)
      ∧ r.2.mem ((c : Thread nD τ).loc main_v1_1) = gate (inU m c) (inW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1.1 c).1 3).trans (final3 m c), ((h.1.1 c).1 4).trans (final4 m c), (h.2.1 c).1, (h.2.1 c).2⟩)
    (θ_run_and (run m ρ) (frame m ρ))

/-! ## The reference -/

section Reference
open Cert.InProjReferenceIdeal.Gen

abbrev whole (U : FVec Ideal S8192x4096 .bf16) (W : FVec Ideal S4x4096x12304 .f32) : FVec Ideal Cert.InProjReferenceIdeal.S8192x12304 .f32 :=
  Host.dotGeneral Cert.InProjReferenceIdeal.dot_S8192x4096_S4096x12304_S8192x12304_1_0_0_1_n_n none (extf .f32 U Cert.InProjReferenceIdeal.Gen.bitsLt_bf16_f32)
    (shapeCast Cert.InProjReferenceIdeal.S4096x12304 (extractStridedSlice Cert.InProjReferenceIdeal.S1x4096x12304 ![0, 0, 0] W
      slices_S4x4096x12304_S1x4096x12304_0_0_0) shapeCasts_S1x4096x12304_S4096x12304)

theorem whole_apply (U : FVec Ideal S8192x4096 .bf16) (W : FVec Ideal S4x4096x12304 .f32) (r : Fin 8192) (q : Fin 12304) :
    whole U W (ix2 r q) = prod U W r q := by
  unfold whole
  generalize hX : (shapeCast Cert.InProjReferenceIdeal.S4096x12304 (extractStridedSlice Cert.InProjReferenceIdeal.S1x4096x12304 ![0, 0, 0] W
      slices_S4x4096x12304_S1x4096x12304_0_0_0) shapeCasts_S1x4096x12304_S4096x12304) = X
  simp only [pointwise]
  refine (zero_add _).trans (Finset.sum_congr rfl fun k _ => ?_)
  subst hX
  refine congrArg₂ (· * ·) rfl ((shapeCast_apply _ _ _ (ix3 0 k q) ?_).trans ?_)
  · rw [Shape.rowMajor_val_three, Shape.rowMajor_val_two]
    show (0 * 4096 + k.val) * 12304 + q.val = k.val * 12304 + q.val; omega
  · exact congrArg W (idx_ext₃ rfl (Nat.zero_add _) (Nat.zero_add _))

theorem proj_eq (U : FVec Ideal S8192x4096 .bf16) (W : FVec Ideal S4x4096x12304 .f32) :
    (truncf .bf16 (extractStridedSlice Cert.InProjReferenceIdeal.S8192x12288 ![0, 0] (whole U W) slices_S8192x12304_S8192x12288_0_0 : FVec Ideal S8192x12288 .f32)
      Cert.InProjReferenceIdeal.Gen.bitsLt_bf16_f32 : FVec Ideal S8192x12288 .bf16) = proj U W := by
  funext y
  refine Eq.trans (b := whole U W (ix2 (y 0) (Fin.castLE (by decide) (y 1)))) ?_ (whole_apply U W _ _)
  exact congrArg (whole U W) (Shape.idx_ext₂ (Nat.zero_add _) (Nat.zero_add _))

theorem gate_eq (U : FVec Ideal S8192x4096 .bf16) (W : FVec Ideal S4x4096x12304 .f32) :
    (pad Cert.InProjReferenceIdeal.S8192x128 ![0, 0] ![0, 112] ![0, 0] (extractStridedSlice Cert.InProjReferenceIdeal.S8192x16 ![0, 12288] (whole U W) slices_S8192x12304_S8192x16_0_12288 : FVec Ideal Cert.InProjReferenceIdeal.S8192x16 .f32)
      (sitofp .f32 (constantI Cert.InProjReferenceIdeal.S_ 32 0#32) : FVec Ideal Cert.InProjReferenceIdeal.S_ .f32) pads_S8192x16_S8192x128_000_01120 Cert.InProjReferenceIdeal.Gen.h_S_ : FVec Ideal S8192x128 .f32) = gate U W := by
  funext y
  unfold gate
  by_cases h : (y 1).val < 16
  · refine Eq.trans ?_ (dif_pos h).symm
    refine (pad_apply_of_inside _ _ _ _ _ _ _ y (ix2 (y 0) ⟨(y 1).val, h⟩) fun a => ?_).trans ?_
    · match a with
      | ⟨0, _⟩ => show (y 0).val = 0 + (y 0).val * (0 + 1); omega
      | ⟨1, _⟩ => show (y 1).val = 0 + (y 1).val * (0 + 1); omega
    · refine Eq.trans (b := whole U W (ix2 (y 0) ⟨12288 + (y 1).val, by omega⟩)) ?_ (whole_apply U W _ _)
      exact congrArg (whole U W) (Shape.idx_ext₂ (Nat.zero_add _) rfl)
  · refine Eq.trans ?_ (dif_neg h).symm
    refine (pad_apply_of_not_inside _ _ _ _ _ _ _ y 1 fun e => h ?_).trans ?_
    · have := e.2.2
      change ((y 1).val - 0) / (0 + 1) < 16 at this
      omega
    · exact sitofp_zero

end Reference

/-! ## The words' program runs the same text -/

theorem bodies_eq : Cert.InProj.defs₀ (F := Bits) = Cert.InProjIdeal.defs₀ := by
  unfold Cert.InProj.defs₀ Cert.InProjIdeal.defs₀
  refine congrArg Defs.onTc (funext fun l => funext fun x => ?_)
  match l, x with
  | 0, (t, s) => rfl

theorem defs_eq : Cert.InProj.defs (F := Bits) = Cert.InProjIdeal.defs :=
  congrArg (Idealize.ShloMosaic.Pipeline.defs Cert.InProj.pcfgs) bodies_eq

end Cert.Proof.In

end
-- ==== Proof.OutProj.lean ====
/-
  The output projection: every grid point writes its tile of one product over the joined activations, the two
  products over the halves of the shared axis added.
-/
module

public import proofs.«01_k».proof.Proof.Gen.OutProj
public import proofs.«01_k».proof.Proof.Gen.OutProjIdeal.Value
public import proofs.«01_k».proof.Proof.Gen.OutProjReferenceIdeal.Run
public import Idealize.ShloMosaic.Lib.Pointwise
public import Idealize.ShloMosaic.Lib.Pipeline.Value

@[expose] public section

set_option maxRecDepth 16384

noncomputable section

namespace Cert.Proof.Out

open Cert.OutProjIdeal Cert.OutProjIdeal.Gen
open Idealize.ShloMosaic Idealize.ShloMosaic.TcCoe Idealize.SL.Sem

variable (m : (ℓ : Loc nD τ sig) → Buf (Elt Ideal) ℓ) (c : Dev nD)

abbrev inA : FVec Ideal S8192x2048 .bf16 := m ((c : Thread nD τ).loc main_arg0)
abbrev inB : FVec Ideal S8192x2048 .bf16 := m ((c : Thread nD τ).loc main_arg1)
abbrev inW : FVec Ideal S4096x4096 .bf16 := m ((c : Thread nD τ).loc main_arg2)

/-- The result: the lower half of the shared axis from `A`, the upper half from `B`. -/
def whole (A B : FVec Ideal S8192x2048 .bf16) (W : FVec Ideal S4096x4096 .bf16) : FVec Ideal S8192x4096 .bf16 := fun y =>
  (∑ k : Fin 2048, A (ix2 (y 0) k) * W (ix2 (Fin.castAdd 2048 k) (y 1)))
    + ∑ k : Fin 2048, B (ix2 (y 0) k) * W (ix2 (Fin.natAdd 2048 k) (y 1))

theorem places : ∀ t : Fin grid0.N,
    (win0_0.index t 0 = t.val / 4 ∧ win0_0.index t 1 = 0) ∧ (win0_1.index t 0 = t.val / 4 ∧ win0_1.index t 1 = 0)
    ∧ (win0_2.index t 0 = 0 ∧ win0_2.index t 1 = t.val % 4) ∧ (win0_3.index t 0 = 1 ∧ win0_3.index t 1 = t.val % 4)
    ∧ (win0_4.index t 0 = t.val / 4 ∧ win0_4.index t 1 = t.val % 4) := by decide +kernel

theorem lt32 (t : Fin cfg0.N) : t.val < 32 := t.isLt.trans_eq N_0

def row (t : Fin cfg0.N) (r : Fin 1024) : Fin 8192 := ⟨t.val / 4 * 1024 + r.val, by have := lt32 t; have := r.isLt; omega⟩
def col (t : Fin cfg0.N) (q : Fin 1024) : Fin 4096 := ⟨t.val % 4 * 1024 + q.val, by have := q.isLt; omega⟩

theorem read0 (t : Fin cfg0.N) (r : Fin 1024) (k : Fin 2048) : iblk m c 0 t (ix2 r k) = inA m c (ix2 (row t r) k) := by
  refine congrArg (inA m c) (Shape.idx_ext₂ ?_ ?_)
  · refine (win0_0.rect_emb_val t (ix2 r k) 0).trans ?_
    rw [(places t).1.1]; rfl
  · exact win0_0.rect_emb_val_of_index_zero t 1 (places t).1.2 (ix2 r k)

theorem read1 (t : Fin cfg0.N) (r : Fin 1024) (k : Fin 2048) : iblk m c 1 t (ix2 r k) = inB m c (ix2 (row t r) k) := by
  refine congrArg (inB m c) (Shape.idx_ext₂ ?_ ?_)
  · refine (win0_1.rect_emb_val t (ix2 r k) 0).trans ?_
    rw [(places t).2.1.1]; rfl
  · exact win0_1.rect_emb_val_of_index_zero t 1 (places t).2.1.2 (ix2 r k)

theorem read2 (t : Fin cfg0.N) (k : Fin 2048) (q : Fin 1024) : iblk m c 2 t (ix2 k q) = inW m c (ix2 (Fin.castAdd 2048 k) (col t q)) := by
  refine congrArg (inW m c) (Shape.idx_ext₂ ?_ ?_)
  · exact win0_2.rect_emb_val_of_index_zero t 0 (places t).2.2.1.1 (ix2 k q)
  · refine (win0_2.rect_emb_val t (ix2 k q) 1).trans ?_
    rw [(places t).2.2.1.2]; rfl

theorem read3 (t : Fin cfg0.N) (k : Fin 2048) (q : Fin 1024) : iblk m c 3 t (ix2 k q) = inW m c (ix2 (Fin.natAdd 2048 k) (col t q)) := by
  refine congrArg (inW m c) (Shape.idx_ext₂ ?_ ?_)
  · refine (win0_3.rect_emb_val t (ix2 k q) 0).trans ?_
    rw [(places t).2.2.2.1.1]; rfl
  · refine (win0_3.rect_emb_val t (ix2 k q) 1).trans ?_
    rw [(places t).2.2.2.1.2]; rfl

theorem pay_apply (a b : Vec Ideal S1024x2048 .bf16) (u w : Vec Ideal S2048x1024 .bf16) (y : S1024x1024.Idx) :
    k0_pay1 a u b w y = (∑ k : Fin 2048, a (ix2 (y 0) k) * u (ix2 k (y 1))) + ∑ k : Fin 2048, b (ix2 (y 0) k) * w (ix2 k (y 1)) := by
  unfold k0_pay1
  simp only [pointwise]
  exact congrArg₂ (· + ·) (zero_add _) (zero_add _)

theorem hz : (![0, 0] : Fin 2 → Nat) = fun _ => 0 := funext fun a => by fin_cases a <;> rfl

/-- Element `y` of point `t`'s tile in the result. -/
theorem emb4 (t : Fin cfg0.N) (y : S1024x1024.Idx) : ((cfg0.win 4).blk t).view.emb y = (ix2 (row t (y 0)) (col t (y 1)) : S8192x4096.Idx) := by
  refine Shape.idx_ext₂ ?_ ?_
  · refine (win0_4.rect_emb_val t y 0).trans ?_
    rw [(places t).2.2.2.2.1]; rfl
  · refine (win0_4.rect_emb_val t y 1).trans ?_
    rw [(places t).2.2.2.2.2]; rfl

theorem flushed_eq (t : Fin cfg0.N) :
    (dats m 0 c).flushed 4 t = ((cfg0.win 4).blk t).view.read (Elt Ideal) (whole (inA m c) (inB m c) (inW m c)) := by
  refine (Value.flushed4 m c t).trans (funext fun (y : S1024x1024.Idx) => ?_)
  refine Eq.trans ?_ (congrArg (whole (inA m c) (inB m c) (inW m c)) (emb4 t y)).symm
  show out0_4 (iblk m c 0 t) (iblk m c 1 t) (iblk m c 2 t) (iblk m c 3 t) y = _
  unfold out0_4
  rw [View.canon_unit_zero hz, View.ld_unit_zero hz, View.ld_unit_zero hz, View.ld_unit_zero hz, View.ld_unit_zero hz]
  refine (pay_apply _ _ _ _ y).trans ?_
  refine congrArg₂ (· + ·) (Finset.sum_congr rfl fun k _ => ?_) (Finset.sum_congr rfl fun k _ => ?_)
  · exact congrArg₂ (· * ·) (read0 m c t (y 0) k) (read2 m c t k (y 1))
  · exact congrArg₂ (· * ·) (read1 m c t (y 0) k) (read3 m c t k (y 1))

theorem cover (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 32 := N_0
  let t : Fin cfg0.N := ⟨(i 0).val / 1024 * 4 + (i 1).val / 1024, by omega⟩
  let y : S1024x1024.Idx := ix2 ⟨(i 0).val % 1024, by omega⟩ ⟨(i 1).val % 1024, by omega⟩
  have e : ((cfg0.win 4).blk t).view.emb y = i := (emb4 t y).trans (Shape.idx_ext₂
    (by show ((i 0).val / 1024 * 4 + (i 1).val / 1024) / 4 * 1024 + (i 0).val % 1024 = (i 0).val; omega)
    (by show ((i 0).val / 1024 * 4 + (i 1).val / 1024) % 4 * 1024 + (i 1).val % 1024 = (i 1).val; omega))
  exact ⟨t, flush0_4 t, e ▸ ((cfg0.win 4).blk t).view.emb_mem_set y⟩

theorem final : (dats m 0 c).arrAt 4 cfg0.N = whole (inA m c) (inB m c) (inW m c) :=
  (dats m 0 c).arrAt_eq_of_cover 4 _ (fun t _ => flushed_eq m c t) cover

/-- One product over the joined axis is the two over its halves added. -/
theorem whole_eq (A B : FVec Ideal S8192x2048 .bf16) (W : FVec Ideal S4096x4096 .bf16) :
    whole A B W = (truncf .bf16 (Host.dotGeneral Cert.OutProjReferenceIdeal.dot_S8192x4096_S4096x4096_S8192x4096_1_0_0_1_n_n none
      (concatenate Cert.OutProjReferenceIdeal.S8192x4096 1 [⟨Cert.OutProjReferenceIdeal.S8192x2048, A⟩, ⟨Cert.OutProjReferenceIdeal.S8192x2048, B⟩]
        Cert.OutProjReferenceIdeal.Gen.concatenates_S8192x2048_S8192x2048_S8192x4096_d1) W : FVec Ideal S8192x4096 .f32)
      Cert.OutProjReferenceIdeal.Gen.bitsLt_bf16_f32 : FVec Ideal S8192x4096 .bf16) := by
  funext y
  generalize hX : (concatenate Cert.OutProjReferenceIdeal.S8192x4096 1 [⟨Cert.OutProjReferenceIdeal.S8192x2048, A⟩, ⟨Cert.OutProjReferenceIdeal.S8192x2048, B⟩]
        Cert.OutProjReferenceIdeal.Gen.concatenates_S8192x2048_S8192x2048_S8192x4096_d1) = X
  simp only [pointwise]
  refine Eq.trans ?_ (zero_add _).symm
  refine Eq.trans ?_ (Fin.sum_univ_add (a := 2048) (b := 2048) _).symm
  subst hX
  refine congrArg₂ (· + ·) (Finset.sum_congr rfl fun k _ => ?_) (Finset.sum_congr rfl fun k _ => ?_)
  · refine congrArg₂ (· * ·) ?_ rfl
    refine (concatenate_pair_apply_left (t := S8192x4096) (s₁ := S8192x2048) (s₂ := S8192x2048) 1 A B _ (ix2 (y 0) (Fin.castAdd 2048 k)) rfl (ix2 (y 0) k) fun b => ?_).symm
    match b with | ⟨0, _⟩ => rfl | ⟨1, _⟩ => rfl
  · refine congrArg₂ (· * ·) ?_ rfl
    refine (concatenate_pair_apply_right (t := S8192x4096) (s₁ := S8192x2048) (s₂ := S8192x2048) 1 A B _ (ix2 (y 0) (Fin.natAdd 2048 k)) rfl rfl (ix2 (y 0) k) (fun b hb => ?_) (Nat.add_comm _ _)).symm
    match b with | ⟨0, _⟩ => rfl | ⟨1, _⟩ => exact absurd rfl hb

/-! ## The words' program runs the same text -/

theorem bodies_eq : Cert.OutProj.defs₀ (F := Bits) = Cert.OutProjIdeal.defs₀ := by
  unfold Cert.OutProj.defs₀ Cert.OutProjIdeal.defs₀
  refine congrArg Defs.onTc (funext fun l => funext fun x => ?_)
  match l, x with
  | 0, (t, s) => rfl

theorem defs_eq : Cert.OutProj.defs (F := Bits) = Cert.OutProjIdeal.defs :=
  congrArg (Idealize.ShloMosaic.Pipeline.defs Cert.OutProj.pcfgs) bodies_eq

end Cert.Proof.Out

end
-- ==== Proof.Rms.lean ====
/-
  The root-mean-square norm of one row, and the reference's text for it over all rows.
-/
module

public import proofs.«01_k».proof.Proof.Gen.PostReferenceIdeal.Run
public import Idealize.ShloMosaic.Lib.Pointwise
public import Idealize.ShloMosaic.Lib.Pipeline.Value

@[expose] public section

set_option maxRecDepth 16384

noncomputable section

namespace Cert.Proof.Norm

open Cert.PostReferenceIdeal Cert.PostReferenceIdeal.Gen
open Idealize.ShloMosaic Idealize.ShloMosaic.TcCoe

/-- A row `v` divided by its root mean square and weighted, at column `k`. -/
def normAt (v w : Fin 4096 → EReal) (k : Fin 4096) : EReal :=
  v k * Ideal.rsqrt (Ideal.div (∑ l : Fin 4096, v l * v l) (Ideal.ofBits .f32 0x45800000#32) + Ideal.ofBits .f32 0x358637BD#32) * w k

theorem hz : (![0, 0] : Fin 2 → Nat) = fun _ => 0 := funext fun a => by fin_cases a <;> rfl

/-- Row `l` of the norms' weights, as the call's host code hands it over. -/
theorem weight_apply {l : Nat} (hl : l < 4) (W : FVec Ideal S4x4096 .f32) (hs : S4x4096.Slices ![l, 0] S1x4096)
    (h : S1x4096.ShapeCasts S4096) (h' : S4096.ShapeCasts S1x4096) (k : Fin 4096) :
    shapeCast S1x4096 (shapeCast S4096 (extractStridedSlice S1x4096 ![l, 0] W hs) h) h' (ix2 0 k) = W (ix2 ⟨l, hl⟩ k) := by
  rw [shapeCast_shapeCast]
  exact congrArg W (Shape.idx_ext₂ (Nat.add_zero _) (Nat.zero_add _))

/-- The reference's norm. -/
theorem reference_apply {l : Nat} (hl : l < 4) (X : FVec Ideal S8192x4096 .f32) (W : FVec Ideal S4x4096 .f32) (hs : S4x4096.Slices ![l, 0] S1x4096) (y : S8192x4096.Idx) :
    mulf (mulf X (broadcastInDim S8192x4096 ![0, 1] bcast_S8192x1_S8192x4096_0_1 (Host.rsqrt (addf (Host.divf (broadcastInDim S8192x1 ![0] bcast_S8192_S8192x1_0
      (Host.reduceAdd (mulf X X) (constant S_ .f32 0x00000000#32) reducesTo_S8192x4096_S8192_d1 h_S_)) (broadcastInDim S8192x1 ![] bcast_S_S8192x1 (constant S_ .f32 0x45800000#32)))
      (broadcastInDim S8192x1 ![] bcast_S_S8192x1 (constant S_ .f32 0x358637BD#32))))))
      (broadcastInDim S8192x4096 ![0, 1] bcast_S1x4096_S8192x4096_0_1 (broadcastInDim S1x4096 ![1] bcast_S4096_S1x4096_1 (shapeCast S4096 (extractStridedSlice S1x4096 ![l, 0] W hs)
        shapeCasts_S1x4096_S4096))) y
      = normAt (fun k => X (ix2 (y 0) k)) (fun k => W (ix2 ⟨l, hl⟩ k)) (y 1) := by
  generalize hw : extractStridedSlice S1x4096 ![l, 0] W hs = w
  simp only [pointwise]
  subst hw
  refine congrArg₂ (· * ·) (congrArg₂ (· * ·) (congrArg X (Shape.idx_ext₂ rfl rfl)) ?_) (congrArg W (Shape.idx_ext₂ (Nat.add_zero _) (Nat.zero_add _)))
  rw [zero_add]; rfl

end Cert.Proof.Norm

end
-- ==== Proof.PreNorm.lean ====
/-
  The norm before the first layer: every grid point writes the norms of its 512 rows.
-/
module

public import proofs.«01_k».proof.Proof.Rms
public import proofs.«01_k».proof.Proof.Gen.PreNorm
public import proofs.«01_k».proof.Proof.Gen.PreNormIdeal.Value
public import proofs.«01_k».proof.Proof.Gen.PreNormReferenceIdeal.Run

@[expose] public section

set_option maxRecDepth 16384

noncomputable section

namespace Cert.Proof.PreNorm

open Cert.PreNormIdeal Cert.PreNormIdeal.Gen Cert.Proof.Norm
open Idealize.ShloMosaic Idealize.ShloMosaic.TcCoe Idealize.SL.Sem

variable (m : (ℓ : Loc nD τ sig) → Buf (Elt Ideal) ℓ) (c : Dev nD)

abbrev inX : FVec Ideal S8192x4096 .f32 := m ((c : Thread nD τ).loc main_arg0)
abbrev inW : FVec Ideal S4x4096 .f32 := m ((c : Thread nD τ).loc main_arg1)

/-- Every row's norm, with the first row of weights. -/
def normed (X : FVec Ideal S8192x4096 .f32) (W : FVec Ideal S4x4096 .f32) : FVec Ideal S8192x4096 .bf16 := fun y =>
  normAt (fun k => X (ix2 (y 0) k)) (fun k => W (ix2 0 k)) (y 1)

theorem places : ∀ t : Fin grid0.N,
    (win0_0.index t 0 = t.val ∧ win0_0.index t 1 = 0)
    ∧ (win0_1.index t 0 = 0 ∧ win0_1.index t 1 = 0)
    ∧ (win0_2.index t 0 = t.val ∧ win0_2.index t 1 = 0) := by decide +kernel

def row (t : Fin cfg0.N) (r : Fin 512) : Fin 8192 := ⟨t.val * 512 + r.val, by have : t.val < 16 := t.isLt.trans_eq N_0; have := r.isLt; omega⟩

theorem read0 (t : Fin cfg0.N) (r : Fin 512) (k : Fin 4096) : iblk m c 0 t (ix2 r k) = inX m c (ix2 (row t r) k) := by
  refine (congrArg (V m c main_arg0 : FVec Ideal S8192x4096 .f32) (Shape.idx_ext₂ (y := ix2 (row t r) k) ?_ ?_)).trans (congrFun (V_main_arg0 m c) _)
  · refine (win0_0.rect_emb_val t (ix2 r k) 0).trans ?_
    rw [(places t).1.1]; rfl
  · exact win0_0.rect_emb_val_of_index_zero t 1 (places t).1.2 (ix2 r k)

theorem handed1 (k : Fin 4096) : (V m c main_v2 : FVec Ideal S1x4096 .f32) (ix2 0 k) = inW m c (ix2 0 k) :=
  weight_apply (l := 0) (by decide) (inW m c) slices_S4x4096_S1x4096_0_0 shapeCasts_S1x4096_S4096 shapeCasts_S4096_S1x4096 k

theorem read1 (t : Fin cfg0.N) (k : Fin 4096) : iblk m c 1 t (ix2 0 k) = inW m c (ix2 0 k) := by
  refine (congrArg (V m c main_v2 : FVec Ideal S1x4096 .f32) (Shape.idx_ext₂ (y := ix2 0 k) ?_ ?_)).trans (handed1 m c k)
  · exact win0_1.rect_emb_val_of_index_zero t 0 (places t).2.1.1 (ix2 0 k)
  · exact win0_1.rect_emb_val_of_index_zero t 1 (places t).2.1.2 (ix2 0 k)

theorem pay1_apply (x : Vec Ideal S512x4096 .f32) (w : Vec Ideal S1x4096 .f32) (y : S512x4096.Idx) :
    k0_pay1 x w y = normAt (fun k => x (ix2 (y 0) k)) (fun k => w (ix2 0 k)) (y 1) := by
  unfold k0_pay1
  simp only [pointwise]
  exact congrArg₂ (· * ·) (congrArg₂ (· * ·) (congrArg x (Shape.idx_ext₂ rfl rfl)) rfl) rfl

theorem emb2 (t : Fin cfg0.N) (y : S512x4096.Idx) : ((cfg0.win 2).blk t).view.emb y = (ix2 (row t (y 0)) (y 1) : S8192x4096.Idx) := by
  refine Shape.idx_ext₂ ?_ ?_
  · refine (win0_2.rect_emb_val t y 0).trans ?_
    rw [(places t).2.2.1]; rfl
  · exact win0_2.rect_emb_val_of_index_zero t 1 (places t).2.2.2 y

theorem flushed2 (t : Fin cfg0.N) :
    (dats m 0 c).flushed 2 t = ((cfg0.win 2).blk t).view.read (Elt Ideal) (normed (inX m c) (inW m c)) := by
  refine (Value.flushed2 m c t).trans (funext fun (y : S512x4096.Idx) => ?_)
  refine Eq.trans ?_ (congrArg (normed (inX m c) (inW m c)) (emb2 t y)).symm
  show out0_2 (iblk m c 0 t) (iblk m c 1 t) y = _
  unfold out0_2
  rw [View.canon_unit_zero hz, View.ld_unit_zero hz, View.ld_unit_zero hz]
  refine (pay1_apply _ _ y).trans ?_
  exact congrArg₂ (fun v w => normAt v w (y 1)) (funext fun k => read0 m c t (y 0) k) (funext fun k => read1 m c t k)

theorem cover2 (i : S8192x4096.Idx) : ∃ t : Fin cfg0.N, (cfg0.win 2).flush t = true ∧ i ∈ ((cfg0.win 2).blk t).view.set := by
  have h0 : (i 0).val < 8192 := (i 0).isLt
  have hN : cfg0.N = 16 := N_0
  let t : Fin cfg0.N := ⟨(i 0).val / 512, by omega⟩
  let y : S512x4096.Idx := ix2 ⟨(i 0).val % 512, by omega⟩ (i 1)
  have e : ((cfg0.win 2).blk t).view.emb y = i := (emb2 t y).trans (Shape.idx_ext₂
    (by show (i 0).val / 512 * 512 + (i 0).val % 512 = (i 0).val; omega) rfl)
  exact ⟨t, flush0_2 t, e ▸ ((cfg0.win 2).blk t).view.emb_mem_set y⟩

theorem final2 : (dats m 0 c).arrAt 2 cfg0.N = normed (inX m c) (inW m c) :=
  (dats m 0 c).arrAt_eq_of_cover 2 _ (fun t _ => flushed2 m c t) cover2

/-! ## The words' program runs the same text -/

theorem bodies_eq : Cert.PreNorm.defs₀ (F := Bits) = Cert.PreNormIdeal.defs₀ := by
  unfold Cert.PreNorm.defs₀ Cert.PreNormIdeal.defs₀
  refine congrArg Defs.onTc (funext fun l => funext fun x => ?_)
  match l, x with
  | 0, (t, s) => rfl

theorem defs_eq : Cert.PreNorm.defs (F := Bits) = Cert.PreNormIdeal.defs :=
  congrArg (Idealize.ShloMosaic.Pipeline.defs Cert.PreNorm.pcfgs) bodies_eq

end Cert.Proof.PreNorm

end
-- ==== Proof.Post.lean ====
/-
  The norm after a sub-layer with its residual addition, and the norm before the next one: every grid point writes
  256 rows of both.
-/
module

public import proofs.«01_k».proof.Proof.Rms
public import proofs.«01_k».proof.Proof.Gen.Post
public import proofs.«01_k».proof.Proof.Gen.PostIdeal.Value
public import proofs.«01_k».proof.Proof.Gen.PostReferenceIdeal.Run

@[expose] public section

set_option maxRecDepth 16384

noncomputable section

namespace Cert.Proof.Post

open Cert.PostIdeal Cert.PostIdeal.Gen Cert.Proof.Norm
open Idealize.ShloMosaic Idealize.ShloMosaic.TcCoe Idealize.SL.Sem

variable (m : (ℓ : Loc nD τ sig) → Buf (Elt Ideal) ℓ) (c : Dev nD)

abbrev inH : FVec Ideal S8192x4096 .f32 := m ((c : Thread nD τ).loc main_arg0)
abbrev inA : FVec Ideal S8192x4096 .bf16 := m ((c : Thread nD τ).loc main_arg1)
abbrev inW : FVec Ideal S4x4096 .f32 := m ((c : Thread nD τ).loc main_arg2)
abbrev inZ : FVec Ideal S4x4096 .f32 := m ((c : Thread nD τ).loc main_arg3)

/-- The stream with every row's norm added to it. -/
def added (H : FVec Ideal S8192x4096 .f32) (A : FVec Ideal S8192x4096 .bf16) (W : FVec Ideal S4x4096 .f32) : FVec Ideal S8192x4096 .f32 := fun y =>
  H (ix2 (y 0) (y 1)) + normAt (fun k => A (ix2 (y 0) k)) (fun k => W (ix2 0 k)) (y 1)

/-- Every row's norm of that sum. -/
def normed (H : FVec Ideal S8192x4096 .f32) (A : FVec Ideal S8192x4096 .bf16) (W Z : FVec Ideal S4x4096 .f32) : FVec Ideal S8192x4096 .bf16 := fun y =>
  normAt (fun k => added H A W (ix2 (y 0) k)) (fun k => Z (ix2 0 k)) (y 1)

theorem places : ∀ t : Fin grid0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0) := by decide +kernel

def row (t : Fin cfg0.N) (r : Fin 256) : Fin 8192 := ⟨t.val * 256 + r.val, by have : t.val < 32 := t.isLt.trans_eq N_0; have := r.isLt; omega⟩

theorem read0 (t : Fin cfg0.N) (r : Fin 256) (k : Fin 4096) : iblk m c 0 t (ix2 r k) = inH m c (ix2 (row t r) k) := by
  refine (congrArg (V m c main_arg0 : FVec Ideal S8192x4096 .f32) (Shape.idx_ext₂ (y := ix2 (row t r) k) ?_ ?_)).trans (congrFun (V_main_arg0 m c) _)
  · refine (win0_0.rect_emb_val t (ix2 r k) 0).trans ?_
    rw [(places t).1.1]; rfl
  · exact win0_0.rect_emb_val_of_index_zero t 1 (places t).1.2 (ix2 r k)

theorem read1 (t : Fin cfg0.N) (r : Fin 256) (k : Fin 4096) : iblk m c 1 t (ix2 r k) = inA m c (ix2 (row t r) k) := by
  refine (congrArg (V m c main_arg1 : FVec Ideal S8192x4096 .bf16) (Shape.idx_ext₂ (y := ix2 (row t r) k) ?_ ?_)).trans (congrFun (V_main_arg1 m c) _)
  · refine (win0_1.rect_emb_val t (ix2 r k) 0).trans ?_
    rw [(places t).2.1.1]; rfl
  · exact win0_1.rect_emb_val_of_index_zero t 1 (places t).2.1.2 (ix2 r k)

theorem handed2 (k : Fin 4096) : (V m c main_v4 : FVec Ideal S1x4096 .f32) (ix2 0 k) = inW m c (ix2 0 k) :=
  weight_apply (l := 0) (by decide) (inW m c) slices_S4x4096_S1x4096_0_0 shapeCasts_S1x4096_S4096 shapeCasts_S4096_S1x4096 k

theorem read2 (t : Fin cfg0.N) (k : Fin 4096) : iblk m c 2 t (ix2 0 k) = inW m c (ix2 0 k) := by
  refine (congrArg (V m c main_v4 : FVec Ideal S1x4096 .f32) (Shape.idx_ext₂ (y := ix2 0 k) ?_ ?_)).trans (handed2 m c k)
  · exact win0_2.rect_emb_val_of_index_zero t 0 (places t).2.2.1.1 (ix2 0 k)
  · exact win0_2.rect_emb_val_of_index_zero t 1 (places t).2.2.1.2 (ix2 0 k)

theorem handed3 (k : Fin 4096) : (V m c main_v5 : FVec Ideal S1x4096 .f32) (ix2 0 k) = inZ m c (ix2 0 k) :=
  weight_apply (l := 0) (by decide) (inZ m c) slices_S4x4096_S1x4096_0_0 shapeCasts_S1x4096_S4096 shapeCasts_S4096_S1x4096 k

theorem read3 (t : Fin cfg0.N) (k : Fin 4096) : iblk m c 3 t (ix2 0 k) = inZ m c (ix2 0 k) := by
  refine (congrArg (V m c main_v5 : FVec Ideal S1x4096 .f32) (Shape.idx_ext₂ (y := ix2 0 k) ?_ ?_)).trans (handed3 m c k)
  · exact win0_3.rect_emb_val_of_index_zero t 0 (places t).2.2.2.1.1 (ix2 0 k)
  · exact win0_3.rect_emb_val_of_index_zero t 1 (places t).2.2.2.1.2 (ix2 0 k)

theorem pay1_apply (h : Vec Ideal S256x4096 .f32) (a : Vec Ideal S256x4096 .bf16) (w : Vec Ideal S1x4096 .f32) (y : S256x4096.Idx) :
    k0_pay1 h a w y = h (ix2 (y 0) (y 1)) + normAt (fun k => a (ix2 (y 0) k)) (fun k => w (ix2 0 k)) (y 1) := by
  unfold k0_pay1
  simp only [pointwise]
  exact congrArg₂ (· + ·) (congrArg h (Shape.idx_ext₂ rfl rfl)) (congrArg₂ (· * ·) (congrArg₂ (· * ·) (congrArg a (Shape.idx_ext₂ rfl rfl)) rfl) rfl)

theorem pay2_apply (h : Vec Ideal S256x4096 .f32) (a : Vec Ideal S256x4096 .bf16) (w z : Vec Ideal S1x4096 .f32) (y : S256x4096.Idx) :
    k0_pay2 h a w z y = normAt (fun l => h (ix2 (y 0) l) + normAt (fun k => a (ix2 (y 0) k)) (fun k => w (ix2 0 k)) l) (fun k => z (ix2 0 k)) (y 1) := by
  unfold k0_pay2
  generalize hX : k0_pay1 h a w = X
  simp only [pointwise]
  subst hX
  have e : ∀ l, k0_pay1 h a w (ix2 (y 0) l) = h (ix2 (y 0) l) + normAt (fun k => a (ix2 (y 0) k)) (fun k => w (ix2 0 k)) l := fun l => pay1_apply h a w (ix2 (y 0) l)
  simp only [← e]
  exact congrArg₂ (· * ·) (congrArg₂ (· * ·) (congrArg (k0_pay1 h a w) (Shape.idx_ext₂ rfl rfl)) rfl) rfl

theorem emb4 (t : Fin cfg0.N) (y : S256x4096.Idx) : ((cfg0.win 4).blk t).view.emb y = (ix2 (row t (y 0)) (y 1) : S8192x4096.Idx) := by
  refine Shape.idx_ext₂ ?_ ?_
  · refine (win0_4.rect_emb_val t y 0).trans ?_
    rw [(places t).2.2.2.2.1.1]; rfl
  · exact win0_4.rect_emb_val_of_index_zero t 1 (places t).2.2.2.2.1.2 y

theorem flushed4 (t : Fin cfg0.N) :
    (dats m 0 c).flushed 4 t = ((cfg0.win 4).blk t).view.read (Elt Ideal) (added (inH m c) (inA m c) (inW m c)) := by
  refine (Value.flushed4 m c t).trans (funext fun (y : S256x4096.Idx) => ?_)
  refine Eq.trans ?_ (congrArg (added (inH m c) (inA m c) (inW m c)) (emb4 t y)).symm
  show out0_4 (iblk m c 0 t) (iblk m c 1 t) (iblk m c 2 t) (iblk m c 3 t) y = _
  unfold out0_4
  rw [View.canon_unit_zero hz, View.ld_unit_zero hz, View.ld_unit_zero hz, View.ld_unit_zero hz]
  refine (pay1_apply _ _ _ y).trans ?_
  exact congrArg₂ (· + ·) (read0 m c t (y 0) (y 1)) (congrArg₂ (fun v w => normAt v w (y 1)) (funext fun k => read1 m c t (y 0) k) (funext fun k => read2 m c t k))

theorem cover4 (i : S8192x4096.Idx) : ∃ t : Fin cfg0.N, (cfg0.win 4).flush t = true ∧ i ∈ ((cfg0.win 4).blk t).view.set := by
  have h0 : (i 0).val < 8192 := (i 0).isLt
  have hN : cfg0.N = 32 := N_0
  let t : Fin cfg0.N := ⟨(i 0).val / 256, by omega⟩
  let y : S256x4096.Idx := ix2 ⟨(i 0).val % 256, by omega⟩ (i 1)
  have e : ((cfg0.win 4).blk t).view.emb y = i := (emb4 t y).trans (Shape.idx_ext₂
    (by show (i 0).val / 256 * 256 + (i 0).val % 256 = (i 0).val; omega) rfl)
  exact ⟨t, flush0_4 t, e ▸ ((cfg0.win 4).blk t).view.emb_mem_set y⟩

theorem final4 : (dats m 0 c).arrAt 4 cfg0.N = added (inH m c) (inA m c) (inW m c) :=
  (dats m 0 c).arrAt_eq_of_cover 4 _ (fun t _ => flushed4 m c t) cover4

theorem emb5 (t : Fin cfg0.N) (y : S256x4096.Idx) : ((cfg0.win 5).blk t).view.emb y = (ix2 (row t (y 0)) (y 1) : S8192x4096.Idx) := by
  refine Shape.idx_ext₂ ?_ ?_
  · refine (win0_5.rect_emb_val t y 0).trans ?_
    rw [(places t).2.2.2.2.2.1]; rfl
  · exact win0_5.rect_emb_val_of_index_zero t 1 (places t).2.2.2.2.2.2 y

theorem flushed5 (t : Fin cfg0.N) :
    (dats m 0 c).flushed 5 t = ((cfg0.win 5).blk t).view.read (Elt Ideal) (normed (inH m c) (inA m c) (inW m c) (inZ m c)) := by
  refine (Value.flushed5 m c t).trans (funext fun (y : S256x4096.Idx) => ?_)
  refine Eq.trans ?_ (congrArg (normed (inH m c) (inA m c) (inW m c) (inZ m c)) (emb5 t y)).symm
  show out0_5 (iblk m c 0 t) (iblk m c 1 t) (iblk m c 2 t) (iblk m c 3 t) y = _
  unfold out0_5
  rw [View.canon_unit_zero hz, View.ld_unit_zero hz, View.ld_unit_zero hz, View.ld_unit_zero hz, View.ld_unit_zero hz]
  refine (pay2_apply _ _ _ _ y).trans ?_
  exact congrArg₂ (fun v w => normAt v w (y 1)) (funext fun l => congrArg₂ (· + ·) (read0 m c t (y 0) l) (congrArg₂ (fun v w => normAt v w l) (funext fun k => read1 m c t (y 0) k) (funext fun k => read2 m c t k)))
    (funext fun k => read3 m c t k)

theorem cover5 (i : S8192x4096.Idx) : ∃ t : Fin cfg0.N, (cfg0.win 5).flush t = true ∧ i ∈ ((cfg0.win 5).blk t).view.set := by
  have h0 : (i 0).val < 8192 := (i 0).isLt
  have hN : cfg0.N = 32 := N_0
  let t : Fin cfg0.N := ⟨(i 0).val / 256, by omega⟩
  let y : S256x4096.Idx := ix2 ⟨(i 0).val % 256, by omega⟩ (i 1)
  have e : ((cfg0.win 5).blk t).view.emb y = i := (emb5 t y).trans (Shape.idx_ext₂
    (by show (i 0).val / 256 * 256 + (i 0).val % 256 = (i 0).val; omega) rfl)
  exact ⟨t, flush0_5 t, e ▸ ((cfg0.win 5).blk t).view.emb_mem_set y⟩

theorem final5 : (dats m 0 c).arrAt 5 cfg0.N = normed (inH m c) (inA m c) (inW m c) (inZ m c) :=
  (dats m 0 c).arrAt_eq_of_cover 5 _ (fun t _ => flushed5 m c t) cover5

/-! ## The words' program runs the same text -/

theorem bodies_eq : Cert.Post.defs₀ (F := Bits) = Cert.PostIdeal.defs₀ := by
  unfold Cert.Post.defs₀ Cert.PostIdeal.defs₀
  refine congrArg Defs.onTc (funext fun l => funext fun x => ?_)
  match l, x with
  | 0, (t, s) => rfl

theorem defs_eq : Cert.Post.defs (F := Bits) = Cert.PostIdeal.defs :=
  congrArg (Idealize.ShloMosaic.Pipeline.defs Cert.Post.pcfgs) bodies_eq

end Cert.Proof.Post

end
-- ==== Proof.PostLast.lean ====
/-
  The last norm with its residual addition: every grid point writes 256 rows.
-/
module

public import proofs.«01_k».proof.Proof.Rms
public import proofs.«01_k».proof.Proof.Gen.PostLast
public import proofs.«01_k».proof.Proof.Gen.PostLastIdeal.Value
public import proofs.«01_k».proof.Proof.Gen.PostLastReferenceIdeal.Run

@[expose] public section

set_option maxRecDepth 16384

noncomputable section

namespace Cert.Proof.PostLast

open Cert.PostLastIdeal Cert.PostLastIdeal.Gen Cert.Proof.Norm
open Idealize.ShloMosaic Idealize.ShloMosaic.TcCoe Idealize.SL.Sem

variable (m : (ℓ : Loc nD τ sig) → Buf (Elt Ideal) ℓ) (c : Dev nD)

abbrev inH : FVec Ideal S8192x4096 .f32 := m ((c : Thread nD τ).loc main_arg0)
abbrev inA : FVec Ideal S8192x4096 .bf16 := m ((c : Thread nD τ).loc main_arg1)
abbrev inW : FVec Ideal S4x4096 .f32 := m ((c : Thread nD τ).loc main_arg2)

/-- The stream with every row's norm added to it. -/
def added (H : FVec Ideal S8192x4096 .f32) (A : FVec Ideal S8192x4096 .bf16) (W : FVec Ideal S4x4096 .f32) : FVec Ideal S8192x4096 .f32 := fun y =>
  H (ix2 (y 0) (y 1)) + normAt (fun k => A (ix2 (y 0) k)) (fun k => W (ix2 3 k)) (y 1)

theorem places : ∀ t : Fin grid0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0) := by decide +kernel

def row (t : Fin cfg0.N) (r : Fin 256) : Fin 8192 := ⟨t.val * 256 + r.val, by have : t.val < 32 := t.isLt.trans_eq N_0; have := r.isLt; omega⟩

theorem read0 (t : Fin cfg0.N) (r : Fin 256) (k : Fin 4096) : iblk m c 0 t (ix2 r k) = inH m c (ix2 (row t r) k) := by
  refine (congrArg (V m c main_arg0 : FVec Ideal S8192x4096 .f32) (Shape.idx_ext₂ (y := ix2 (row t r) k) ?_ ?_)).trans (congrFun (V_main_arg0 m c) _)
  · refine (win0_0.rect_emb_val t (ix2 r k) 0).trans ?_
    rw [(places t).1.1]; rfl
  · exact win0_0.rect_emb_val_of_index_zero t 1 (places t).1.2 (ix2 r k)

theorem read1 (t : Fin cfg0.N) (r : Fin 256) (k : Fin 4096) : iblk m c 1 t (ix2 r k) = inA m c (ix2 (row t r) k) := by
  refine (congrArg (V m c main_arg1 : FVec Ideal S8192x4096 .bf16) (Shape.idx_ext₂ (y := ix2 (row t r) k) ?_ ?_)).trans (congrFun (V_main_arg1 m c) _)
  · refine (win0_1.rect_emb_val t (ix2 r k) 0).trans ?_
    rw [(places t).2.1.1]; rfl
  · exact win0_1.rect_emb_val_of_index_zero t 1 (places t).2.1.2 (ix2 r k)

theorem handed2 (k : Fin 4096) : (V m c main_v2 : FVec Ideal S1x4096 .f32) (ix2 0 k) = inW m c (ix2 3 k) :=
  weight_apply (l := 3) (by decide) (inW m c) slices_S4x4096_S1x4096_3_0 shapeCasts_S1x4096_S4096 shapeCasts_S4096_S1x4096 k

theorem read2 (t : Fin cfg0.N) (k : Fin 4096) : iblk m c 2 t (ix2 0 k) = inW m c (ix2 3 k) := by
  refine (congrArg (V m c main_v2 : FVec Ideal S1x4096 .f32) (Shape.idx_ext₂ (y := ix2 0 k) ?_ ?_)).trans (handed2 m c k)
  · exact win0_2.rect_emb_val_of_index_zero t 0 (places t).2.2.1.1 (ix2 0 k)
  · exact win0_2.rect_emb_val_of_index_zero t 1 (places t).2.2.1.2 (ix2 0 k)

theorem pay1_apply (h : Vec Ideal S256x4096 .f32) (a : Vec Ideal S256x4096 .bf16) (w : Vec Ideal S1x4096 .f32) (y : S256x4096.Idx) :
    k0_pay1 h a w y = h (ix2 (y 0) (y 1)) + normAt (fun k => a (ix2 (y 0) k)) (fun k => w (ix2 0 k)) (y 1) := by
  unfold k0_pay1
  simp only [pointwise]
  exact congrArg₂ (· + ·) (congrArg h (Shape.idx_ext₂ rfl rfl)) (congrArg₂ (· * ·) (congrArg₂ (· * ·) (congrArg a (Shape.idx_ext₂ rfl rfl)) rfl) rfl)

theorem emb3 (t : Fin cfg0.N) (y : S256x4096.Idx) : ((cfg0.win 3).blk t).view.emb y = (ix2 (row t (y 0)) (y 1) : S8192x4096.Idx) := by
  refine Shape.idx_ext₂ ?_ ?_
  · refine (win0_3.rect_emb_val t y 0).trans ?_
    rw [(places t).2.2.2.1]; rfl
  · exact win0_3.rect_emb_val_of_index_zero t 1 (places t).2.2.2.2 y

theorem flushed3 (t : Fin cfg0.N) :
    (dats m 0 c).flushed 3 t = ((cfg0.win 3).blk t).view.read (Elt Ideal) (added (inH m c) (inA m c) (inW m c)) := by
  refine (Value.flushed3 m c t).trans (funext fun (y : S256x4096.Idx) => ?_)
  refine Eq.trans ?_ (congrArg (added (inH m c) (inA m c) (inW m c)) (emb3 t y)).symm
  show out0_3 (iblk m c 0 t) (iblk m c 1 t) (iblk m c 2 t) y = _
  unfold out0_3
  rw [View.canon_unit_zero hz, View.ld_unit_zero hz, View.ld_unit_zero hz, View.ld_unit_zero hz]
  refine (pay1_apply _ _ _ y).trans ?_
  exact congrArg₂ (· + ·) (read0 m c t (y 0) (y 1)) (congrArg₂ (fun v w => normAt v w (y 1)) (funext fun k => read1 m c t (y 0) k) (funext fun k => read2 m c t k))

theorem cover3 (i : S8192x4096.Idx) : ∃ t : Fin cfg0.N, (cfg0.win 3).flush t = true ∧ i ∈ ((cfg0.win 3).blk t).view.set := by
  have h0 : (i 0).val < 8192 := (i 0).isLt
  have hN : cfg0.N = 32 := N_0
  let t : Fin cfg0.N := ⟨(i 0).val / 256, by omega⟩
  let y : S256x4096.Idx := ix2 ⟨(i 0).val % 256, by omega⟩ (i 1)
  have e : ((cfg0.win 3).blk t).view.emb y = i := (emb3 t y).trans (Shape.idx_ext₂
    (by show (i 0).val / 256 * 256 + (i 0).val % 256 = (i 0).val; omega) rfl)
  exact ⟨t, flush0_3 t, e ▸ ((cfg0.win 3).blk t).view.emb_mem_set y⟩

theorem final3 : (dats m 0 c).arrAt 3 cfg0.N = added (inH m c) (inA m c) (inW m c) :=
  (dats m 0 c).arrAt_eq_of_cover 3 _ (fun t _ => flushed3 m c t) cover3

/-! ## The words' program runs the same text -/

theorem bodies_eq : Cert.PostLast.defs₀ (F := Bits) = Cert.PostLastIdeal.defs₀ := by
  unfold Cert.PostLast.defs₀ Cert.PostLastIdeal.defs₀
  refine congrArg Defs.onTc (funext fun l => funext fun x => ?_)
  match l, x with
  | 0, (t, s) => rfl

theorem defs_eq : Cert.PostLast.defs (F := Bits) = Cert.PostLastIdeal.defs :=
  congrArg (Idealize.ShloMosaic.Pipeline.defs Cert.PostLast.pcfgs) bodies_eq

end Cert.Proof.PostLast

end
-- ==== Proof.Gla.lean ====
/-
  The gated linear attention: the words' program runs the text of the program over the reals, and the reference, a
  counted loop between straight lines, leaves its arguments as they were.
-/
module

public import proofs.«01_k».proof.Defs
public import proofs.«01_k».proof.Proof.Gen.Gla
public import proofs.«01_k».proof.Proof.Gen.GlaIdeal.Frame
public import proofs.«01_k».proof.Proof.Gen.GlaReferenceIdeal.Run
public import Idealize.ShloMosaic.Lib.Quiescent

@[expose] public section

set_option maxRecDepth 16384

noncomputable section

namespace Cert.Proof.Gla

open Idealize.ShloMosaic Idealize.ShloMosaic.TcCoe Idealize.ShloMosaic.StableHlo Idealize.SL.Sem

/-! ## The words' program runs the same text -/

theorem bodies_eq : Cert.Gla.defs₀ (F := Bits) = Cert.GlaIdeal.defs₀ := by
  unfold Cert.Gla.defs₀ Cert.GlaIdeal.defs₀
  refine congrArg Defs.onTc (funext fun l => funext fun x => ?_)
  match l, x with
  | 0, (t, s) => rfl

theorem defs_eq : Cert.Gla.defs (F := Bits) = Cert.GlaIdeal.defs :=
  congrArg (Idealize.ShloMosaic.Pipeline.defs Cert.Gla.pcfgs) bodies_eq

/-! ## The reference leaves its arguments -/

open Cert.GlaReferenceIdeal Cert.GlaReferenceIdeal.Gen Cert.GlaReferenceIdeal.Value

/-- What the lines after the loop write. -/
abbrev last9 : List (Ref sig .tc) := [main_v54, main_v55, main_v56, main_v57, main_v58, main_cst_5, main_v59, main_v60, main_cst_6, main_v61, main_v62, main_cst_7, main_v63, main_v64, main_v65, main_v66, main_v67, main_v68, main_v69, main_v70, main_v71, main_v72, main_v73]
abbrev last10 : List (Ref sig .tc) := [main_call7_v0, main_call7_v1, main_call7_cst, main_call7_v2, main_call7_v3, main_call7_cst_0, main_call7_v4, main_call7_v5, main_v74]
abbrev last11 : List (Ref sig .tc) := [main_v75, main_v76, main_v77, main_v78, main_v79]

variable {F : FTy → Type} [FloatOps F]

theorem last9_writes : (hostOps0_9 : List (HloOp τ sig (Elt F))).Forall fun op => op.writes ⊆ (last9.map (Proc.devRef (τ := τ) .tc)).toFinset :=
  forall_writes_sub_of_map rfl
theorem last10_writes : (hostOps0_10 : List (HloOp τ sig (Elt F))).Forall fun op => op.writes ⊆ (last10.map (Proc.devRef (τ := τ) .tc)).toFinset :=
  forall_writes_sub_of_map rfl
theorem last11_writes : (hostOps0_11 : List (HloOp τ sig (Elt F))).Forall fun op => op.writes ⊆ (last11.map (Proc.devRef (τ := τ) .tc)).toFinset :=
  forall_writes_sub_of_map rfl

/-- What @main writes before its loop, in it and after it. -/
abbrev preW : List (Ref sig .tc) := hostOps0_W ++ hostOps0_1_W ++ hostOps0_2_W ++ hostOps0_3_W ++ hostOps0_4_W ++ hostOps0_5_W ++ hostOps0_6_W ++ hostOps0_7_W ++ hostOps0_8_W
abbrev loopW : List (Ref sig .tc) := condOps_W ++ while0Ops0_W ++ while0Ops0_1_W ++ while0Ops0_2_W ++ while0Ops0_3_W ++ while0Ops0_4_W
abbrev postW : List (Ref sig .tc) := last9 ++ last10 ++ last11

variable (m : (ℓ : Loc nD τ sig) → Buf (Elt F) ℓ)

theorem pre_keeps (c : Dev nD) (r : Ref sig .tc) (h : r ∉ preW) :
    entryContents preI m c (Proc.devRef .tc r) = m ((c.tc : Thread nD τ).loc r) := by
  simp only [preW, List.mem_append, not_or] at h
  obtain ⟨⟨⟨⟨⟨⟨⟨⟨h0, h1⟩, h2⟩, h3⟩, h4⟩, h5⟩, h6⟩, h7⟩, h8⟩ := h
  simp only [entryContents, afterL_cons, afterL_nil]
  rw [after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- A buffer no trip writes is as the loop found it. -/
theorem loop_keeps (c : Dev nD) (r : Ref sig .tc) (h : r ∉ loopW) :
    ∀ k, atK m k c (Proc.devRef .tc r) = entryContents preI m c (Proc.devRef .tc r)
  | 0 => rfl
  | k + 1 => by
    have ih := loop_keeps c r h k
    simp only [loopW, List.mem_append, not_or] at h
    obtain ⟨⟨⟨⟨⟨h0, h1⟩, h2⟩, h3⟩, h4⟩, h5⟩ := h
    rw [show atK m (k + 1) c = afterL bodyI (after condOps (atK m k c)) from rfl]
    simp only [afterL_cons, afterL_nil]
    rw [after_of_writes_sub while0Ops0_4 _ while0Ops0_4_writes h5, after_of_writes_sub while0Ops0_3 _ while0Ops0_3_writes h4,
      after_of_writes_sub while0Ops0_2 _ while0Ops0_2_writes h3, after_of_writes_sub while0Ops0_1 _ while0Ops0_1_writes h2,
      after_of_writes_sub while0Ops0 _ while0Ops0_writes h1, after_of_writes_sub condOps _ condOps_writes h0, ih]
    rfl

/-- A buffer the lines after the loop do not write. -/
theorem post_keeps (V : Valuation τ sig (Elt F)) (r : Ref sig .tc) (h : r ∉ postW) :
    afterL postI V (Proc.devRef .tc r) = V (Proc.devRef .tc r) := by
  simp only [postW, List.mem_append, not_or] at h
  obtain ⟨⟨h0, h1⟩, h2⟩ := h
  simp only [afterL_cons, afterL_nil]
  rw [after_of_writes_sub hostOps0_11 _ last11_writes h2, after_of_writes_sub hostOps0_10 _ last10_writes h1,
    after_of_writes_sub hostOps0_9 _ last9_writes h0]

/-- An array nothing writes ends as launched. -/
theorem reference_keeps (c : Dev nD) (r : Ref sig .tc) (h : r ∉ preW ∧ r ∉ loopW ∧ r ∉ postW) :
    finalContents condOps preI bodyI postI 64 m c (Proc.devRef .tc r) = m ((c.tc : Thread nD τ).loc r) :=
  (post_keeps _ r h.2.2).trans ((after_of_writes_sub condOps _ condOps_writes fun hc => h.2.1 (List.mem_append_left _ (List.mem_append_left _ (List.mem_append_left _ (List.mem_append_left _ (List.mem_append_left _ hc)))))).trans ((loop_keeps m c r h.2.1 64).trans (pre_keeps m c r h.1)))

end Cert.Proof.Gla

end
-- ==== Proof.GlaOps.lean ====
/-
  The body of the gated linear attention's kernel as operations that are the same for every head and chunk: the gate, the
  cumulative sums inside the chunks, the decayed queries and keys, one head's scores, one chunk's update of a head's state,
  one chunk's rows of a head's output, and the normalised and gated tile.
-/
module

public import proofs.«01_k».proof.Proof.Gen.GlaIdeal.Frame

@[expose] public section

set_option maxRecDepth 65536

noncomputable section

namespace Cert.Proof.Gla

open Cert.GlaIdeal Cert.GlaIdeal.Gen
open Idealize.ShloMosaic Idealize.ShloMosaic.TcCoe

variable {F : FTy → Type} [FloatOps F]

theorem slice_rows : ∀ c : Fin 4, S256x1024.Slices ![64 * c.val, 0] S64x1024 := by decide
theorem slice_last : ∀ c : Fin 4, S256x1024.Slices ![64 * c.val + 63, 0] S1x1024 := by decide
theorem slice_head : ∀ h : Fin 4, S256x1024.Slices ![0, 256 * h.val] S256x256 := by decide
theorem slice_values : ∀ c : Fin 4, S256x512.Slices ![64 * c.val, 0] S64x512 := by decide
theorem slice_tail : ∀ h : Fin 4, S64x1024.Slices ![0, 256 * h.val] S64x256 := by decide
theorem slice_block : ∀ c h : Fin 4, S256x1024.Slices ![64 * c.val, 256 * h.val] S64x256 := by decide
theorem slice_decay : ∀ h : Fin 4, S1x1024.Slices ![0, 256 * h.val] S1x256 := by decide

/-- Which pairs of rows of a block lie in one chunk, the second no later than the first. -/
def mask : IVec S256x256 1 :=
  k0_pay8 (iota .tc S256x256 32 [0] iota_S256x256_d0_w32) (iota .tc S256x256 32 [1] iota_S256x256_d1_w32) k0_pay5 64#32 k0_pay6 k0_pay7

/-- The logarithm of the gate; its sums inside the chunks; the decayed queries and keys; the keys. -/
def gateV (fb : Vec F S1x256x128 .f32) (w : Vec F S128x1024 .bf16) (b : Vec F S1x1024 .f32) : FVec F S256x1024 .f32 := k0_pay4 fb w b
def cumV (a : FVec F S256x1024 .f32) : FVec F S256x1024 .f32 := k0_pay9 a mask (Scalar.ofBits .f32 0x3F800000#32)
def qdecV (cum : FVec F S256x1024 .f32) (q : Vec F S1x256x1024 .bf16) : FVec F S256x1024 .bf16 :=
  truncf .bf16 (mulf (mulf (extf .f32 (shapeCast S256x1024 q shapeCasts_S1x256x1024_S256x1024 : FVec F S256x1024 .bf16) bitsLt_bf16_f32) (broadcast S256x1024 (Scalar.ofBits .f32 0x3D800000#32))) (exp cum)) bitsLt_bf16_f32
def keyV (k : Vec F S1x256x1024 .bf16) : FVec F S256x1024 .f32 := k0_pay10 k
def kinvV (cum : FVec F S256x1024 .f32) (k : FVec F S256x1024 .f32) : FVec F S256x1024 .bf16 :=
  truncf .bf16 (mulf k (exp (subf (broadcast S256x1024 (Scalar.ofBits .f32 0x00000000#32)) cum))) bitsLt_bf16_f32
/-- The last row of a chunk's sums; its exponential; the keys decayed to the chunk's end. -/
def lastV (cum : FVec F S256x1024 .f32) (c : Fin 4) : FVec F S1x1024 .f32 := extractStridedSlice S1x1024 ![64 * c.val + 63, 0] cum (slice_last c)
def decayV (cum : FVec F S256x1024 .f32) (c : Fin 4) : FVec F S1x1024 .f32 := exp (lastV cum c)
def tailV (cum k : FVec F S256x1024 .f32) (c : Fin 4) : FVec F S64x1024 .bf16 :=
  truncf .bf16 (mulf (extractStridedSlice S64x1024 ![64 * c.val, 0] k (slice_rows c))
    (exp (subf (broadcastTo S64x1024 (lastV cum c) broadcasts_S1x1024_S64x1024) (extractStridedSlice S64x1024 ![64 * c.val, 0] cum (slice_rows c))))) bitsLt_bf16_f32
/-- A head's values. -/
def valueV (v : Vec F S1x256x512 .bf16) : FVec F S256x512 .bf16 := shapeCast S256x512 v shapeCasts_S1x256x512_S256x512
/-- One head's masked scores against its values. -/
def intraV (qd ki : FVec F S256x1024 .bf16) (v : FVec F S256x512 .bf16) (h : Fin 4) : FVec F S256x512 .f32 :=
  matmul dot_S256x256_S256x512_S256x512_1_0_0_1_n_n none
    (truncf .bf16 (select mask (matmul dot_S256x256_S256x256_S256x256_1_1_0_0_n_n none
      (extractStridedSlice S256x256 ![0, 256 * h.val] qd (slice_head h)) (extractStridedSlice S256x256 ![0, 256 * h.val] ki (slice_head h))
      (constant S256x256 .f32 0x00000000#32)) (broadcast S256x256 (Scalar.ofBits .f32 0x00000000#32))) bitsLt_bf16_f32)
    v (constant S256x512 .f32 0x00000000#32)
/-- What a chunk adds to a head's state. -/
def updV (v : FVec F S256x512 .bf16) (tail : FVec F S64x1024 .bf16) (c h : Fin 4) : FVec F S512x256 .f32 :=
  matmul dot_S64x512_S64x256_S512x256_0_0_1_1_n_n none (extractStridedSlice S64x512 ![64 * c.val, 0] v (slice_values c))
    (extractStridedSlice S64x256 ![0, 256 * h.val] tail (slice_tail h)) (constant S512x256 .f32 0x00000000#32)
/-- A chunk's rows of a head's output, over the state before the chunk. -/
def partV (intra : FVec F S256x512 .f32) (qd : FVec F S256x1024 .bf16) (s : FVec F S512x256 .f32) (c h : Fin 4) : FVec F S64x512 .f32 :=
  addf (extractStridedSlice S64x512 ![64 * c.val, 0] intra (slice_values c))
    (matmul dot_S64x256_S512x256_S64x512_1_1_0_0_n_n none (extractStridedSlice S64x256 ![64 * c.val, 256 * h.val] qd (slice_block c h))
      (truncf .bf16 s bitsLt_bf16_f32) (constant S64x512 .f32 0x00000000#32))
/-- A head's state after a chunk. -/
def nextV (e : FVec F S1x1024 .f32) (u s : FVec F S512x256 .f32) (h : Fin 4) : FVec F S512x256 .f32 :=
  addf (mulf s (broadcastTo S512x256 (extractStridedSlice S1x256 ![0, 256 * h.val] e (slice_decay h)) broadcasts_S1x256_S512x256)) u
/-- The four chunks' rows of a head's output, one below the other. -/
def joinV (a b c d : FVec F S64x512 .f32) : FVec F S256x512 .f32 :=
  concatenate S256x512 0 [⟨S64x512, a⟩, ⟨S64x512, b⟩, ⟨S64x512, c⟩, ⟨S64x512, d⟩] concatenates_S64x512_S64x512_S64x512_S64x512_S256x512_d0
/-- Normalised by its mean square, weighted and gated. -/
def finishV (o : FVec F S256x512 .f32) (w : Vec F S1x512 .f32) (g : Vec F S1x256x512 .bf16) : FVec F S1x256x512 .bf16 :=
  k0_pay104 o (shapeCast S256x1 (multiReduction .add [1] S256 (mulf o o) 0x00000000#32 reduces_S256x512_S256 (.inl rfl) rfl) shapeCasts_S256_S256x1) k0_pay103 w g

/-- A head's state after `n` chunks of the block. -/
def stateV (cum k : FVec F S256x1024 .f32) (v : FVec F S256x512 .bf16) (s : FVec F S512x256 .f32) (h : Fin 4) : ℕ → FVec F S512x256 .f32
  | 0 => s
  | n + 1 => nextV (decayV cum (Fin.ofNat 4 n)) (updV v (tailV cum k (Fin.ofNat 4 n)) (Fin.ofNat 4 n) h) (stateV cum k v s h n) h

/-- A chunk's rows of a head's output, from the block's arrays. -/
def rowsV (cum k : FVec F S256x1024 .f32) (q : Vec F S1x256x1024 .bf16) (v : FVec F S256x512 .bf16) (s : FVec F S512x256 .f32) (h c : Fin 4) : FVec F S64x512 .f32 :=
  partV (intraV (qdecV cum q) (kinvV cum k) v h) (qdecV cum q) (stateV cum k v s h c.val) c h

/-- A head's tile of the block's result. -/
def tileV (a : FVec F S256x1024 .f32) (q k : Vec F S1x256x1024 .bf16) (v g : Vec F S1x256x512 .bf16) (w : Vec F S1x512 .f32) (s : Vec F S1x512x256 .f32) (h : Fin 4) : FVec F S1x256x512 .bf16 :=
  finishV (joinV (rowsV (cumV a) (keyV k) q (valueV v) (shapeCast S512x256 s shapeCasts_S1x512x256_S512x256) h 0) (rowsV (cumV a) (keyV k) q (valueV v) (shapeCast S512x256 s shapeCasts_S1x512x256_S512x256) h 1)
    (rowsV (cumV a) (keyV k) q (valueV v) (shapeCast S512x256 s shapeCasts_S1x512x256_S512x256) h 2) (rowsV (cumV a) (keyV k) q (valueV v) (shapeCast S512x256 s shapeCasts_S1x512x256_S512x256) h 3)) w g
/-- A head's state after the block. -/
def afterV (a : FVec F S256x1024 .f32) (k : Vec F S1x256x1024 .bf16) (v : Vec F S1x256x512 .bf16) (s : Vec F S1x512x256 .f32) (h : Fin 4) : FVec F S1x512x256 .f32 :=
  shapeCast S1x512x256 (stateV (cumV a) (keyV k) (valueV v) (shapeCast S512x256 s shapeCasts_S1x512x256_S512x256) h 4) shapeCasts_S512x256_S1x512x256

end Cert.Proof.Gla

end
-- ==== Proof.GlaMask.lean ====
/-
  The block mask of the gated linear attention, entry by entry: rows of one chunk, the second no later.
-/
module

public import proofs.«01_k».proof.Proof.GlaOps
public import Idealize.ShloMosaic.Lib.Pointwise
public import Idealize.ShloMosaic.Lib.Pipeline.Value

@[expose] public section

set_option maxRecDepth 16384

noncomputable section

namespace Cert.Proof.Gla

open Cert.GlaIdeal Cert.GlaIdeal.Gen
open Idealize.ShloMosaic Idealize.ShloMosaic.TcCoe

/-- The chunk a row's number falls in, as the kernel divides it out. -/
def chunkOf (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi ArithUnit.vector w 64#32) 0#32))
    (IntOp.subi (IntOp.divsi ArithUnit.vector w 64#32) 1#32)
    (IntOp.divsi ArithUnit.vector w 64#32)

theorem chunkOf_eq : ∀ n : Fin 256, chunkOf (BitVec.ofNat 32 n.val) = BitVec.ofNat 32 (n.val / 64) := by decide +kernel

theorem mask_words (r m : Fin 256) :
    mask (ix2 r m) = IntOp.andi (IntOp.cmpi .sle (BitVec.ofNat 32 m.val) (BitVec.ofNat 32 r.val))
      (IntOp.cmpi .eq (chunkOf (BitVec.ofNat 32 m.val)) (chunkOf (BitVec.ofNat 32 r.val))) := by
  have e1 : List.foldl (fun n a => n * (![256, 256] : Fin 2 → ℕ) a + ↑(ix2 r m a)) 0 [1] = m.val := by
    show 0 * 256 + m.val = m.val
    omega
  have e0 : List.foldl (fun n a => n * (![256, 256] : Fin 2 → ℕ) a + ↑(ix2 r m a)) 0 [0] = r.val := by
    show 0 * 256 + r.val = r.val
    omega
  unfold mask k0_pay8 k0_pay5 k0_pay6 k0_pay7
  simp only [pointwise]
  rw [e0, e1]
  rfl

theorem mask_apply (r m : Fin 256) : mask (ix2 r m) = if m.val / 64 = r.val / 64 ∧ m ≤ r then 1 else 0 := by
  rw [mask_words, chunkOf_eq, chunkOf_eq]
  revert r m
  decide +kernel

end Cert.Proof.Gla

end
-- ==== Proof.GlaSpec.lean ====
/-
  The gated linear attention as mathematics over the extended reals: a chunk's decayed scores, what it adds to a
  head's state, and the normalised, gated rows over the state before it.
-/
module

public import Idealize.ShloMosaic.Lib.Pointwise
public import Idealize.ShloMosaic.Lib.KernelVsHost

@[expose] public section

noncomputable section

namespace Cert.Proof.Gla

open Idealize.ShloMosaic

/-- The column of a head's key coordinate. -/
def col (h : Fin 4) (d : Fin 256) : Fin 1024 := ⟨256 * h.val + d.val, by omega⟩
/-- The column of a head's value coordinate. -/
def vcol (h : Fin 4) (v : Fin 512) : Fin 2048 := ⟨512 * h.val + v.val, by omega⟩
/-- A block's row, from its chunk and the row in the chunk. -/
def row (c : Fin 4) (l : Fin 64) : Fin 256 := ⟨64 * c.val + l.val, by omega⟩

/-- The logarithm of the gate, from the gate's argument. -/
def gateC (z : EReal) : EReal :=
  Ideal.div (min z 0 - Ideal.log (1 + Ideal.exp (0 - FloatOps.absf (F := Ideal) (φ := .f32) z))) (Ideal.ofBits .f32 0x41800000#32)

section Chunk
variable (A Q K : Fin 64 → Fin 1024 → EReal) (V : Fin 64 → Fin 512 → EReal) (h : Fin 4)

def cumC (l : Fin 64) (j : Fin 1024) : EReal := ∑ m : Fin 64, if m ≤ l then A m j else 0
def qdC (l : Fin 64) (j : Fin 1024) : EReal := Q l j * Ideal.ofBits .f32 0x3D800000#32 * Ideal.exp (cumC A l j)
def kiC (m : Fin 64) (j : Fin 1024) : EReal := K m j * Ideal.exp (0 - cumC A m j)
def tlC (m : Fin 64) (j : Fin 1024) : EReal := K m j * Ideal.exp (cumC A 63 j - cumC A m j)
def intraC (l : Fin 64) (v : Fin 512) : EReal :=
  ∑ m : Fin 64, if m ≤ l then (∑ d : Fin 256, qdC A Q l (col h d) * kiC A K m (col h d)) * V m v else 0
def updC (v : Fin 512) (d : Fin 256) : EReal := ∑ m : Fin 64, V m v * tlC A K m (col h d)
def outC (s : Fin 512 → Fin 256 → EReal) (l : Fin 64) (v : Fin 512) : EReal :=
  intraC A Q K V h l v + ∑ d : Fin 256, qdC A Q l (col h d) * s v d
def nextC (s : Fin 512 → Fin 256 → EReal) (v : Fin 512) (d : Fin 256) : EReal :=
  s v d * Ideal.exp (cumC A 63 (col h d)) + updC A K V h v d
end Chunk

/-- A row normalised by its mean square, weighted and gated. -/
def finC (o w g : Fin 512 → EReal) (v : Fin 512) : EReal :=
  o v * Ideal.rsqrt (Ideal.div (∑ k : Fin 512, o k * o k) (Ideal.ofBits .f32 0x44000000#32) + Ideal.ofBits .f32 0x358637BD#32) * w v
    * (g v * Ideal.logistic (g v))

/-- A head's state after `n` chunks, from the state `s`. -/
def stateS (A K : ℕ → Fin 64 → Fin 1024 → EReal) (V : ℕ → Fin 64 → Fin 512 → EReal) (h : Fin 4) (s : Fin 512 → Fin 256 → EReal) :
    ℕ → Fin 512 → Fin 256 → EReal
  | 0 => s
  | n + 1 => nextC (A n) (K n) (V n) h (stateS A K V h s n)

theorem stateS_add (A K : ℕ → Fin 64 → Fin 1024 → EReal) (V : ℕ → Fin 64 → Fin 512 → EReal) (h : Fin 4) (s : Fin 512 → Fin 256 → EReal) (m n : ℕ) :
    stateS A K V h s (m + n) = stateS (fun c => A (m + c)) (fun c => K (m + c)) (fun c => V (m + c)) h (stateS A K V h s m) n := by
  induction n with
  | zero => rfl
  | succ n ih => show nextC _ _ _ h (stateS A K V h s (m + n)) = _; rw [ih]; rfl

theorem stateS_congr {A A' K K' : ℕ → Fin 64 → Fin 1024 → EReal} {V V' : ℕ → Fin 64 → Fin 512 → EReal} (h : Fin 4) {s s' : Fin 512 → Fin 256 → EReal} (n : ℕ)
    (hA : ∀ c < n, A c = A' c) (hK : ∀ c < n, K c = K' c) (hV : ∀ c < n, V c = V' c) (hs : s = s') :
    stateS A K V h s n = stateS A' K' V' h s' n := by
  induction n with
  | zero => exact hs
  | succ n ih =>
    show nextC _ _ _ h _ = nextC _ _ _ h _
    rw [ih (fun c hc => hA c (by omega)) (fun c hc => hK c (by omega)) (fun c hc => hV c (by omega)), hA n (by omega), hK n (by omega), hV n (by omega)]

/-- A sum over a block's rows that keeps only the rows of one chunk. -/
theorem sum_block (c : Fin 4) (l : Fin 64) (f : Fin 256 → EReal) :
    (∑ m : Fin 256, if m.val / 64 = (row c l).val / 64 ∧ m ≤ row c l then f m else 0) = ∑ m : Fin 64, if m ≤ l then f (row c m) else 0 := by
  rw [← Finset.sum_filter, ← Finset.sum_filter]
  symm
  refine Finset.sum_nbij (row c) ?_ ?_ ?_ (fun _ _ => rfl)
  · intro m hm
    simp only [Finset.mem_filter, Finset.mem_univ, true_and, Fin.le_def, row] at hm ⊢
    omega
  · intro a _ b _ hab
    have := congrArg Fin.val hab
    simp only [row] at this
    exact Fin.ext (by omega)
  · intro m hm
    simp only [Finset.coe_filter, Finset.mem_univ, true_and, Set.mem_setOf_eq, Fin.le_def, row] at hm
    refine ⟨⟨m.val - 64 * c.val, by omega⟩, ?_, Fin.ext ?_⟩
    · simp only [Finset.coe_filter, Finset.mem_univ, true_and, Set.mem_setOf_eq, Fin.le_def]
      omega
    · simp only [row]
      omega

/-- A value below the top absorbs its own difference. -/
theorem add_sub_self {x : EReal} (hx : x ≠ ⊤) : x + (x - x) = x := by
  induction x using EReal.rec with
  | bot => rfl
  | top => exact absurd rfl hx
  | coe x => rw [← EReal.coe_sub, sub_self]; exact add_zero _

/-- The gate's logarithm is at most zero, so never the top. -/
theorem exp_nonneg (x : EReal) : 0 ≤ Ideal.exp x := by
  induction x using EReal.rec with
  | bot => exact le_refl _
  | top => exact le_top
  | coe r => exact EReal.coe_nonneg.mpr (Real.exp_pos r).le

theorem log_nonneg {x : EReal} (hx : 1 ≤ x) : 0 ≤ Ideal.log x := by
  induction x using EReal.rec with
  | bot => exact absurd hx (by decide)
  | top => exact le_top
  | coe r =>
    have h1 : (1 : ℝ) ≤ r := by exact_mod_cast hx
    show 0 ≤ (if r ≤ 0 then (⊥ : EReal) else (Real.log r : EReal))
    rw [if_neg (by linarith)]
    exact EReal.coe_nonneg.mpr (Real.log_nonneg h1)

theorem sub_nonpos' {x y : EReal} (hx : x ≤ 0) (hy : 0 ≤ y) : x - y ≤ 0 := by
  rw [sub_eq_add_neg]
  exact add_nonpos hx (by simpa using EReal.neg_le_neg_iff.mpr hy)

theorem word16 : Ideal.ofBits .f32 0x41800000#32 = ((16 : ℝ) : EReal) := by
  simp [Ideal.ofBits, Ideal.ieee, -EReal.coe_mul]
  norm_num

theorem gateC_ne_top (z : EReal) : gateC z ≠ ⊤ := by
  have h : min z 0 - Ideal.log (1 + Ideal.exp (0 - FloatOps.absf (F := Ideal) (φ := .f32) z)) ≤ 0 :=
    sub_nonpos' (min_le_right _ _) (log_nonneg (le_add_of_nonneg_right (exp_nonneg _)))
  unfold gateC Ideal.div
  rw [word16, if_neg (by simp)]
  refine ne_of_lt (lt_of_le_of_lt (b := (0 : EReal)) ?_ (by simp))
  refine EReal.mul_nonpos_iff.mpr (Or.inr ⟨h, ?_⟩)
  rw [← EReal.coe_inv]
  exact EReal.coe_nonneg.mpr (by norm_num)

end Cert.Proof.Gla

end
-- ==== Proof.GlaEntries.lean ====
/-
  The operations of one block of the gated linear attention, entry by entry, over the extended reals: each is the
  chunk's formula at the chunk's own rows.
-/
module

public import proofs.«01_k».proof.Proof.GlaMask
public import proofs.«01_k».proof.Proof.GlaSpec
public import Idealize.ShloMosaic.Lib.KernelVsHost

@[expose] public section

set_option maxRecDepth 16384

noncomputable section

namespace Cert.Proof.Gla

open Cert.GlaIdeal Cert.GlaIdeal.Gen
open Idealize.ShloMosaic Idealize.ShloMosaic.TcCoe

/-- A block array's rows by chunk. -/
def chunkA {φ : FTy} (a : FVec Ideal S256x1024 φ) (n : ℕ) (l : Fin 64) (j : Fin 1024) : EReal := a (ix2 (row (Fin.ofNat 4 n) l) j)
def chunkQ (q : Vec Ideal S1x256x1024 .bf16) (n : ℕ) (l : Fin 64) (j : Fin 1024) : EReal := q (ix3 0 (row (Fin.ofNat 4 n) l) j)
def chunkV (v : FVec Ideal S256x512 .bf16) (n : ℕ) (l : Fin 64) (x : Fin 512) : EReal := v (ix2 (row (Fin.ofNat 4 n) l) x)

theorem ofNat_val (c : Fin 4) : Fin.ofNat 4 c.val = c := Fin.ext (Nat.mod_eq_of_lt c.isLt)

theorem select_mask (r m : Fin 256) (x : EReal) :
    Scalar.select (mask (ix2 r m)) x 0 = if m.val / 64 = r.val / 64 ∧ m ≤ r then x else 0 := by
  rw [mask_apply]
  split <;> rfl

theorem cumV_apply (a : FVec Ideal S256x1024 .f32) (ha : ∀ i, a i ≠ ⊤) (c : Fin 4) (l : Fin 64) (j : Fin 1024) :
    cumV a (ix2 (row c l) j) = cumC (chunkA a c.val) l j := by
  have e : cumV a (ix2 (row c l) j) = (0 + ∑ k : Fin 256, Scalar.select (mask (ix2 (row c l) k)) (1 * a (ix2 k j)) 0)
      + (0 + ∑ k : Fin 256, Scalar.select (mask (ix2 (row c l) k)) (1 * (a (ix2 k j) - a (ix2 k j))) 0) := by
    unfold cumV k0_pay9
    generalize mask = M
    simp only [pointwise]
  rw [e, zero_add, zero_add, ← Finset.sum_add_distrib]
  unfold cumC chunkA
  rw [ofNat_val, ← sum_block c l (fun m => a (ix2 m j))]
  refine Finset.sum_congr rfl fun m _ => ?_
  rw [select_mask, select_mask, one_mul, one_mul]
  split
  · exact add_sub_self (ha _)
  · exact add_zero _

theorem qdecV_apply (a : FVec Ideal S256x1024 .f32) (ha : ∀ i, a i ≠ ⊤) (q : Vec Ideal S1x256x1024 .bf16) (c : Fin 4) (l : Fin 64) (j : Fin 1024) :
    qdecV (cumV a) q (ix2 (row c l) j) = qdC (chunkA a c.val) (chunkQ q c.val) l j := by
  unfold qdC
  rw [← cumV_apply a ha]
  unfold qdecV chunkQ
  rw [ofNat_val]
  generalize cumV a = cum
  simp only [pointwise]

theorem keyV_apply (k : Vec Ideal S1x256x1024 .bf16) (r : Fin 256) (j : Fin 1024) : keyV k (ix2 r j) = k (ix3 0 r j) := by
  unfold keyV k0_pay10
  simp only [pointwise]

theorem kinvV_apply (a k : FVec Ideal S256x1024 .f32) (ha : ∀ i, a i ≠ ⊤) (c : Fin 4) (l : Fin 64) (j : Fin 1024) :
    kinvV (cumV a) k (ix2 (row c l) j) = kiC (chunkA a c.val) (chunkA k c.val) l j := by
  unfold kiC
  rw [← cumV_apply a ha]
  unfold kinvV chunkA
  rw [ofNat_val]
  generalize cumV a = cum
  simp only [pointwise]

theorem lastV_apply (a : FVec Ideal S256x1024 .f32) (ha : ∀ i, a i ≠ ⊤) (c : Fin 4) (j : Fin 1024) :
    lastV (cumV a) c (ix2 0 j) = cumC (chunkA a c.val) 63 j := by
  rw [← cumV_apply a ha]
  unfold lastV
  generalize cumV a = cum
  simp only [pointwise]
  exact congrArg cum (Shape.idx_ext₂ rfl (Nat.zero_add _))

theorem tailV_apply (a k : FVec Ideal S256x1024 .f32) (ha : ∀ i, a i ≠ ⊤) (c : Fin 4) (l : Fin 64) (j : Fin 1024) :
    tailV (cumV a) k c (ix2 l j) = tlC (chunkA a c.val) (chunkA k c.val) l j := by
  unfold tlC
  rw [← lastV_apply a ha, ← cumV_apply a ha]
  unfold tailV chunkA
  rw [ofNat_val]
  generalize lastV (cumV a) c = last
  generalize cumV a = cum
  simp only [pointwise]
  have e : (ix2 ⟨![64 * c.val, 0] 0 + l.val, by show 64 * c.val + l.val < 256; omega⟩ ⟨![64 * c.val, 0] 1 + j.val, by show 0 + j.val < 1024; omega⟩ : S256x1024.Idx) = ix2 (row c l) j :=
    Shape.idx_ext₂ rfl (Nat.zero_add _)
  refine congr (congrArg _ (congrArg k e)) (congrArg Ideal.exp (congr (congrArg _ (congrArg last (Shape.idx_ext₂ rfl rfl))) (congrArg cum e)))

theorem intraV_apply (a k : FVec Ideal S256x1024 .f32) (ha : ∀ i, a i ≠ ⊤) (q : Vec Ideal S1x256x1024 .bf16) (v : FVec Ideal S256x512 .bf16) (h c : Fin 4) (l : Fin 64) (x : Fin 512) :
    intraV (qdecV (cumV a) q) (kinvV (cumV a) k) v h (ix2 (row c l) x) = intraC (chunkA a c.val) (chunkQ q c.val) (chunkA k c.val) (chunkV v c.val) h l x := by
  unfold intraC
  have e : ∀ m, (∑ d : Fin 256, qdC (chunkA a c.val) (chunkQ q c.val) l (col h d) * kiC (chunkA a c.val) (chunkA k c.val) m (col h d)) * chunkV v c.val m x
      = (∑ d : Fin 256, qdecV (cumV a) q (ix2 (row c l) (col h d)) * kinvV (cumV a) k (ix2 (row c m) (col h d))) * v (ix2 (row c m) x) := by
    intro m
    unfold chunkV
    rw [ofNat_val]
    refine congrArg (· * _) (Finset.sum_congr rfl fun d _ => ?_)
    rw [qdecV_apply a ha, kinvV_apply a k ha]
  simp only [e]
  rw [← sum_block c l (fun m => (∑ d : Fin 256, qdecV (cumV a) q (ix2 (row c l) (col h d)) * kinvV (cumV a) k (ix2 m (col h d))) * v (ix2 m x))]
  simp only [← select_mask]
  unfold intraV
  generalize mask = M
  generalize qdecV (cumV a) q = qd
  generalize kinvV (cumV a) k = ki
  simp only [pointwise]
  refine (zero_add _).trans (Finset.sum_congr rfl fun m _ => ?_)
  refine congrArg (Scalar.select _ · _) (congrArg (· * _) ((zero_add _).trans (Finset.sum_congr rfl fun d _ => ?_)))
  exact congr (congrArg _ (congrArg qd (Shape.idx_ext₂ (Nat.zero_add _) rfl))) (congrArg ki (Shape.idx_ext₂ (Nat.zero_add _) rfl))

theorem updV_apply (a k : FVec Ideal S256x1024 .f32) (ha : ∀ i, a i ≠ ⊤) (v : FVec Ideal S256x512 .bf16) (h c : Fin 4) (x : Fin 512) (d : Fin 256) :
    updV v (tailV (cumV a) k c) c h (ix2 x d) = updC (chunkA a c.val) (chunkA k c.val) (chunkV v c.val) h x d := by
  unfold updC chunkV
  rw [ofNat_val]
  simp only [← tailV_apply a k ha]
  unfold updV
  generalize tailV (cumV a) k c = tl
  simp only [pointwise]
  refine (zero_add _).trans (Finset.sum_congr rfl fun m _ => ?_)
  exact congr (congrArg _ (congrArg v (Shape.idx_ext₂ rfl (Nat.zero_add _)))) (congrArg tl (Shape.idx_ext₂ (Nat.zero_add _) rfl))

theorem nextV_apply (a k : FVec Ideal S256x1024 .f32) (ha : ∀ i, a i ≠ ⊤) (v : FVec Ideal S256x512 .bf16) (s : FVec Ideal S512x256 .f32) (h c : Fin 4) (x : Fin 512) (d : Fin 256) :
    nextV (decayV (cumV a) c) (updV v (tailV (cumV a) k c) c h) s h (ix2 x d)
      = nextC (chunkA a c.val) (chunkA k c.val) (chunkV v c.val) h (fun x d => s (ix2 x d)) x d := by
  unfold nextC
  rw [← updV_apply a k ha, ← lastV_apply a ha]
  unfold nextV decayV
  generalize updV v (tailV (cumV a) k c) c h = u
  generalize lastV (cumV a) c = last
  simp only [pointwise]
  exact congrArg (· + _) (congrArg (_ * ·) (congrArg Ideal.exp (congrArg last (Shape.idx_ext₂ rfl rfl))))

theorem stateV_apply (a k : FVec Ideal S256x1024 .f32) (ha : ∀ i, a i ≠ ⊤) (v : FVec Ideal S256x512 .bf16) (s : FVec Ideal S512x256 .f32) (h : Fin 4) :
    ∀ (n : ℕ) (x : Fin 512) (d : Fin 256),
    stateV (cumV a) k v s h n (ix2 x d) = stateS (chunkA a) (chunkA k) (chunkV v) h (fun x d => s (ix2 x d)) n x d := by
  intro n
  induction n with
  | zero => exact fun _ _ => rfl
  | succ n ih =>
    intro x d
    have e : (fun x d => stateV (cumV a) k v s h n (ix2 x d)) = stateS (chunkA a) (chunkA k) (chunkV v) h (fun x d => s (ix2 x d)) n := funext fun x => funext fun d => ih x d
    have hn : ∀ {φ : FTy} (b : FVec Ideal S256x1024 φ), chunkA b (Fin.ofNat 4 n).val = chunkA b n := fun b => by unfold chunkA; rw [ofNat_val]
    have hv : chunkV v (Fin.ofNat 4 n).val = chunkV v n := by unfold chunkV; rw [ofNat_val]
    refine (nextV_apply a k ha v _ h _ x d).trans ?_
    rw [e, hn, hn, hv]
    rfl

theorem rowsV_apply (a k : FVec Ideal S256x1024 .f32) (ha : ∀ i, a i ≠ ⊤) (q : Vec Ideal S1x256x1024 .bf16) (v : FVec Ideal S256x512 .bf16) (s : FVec Ideal S512x256 .f32) (h c : Fin 4) (l : Fin 64) (x : Fin 512) :
    rowsV (cumV a) k q v s h c (ix2 l x) = outC (chunkA a c.val) (chunkQ q c.val) (chunkA k c.val) (chunkV v c.val) h
      (stateS (chunkA a) (chunkA k) (chunkV v) h (fun x d => s (ix2 x d)) c.val) l x := by
  unfold outC
  rw [← intraV_apply a k ha]
  simp only [← qdecV_apply a ha, ← stateV_apply a k ha]
  unfold rowsV partV
  generalize intraV (qdecV (cumV a) q) (kinvV (cumV a) k) v h = p
  generalize stateV (cumV a) k v s h c.val = S
  generalize qdecV (cumV a) q = qd
  simp only [pointwise]
  refine congr (congrArg _ (congrArg p (Shape.idx_ext₂ rfl (Nat.zero_add _)))) ((zero_add _).trans (Finset.sum_congr rfl fun d _ => ?_))
  exact congrArg (· * _) (congrArg qd (Shape.idx_ext₂ rfl rfl))

theorem finishV_apply (o : FVec Ideal S256x512 .f32) (w : Vec Ideal S1x512 .f32) (g : Vec Ideal S1x256x512 .bf16) (r : Fin 256) (x : Fin 512) :
    finishV o w g (ix3 0 r x) = finC (fun v => o (ix2 r v)) (fun v => w (ix2 0 v)) (fun v => g (ix3 0 r v)) x := by
  unfold finC finishV k0_pay104 k0_pay103
  simp only [pointwise]
  rfl

theorem joinV_apply (f : Fin 4 → FVec Ideal S64x512 .f32) (c : Fin 4) (l : Fin 64) (x : Fin 512) :
    joinV (f 0) (f 1) (f 2) (f 3) (ix2 (row c l) x) = f c (ix2 l x) := by
  refine concatenate_ofFn_apply (t := S256x512) (s₁ := S64x512) 0 f concatenates_S64x512_S64x512_S64x512_S64x512_S256x512_d0 rfl 64 rfl (ix2 (row c l) x) c ?_ (ix2 l x) ?_ ?_
  · show (64 * c.val + l.val) / 64 = c.val
    omega
  · show l.val = (64 * c.val + l.val) % 64
    omega
  · intro b hb
    match b, hb with
    | ⟨0, _⟩, hb => exact absurd rfl hb
    | ⟨1, _⟩, _ => rfl

theorem gateV_apply (fb : Vec Ideal S1x256x128 .f32) (w : Vec Ideal S128x1024 .bf16) (b : Vec Ideal S1x1024 .f32) (r : Fin 256) (j : Fin 1024) :
    gateV fb w b (ix2 r j) = gateC ((∑ k : Fin 128, fb (ix3 0 r k) * w (ix2 k j)) + b (ix2 0 j)) := by
  unfold gateV k0_pay4 gateC
  simp only [pointwise, zero_add]
  rfl

/-! ## A head's tile and its state after the block -/

theorem tileV_apply (a : FVec Ideal S256x1024 .f32) (ha : ∀ i, a i ≠ ⊤) (q k : Vec Ideal S1x256x1024 .bf16) (v g : Vec Ideal S1x256x512 .bf16) (w : Vec Ideal S1x512 .f32)
    (s : Vec Ideal S1x512x256 .f32) (h c : Fin 4) (l : Fin 64) (x : Fin 512) :
    tileV a q k v g w s h (ix3 0 (row c l) x) = finC (fun x => outC (chunkA a c.val) (chunkQ q c.val) (chunkA (keyV k) c.val) (chunkV (valueV v) c.val) h
      (stateS (chunkA a) (chunkA (keyV k)) (chunkV (valueV v)) h (fun x d => s (ix3 0 x d)) c.val) l x) (fun v => w (ix2 0 v)) (fun v => g (ix3 0 (row c l) v)) x := by
  have es : (fun x d => (shapeCast S512x256 s shapeCasts_S1x512x256_S512x256 : FVec Ideal S512x256 .f32) (ix2 x d)) = fun x d => s (ix3 0 x d) :=
    funext fun x => funext fun d => by simp only [pointwise]
  unfold tileV
  refine (finishV_apply _ w g (row c l) x).trans ?_
  have e (x : Fin 512) := (joinV_apply (fun c => rowsV (cumV a) (keyV k) q (valueV v) (shapeCast S512x256 s shapeCasts_S1x512x256_S512x256) h c) c l x).trans
    (rowsV_apply a (keyV k) ha q (valueV v) _ h c l x)
  rw [es] at e
  exact congrArg (finC · _ _ x) (funext e)

theorem afterV_apply (a : FVec Ideal S256x1024 .f32) (ha : ∀ i, a i ≠ ⊤) (k : Vec Ideal S1x256x1024 .bf16) (v : Vec Ideal S1x256x512 .bf16)
    (s : Vec Ideal S1x512x256 .f32) (h : Fin 4) (x : Fin 512) (d : Fin 256) :
    afterV a k v s h (ix3 0 x d) = stateS (chunkA a) (chunkA (keyV k)) (chunkV (valueV v)) h (fun x d => s (ix3 0 x d)) 4 x d := by
  have es : (fun x d => (shapeCast S512x256 s shapeCasts_S1x512x256_S512x256 : FVec Ideal S512x256 .f32) (ix2 x d)) = fun x d => s (ix3 0 x d) :=
    funext fun x => funext fun d => by simp only [pointwise]
  rw [← es, ← stateV_apply a (keyV k) ha]
  unfold afterV
  generalize stateV (cumV a) (keyV k) (valueV v) (shapeCast S512x256 s shapeCasts_S1x512x256_S512x256) h 4 = S
  simp only [pointwise]

theorem gateV_ne_top (fb : Vec Ideal S1x256x128 .f32) (w : Vec Ideal S128x1024 .bf16) (b : Vec Ideal S1x1024 .f32) (i : S256x1024.Idx) : gateV fb w b i ≠ ⊤ := by
  have e := (congrArg (gateV fb w b) (Shape.idx_ext₂ rfl rfl : i = ix2 (i 0) (i 1))).trans (gateV_apply fb w b (i 0) (i 1))
  exact fun h => gateC_ne_top _ (e.symm.trans h)

end Cert.Proof.Gla

end
-- ==== Proof.GlaPieces.lean ====
/-
  What one grid point of the gated linear attention leaves: the four heads' tiles of its block of the result, the four heads'
  states in the scratch, and the slab of the cast weight.
-/
module

public import proofs.«01_k».proof.Proof.GlaOps
public import Idealize.ShloMosaic.Lib.WholeRead
public import Idealize.ShloMosaic.Lib.VecWindow
public import Idealize.ShloMosaic.Lib.WritesUnit

@[expose] public section

set_option maxRecDepth 65536

noncomputable section

namespace Cert.Proof.Gla

open Cert.GlaIdeal Cert.GlaIdeal.Gen
open Idealize.ShloMosaic Idealize.ShloMosaic.TcCoe Idealize.ShloMosaic.Tactic

variable {F : FTy → Type} [FloatOps F]

/-- A head's columns of a block of values or gates; a head's part of the states. -/
def headV (X : Vec F S1x256x2048 .bf16) (h : Fin 4) : Vec F S1x256x512 .bf16 :=
  fun j => X fun a => ⟨(![0, 0, 512 * h.val] : Fin 3 → ℕ) a + (j a).val, by
    have hj := (j a).isLt; have hh := h.isLt; revert hj; fin_cases a <;> simp [S1x256x2048, S1x256x512] <;> omega⟩
def headS (X : Vec F S4x512x256 .f32) (h : Fin 4) : Vec F S1x512x256 .f32 :=
  fun j => X fun a => ⟨(![h.val, 0, 0] : Fin 3 → ℕ) a + (j a).val, by
    have hj := (j a).isLt; have hh := h.isLt; revert hj; fin_cases a <;> simp [S4x512x256, S1x512x256] <;> omega⟩

/-- A load at a whole array's own place, and at an offset, of a memref held at an array. -/
theorem load_whole {s : Shape} {e : EltTy} (m : Memref sig .tc .vmem s e) (hm : m.IsWhole) (X : Vec F s e) (off : Fin s.rank → ℕ)
    (inb : ∀ a, off a + s.size a ≤ s.size a) : (View.readAt (Elt F) m.view (Rect.unit (s := s) off s.size inb).toLoadRect (hm.unread X) : Vec F s e) = X :=
  funext fun x => (hm.readAt_unread X _ x).trans (congrArg X (funext fun a => Fin.ext (by
    show off a + 1 * (x a).val = (x a).val
    have := inb a; omega)))
theorem load_headV (m : Memref sig .tc .vmem S1x256x2048 .bf16) (hm : m.IsWhole) (X : Vec F S1x256x2048 .bf16) (h : Fin 4) (off : Fin 3 → ℕ)
    (ho : off = ![0, 0, 512 * h.val]) (inb : ∀ a : Fin 3, off a + S1x256x512.size a ≤ S1x256x2048.size a) :
    (View.readAt (Elt F) m.view (Rect.unit (s := S1x256x2048) off S1x256x512.size inb).toLoadRect (hm.unread X) : Vec F S1x256x512 .bf16) = headV X h := by
  subst ho
  exact funext fun x => (hm.readAt_unread X _ x).trans (congrArg X (funext fun a => Fin.ext (by
    show (![0, 0, 512 * h.val] : Fin 3 → ℕ) a + 1 * (x a).val = (![0, 0, 512 * h.val] : Fin 3 → ℕ) a + (x a).val
    omega)))
theorem load_headS (m : Memref sig .tc .vmem S4x512x256 .f32) (hm : m.IsWhole) (X : Vec F S4x512x256 .f32) (h : Fin 4) (off : Fin 3 → ℕ)
    (ho : off = ![h.val, 0, 0]) (inb : ∀ a : Fin 3, off a + S1x512x256.size a ≤ S4x512x256.size a) :
    (View.readAt (Elt F) m.view (Rect.unit (s := S4x512x256) off S1x512x256.size inb).toLoadRect (hm.unread X) : Vec F S1x512x256 .f32) = headS X h := by
  subst ho
  exact funext fun x => (hm.readAt_unread X _ x).trans (congrArg X (funext fun a => Fin.ext (by
    show (![h.val, 0, 0] : Fin 3 → ℕ) a + 1 * (x a).val = (![h.val, 0, 0] : Fin 3 → ℕ) a + (x a).val
    omega)))
/-- A load of a head's state after the states are set to zero. -/
theorem load_zeroS (m : Memref sig .tc .vmem S4x512x256 .f32) (f : m.view.ty.Contents (Elt F)) (X : Vec F S4x512x256 .f32) (h : Fin 4) (off : Fin 3 → ℕ)
    (ho : off = ![h.val, 0, 0]) (inb : ∀ a : Fin 3, off a + S1x512x256.size a ≤ S4x512x256.size a) :
    (View.readAt (Elt F) m.view (Rect.unit (s := S4x512x256) off S1x512x256.size inb).toLoadRect
      (m.view.writes (Elt F) f [⟨Rect.unit (s := S4x512x256) ![0, 0, 0] S4x512x256.size inb_S4x512x256_S4x512x256_0_0_0, X⟩]) : Vec F S1x512x256 .f32) = headS X h := by
  subst ho
  funext x
  refine (congrFun (View.read_writes_full m.view f inb_S4x512x256_S4x512x256_0_0_0 X []) _).trans (congrArg X (funext fun a => Fin.ext (by
    show (![h.val, 0, 0] : Fin 3 → ℕ) a + 1 * (x a).val = (![h.val, 0, 0] : Fin 3 → ℕ) a + (x a).val
    omega)))

/-- Four heads' tiles side by side read, at a head's columns, that head's tile. -/
theorem read_tiles (v : View sig .tc .vmem S1x256x2048 .bf16) (f : v.ty.Contents (Elt F)) (P : Fin 4 → Vec F S1x256x512 .bf16) (h : Fin 4)
    (y : S1x256x2048.Idx) (x : S1x256x512.Idx) (h1 : (y 1).val = (x 1).val) (h2 : (y 2).val = 512 * h.val + (x 2).val) :
    v.read (Elt F) (v.writes (Elt F) f [
      ⟨Rect.unit (s := S1x256x2048) ![0, 0, 1536] S1x256x512.size inb_S1x256x2048_S1x256x512_0_0_1536, P 3⟩,
      ⟨Rect.unit (s := S1x256x2048) ![0, 0, 1024] S1x256x512.size inb_S1x256x2048_S1x256x512_0_0_1024, P 2⟩,
      ⟨Rect.unit (s := S1x256x2048) ![0, 0, 512] S1x256x512.size inb_S1x256x2048_S1x256x512_0_0_512, P 1⟩,
      ⟨Rect.unit (s := S1x256x2048) ![0, 0, 0] S1x256x512.size inb_S1x256x2048_S1x256x512_0_0_0, P 0⟩]) y = P h x := by
  have hy : (y 0).val < 1 := (y 0).isLt
  have hx : (x 0).val < 1 := (x 0).isLt
  have hx2 : (x 2).val < 512 := (x 2).isLt
  have miss : ∀ (o : ℕ) (inb : ∀ a : Fin 3, (![0, 0, o] : Fin 3 → ℕ) a + S1x256x512.size a ≤ S1x256x2048.size a) (w : Vec F S1x256x512 .bf16) (L : List (View.Piece (Elt F) S1x256x2048 .bf16)),
      512 * h.val + (x 2).val < o → v.read (Elt F) (v.writes (Elt F) f (⟨Rect.unit (s := S1x256x2048) ![0, 0, o] S1x256x512.size inb, w⟩ :: L)) y = v.read (Elt F) (v.writes (Elt F) f L) y :=
    fun o inb w L ho => View.read_writes_cons_unit_of_not_mem v f inb w L y rfl (2 : Fin 3) (.inl (by show (y 2).val < o; omega))
  have hit : ∀ (inb : ∀ a : Fin 3, (![0, 0, 512 * h.val] : Fin 3 → ℕ) a + S1x256x512.size a ≤ S1x256x2048.size a) (w : Vec F S1x256x512 .bf16) (L : List (View.Piece (Elt F) S1x256x2048 .bf16)),
      v.read (Elt F) (v.writes (Elt F) f (⟨Rect.unit (s := S1x256x2048) ![0, 0, 512 * h.val] S1x256x512.size inb, w⟩ :: L)) y = w x :=
    fun inb w L => View.read_writes_cons_unit_of_mem v f inb w L y x rfl (by
      intro a; fin_cases a
      · show (y 0).val = 0 + (x 0).val; omega
      · show (y 1).val = 0 + (x 1).val; omega
      · exact h2)
  revert miss hit
  fin_cases h
  · intro miss hit
    exact (miss _ _ _ _ (by show 512 * 0 + (x 2).val < 1536; omega)).trans ((miss _ _ _ _ (by show 512 * 0 + (x 2).val < 1024; omega)).trans ((miss _ _ _ _ (by show 512 * 0 + (x 2).val < 512; omega)).trans (hit inb_S1x256x2048_S1x256x512_0_0_0 _ _)))
  · intro miss hit
    exact (miss _ _ _ _ (by show 512 * 1 + (x 2).val < 1536; omega)).trans ((miss _ _ _ _ (by show 512 * 1 + (x 2).val < 1024; omega)).trans (hit inb_S1x256x2048_S1x256x512_0_0_512 _ _))
  · intro miss hit
    exact (miss _ _ _ _ (by show 512 * 2 + (x 2).val < 1536; omega)).trans (hit inb_S1x256x2048_S1x256x512_0_0_1024 _ _)
  · intro miss hit
    exact hit inb_S1x256x2048_S1x256x512_0_0_1536 _ _

/-- Four heads' states, one after the other, read at a head that head's state. -/
theorem read_states (v : View sig .tc .vmem S4x512x256 .f32) (f : v.ty.Contents (Elt F)) (P : Fin 4 → Vec F S1x512x256 .f32) (L : List (View.Piece (Elt F) S4x512x256 .f32)) (h : Fin 4)
    (y : S4x512x256.Idx) (x : S1x512x256.Idx) (h0 : (y 0).val = h.val) (h1 : (y 1).val = (x 1).val) (h2 : (y 2).val = (x 2).val) :
    v.read (Elt F) (v.writes (Elt F) f (
      ⟨Rect.unit (s := S4x512x256) ![3, 0, 0] S1x512x256.size inb_S4x512x256_S1x512x256_3_0_0, P 3⟩ ::
      ⟨Rect.unit (s := S4x512x256) ![2, 0, 0] S1x512x256.size inb_S4x512x256_S1x512x256_2_0_0, P 2⟩ ::
      ⟨Rect.unit (s := S4x512x256) ![1, 0, 0] S1x512x256.size inb_S4x512x256_S1x512x256_1_0_0, P 1⟩ ::
      ⟨Rect.unit (s := S4x512x256) ![0, 0, 0] S1x512x256.size inb_S4x512x256_S1x512x256_0_0_0, P 0⟩ :: L)) y = P h x := by
  have hx : (x 0).val < 1 := (x 0).isLt
  have miss : ∀ (o : ℕ) (inb : ∀ a : Fin 3, (![o, 0, 0] : Fin 3 → ℕ) a + S1x512x256.size a ≤ S4x512x256.size a) (w : Vec F S1x512x256 .f32) (L : List (View.Piece (Elt F) S4x512x256 .f32)),
      h.val < o → v.read (Elt F) (v.writes (Elt F) f (⟨Rect.unit (s := S4x512x256) ![o, 0, 0] S1x512x256.size inb, w⟩ :: L)) y = v.read (Elt F) (v.writes (Elt F) f L) y :=
    fun o inb w L ho => View.read_writes_cons_unit_of_not_mem v f inb w L y rfl (0 : Fin 3) (.inl (by show (y 0).val < o; omega))
  have hit : ∀ (inb : ∀ a : Fin 3, (![h.val, 0, 0] : Fin 3 → ℕ) a + S1x512x256.size a ≤ S4x512x256.size a) (w : Vec F S1x512x256 .f32) (L : List (View.Piece (Elt F) S4x512x256 .f32)),
      v.read (Elt F) (v.writes (Elt F) f (⟨Rect.unit (s := S4x512x256) ![h.val, 0, 0] S1x512x256.size inb, w⟩ :: L)) y = w x :=
    fun inb w L => View.read_writes_cons_unit_of_mem v f inb w L y x rfl (by
      intro a; fin_cases a
      · show (y 0).val = h.val + (x 0).val; omega
      · show (y 1).val = 0 + (x 1).val; omega
      · show (y 2).val = 0 + (x 2).val; omega)
  revert miss hit
  fin_cases h
  · intro miss hit
    exact (miss _ _ _ _ (by decide)).trans ((miss _ _ _ _ (by decide)).trans ((miss _ _ _ _ (by decide)).trans (hit inb_S4x512x256_S1x512x256_0_0_0 _ _)))
  · intro miss hit
    exact (miss _ _ _ _ (by decide)).trans ((miss _ _ _ _ (by decide)).trans (hit inb_S4x512x256_S1x512x256_1_0_0 _ _))
  · intro miss hit
    exact (miss _ _ _ _ (by decide)).trans (hit inb_S4x512x256_S1x512x256_2_0_0 _ _)
  · intro miss hit
    exact hit inb_S4x512x256_S1x512x256_3_0_0 _ _

/-- The stores of the first point of a batch, where the states are set to zero. -/
theorem tiles_A  (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x128x4096 .f32) (harg10 : arg10.IsWhole) (arg11 : Memref sig .tc .vmem S1x256x2048 .bf16) (harg11 : arg11.IsWhole) (arg12 : Memref sig .tc .vmem S128x4096 .bf16) (harg12 : arg12.IsWhole) (arg13 : Memref sig .tc .vmem S4x512x256 .f32) (harg13 : arg13.IsWhole) (hc0 : cond0_0 i)
    (x0 : Vec F S1x256x1024 .bf16) (x1 : Vec F S1x256x1024 .bf16) (x2 : Vec F S1x256x2048 .bf16) (x3 : Vec F S1x256x2048 .bf16) (x4 : Vec F S1x256x128 .f32) (x5 : Vec F S128x1024 .bf16) (x6 : Vec F S1x1024 .f32) (x7 : Vec F S1x512 .f32) (x8 : Vec F S1x128x4096 .f32)   :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1 = [⟨Rect.unit (s := S1x256x2048) ![0, 0, 1536] S1x256x512.size inb_S1x256x2048_S1x256x512_0_0_1536,
    tileV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg2.view (Rect.unit (s := S1x256x1024) ![0, 0, 0] S1x256x1024.size inb_S1x256x1024_S1x256x1024_0_0_0).toLoadRect (harg2.unread x0) : Vec F S1x256x1024 .bf16) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 1536] S1x256x512.size inb_S1x256x2048_S1x256x512_0_0_1536).toLoadRect (harg4.unread x2) : Vec F S1x256x512 .bf16) (View.readAt (Elt F) arg5.view (Rect.unit (s := S1x256x2048) ![0, 0, 1536] S1x256x512.size inb_S1x256x2048_S1x256x512_0_0_1536).toLoadRect (harg5.unread x3) : Vec F S1x256x512 .bf16) (View.readAt (Elt F) arg9.view (Rect.unit (s := S1x512) ![0, 0] S1x512.size inb_S1x512_S1x512_0_0).toLoadRect (harg9.unread x7) : Vec F S1x512 .f32) (View.readAt (Elt F) arg13.view (Rect.unit (s := S4x512x256) ![3, 0, 0] S1x512x256.size inb_S4x512x256_S1x512x256_3_0_0).toLoadRect (arg13.view.writes (Elt F) arg13.view.junk [⟨Rect.unit (s := S4x512x256) ![0, 0, 0] S4x512x256.size inb_S4x512x256_S4x512x256_0_0_0, (k0_pay3 (F := F))⟩]) : Vec F S1x512x256 .f32) 3⟩, ⟨Rect.unit (s := S1x256x2048) ![0, 0, 1024] S1x256x512.size inb_S1x256x2048_S1x256x512_0_0_1024,
    tileV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg2.view (Rect.unit (s := S1x256x1024) ![0, 0, 0] S1x256x1024.size inb_S1x256x1024_S1x256x1024_0_0_0).toLoadRect (harg2.unread x0) : Vec F S1x256x1024 .bf16) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 1024] S1x256x512.size inb_S1x256x2048_S1x256x512_0_0_1024).toLoadRect (harg4.unread x2) : Vec F S1x256x512 .bf16) (View.readAt (Elt F) arg5.view (Rect.unit (s := S1x256x2048) ![0, 0, 1024] S1x256x512.size inb_S1x256x2048_S1x256x512_0_0_1024).toLoadRect (harg5.unread x3) : Vec F S1x256x512 .bf16) (View.readAt (Elt F) arg9.view (Rect.unit (s := S1x512) ![0, 0] S1x512.size inb_S1x512_S1x512_0_0).toLoadRect (harg9.unread x7) : Vec F S1x512 .f32) (View.readAt (Elt F) arg13.view (Rect.unit (s := S4x512x256) ![2, 0, 0] S1x512x256.size inb_S4x512x256_S1x512x256_2_0_0).toLoadRect (arg13.view.writes (Elt F) arg13.view.junk [⟨Rect.unit (s := S4x512x256) ![0, 0, 0] S4x512x256.size inb_S4x512x256_S4x512x256_0_0_0, (k0_pay3 (F := F))⟩]) : Vec F S1x512x256 .f32) 2⟩, ⟨Rect.unit (s := S1x256x2048) ![0, 0, 512] S1x256x512.size inb_S1x256x2048_S1x256x512_0_0_512,
    tileV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg2.view (Rect.unit (s := S1x256x1024) ![0, 0, 0] S1x256x1024.size inb_S1x256x1024_S1x256x1024_0_0_0).toLoadRect (harg2.unread x0) : Vec F S1x256x1024 .bf16) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 512] S1x256x512.size inb_S1x256x2048_S1x256x512_0_0_512).toLoadRect (harg4.unread x2) : Vec F S1x256x512 .bf16) (View.readAt (Elt F) arg5.view (Rect.unit (s := S1x256x2048) ![0, 0, 512] S1x256x512.size inb_S1x256x2048_S1x256x512_0_0_512).toLoadRect (harg5.unread x3) : Vec F S1x256x512 .bf16) (View.readAt (Elt F) arg9.view (Rect.unit (s := S1x512) ![0, 0] S1x512.size inb_S1x512_S1x512_0_0).toLoadRect (harg9.unread x7) : Vec F S1x512 .f32) (View.readAt (Elt F) arg13.view (Rect.unit (s := S4x512x256) ![1, 0, 0] S1x512x256.size inb_S4x512x256_S1x512x256_1_0_0).toLoadRect (arg13.view.writes (Elt F) arg13.view.junk [⟨Rect.unit (s := S4x512x256) ![0, 0, 0] S4x512x256.size inb_S4x512x256_S4x512x256_0_0_0, (k0_pay3 (F := F))⟩]) : Vec F S1x512x256 .f32) 1⟩, ⟨Rect.unit (s := S1x256x2048) ![0, 0, 0] S1x256x512.size inb_S1x256x2048_S1x256x512_0_0_0,
    tileV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg2.view (Rect.unit (s := S1x256x1024) ![0, 0, 0] S1x256x1024.size inb_S1x256x1024_S1x256x1024_0_0_0).toLoadRect (harg2.unread x0) : Vec F S1x256x1024 .bf16) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 0] S1x256x512.size inb_S1x256x2048_S1x256x512_0_0_0).toLoadRect (harg4.unread x2) : Vec F S1x256x512 .bf16) (View.readAt (Elt F) arg5.view (Rect.unit (s := S1x256x2048) ![0, 0, 0] S1x256x512.size inb_S1x256x2048_S1x256x512_0_0_0).toLoadRect (harg5.unread x3) : Vec F S1x256x512 .bf16) (View.readAt (Elt F) arg9.view (Rect.unit (s := S1x512) ![0, 0] S1x512.size inb_S1x512_S1x512_0_0).toLoadRect (harg9.unread x7) : Vec F S1x512 .f32) (View.readAt (Elt F) arg13.view (Rect.unit (s := S4x512x256) ![0, 0, 0] S1x512x256.size inb_S4x512x256_S1x512x256_0_0_0).toLoadRect (arg13.view.writes (Elt F) arg13.view.junk [⟨Rect.unit (s := S4x512x256) ![0, 0, 0] S4x512x256.size inb_S4x512x256_S4x512x256_0_0_0, (k0_pay3 (F := F))⟩]) : Vec F S1x512x256 .f32) 0⟩] := rfl
theorem states_A  (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x128x4096 .f32) (harg10 : arg10.IsWhole) (arg11 : Memref sig .tc .vmem S1x256x2048 .bf16) (harg11 : arg11.IsWhole) (arg12 : Memref sig .tc .vmem S128x4096 .bf16) (harg12 : arg12.IsWhole) (arg13 : Memref sig .tc .vmem S4x512x256 .f32) (harg13 : arg13.IsWhole) (hc0 : cond0_0 i)
    (x0 : Vec F S1x256x1024 .bf16) (x1 : Vec F S1x256x1024 .bf16) (x2 : Vec F S1x256x2048 .bf16) (x3 : Vec F S1x256x2048 .bf16) (x4 : Vec F S1x256x128 .f32) (x5 : Vec F S128x1024 .bf16) (x6 : Vec F S1x1024 .f32) (x7 : Vec F S1x512 .f32) (x8 : Vec F S1x128x4096 .f32)   :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1 = [⟨Rect.unit (s := S4x512x256) ![3, 0, 0] S1x512x256.size inb_S4x512x256_S1x512x256_3_0_0,
    afterV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 1536] S1x256x512.size inb_S1x256x2048_S1x256x512_0_0_1536).toLoadRect (harg4.unread x2) : Vec F S1x256x512 .bf16) (View.readAt (Elt F) arg13.view (Rect.unit (s := S4x512x256) ![3, 0, 0] S1x512x256.size inb_S4x512x256_S1x512x256_3_0_0).toLoadRect (arg13.view.writes (Elt F) arg13.view.junk [⟨Rect.unit (s := S4x512x256) ![0, 0, 0] S4x512x256.size inb_S4x512x256_S4x512x256_0_0_0, (k0_pay3 (F := F))⟩]) : Vec F S1x512x256 .f32) 3⟩, ⟨Rect.unit (s := S4x512x256) ![2, 0, 0] S1x512x256.size inb_S4x512x256_S1x512x256_2_0_0,
    afterV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 1024] S1x256x512.size inb_S1x256x2048_S1x256x512_0_0_1024).toLoadRect (harg4.unread x2) : Vec F S1x256x512 .bf16) (View.readAt (Elt F) arg13.view (Rect.unit (s := S4x512x256) ![2, 0, 0] S1x512x256.size inb_S4x512x256_S1x512x256_2_0_0).toLoadRect (arg13.view.writes (Elt F) arg13.view.junk [⟨Rect.unit (s := S4x512x256) ![0, 0, 0] S4x512x256.size inb_S4x512x256_S4x512x256_0_0_0, (k0_pay3 (F := F))⟩]) : Vec F S1x512x256 .f32) 2⟩, ⟨Rect.unit (s := S4x512x256) ![1, 0, 0] S1x512x256.size inb_S4x512x256_S1x512x256_1_0_0,
    afterV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 512] S1x256x512.size inb_S1x256x2048_S1x256x512_0_0_512).toLoadRect (harg4.unread x2) : Vec F S1x256x512 .bf16) (View.readAt (Elt F) arg13.view (Rect.unit (s := S4x512x256) ![1, 0, 0] S1x512x256.size inb_S4x512x256_S1x512x256_1_0_0).toLoadRect (arg13.view.writes (Elt F) arg13.view.junk [⟨Rect.unit (s := S4x512x256) ![0, 0, 0] S4x512x256.size inb_S4x512x256_S4x512x256_0_0_0, (k0_pay3 (F := F))⟩]) : Vec F S1x512x256 .f32) 1⟩, ⟨Rect.unit (s := S4x512x256) ![0, 0, 0] S1x512x256.size inb_S4x512x256_S1x512x256_0_0_0,
    afterV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 0] S1x256x512.size inb_S1x256x2048_S1x256x512_0_0_0).toLoadRect (harg4.unread x2) : Vec F S1x256x512 .bf16) (View.readAt (Elt F) arg13.view (Rect.unit (s := S4x512x256) ![0, 0, 0] S1x512x256.size inb_S4x512x256_S1x512x256_0_0_0).toLoadRect (arg13.view.writes (Elt F) arg13.view.junk [⟨Rect.unit (s := S4x512x256) ![0, 0, 0] S4x512x256.size inb_S4x512x256_S4x512x256_0_0_0, (k0_pay3 (F := F))⟩]) : Vec F S1x512x256 .f32) 0⟩, ⟨Rect.unit (s := S4x512x256) ![0, 0, 0] S4x512x256.size inb_S4x512x256_S4x512x256_0_0_0, (k0_pay3 (F := F))⟩] := rfl
theorem slab_A  (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x128x4096 .f32) (harg10 : arg10.IsWhole) (arg11 : Memref sig .tc .vmem S1x256x2048 .bf16) (harg11 : arg11.IsWhole) (arg12 : Memref sig .tc .vmem S128x4096 .bf16) (harg12 : arg12.IsWhole) (arg13 : Memref sig .tc .vmem S4x512x256 .f32) (harg13 : arg13.IsWhole) (hc0 : cond0_0 i)
    (x0 : Vec F S1x256x1024 .bf16) (x1 : Vec F S1x256x1024 .bf16) (x2 : Vec F S1x256x2048 .bf16) (x3 : Vec F S1x256x2048 .bf16) (x4 : Vec F S1x256x128 .f32) (x5 : Vec F S128x1024 .bf16) (x6 : Vec F S1x1024 .f32) (x7 : Vec F S1x512 .f32) (x8 : Vec F S1x128x4096 .f32)   :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1 = [⟨Rect.unit (s := S128x4096) ![0, 0] S128x4096.size inb_S128x4096_S128x4096_0_0, k0_pay2 (View.readAt (Elt F) arg10.view (Rect.unit (s := S1x128x4096) ![0, 0, 0] S1x128x4096.size inb_S1x128x4096_S1x128x4096_0_0_0).toLoadRect (harg10.unread x8) : Vec F S1x128x4096 .f32)⟩] := rfl

/-- What the first point of a batch, where the states are set to zero leaves of a head. -/
theorem out9_A  (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x128x4096 .f32) (harg10 : arg10.IsWhole) (arg11 : Memref sig .tc .vmem S1x256x2048 .bf16) (harg11 : arg11.IsWhole) (arg12 : Memref sig .tc .vmem S128x4096 .bf16) (harg12 : arg12.IsWhole) (arg13 : Memref sig .tc .vmem S4x512x256 .f32) (harg13 : arg13.IsWhole) (hc0 : cond0_0 i)
    (x0 : Vec F S1x256x1024 .bf16) (x1 : Vec F S1x256x1024 .bf16) (x2 : Vec F S1x256x2048 .bf16) (x3 : Vec F S1x256x2048 .bf16) (x4 : Vec F S1x256x128 .f32) (x5 : Vec F S128x1024 .bf16) (x6 : Vec F S1x1024 .f32) (x7 : Vec F S1x512 .f32) (x8 : Vec F S1x128x4096 .f32)
    (h : Fin 4) (y : S1x256x2048.Idx) (x : S1x256x512.Idx) (h1 : (y 1).val = (x 1).val) (h2 : (y 2).val = 512 * h.val + (x 2).val) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y = (fun h => tileV (gateV x4 x5 x6) x0 x1 (headV x2 h) (headV x3 h) x7 (headS (k0_pay3 (F := F)) h) h) h x := by
  unfold out0_A_9
  rw [tiles_A, load_whole arg6 harg6, load_whole arg7 harg7, load_whole arg8 harg8, load_whole arg2 harg2, load_whole arg3 harg3, load_whole arg9 harg9, load_headV arg4 harg4 _ 0 ![0, 0, 0] rfl, load_headV arg4 harg4 _ 1 ![0, 0, 512] rfl, load_headV arg4 harg4 _ 2 ![0, 0, 1024] rfl, load_headV arg4 harg4 _ 3 ![0, 0, 1536] rfl, load_headV arg5 harg5 _ 0 ![0, 0, 0] rfl, load_headV arg5 harg5 _ 1 ![0, 0, 512] rfl, load_headV arg5 harg5 _ 2 ![0, 0, 1024] rfl, load_headV arg5 harg5 _ 3 ![0, 0, 1536] rfl, load_zeroS arg13 _ _ 0 ![0, 0, 0] rfl, load_zeroS arg13 _ _ 1 ![1, 0, 0] rfl, load_zeroS arg13 _ _ 2 ![2, 0, 0] rfl, load_zeroS arg13 _ _ 3 ![3, 0, 0] rfl]
  exact read_tiles _ _ (fun h => tileV (gateV x4 x5 x6) x0 x1 (headV x2 h) (headV x3 h) x7 (headS (k0_pay3 (F := F)) h) h) h y x h1 h2
theorem sout_A  (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x128x4096 .f32) (harg10 : arg10.IsWhole) (arg11 : Memref sig .tc .vmem S1x256x2048 .bf16) (harg11 : arg11.IsWhole) (arg12 : Memref sig .tc .vmem S128x4096 .bf16) (harg12 : arg12.IsWhole) (arg13 : Memref sig .tc .vmem S4x512x256 .f32) (harg13 : arg13.IsWhole) (hc0 : cond0_0 i)
    (x0 : Vec F S1x256x1024 .bf16) (x1 : Vec F S1x256x1024 .bf16) (x2 : Vec F S1x256x2048 .bf16) (x3 : Vec F S1x256x2048 .bf16) (x4 : Vec F S1x256x128 .f32) (x5 : Vec F S128x1024 .bf16) (x6 : Vec F S1x1024 .f32) (x7 : Vec F S1x512 .f32) (x8 : Vec F S1x128x4096 .f32)
    (h : Fin 4) (y : S4x512x256.Idx) (x : S1x512x256.Idx) (h0 : (y 0).val = h.val) (h1 : (y 1).val = (x 1).val) (h2 : (y 2).val = (x 2).val) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y = (fun h => afterV (gateV x4 x5 x6) x1 (headV x2 h) (headS (k0_pay3 (F := F)) h) h) h x := by
  unfold sout0_A_0
  rw [states_A, load_whole arg6 harg6, load_whole arg7 harg7, load_whole arg8 harg8, load_whole arg3 harg3, load_headV arg4 harg4 _ 0 ![0, 0, 0] rfl, load_headV arg4 harg4 _ 1 ![0, 0, 512] rfl, load_headV arg4 harg4 _ 2 ![0, 0, 1024] rfl, load_headV arg4 harg4 _ 3 ![0, 0, 1536] rfl, load_zeroS arg13 _ _ 0 ![0, 0, 0] rfl, load_zeroS arg13 _ _ 1 ![1, 0, 0] rfl, load_zeroS arg13 _ _ 2 ![2, 0, 0] rfl, load_zeroS arg13 _ _ 3 ![3, 0, 0] rfl]
  exact read_states _ _ (fun h => afterV (gateV x4 x5 x6) x1 (headV x2 h) (headS (k0_pay3 (F := F)) h) h) _ h y x h0 h1 h2
theorem out10_A  (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x128x4096 .f32) (harg10 : arg10.IsWhole) (arg11 : Memref sig .tc .vmem S1x256x2048 .bf16) (harg11 : arg11.IsWhole) (arg12 : Memref sig .tc .vmem S128x4096 .bf16) (harg12 : arg12.IsWhole) (arg13 : Memref sig .tc .vmem S4x512x256 .f32) (harg13 : arg13.IsWhole) (hc0 : cond0_0 i)
    (x0 : Vec F S1x256x1024 .bf16) (x1 : Vec F S1x256x1024 .bf16) (x2 : Vec F S1x256x2048 .bf16) (x3 : Vec F S1x256x2048 .bf16) (x4 : Vec F S1x256x128 .f32) (x5 : Vec F S128x1024 .bf16) (x6 : Vec F S1x1024 .f32) (x7 : Vec F S1x512 .f32) (x8 : Vec F S1x128x4096 .f32)   :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay2 x8 := by
  unfold out0_A_10
  rw [slab_A, load_whole arg10 harg10]
  exact View.read_writes_full _ _ _ _ []

/-- The stores of a later point, over the states before it. -/
theorem tiles_B  (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x128x4096 .f32) (harg10 : arg10.IsWhole) (arg11 : Memref sig .tc .vmem S1x256x2048 .bf16) (harg11 : arg11.IsWhole) (arg12 : Memref sig .tc .vmem S128x4096 .bf16) (harg12 : arg12.IsWhole) (arg13 : Memref sig .tc .vmem S4x512x256 .f32) (harg13 : arg13.IsWhole) (hc0 : ¬cond0_0 i)
    (x0 : Vec F S1x256x1024 .bf16) (x1 : Vec F S1x256x1024 .bf16) (x2 : Vec F S1x256x2048 .bf16) (x3 : Vec F S1x256x2048 .bf16) (x4 : Vec F S1x256x128 .f32) (x5 : Vec F S128x1024 .bf16) (x6 : Vec F S1x1024 .f32) (x7 : Vec F S1x512 .f32) (x8 : Vec F S1x128x4096 .f32) (xs0 : Vec F S4x512x256 .f32)  :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).1 = [⟨Rect.unit (s := S1x256x2048) ![0, 0, 1536] S1x256x512.size inb_S1x256x2048_S1x256x512_0_0_1536,
    tileV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg2.view (Rect.unit (s := S1x256x1024) ![0, 0, 0] S1x256x1024.size inb_S1x256x1024_S1x256x1024_0_0_0).toLoadRect (harg2.unread x0) : Vec F S1x256x1024 .bf16) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 1536] S1x256x512.size inb_S1x256x2048_S1x256x512_0_0_1536).toLoadRect (harg4.unread x2) : Vec F S1x256x512 .bf16) (View.readAt (Elt F) arg5.view (Rect.unit (s := S1x256x2048) ![0, 0, 1536] S1x256x512.size inb_S1x256x2048_S1x256x512_0_0_1536).toLoadRect (harg5.unread x3) : Vec F S1x256x512 .bf16) (View.readAt (Elt F) arg9.view (Rect.unit (s := S1x512) ![0, 0] S1x512.size inb_S1x512_S1x512_0_0).toLoadRect (harg9.unread x7) : Vec F S1x512 .f32) (View.readAt (Elt F) arg13.view (Rect.unit (s := S4x512x256) ![3, 0, 0] S1x512x256.size inb_S4x512x256_S1x512x256_3_0_0).toLoadRect (harg13.unread xs0) : Vec F S1x512x256 .f32) 3⟩, ⟨Rect.unit (s := S1x256x2048) ![0, 0, 1024] S1x256x512.size inb_S1x256x2048_S1x256x512_0_0_1024,
    tileV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg2.view (Rect.unit (s := S1x256x1024) ![0, 0, 0] S1x256x1024.size inb_S1x256x1024_S1x256x1024_0_0_0).toLoadRect (harg2.unread x0) : Vec F S1x256x1024 .bf16) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 1024] S1x256x512.size inb_S1x256x2048_S1x256x512_0_0_1024).toLoadRect (harg4.unread x2) : Vec F S1x256x512 .bf16) (View.readAt (Elt F) arg5.view (Rect.unit (s := S1x256x2048) ![0, 0, 1024] S1x256x512.size inb_S1x256x2048_S1x256x512_0_0_1024).toLoadRect (harg5.unread x3) : Vec F S1x256x512 .bf16) (View.readAt (Elt F) arg9.view (Rect.unit (s := S1x512) ![0, 0] S1x512.size inb_S1x512_S1x512_0_0).toLoadRect (harg9.unread x7) : Vec F S1x512 .f32) (View.readAt (Elt F) arg13.view (Rect.unit (s := S4x512x256) ![2, 0, 0] S1x512x256.size inb_S4x512x256_S1x512x256_2_0_0).toLoadRect (harg13.unread xs0) : Vec F S1x512x256 .f32) 2⟩, ⟨Rect.unit (s := S1x256x2048) ![0, 0, 512] S1x256x512.size inb_S1x256x2048_S1x256x512_0_0_512,
    tileV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg2.view (Rect.unit (s := S1x256x1024) ![0, 0, 0] S1x256x1024.size inb_S1x256x1024_S1x256x1024_0_0_0).toLoadRect (harg2.unread x0) : Vec F S1x256x1024 .bf16) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 512] S1x256x512.size inb_S1x256x2048_S1x256x512_0_0_512).toLoadRect (harg4.unread x2) : Vec F S1x256x512 .bf16) (View.readAt (Elt F) arg5.view (Rect.unit (s := S1x256x2048) ![0, 0, 512] S1x256x512.size inb_S1x256x2048_S1x256x512_0_0_512).toLoadRect (harg5.unread x3) : Vec F S1x256x512 .bf16) (View.readAt (Elt F) arg9.view (Rect.unit (s := S1x512) ![0, 0] S1x512.size inb_S1x512_S1x512_0_0).toLoadRect (harg9.unread x7) : Vec F S1x512 .f32) (View.readAt (Elt F) arg13.view (Rect.unit (s := S4x512x256) ![1, 0, 0] S1x512x256.size inb_S4x512x256_S1x512x256_1_0_0).toLoadRect (harg13.unread xs0) : Vec F S1x512x256 .f32) 1⟩, ⟨Rect.unit (s := S1x256x2048) ![0, 0, 0] S1x256x512.size inb_S1x256x2048_S1x256x512_0_0_0,
    tileV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg2.view (Rect.unit (s := S1x256x1024) ![0, 0, 0] S1x256x1024.size inb_S1x256x1024_S1x256x1024_0_0_0).toLoadRect (harg2.unread x0) : Vec F S1x256x1024 .bf16) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 0] S1x256x512.size inb_S1x256x2048_S1x256x512_0_0_0).toLoadRect (harg4.unread x2) : Vec F S1x256x512 .bf16) (View.readAt (Elt F) arg5.view (Rect.unit (s := S1x256x2048) ![0, 0, 0] S1x256x512.size inb_S1x256x2048_S1x256x512_0_0_0).toLoadRect (harg5.unread x3) : Vec F S1x256x512 .bf16) (View.readAt (Elt F) arg9.view (Rect.unit (s := S1x512) ![0, 0] S1x512.size inb_S1x512_S1x512_0_0).toLoadRect (harg9.unread x7) : Vec F S1x512 .f32) (View.readAt (Elt F) arg13.view (Rect.unit (s := S4x512x256) ![0, 0, 0] S1x512x256.size inb_S4x512x256_S1x512x256_0_0_0).toLoadRect (harg13.unread xs0) : Vec F S1x512x256 .f32) 0⟩] := rfl
theorem states_B  (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x128x4096 .f32) (harg10 : arg10.IsWhole) (arg11 : Memref sig .tc .vmem S1x256x2048 .bf16) (harg11 : arg11.IsWhole) (arg12 : Memref sig .tc .vmem S128x4096 .bf16) (harg12 : arg12.IsWhole) (arg13 : Memref sig .tc .vmem S4x512x256 .f32) (harg13 : arg13.IsWhole) (hc0 : ¬cond0_0 i)
    (x0 : Vec F S1x256x1024 .bf16) (x1 : Vec F S1x256x1024 .bf16) (x2 : Vec F S1x256x2048 .bf16) (x3 : Vec F S1x256x2048 .bf16) (x4 : Vec F S1x256x128 .f32) (x5 : Vec F S128x1024 .bf16) (x6 : Vec F S1x1024 .f32) (x7 : Vec F S1x512 .f32) (x8 : Vec F S1x128x4096 .f32) (xs0 : Vec F S4x512x256 .f32)  :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).2.2.1 = [⟨Rect.unit (s := S4x512x256) ![3, 0, 0] S1x512x256.size inb_S4x512x256_S1x512x256_3_0_0,
    afterV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 1536] S1x256x512.size inb_S1x256x2048_S1x256x512_0_0_1536).toLoadRect (harg4.unread x2) : Vec F S1x256x512 .bf16) (View.readAt (Elt F) arg13.view (Rect.unit (s := S4x512x256) ![3, 0, 0] S1x512x256.size inb_S4x512x256_S1x512x256_3_0_0).toLoadRect (harg13.unread xs0) : Vec F S1x512x256 .f32) 3⟩, ⟨Rect.unit (s := S4x512x256) ![2, 0, 0] S1x512x256.size inb_S4x512x256_S1x512x256_2_0_0,
    afterV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 1024] S1x256x512.size inb_S1x256x2048_S1x256x512_0_0_1024).toLoadRect (harg4.unread x2) : Vec F S1x256x512 .bf16) (View.readAt (Elt F) arg13.view (Rect.unit (s := S4x512x256) ![2, 0, 0] S1x512x256.size inb_S4x512x256_S1x512x256_2_0_0).toLoadRect (harg13.unread xs0) : Vec F S1x512x256 .f32) 2⟩, ⟨Rect.unit (s := S4x512x256) ![1, 0, 0] S1x512x256.size inb_S4x512x256_S1x512x256_1_0_0,
    afterV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 512] S1x256x512.size inb_S1x256x2048_S1x256x512_0_0_512).toLoadRect (harg4.unread x2) : Vec F S1x256x512 .bf16) (View.readAt (Elt F) arg13.view (Rect.unit (s := S4x512x256) ![1, 0, 0] S1x512x256.size inb_S4x512x256_S1x512x256_1_0_0).toLoadRect (harg13.unread xs0) : Vec F S1x512x256 .f32) 1⟩, ⟨Rect.unit (s := S4x512x256) ![0, 0, 0] S1x512x256.size inb_S4x512x256_S1x512x256_0_0_0,
    afterV (gateV (View.readAt (Elt F) arg6.view (Rect.unit (s := S1x256x128) ![0, 0, 0] S1x256x128.size inb_S1x256x128_S1x256x128_0_0_0).toLoadRect (harg6.unread x4) : Vec F S1x256x128 .f32) (View.readAt (Elt F) arg7.view (Rect.unit (s := S128x1024) ![0, 0] S128x1024.size inb_S128x1024_S128x1024_0_0).toLoadRect (harg7.unread x5) : Vec F S128x1024 .bf16) (View.readAt (Elt F) arg8.view (Rect.unit (s := S1x1024) ![0, 0] S1x1024.size inb_S1x1024_S1x1024_0_0).toLoadRect (harg8.unread x6) : Vec F S1x1024 .f32)) (View.readAt (Elt F) arg3.view (Rect.unit (s := S1x256x1024) ![0, 0, 0] S1x256x1024.size inb_S1x256x1024_S1x256x1024_0_0_0).toLoadRect (harg3.unread x1) : Vec F S1x256x1024 .bf16) (View.readAt (Elt F) arg4.view (Rect.unit (s := S1x256x2048) ![0, 0, 0] S1x256x512.size inb_S1x256x2048_S1x256x512_0_0_0).toLoadRect (harg4.unread x2) : Vec F S1x256x512 .bf16) (View.readAt (Elt F) arg13.view (Rect.unit (s := S4x512x256) ![0, 0, 0] S1x512x256.size inb_S4x512x256_S1x512x256_0_0_0).toLoadRect (harg13.unread xs0) : Vec F S1x512x256 .f32) 0⟩] := rfl
theorem slab_B  (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x128x4096 .f32) (harg10 : arg10.IsWhole) (arg11 : Memref sig .tc .vmem S1x256x2048 .bf16) (harg11 : arg11.IsWhole) (arg12 : Memref sig .tc .vmem S128x4096 .bf16) (harg12 : arg12.IsWhole) (arg13 : Memref sig .tc .vmem S4x512x256 .f32) (harg13 : arg13.IsWhole) (hc0 : ¬cond0_0 i)
    (x0 : Vec F S1x256x1024 .bf16) (x1 : Vec F S1x256x1024 .bf16) (x2 : Vec F S1x256x2048 .bf16) (x3 : Vec F S1x256x2048 .bf16) (x4 : Vec F S1x256x128 .f32) (x5 : Vec F S128x1024 .bf16) (x6 : Vec F S1x1024 .f32) (x7 : Vec F S1x512 .f32) (x8 : Vec F S1x128x4096 .f32) (xs0 : Vec F S4x512x256 .f32)  :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).2.1 = [⟨Rect.unit (s := S128x4096) ![0, 0] S128x4096.size inb_S128x4096_S128x4096_0_0, k0_pay2 (View.readAt (Elt F) arg10.view (Rect.unit (s := S1x128x4096) ![0, 0, 0] S1x128x4096.size inb_S1x128x4096_S1x128x4096_0_0_0).toLoadRect (harg10.unread x8) : Vec F S1x128x4096 .f32)⟩] := rfl

/-- What a later point, over the states before it leaves of a head. -/
theorem out9_B  (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x128x4096 .f32) (harg10 : arg10.IsWhole) (arg11 : Memref sig .tc .vmem S1x256x2048 .bf16) (harg11 : arg11.IsWhole) (arg12 : Memref sig .tc .vmem S128x4096 .bf16) (harg12 : arg12.IsWhole) (arg13 : Memref sig .tc .vmem S4x512x256 .f32) (harg13 : arg13.IsWhole) (hc0 : ¬cond0_0 i)
    (x0 : Vec F S1x256x1024 .bf16) (x1 : Vec F S1x256x1024 .bf16) (x2 : Vec F S1x256x2048 .bf16) (x3 : Vec F S1x256x2048 .bf16) (x4 : Vec F S1x256x128 .f32) (x5 : Vec F S128x1024 .bf16) (x6 : Vec F S1x1024 .f32) (x7 : Vec F S1x512 .f32) (x8 : Vec F S1x128x4096 .f32) (xs0 : Vec F S4x512x256 .f32)
    (h : Fin 4) (y : S1x256x2048.Idx) (x : S1x256x512.Idx) (h1 : (y 1).val = (x 1).val) (h2 : (y 2).val = 512 * h.val + (x 2).val) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 y = (fun h => tileV (gateV x4 x5 x6) x0 x1 (headV x2 h) (headV x3 h) x7 (headS xs0 h) h) h x := by
  unfold out0_B_9
  rw [tiles_B, load_whole arg6 harg6, load_whole arg7 harg7, load_whole arg8 harg8, load_whole arg2 harg2, load_whole arg3 harg3, load_whole arg9 harg9, load_headV arg4 harg4 _ 0 ![0, 0, 0] rfl, load_headV arg4 harg4 _ 1 ![0, 0, 512] rfl, load_headV arg4 harg4 _ 2 ![0, 0, 1024] rfl, load_headV arg4 harg4 _ 3 ![0, 0, 1536] rfl, load_headV arg5 harg5 _ 0 ![0, 0, 0] rfl, load_headV arg5 harg5 _ 1 ![0, 0, 512] rfl, load_headV arg5 harg5 _ 2 ![0, 0, 1024] rfl, load_headV arg5 harg5 _ 3 ![0, 0, 1536] rfl, load_headS arg13 harg13 _ 0 ![0, 0, 0] rfl, load_headS arg13 harg13 _ 1 ![1, 0, 0] rfl, load_headS arg13 harg13 _ 2 ![2, 0, 0] rfl, load_headS arg13 harg13 _ 3 ![3, 0, 0] rfl]
  exact read_tiles _ _ (fun h => tileV (gateV x4 x5 x6) x0 x1 (headV x2 h) (headV x3 h) x7 (headS xs0 h) h) h y x h1 h2
theorem sout_B  (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x128x4096 .f32) (harg10 : arg10.IsWhole) (arg11 : Memref sig .tc .vmem S1x256x2048 .bf16) (harg11 : arg11.IsWhole) (arg12 : Memref sig .tc .vmem S128x4096 .bf16) (harg12 : arg12.IsWhole) (arg13 : Memref sig .tc .vmem S4x512x256 .f32) (harg13 : arg13.IsWhole) (hc0 : ¬cond0_0 i)
    (x0 : Vec F S1x256x1024 .bf16) (x1 : Vec F S1x256x1024 .bf16) (x2 : Vec F S1x256x2048 .bf16) (x3 : Vec F S1x256x2048 .bf16) (x4 : Vec F S1x256x128 .f32) (x5 : Vec F S128x1024 .bf16) (x6 : Vec F S1x1024 .f32) (x7 : Vec F S1x512 .f32) (x8 : Vec F S1x128x4096 .f32) (xs0 : Vec F S4x512x256 .f32)
    (h : Fin 4) (y : S4x512x256.Idx) (x : S1x512x256.Idx) (h0 : (y 0).val = h.val) (h1 : (y 1).val = (x 1).val) (h2 : (y 2).val = (x 2).val) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 y = (fun h => afterV (gateV x4 x5 x6) x1 (headV x2 h) (headS xs0 h) h) h x := by
  unfold sout0_B_0
  rw [states_B, load_whole arg6 harg6, load_whole arg7 harg7, load_whole arg8 harg8, load_whole arg3 harg3, load_headV arg4 harg4 _ 0 ![0, 0, 0] rfl, load_headV arg4 harg4 _ 1 ![0, 0, 512] rfl, load_headV arg4 harg4 _ 2 ![0, 0, 1024] rfl, load_headV arg4 harg4 _ 3 ![0, 0, 1536] rfl, load_headS arg13 harg13 _ 0 ![0, 0, 0] rfl, load_headS arg13 harg13 _ 1 ![1, 0, 0] rfl, load_headS arg13 harg13 _ 2 ![2, 0, 0] rfl, load_headS arg13 harg13 _ 3 ![3, 0, 0] rfl]
  exact read_states _ _ (fun h => afterV (gateV x4 x5 x6) x1 (headV x2 h) (headS xs0 h) h) _ h y x h0 h1 h2
theorem out10_B  (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x128x4096 .f32) (harg10 : arg10.IsWhole) (arg11 : Memref sig .tc .vmem S1x256x2048 .bf16) (harg11 : arg11.IsWhole) (arg12 : Memref sig .tc .vmem S128x4096 .bf16) (harg12 : arg12.IsWhole) (arg13 : Memref sig .tc .vmem S4x512x256 .f32) (harg13 : arg13.IsWhole) (hc0 : ¬cond0_0 i)
    (x0 : Vec F S1x256x1024 .bf16) (x1 : Vec F S1x256x1024 .bf16) (x2 : Vec F S1x256x2048 .bf16) (x3 : Vec F S1x256x2048 .bf16) (x4 : Vec F S1x256x128 .f32) (x5 : Vec F S128x1024 .bf16) (x6 : Vec F S1x1024 .f32) (x7 : Vec F S1x512 .f32) (x8 : Vec F S1x128x4096 .f32) (xs0 : Vec F S4x512x256 .f32)  :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 = k0_pay2 x8 := by
  unfold out0_B_10
  rw [slab_B, load_whole arg10 harg10]
  exact View.read_writes_full _ _ _ _ []

end Cert.Proof.Gla

end
-- ==== Proof.GlaReads.lean ====
/-
  What the gated linear attention's blocks read of the argument arrays, and the attention over those arrays as
  mathematics: sequences of chunks of 64 positions, one per batch entry.
-/
module

public import proofs.«01_k».proof.Proof.Gen.GlaIdeal.Frame
public import proofs.«01_k».proof.Proof.GlaEntries
public import proofs.«01_k».proof.Proof.GlaPieces

@[expose] public section

set_option maxRecDepth 16384

noncomputable section

namespace Cert.Proof.Gla

open Cert.GlaIdeal Cert.GlaIdeal.Gen
open Idealize.ShloMosaic Idealize.ShloMosaic.TcCoe Idealize.SL.Sem

/-- The position of a chunk's row. -/
def seqRow (n : ℕ) (l : Fin 64) : Fin 4096 := Fin.ofNat 4096 (64 * n + l.val)

section Arrays
variable (P : FVec Ideal S2x4096x12288 .bf16) (B : FVec Ideal S2x4096x128 .f32) (W : FVec Ideal S4x16x1024 .f32) (A : FVec Ideal S4x1024 .f32)
  (N : FVec Ideal S4x512 .f32) (b : Fin 2)

/-- The gate's argument at a position. -/
def argS (s : Fin 4096) (j : Fin 1024) : EReal := (∑ k : Fin 16, B (ix3 b s (Fin.castLE (by decide) k)) * W (ix3 0 k j)) + A (ix2 0 j)
def gateS (n : ℕ) (l : Fin 64) (j : Fin 1024) : EReal := gateC (argS B W A b (seqRow n l) j)
def qS (n : ℕ) (l : Fin 64) (j : Fin 1024) : EReal := P (ix3 b (seqRow n l) ⟨6144 + j.val, by omega⟩)
def kS (n : ℕ) (l : Fin 64) (j : Fin 1024) : EReal := P (ix3 b (seqRow n l) ⟨7168 + j.val, by omega⟩)
def vS (h : Fin 4) (n : ℕ) (l : Fin 64) (v : Fin 512) : EReal := P (ix3 b (seqRow n l) ⟨8192 + (512 * h.val + v.val), by omega⟩)
def gS (h : Fin 4) (n : ℕ) (l : Fin 64) (v : Fin 512) : EReal := P (ix3 b (seqRow n l) ⟨10240 + (512 * h.val + v.val), by omega⟩)
/-- A head's state before chunk `n`. -/
def stS (h : Fin 4) (n : ℕ) : Fin 512 → Fin 256 → EReal := stateS (gateS B W A b) (kS P b) (vS P b h) h (fun _ _ => 0) n
/-- A head's row of the result. -/
def rowS (h : Fin 4) (n : ℕ) (l : Fin 64) (x : Fin 512) : EReal :=
  finC (outC (gateS B W A b n) (qS P b n) (kS P b n) (vS P b h n) h (stS P B W A b h n) l) (fun v => N (ix2 0 v)) (gS P b h n l) x
end Arrays

/-- The attention over the arrays, and layer 0 of the output weight. -/
def attn (P : FVec Ideal S2x4096x12288 .bf16) (B : FVec Ideal S2x4096x128 .f32) (W : FVec Ideal S4x16x1024 .f32) (A : FVec Ideal S4x1024 .f32)
    (N : FVec Ideal S4x512 .f32) : FVec Ideal S2x4096x2048 .bf16 := fun y =>
  rowS P B W A N (y 0) ⟨(y 2).val / 512, by have : (y 2).val < 2048 := (y 2).isLt; omega⟩ ((y 1).val / 64) ⟨(y 1).val % 64, by omega⟩ ⟨(y 2).val % 512, by omega⟩
def castO (O : FVec Ideal S4x4096x4096 .f32) : FVec Ideal S4096x4096 .bf16 := fun y => O (ix3 0 (y 0) (y 1))

variable (m : (ℓ : Loc nD τ sig) → Buf (Elt Ideal) ℓ) (c : Dev nD)

abbrev inP : FVec Ideal S2x4096x12288 .bf16 := m ((c : Thread nD τ).loc main_arg0)
abbrev inB : FVec Ideal S2x4096x128 .f32 := m ((c : Thread nD τ).loc main_arg1)
abbrev inW : FVec Ideal S4x16x1024 .f32 := m ((c : Thread nD τ).loc main_arg2)
abbrev inA : FVec Ideal S4x1024 .f32 := m ((c : Thread nD τ).loc main_arg3)
abbrev inN : FVec Ideal S4x512 .f32 := m ((c : Thread nD τ).loc main_arg4)
abbrev inO : FVec Ideal S4x4096x4096 .f32 := m ((c : Thread nD τ).loc main_arg5)

theorem places : ∀ t : Fin grid0.N,
    (win0_0.index t 0 = t.val / 16 ∧ win0_0.index t 1 = t.val % 16 ∧ win0_0.index t 2 = 6)
    ∧ (win0_1.index t 0 = t.val / 16 ∧ win0_1.index t 1 = t.val % 16 ∧ win0_1.index t 2 = 7)
    ∧ (win0_2.index t 0 = t.val / 16 ∧ win0_2.index t 1 = t.val % 16 ∧ win0_2.index t 2 = 4)
    ∧ (win0_3.index t 0 = t.val / 16 ∧ win0_3.index t 1 = t.val % 16 ∧ win0_3.index t 2 = 5)
    ∧ (win0_4.index t 0 = t.val / 16 ∧ win0_4.index t 1 = t.val % 16 ∧ win0_4.index t 2 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = t.val ∧ win0_8.index t 2 = 0)
    ∧ (win0_9.index t 0 = t.val / 16 ∧ win0_9.index t 1 = t.val % 16 ∧ win0_9.index t 2 = 0)
    ∧ (win0_10.index t 0 = t.val ∧ win0_10.index t 1 = 0) := by decide +kernel

theorem lt32 (t : Fin cfg0.N) : t.val < 32 := t.isLt.trans_eq N_0

/-- A point's batch entry, the position of its block's row, and its slab's row. -/
def bat (t : Fin cfg0.N) : Fin 2 := ⟨t.val / 16, by have := lt32 t; omega⟩
def pos (t : Fin cfg0.N) (r : Fin 256) : Fin 4096 := ⟨t.val % 16 * 256 + r.val, by omega⟩
def slab (t : Fin cfg0.N) (r : Fin 128) : Fin 4096 := ⟨t.val * 128 + r.val, by have := lt32 t; omega⟩

theorem idx_ext₃ {n : Fin 3 → ℕ} {x y : (a : Fin 3) → Fin (n a)} (h0 : (x 0 : ℕ) = y 0) (h1 : (x 1 : ℕ) = y 1) (h2 : (x 2 : ℕ) = y 2) : x = y :=
  funext fun a => Fin.ext (match a with | 0 => h0 | 1 => h1 | 2 => h2)

theorem read0 (t : Fin cfg0.N) (r : Fin 256) (j : Fin 1024) : iblk m c 0 t (ix3 0 r j) = inP m c (ix3 (bat t) (pos t r) ⟨6144 + j.val, by omega⟩) := by
  refine (congrArg (V m c main_arg0 : FVec Ideal S2x4096x12288 .bf16) (idx_ext₃ (y := ix3 (bat t) (pos t r) ⟨6144 + j.val, by omega⟩) ?_ ?_ ?_)).trans (congrFun (V_main_arg0 m c) _)
  · refine (win0_0.rect_emb_val t (ix3 0 r j) 0).trans ?_
    rw [(places t).1.1]; show t.val / 16 * 1 + 0 = t.val / 16; omega
  · refine (win0_0.rect_emb_val t (ix3 0 r j) 1).trans ?_
    rw [(places t).1.2.1]; rfl
  · refine (win0_0.rect_emb_val t (ix3 0 r j) 2).trans ?_
    rw [(places t).1.2.2]; rfl

theorem read1 (t : Fin cfg0.N) (r : Fin 256) (j : Fin 1024) : iblk m c 1 t (ix3 0 r j) = inP m c (ix3 (bat t) (pos t r) ⟨7168 + j.val, by omega⟩) := by
  refine (congrArg (V m c main_arg0 : FVec Ideal S2x4096x12288 .bf16) (idx_ext₃ (y := ix3 (bat t) (pos t r) ⟨7168 + j.val, by omega⟩) ?_ ?_ ?_)).trans (congrFun (V_main_arg0 m c) _)
  · refine (win0_1.rect_emb_val t (ix3 0 r j) 0).trans ?_
    rw [(places t).2.1.1]; show t.val / 16 * 1 + 0 = t.val / 16; omega
  · refine (win0_1.rect_emb_val t (ix3 0 r j) 1).trans ?_
    rw [(places t).2.1.2.1]; rfl
  · refine (win0_1.rect_emb_val t (ix3 0 r j) 2).trans ?_
    rw [(places t).2.1.2.2]; rfl

theorem read2 (t : Fin cfg0.N) (r : Fin 256) (j : Fin 2048) : iblk m c 2 t (ix3 0 r j) = inP m c (ix3 (bat t) (pos t r) ⟨8192 + j.val, by omega⟩) := by
  refine (congrArg (V m c main_arg0 : FVec Ideal S2x4096x12288 .bf16) (idx_ext₃ (y := ix3 (bat t) (pos t r) ⟨8192 + j.val, by omega⟩) ?_ ?_ ?_)).trans (congrFun (V_main_arg0 m c) _)
  · refine (win0_2.rect_emb_val t (ix3 0 r j) 0).trans ?_
    rw [(places t).2.2.1.1]; show t.val / 16 * 1 + 0 = t.val / 16; omega
  · refine (win0_2.rect_emb_val t (ix3 0 r j) 1).trans ?_
    rw [(places t).2.2.1.2.1]; rfl
  · refine (win0_2.rect_emb_val t (ix3 0 r j) 2).trans ?_
    rw [(places t).2.2.1.2.2]; rfl

theorem read3 (t : Fin cfg0.N) (r : Fin 256) (j : Fin 2048) : iblk m c 3 t (ix3 0 r j) = inP m c (ix3 (bat t) (pos t r) ⟨10240 + j.val, by omega⟩) := by
  refine (congrArg (V m c main_arg0 : FVec Ideal S2x4096x12288 .bf16) (idx_ext₃ (y := ix3 (bat t) (pos t r) ⟨10240 + j.val, by omega⟩) ?_ ?_ ?_)).trans (congrFun (V_main_arg0 m c) _)
  · refine (win0_3.rect_emb_val t (ix3 0 r j) 0).trans ?_
    rw [(places t).2.2.2.1.1]; show t.val / 16 * 1 + 0 = t.val / 16; omega
  · refine (win0_3.rect_emb_val t (ix3 0 r j) 1).trans ?_
    rw [(places t).2.2.2.1.2.1]; rfl
  · refine (win0_3.rect_emb_val t (ix3 0 r j) 2).trans ?_
    rw [(places t).2.2.2.1.2.2]; rfl

theorem read4 (t : Fin cfg0.N) (r : Fin 256) (j : Fin 128) : iblk m c 4 t (ix3 0 r j) = inB m c (ix3 (bat t) (pos t r) j) := by
  refine (congrArg (V m c main_arg1 : FVec Ideal S2x4096x128 .f32) (idx_ext₃ (y := ix3 (bat t) (pos t r) j) ?_ ?_ ?_)).trans (congrFun (V_main_arg1 m c) _)
  · refine (win0_4.rect_emb_val t (ix3 0 r j) 0).trans ?_
    rw [(places t).2.2.2.2.1.1]; show t.val / 16 * 1 + 0 = t.val / 16; omega
  · refine (win0_4.rect_emb_val t (ix3 0 r j) 1).trans ?_
    rw [(places t).2.2.2.2.1.2.1]; rfl
  · exact win0_4.rect_emb_val_of_index_zero t 2 (places t).2.2.2.2.1.2.2 (ix3 0 r j)

/-- The gate's up projection as the region finds it: layer 0 under zero rows. -/
theorem handed5 : (V m c main_v3 : FVec Ideal S128x1024 .bf16) = shapeCast S128x1024 (extractStridedSlice S1x128x1024 ![0, 0, 0]
    (truncf .bf16 (pad S4x128x1024 ![0, 0, 0] ![0, 112, 0] ![0, 0, 0] (inW m c) (sitofp .f32 (constantI S_ 32 0#32) : FVec Ideal S_ .f32) pads_S4x16x1024_S4x128x1024_000_01120_000 h_S_ : FVec Ideal S4x128x1024 .f32) bitsLt_bf16_f32 : FVec Ideal S4x128x1024 .bf16)
    slices_S4x128x1024_S1x128x1024_0_0_0) shapeCasts_S1x128x1024_S128x1024 := rfl

theorem padded (W : FVec Ideal S4x16x1024 .f32) (k : Fin 128) (j : Fin 1024) :
    (pad S4x128x1024 ![0, 0, 0] ![0, 112, 0] ![0, 0, 0] W (sitofp .f32 (constantI S_ 32 0#32) : FVec Ideal S_ .f32) pads_S4x16x1024_S4x128x1024_000_01120_000 h_S_ : FVec Ideal S4x128x1024 .f32) (ix3 0 k j)
      = if h : k.val < 16 then W (ix3 0 ⟨k.val, h⟩ j) else 0 := by
  split
  · rename_i h
    refine pad_apply_of_inside _ _ _ _ _ _ _ _ (ix3 0 ⟨k.val, h⟩ j) fun a => ?_
    match a with
    | 0 => rfl
    | 1 => show k.val = 0 + k.val * 1; omega
    | 2 => show j.val = 0 + j.val * 1; omega
  · rename_i h
    refine (pad_apply_of_not_inside _ _ _ _ _ _ _ _ 1 fun ha => h ?_).trans sitofp_zero
    have h2 : (k.val - 0) / 1 < 16 := ha.2.2
    omega

theorem read5 (t : Fin cfg0.N) (k : Fin 128) (j : Fin 1024) : iblk m c 5 t (ix2 k j) = if h : k.val < 16 then inW m c (ix3 0 ⟨k.val, h⟩ j) else 0 := by
  refine (congrArg (V m c main_v3 : FVec Ideal S128x1024 .bf16) (Shape.idx_ext₂ (y := ix2 k j) ?_ ?_)).trans ?_
  · exact win0_5.rect_emb_val_of_index_zero t 0 (places t).2.2.2.2.2.1.1 (ix2 k j)
  · exact win0_5.rect_emb_val_of_index_zero t 1 (places t).2.2.2.2.2.1.2 (ix2 k j)
  · refine (congrFun (handed5 m c) _).trans ?_
    refine Eq.trans ?_ (padded (inW m c) k j)
    generalize (pad S4x128x1024 ![0, 0, 0] ![0, 112, 0] ![0, 0, 0] (inW m c) (sitofp .f32 (constantI S_ 32 0#32) : FVec Ideal S_ .f32) pads_S4x16x1024_S4x128x1024_000_01120_000 h_S_ : FVec Ideal S4x128x1024 .f32) = X
    simp only [pointwise]
    exact congrArg X (idx_ext₃ rfl (Nat.zero_add _) (Nat.zero_add _))

theorem handed6 (j : Fin 1024) : (V m c main_v6 : FVec Ideal S1x1024 .f32) (ix2 0 j) = inA m c (ix2 0 j) := by
  have e : (V m c main_v6 : FVec Ideal S1x1024 .f32) = shapeCast S1x1024 (shapeCast S1024 (extractStridedSlice S1x1024 ![0, 0] (inA m c) slices_S4x1024_S1x1024_0_0) shapeCasts_S1x1024_S1024) shapeCasts_S1024_S1x1024 := rfl
  refine (congrFun e _).trans ?_
  rw [shapeCast_shapeCast]
  exact congrArg (inA m c) (Shape.idx_ext₂ rfl (Nat.zero_add _))

theorem read6 (t : Fin cfg0.N) (j : Fin 1024) : iblk m c 6 t (ix2 0 j) = inA m c (ix2 0 j) := by
  refine (congrArg (V m c main_v6 : FVec Ideal S1x1024 .f32) (Shape.idx_ext₂ (y := ix2 0 j) ?_ ?_)).trans (handed6 m c j)
  · exact win0_6.rect_emb_val_of_index_zero t 0 (places t).2.2.2.2.2.2.1.1 (ix2 0 j)
  · exact win0_6.rect_emb_val_of_index_zero t 1 (places t).2.2.2.2.2.2.1.2 (ix2 0 j)

theorem handed7 (j : Fin 512) : (V m c main_v9 : FVec Ideal S1x512 .f32) (ix2 0 j) = inN m c (ix2 0 j) := by
  have e : (V m c main_v9 : FVec Ideal S1x512 .f32) = shapeCast S1x512 (shapeCast S512 (extractStridedSlice S1x512 ![0, 0] (inN m c) slices_S4x512_S1x512_0_0) shapeCasts_S1x512_S512) shapeCasts_S512_S1x512 := rfl
  refine (congrFun e _).trans ?_
  rw [shapeCast_shapeCast]
  exact congrArg (inN m c) (Shape.idx_ext₂ rfl (Nat.zero_add _))

theorem read7 (t : Fin cfg0.N) (j : Fin 512) : iblk m c 7 t (ix2 0 j) = inN m c (ix2 0 j) := by
  refine (congrArg (V m c main_v9 : FVec Ideal S1x512 .f32) (Shape.idx_ext₂ (y := ix2 0 j) ?_ ?_)).trans (handed7 m c j)
  · exact win0_7.rect_emb_val_of_index_zero t 0 (places t).2.2.2.2.2.2.2.1.1 (ix2 0 j)
  · exact win0_7.rect_emb_val_of_index_zero t 1 (places t).2.2.2.2.2.2.2.1.2 (ix2 0 j)

theorem read8 (t : Fin cfg0.N) (r : Fin 128) (j : Fin 4096) : iblk m c 8 t (ix3 0 r j) = inO m c (ix3 0 (slab t r) j) := by
  refine (congrArg (V m c main_arg5 : FVec Ideal S4x4096x4096 .f32) (idx_ext₃ (y := ix3 0 (slab t r) j) ?_ ?_ ?_)).trans (congrFun (V_main_arg5 m c) _)
  · exact win0_8.rect_emb_val_of_index_zero t 0 (places t).2.2.2.2.2.2.2.2.1.1 (ix3 0 r j)
  · refine (win0_8.rect_emb_val t (ix3 0 r j) 1).trans ?_
    rw [(places t).2.2.2.2.2.2.2.2.1.2.1]; rfl
  · exact win0_8.rect_emb_val_of_index_zero t 2 (places t).2.2.2.2.2.2.2.2.1.2.2 (ix3 0 r j)

theorem emb9 (t : Fin cfg0.N) (y : S1x256x2048.Idx) : ((cfg0.win 9).blk t).view.emb y = (ix3 (bat t) (pos t (y 1)) (y 2) : S2x4096x2048.Idx) := by
  refine idx_ext₃ ?_ ?_ ?_
  · refine (win0_9.rect_emb_val t y 0).trans ?_
    rw [(places t).2.2.2.2.2.2.2.2.2.1.1]
    have : (y 0).val < 1 := (y 0).isLt
    show t.val / 16 * 1 + (y 0).val = t.val / 16; omega
  · refine (win0_9.rect_emb_val t y 1).trans ?_
    rw [(places t).2.2.2.2.2.2.2.2.2.1.2.1]; rfl
  · exact win0_9.rect_emb_val_of_index_zero t 2 (places t).2.2.2.2.2.2.2.2.2.1.2.2 y

theorem emb10 (t : Fin cfg0.N) (y : S128x4096.Idx) : ((cfg0.win 10).blk t).view.emb y = (ix2 (slab t (y 0)) (y 1) : S4096x4096.Idx) := by
  refine Shape.idx_ext₂ ?_ ?_
  · refine (win0_10.rect_emb_val t y 0).trans ?_
    rw [(places t).2.2.2.2.2.2.2.2.2.2.1]; rfl
  · exact win0_10.rect_emb_val_of_index_zero t 1 (places t).2.2.2.2.2.2.2.2.2.2.2 y

/-! ## A point's block as chunks of its batch entry -/

/-- The products over the padded rows are those over layer 0's sixteen rows. -/
theorem sum16 (f : Fin 128 → EReal) (g : Fin 16 → EReal) :
    (∑ k : Fin 128, f k * (if h : k.val < 16 then g ⟨k.val, h⟩ else 0)) = ∑ k : Fin 16, f (Fin.castLE (by decide) k) * g k := by
  refine (Fin.sum_univ_add (a := 16) (b := 112) _).trans ?_
  rw [Finset.sum_eq_zero (s := Finset.univ) (f := fun k : Fin 112 => _) fun k _ => by
    rw [dif_neg (by simp)]; exact mul_zero _, add_zero]
  refine Finset.sum_congr rfl fun k _ => ?_
  rw [dif_pos (by show k.val < 16; exact k.isLt)]
  rfl

theorem pos_row (t : Fin cfg0.N) (n : ℕ) (hn : n < 4) (l : Fin 64) : pos t (row (Fin.ofNat 4 n) l) = seqRow (4 * (t.val % 16) + n) l :=
  Fin.ext (by
    show t.val % 16 * 256 + (64 * (n % 4) + l.val) = (64 * (4 * (t.val % 16) + n) + l.val) % 4096
    omega)

theorem chunk_gate (t : Fin cfg0.N) (n : ℕ) (hn : n < 4) :
    chunkA (gateV (iblk m c 4 t) (iblk m c 5 t) (iblk m c 6 t)) n = gateS (inB m c) (inW m c) (inA m c) (bat t) (4 * (t.val % 16) + n) := by
  funext l j
  refine (gateV_apply _ _ _ _ _).trans (congrArg gateC ?_)
  unfold argS
  rw [← pos_row t n hn l, ← sum16 (fun k => inB m c (ix3 (bat t) (pos t (row (Fin.ofNat 4 n) l)) k)) (fun k => inW m c (ix3 0 k j))]
  refine congr (congrArg _ (Finset.sum_congr rfl fun k _ => ?_)) (read6 m c t j)
  exact congr (congrArg _ (read4 m c t _ k)) (read5 m c t k j)

theorem chunk_q (t : Fin cfg0.N) (n : ℕ) (hn : n < 4) : chunkQ (iblk m c 0 t) n = qS (inP m c) (bat t) (4 * (t.val % 16) + n) := by
  funext l j
  unfold qS
  rw [← pos_row t n hn l]
  exact read0 m c t _ j

theorem chunk_k (t : Fin cfg0.N) (n : ℕ) (hn : n < 4) : chunkA (keyV (iblk m c 1 t)) n = kS (inP m c) (bat t) (4 * (t.val % 16) + n) := by
  funext l j
  unfold kS
  rw [← pos_row t n hn l]
  exact (keyV_apply _ _ j).trans (read1 m c t _ j)

theorem chunk_v (t : Fin cfg0.N) (h : Fin 4) (n : ℕ) (hn : n < 4) : chunkV (valueV (headV (iblk m c 2 t) h)) n = vS (inP m c) (bat t) h (4 * (t.val % 16) + n) := by
  funext l x
  unfold vS
  rw [← pos_row t n hn l]
  refine Eq.trans ?_ (read2 m c t (row (Fin.ofNat 4 n) l) (vcol h x))
  unfold chunkV valueV
  generalize hX : iblk m c 2 t = X
  simp only [pointwise]
  exact congrArg X (idx_ext₃ (Nat.zero_add _) (Nat.zero_add _) rfl)

theorem head_g (t : Fin cfg0.N) (h : Fin 4) (n : ℕ) (hn : n < 4) (l : Fin 64) (x : Fin 512) :
    headV (iblk m c 3 t) h (ix3 0 (row (Fin.ofNat 4 n) l) x) = gS (inP m c) (bat t) h (4 * (t.val % 16) + n) l x := by
  unfold gS
  rw [← pos_row t n hn l]
  refine Eq.trans ?_ (read3 m c t (row (Fin.ofNat 4 n) l) (vcol h x))
  exact congrArg (iblk m c 3 t) (idx_ext₃ (Nat.zero_add _) (Nat.zero_add _) rfl)

end Cert.Proof.Gla

end
-- ==== Proof.GlaStep.lean ====
/-
  One grid point of the gated linear attention in terms of what the point before it left in the scratch.
-/
module

public import proofs.«01_k».proof.Proof.Gen.GlaIdeal.Frame
public import proofs.«01_k».proof.Proof.GlaPieces

@[expose] public section

set_option maxRecDepth 16384

noncomputable section

namespace Cert.Proof.Gla

open Cert.GlaIdeal Cert.GlaIdeal.Gen
open Idealize.ShloMosaic Idealize.ShloMosaic.TcCoe Idealize.SL.Sem

variable {F : FTy → Type} [FloatOps F] (m : (ℓ : Loc nD τ sig) → Buf (Elt F) ℓ) (c : Dev nD) (t : Fin cfg0.N)

/-- A head's tile and next state at a point, over the states `S` before it. -/
abbrev tileAt (S : Vec F S4x512x256 .f32) (h : Fin 4) : FVec F S1x256x512 .bf16 :=
  tileV (gateV (iblk m c 4 t) (iblk m c 5 t) (iblk m c 6 t)) (iblk m c 0 t) (iblk m c 1 t) (headV (iblk m c 2 t) h) (headV (iblk m c 3 t) h) (iblk m c 7 t) (headS S h) h
abbrev afterAt (S : Vec F S4x512x256 .f32) (h : Fin 4) : FVec F S1x512x256 .f32 :=
  afterV (gateV (iblk m c 4 t) (iblk m c 5 t) (iblk m c 6 t)) (iblk m c 1 t) (headV (iblk m c 2 t) h) (headS S h) h

theorem step9_A (h0 : t.val % 16 = 0) (h : Fin 4) (y : S1x256x2048.Idx) (x : S1x256x512.Idx) (h1 : (y 1).val = (x 1).val) (h2 : (y 2).val = 512 * h.val + (x 2).val) :
    (outsAt0 m c t.val t.isLt).1 y = tileAt m c t (k0_pay3 (F := F)) h x := by
  have e := out9_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) h y x h1 h2
  simp only [outsAt0_A m c t h0]
  exact e

theorem stepS_A (h0 : t.val % 16 = 0) (h : Fin 4) (y : S4x512x256.Idx) (x : S1x512x256.Idx) (e0 : (y 0).val = h.val) (e1 : (y 1).val = (x 1).val) (e2 : (y 2).val = (x 2).val) :
    (outsAt0 m c t.val t.isLt).2.2 y = afterAt m c t (k0_pay3 (F := F)) h x := by
  have e := sout_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) h y x e0 e1 e2
  simp only [outsAt0_A m c t h0]
  exact e

theorem step10_A (h0 : t.val % 16 = 0) : (outsAt0 m c t.val t.isLt).2.1 = k0_pay2 (iblk m c 8 t) := by
  have e := out10_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  simp only [outsAt0_A m c t h0]
  exact e

theorem step9_B (h0 : ¬t.val % 16 = 0) (h : Fin 4) (y : S1x256x2048.Idx) (x : S1x256x512.Idx) (h1 : (y 1).val = (x 1).val) (h2 : (y 2).val = 512 * h.val + (x 2).val) :
    (outsAt0 m c t.val t.isLt).1 y = tileAt m c t ((outsAt0 m c (t.val - 1) (Nat.lt_of_le_of_lt (Nat.sub_le _ _) t.isLt)).2.2) h x := by
  have e := out9_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2 h y x h1 h2
  simp only [outsAt0_B m c t h0]
  exact e

theorem stepS_B (h0 : ¬t.val % 16 = 0) (h : Fin 4) (y : S4x512x256.Idx) (x : S1x512x256.Idx) (e0 : (y 0).val = h.val) (e1 : (y 1).val = (x 1).val) (e2 : (y 2).val = (x 2).val) :
    (outsAt0 m c t.val t.isLt).2.2 y = afterAt m c t ((outsAt0 m c (t.val - 1) (Nat.lt_of_le_of_lt (Nat.sub_le _ _) t.isLt)).2.2) h x := by
  have e := sout_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2 h y x e0 e1 e2
  simp only [outsAt0_B m c t h0]
  exact e

theorem step10_B (h0 : ¬t.val % 16 = 0) : (outsAt0 m c t.val t.isLt).2.1 = k0_pay2 (iblk m c 8 t) := by
  have e := out10_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2
  simp only [outsAt0_B m c t h0]
  exact e

end Cert.Proof.Gla

end
-- ==== Proof.GlaBlocks.lean ====
/-
  The gated linear attention's scratch after every grid point, the tiles it writes, and the two arrays at the end.
-/
module

public import proofs.«01_k».proof.Proof.GlaReads
public import proofs.«01_k».proof.Proof.GlaStep

@[expose] public section

set_option maxRecDepth 16384

noncomputable section

namespace Cert.Proof.Gla

open Cert.GlaIdeal Cert.GlaIdeal.Gen
open Idealize.ShloMosaic Idealize.ShloMosaic.TcCoe Idealize.SL.Sem

variable (m : (ℓ : Loc nD τ sig) → Buf (Elt Ideal) ℓ) (c : Dev nD)

/-- A head's state before chunk `n` of a batch entry. -/
abbrev stM (b : Fin 2) (h : Fin 4) (n : ℕ) := stS (inP m c) (inB m c) (inW m c) (inA m c) b h n

/-- The states a point's block starts from. -/
def before (t : Fin cfg0.N) (S : FVec Ideal S4x512x256 .f32) : Prop :=
  ∀ (h : Fin 4) (x : Fin 512) (d : Fin 256), S (ix3 h x d) = stM m c (bat t) h (4 * (t.val % 16)) x d

theorem states_from (t : Fin cfg0.N) (S : FVec Ideal S4x512x256 .f32) (hS : before m c t S) (h : Fin 4) (n : ℕ) (hn : n ≤ 4) :
    stateS (chunkA (gateV (iblk m c 4 t) (iblk m c 5 t) (iblk m c 6 t))) (chunkA (keyV (iblk m c 1 t))) (chunkV (valueV (headV (iblk m c 2 t) h))) h
      (fun x d => headS (F := Ideal) S h (ix3 0 x d)) n = stM m c (bat t) h (4 * (t.val % 16) + n) := by
  unfold stM stS
  rw [stateS_add]
  refine stateS_congr h n (fun i hi => chunk_gate m c t i (by omega)) (fun i hi => chunk_k m c t i (by omega)) (fun i hi => chunk_v m c t h i (by omega)) ?_
  funext x d
  refine Eq.trans ?_ (hS h x d)
  exact congrArg S (idx_ext₃ (Nat.add_zero _) (Nat.zero_add _) (Nat.zero_add _))

/-- A head's tile and its next state, at a point whose states are right. -/
theorem tile_from (t : Fin cfg0.N) (S : FVec Ideal S4x512x256 .f32) (hS : before m c t S) (h n : Fin 4) (l : Fin 64) (x : Fin 512) :
    tileAt m c t S h (ix3 0 (row n l) x)
      = rowS (inP m c) (inB m c) (inW m c) (inA m c) (inN m c) (bat t) h (4 * (t.val % 16) + n.val) l x := by
  refine (tileV_apply _ (gateV_ne_top _ _ _) _ _ _ _ _ _ h n l x).trans ?_
  rw [states_from m c t S hS h n.val (by omega), chunk_gate m c t n.val n.isLt, chunk_q m c t n.val n.isLt, chunk_k m c t n.val n.isLt, chunk_v m c t h n.val n.isLt]
  unfold rowS
  have eg : (fun v => headV (iblk m c 3 t) h (ix3 0 (row n l) v)) = gS (inP m c) (bat t) h (4 * (t.val % 16) + n.val) l := by
    funext v
    have e := head_g m c t h n.val n.isLt l v
    rwa [ofNat_val] at e
  have ew : (fun v => iblk m c 7 t (ix2 0 v)) = fun v => inN m c (ix2 0 v) := funext fun v => read7 m c t v
  rw [eg, ew]

theorem after_from (t : Fin cfg0.N) (S : FVec Ideal S4x512x256 .f32) (hS : before m c t S) (h : Fin 4) (x : Fin 512) (d : Fin 256) :
    afterAt m c t S h (ix3 0 x d)
      = stM m c (bat t) h (4 * (t.val % 16) + 4) x d := by
  refine (afterV_apply _ (gateV_ne_top _ _ _) _ _ _ h x d).trans ?_
  rw [states_from m c t S hS h 4 (le_refl _)]

/-- At the first point of a batch entry the states are zero. -/
theorem before_first (t : Fin cfg0.N) (h0 : t.val % 16 = 0) : before m c t (k0_pay3 (F := Ideal)) := by
  intro h x d
  rw [h0]
  show k0_pay3 (F := Ideal) (ix3 h x d) = 0
  unfold k0_pay3
  simp only [pointwise]

/-- The states a point leaves. -/
theorem scratch (n : ℕ) : ∀ (hn : n < cfg0.N) (h : Fin 4) (x : Fin 512) (d : Fin 256),
    (outsAt0 m c n hn).2.2 (ix3 h x d) = stM m c (bat ⟨n, hn⟩) h (4 * (n % 16) + 4) x d := by
  induction n with
  | zero =>
    intro hn h x d
    refine (stepS_A m c ⟨0, hn⟩ rfl h (ix3 h x d) (ix3 0 x d) rfl rfl rfl).trans ?_
    exact after_from m c ⟨0, hn⟩ _ (before_first m c ⟨0, hn⟩ rfl) h x d
  | succ n ih =>
    intro hn h x d
    by_cases h0 : (n + 1) % 16 = 0
    · refine (stepS_A m c ⟨n + 1, hn⟩ h0 h (ix3 h x d) (ix3 0 x d) rfl rfl rfl).trans ?_
      exact after_from m c ⟨n + 1, hn⟩ _ (before_first m c ⟨n + 1, hn⟩ h0) h x d
    · refine (stepS_B m c ⟨n + 1, hn⟩ h0 h (ix3 h x d) (ix3 0 x d) rfl rfl rfl).trans ?_
      refine after_from m c ⟨n + 1, hn⟩ _ (fun h x d => ?_) h x d
      refine (ih (by omega) h x d).trans ?_
      have hb : bat ⟨n, by omega⟩ = bat ⟨n + 1, hn⟩ := Fin.ext (by show n / 16 = (n + 1) / 16; omega)
      have hs : 4 * (n % 16) + 4 = 4 * ((n + 1) % 16) := by omega
      show stM m c (bat ⟨n, by omega⟩) h (4 * (n % 16) + 4) x d = stM m c (bat ⟨n + 1, hn⟩) h (4 * ((n + 1) % 16)) x d
      rw [hb, hs]

/-- What a later point finds in the scratch. -/
theorem before_later (t : Fin cfg0.N) (h0 : ¬t.val % 16 = 0) (hb : t.val - 1 < cfg0.N) : before m c t (outsAt0 m c (t.val - 1) hb).2.2 := by
  intro h x d
  refine (scratch m c _ hb h x d).trans ?_
  have e1 : bat ⟨t.val - 1, hb⟩ = bat t := Fin.ext (by show (t.val - 1) / 16 = t.val / 16; omega)
  have e2 : 4 * ((t.val - 1) % 16) + 4 = 4 * (t.val % 16) := by omega
  rw [e1, e2]

/-- The tile a point writes. -/
theorem tile_eq (t : Fin cfg0.N) (y : S1x256x2048.Idx) :
    (outsAt0 m c t.val t.isLt).1 y = attn (inP m c) (inB m c) (inW m c) (inA m c) (inN m c) (ix3 (bat t) (pos t (y 1)) (y 2)) := by
  have h1 : (y 1).val < 256 := (y 1).isLt
  have h2 : (y 2).val < 2048 := (y 2).isLt
  let h : Fin 4 := ⟨(y 2).val / 512, by omega⟩
  let n : Fin 4 := ⟨(y 1).val / 64, by omega⟩
  let l : Fin 64 := ⟨(y 1).val % 64, by omega⟩
  let x : Fin 512 := ⟨(y 2).val % 512, by omega⟩
  have ey1 : (y 1).val = (row n l).val := by show (y 1).val = 64 * ((y 1).val / 64) + (y 1).val % 64; omega
  have ey2 : (y 2).val = 512 * h.val + x.val := by show (y 2).val = 512 * ((y 2).val / 512) + (y 2).val % 512; omega
  have hr : attn (inP m c) (inB m c) (inW m c) (inA m c) (inN m c) (ix3 (bat t) (pos t (y 1)) (y 2))
      = rowS (inP m c) (inB m c) (inW m c) (inA m c) (inN m c) (bat t) h (4 * (t.val % 16) + n.val) l x := by
    have en : (pos t (y 1)).val / 64 = 4 * (t.val % 16) + n.val := by
      show (t.val % 16 * 256 + (y 1).val) / 64 = 4 * (t.val % 16) + (y 1).val / 64; omega
    have el : (⟨(pos t (y 1)).val % 64, by omega⟩ : Fin 64) = l := Fin.ext (by
      show (t.val % 16 * 256 + (y 1).val) % 64 = (y 1).val % 64; omega)
    show rowS _ _ _ _ _ (bat t) h ((pos t (y 1)).val / 64) ⟨(pos t (y 1)).val % 64, by omega⟩ x = _
    rw [en, el]
  rw [hr]
  by_cases h0 : t.val % 16 = 0
  · exact (step9_A m c t h0 h y (ix3 0 (row n l) x) ey1 ey2).trans (tile_from m c t _ (before_first m c t h0) h n l x)
  · exact (step9_B m c t h0 h y (ix3 0 (row n l) x) ey1 ey2).trans (tile_from m c t _ (before_later m c t h0 _) h n l x)

/-- The slab a point writes. -/
theorem slab_eq (t : Fin cfg0.N) (y : S128x4096.Idx) : (outsAt0 m c t.val t.isLt).2.1 y = castO (inO m c) (ix2 (slab t (y 0)) (y 1)) := by
  have e : k0_pay2 (iblk m c 8 t) y = castO (inO m c) (ix2 (slab t (y 0)) (y 1)) := by
    refine Eq.trans ?_ (read8 m c t (y 0) (y 1))
    unfold k0_pay2
    generalize iblk m c 8 t = X
    simp only [pointwise]
    done
  by_cases h0 : t.val % 16 = 0
  · exact (congrFun (step10_A m c t h0) y).trans e
  · exact (congrFun (step10_B m c t h0) y).trans e

theorem flushed9_eq (t : Fin cfg0.N) :
    (dats m 0 c).flushed 9 t = ((cfg0.win 9).blk t).view.read (Elt Ideal) (attn (inP m c) (inB m c) (inW m c) (inA m c) (inN m c)) := by
  refine Eq.trans (b := (cfg0.win 9).cut (grid0.coords t) (outsAt0 m c t.val t.isLt).1) ?_ (funext fun (y : S1x256x2048.Idx) => ?_)
  · show (cfg0.win 9).cut (grid0.coords t) ((dats m 0 c).after 9 t) = _
    rw [after0_9]
  · exact (tile_eq m c t y).trans (congrArg (attn (inP m c) (inB m c) (inW m c) (inA m c) (inN m c)) (emb9 t y)).symm

theorem flushed10_eq (t : Fin cfg0.N) :
    (dats m 0 c).flushed 10 t = ((cfg0.win 10).blk t).view.read (Elt Ideal) (castO (inO m c)) := by
  refine Eq.trans (b := (cfg0.win 10).cut (grid0.coords t) (outsAt0 m c t.val t.isLt).2.1) ?_ (funext fun (y : S128x4096.Idx) => ?_)
  · show (cfg0.win 10).cut (grid0.coords t) ((dats m 0 c).after 10 t) = _
    rw [after0_10]
  · exact (slab_eq m c t y).trans (congrArg (castO (inO m c)) (emb10 t y)).symm

theorem cover9 (i : S2x4096x2048.Idx) : ∃ t : Fin cfg0.N, (cfg0.win 9).flush t = true ∧ i ∈ ((cfg0.win 9).blk t).view.set := by
  have h0 : (i 0).val < 2 := (i 0).isLt
  have h1 : (i 1).val < 4096 := (i 1).isLt
  have hN : cfg0.N = 32 := N_0
  let t : Fin cfg0.N := ⟨(i 0).val * 16 + (i 1).val / 256, by omega⟩
  let y : S1x256x2048.Idx := ix3 0 ⟨(i 1).val % 256, by omega⟩ (i 2)
  have e : ((cfg0.win 9).blk t).view.emb y = i := (emb9 t y).trans (idx_ext₃
    (by show ((i 0).val * 16 + (i 1).val / 256) / 16 = (i 0).val; omega)
    (by show ((i 0).val * 16 + (i 1).val / 256) % 16 * 256 + (i 1).val % 256 = (i 1).val; omega) rfl)
  exact ⟨t, flush0_9 t, e ▸ ((cfg0.win 9).blk t).view.emb_mem_set y⟩

theorem cover10 (i : S4096x4096.Idx) : ∃ t : Fin cfg0.N, (cfg0.win 10).flush t = true ∧ i ∈ ((cfg0.win 10).blk t).view.set := by
  have h0 : (i 0).val < 4096 := (i 0).isLt
  have hN : cfg0.N = 32 := N_0
  let t : Fin cfg0.N := ⟨(i 0).val / 128, by omega⟩
  let y : S128x4096.Idx := ix2 ⟨(i 0).val % 128, by omega⟩ (i 1)
  have e : ((cfg0.win 10).blk t).view.emb y = i := (emb10 t y).trans (Shape.idx_ext₂
    (by show (i 0).val / 128 * 128 + (i 0).val % 128 = (i 0).val; omega) rfl)
  exact ⟨t, flush0_10 t, e ▸ ((cfg0.win 10).blk t).view.emb_mem_set y⟩

theorem final9 : (dats m 0 c).arrAt 9 cfg0.N = attn (inP m c) (inB m c) (inW m c) (inA m c) (inN m c) :=
  (dats m 0 c).arrAt_eq_of_cover 9 _ (fun t _ => flushed9_eq m c t) cover9

theorem final10 : (dats m 0 c).arrAt 10 cfg0.N = castO (inO m c) :=
  (dats m 0 c).arrAt_eq_of_cover 10 _ (fun t _ => flushed10_eq m c t) cover10

end Cert.Proof.Gla

end
-- ==== Proof.GlaText.lean ====
/-
  The reference attention's host text as named arrays: the gate's logarithm, the sums inside the chunks, the decayed
  queries and keys, the masked scores, the chunks' updates and decays, and the normalised and gated rows.
-/
module

public import proofs.«01_k».proof.Proof.Gen.GlaReferenceIdeal.Run
public import proofs.«01_k».proof.Proof.Gla

@[expose] public section

set_option maxRecDepth 16384

noncomputable section

namespace Cert.Proof.Gla

open Cert.GlaReferenceIdeal Cert.GlaReferenceIdeal.Gen Cert.GlaReferenceIdeal.Value
open Idealize.ShloMosaic Idealize.ShloMosaic.TcCoe Idealize.ShloMosaic.StableHlo Idealize.SL.Sem

variable {F : FTy → Type} [FloatOps F]

abbrev Big (F : FTy → Type) := FVec F S2x4096x1024 .f32
abbrev Wide (F : FTy → Type) := FVec F S2x4096x2048 .f32
abbrev Keys (F : FTy → Type) := FVec F S2x64x64x4x256 .f32
abbrev Vals (F : FTy → Type) := FVec F S2x64x64x4x512 .f32

/-- The queries, keys, values and gates of the projections. -/
def qR (P : FVec F S2x4096x12288 .bf16) : Big F := extf .f32 (extractStridedSlice S2x4096x1024 ![0, 0, 6144] P slices_S2x4096x12288_S2x4096x1024_0_0_6144) bitsLt_bf16_f32
def kR (P : FVec F S2x4096x12288 .bf16) : Big F := extf .f32 (extractStridedSlice S2x4096x1024 ![0, 0, 7168] P slices_S2x4096x12288_S2x4096x1024_0_0_7168) bitsLt_bf16_f32
def vR (P : FVec F S2x4096x12288 .bf16) : Wide F := extf .f32 (extractStridedSlice S2x4096x2048 ![0, 0, 8192] P slices_S2x4096x12288_S2x4096x2048_0_0_8192) bitsLt_bf16_f32
def gR (P : FVec F S2x4096x12288 .bf16) : Wide F := extf .f32 (extractStridedSlice S2x4096x2048 ![0, 0, 10240] P slices_S2x4096x12288_S2x4096x2048_0_0_10240) bitsLt_bf16_f32
/-- The gate's argument, the logarithm of its sigmoid, and that over 16. -/
def zR (B : FVec F S2x4096x128 .f32) (W : FVec F S4x16x1024 .f32) (A : FVec F S4x1024 .f32) : Big F :=
  addf (Host.dotGeneral dot_S2x4096x16_S16x1024_S2x4096x1024_2_0_01_1_n_n none
      (extractStridedSlice S2x4096x16 ![0, 0, 0] B slices_S2x4096x128_S2x4096x16_0_0_0)
      (shapeCast S16x1024 (extractStridedSlice S1x16x1024 ![0, 0, 0] W slices_S4x16x1024_S1x16x1024_0_0_0) shapeCasts_S1x16x1024_S16x1024))
    (broadcastInDim S2x4096x1024 ![0, 1, 2] bcast_S1x1x1024_S2x4096x1024_0_1_2 (broadcastInDim S1x1x1024 ![2] bcast_S1024_S1x1x1024_2
      (shapeCast S1024 (extractStridedSlice S1x1024 ![0, 0] A slices_S4x1024_S1x1024_0_0) shapeCasts_S1x1024_S1024)))
def zeroR : Big F := broadcastInDim S2x4096x1024 ![] bcast_S_S2x4096x1024 (constant S_ .f32 0x00000000#32)
def sigR (z : Big F) : Big F :=
  Host.negf (select (cmpf .une (subf (Host.negf z) zeroR) (subf (Host.negf z) zeroR)) (addf (Host.negf z) zeroR)
    (addf (maximumf (Host.negf z) zeroR) (Host.log1p (Host.exp (Host.negf (Host.absf (subf (Host.negf z) zeroR)))))))
def laR (y : Big F) : Big F := Host.divf y (broadcastInDim S2x4096x1024 ![] bcast_S_S2x4096x1024 (constant S_ .f32 0x41800000#32))
/-- Rows by chunk, columns by head. -/
def cutR (x : Big F) : Keys F := shapeCast S2x64x64x4x256 (shapeCast S2x4096x4x256 x shapeCasts_S2x4096x1024_S2x4096x4x256) shapeCasts_S2x4096x4x256_S2x64x64x4x256
def cutV (x : Wide F) : Vals F := shapeCast S2x64x64x4x512 (shapeCast S2x4096x4x512 x shapeCasts_S2x4096x2048_S2x4096x4x512) shapeCasts_S2x4096x4x512_S2x64x64x4x512
def cutQ (x : Big F) : Keys F :=
  shapeCast S2x64x64x4x256 (mulf (shapeCast S2x4096x4x256 x shapeCasts_S2x4096x1024_S2x4096x4x256)
    (broadcastInDim S2x4096x4x256 ![] bcast_S_S2x4096x4x256 (constant S_ .f32 0x3D800000#32))) shapeCasts_S2x4096x4x256_S2x64x64x4x256
/-- The sums inside the chunks, their last rows, the decayed queries and keys. -/
def cumR (a : Keys F) : Keys F :=
  Host.reduceWindowAdd ![1, 1, 64, 1, 1] ![1, 1, 1, 1, 1] ![0, 0, 63, 0, 0] ![0, 0, 0, 0, 0] a
    (broadcastInDim S_ ![] bcast_S_S_ (constant S_ .f32 0x00000000#32))
    reduceWindows_S2x64x64x4x256_S2x64x64x4x256_w1s1p0_0_w1s1p0_0_w64s1p63_0_w1s1p0_0_w1s1p0_0 h_S_
def endR (cum : Keys F) : FVec F S2x64x1x4x256 .f32 := extractStridedSlice S2x64x1x4x256 ![0, 0, 63, 0, 0] cum slices_S2x64x64x4x256_S2x64x1x4x256_0_0_63_0_0
def qdR (q cum : Keys F) : Keys F := mulf q (Host.exp cum)
def kiR (k cum : Keys F) : Keys F := mulf k (Host.exp (Host.negf cum))
def tlR (k cum : Keys F) : Keys F :=
  mulf k (Host.exp (subf (broadcastInDim S2x64x64x4x256 ![0, 1, 2, 3, 4] bcast_S2x64x1x4x256_S2x64x64x4x256_0_1_2_3_4 (endR cum)) cum))
/-- Which rows come no later than a row. -/
def onesR : IVec S64x64 1 := broadcastInDim S64x64 ![] bcast_S_S64x64 (constantI S_ 1 1#1)
def triR (o : IVec S64x64 1) : IVec S64x64 1 :=
  select (cmpi .sge (addi (iotaInDim S64x64 32 0) (broadcastInDim S64x64 ![] bcast_S_S64x64 (constantI S_ 32 0#32))) (iotaInDim S64x64 32 1))
    o (broadcastInDim S64x64 ![] bcast_S_S64x64 (constantI S_ 1 0#1))
def scoreR (qd ki : Keys F) : FVec F S2x64x4x64x64 .f32 := Host.dotGeneral dot_S2x64x64x4x256_S2x64x64x4x256_S2x64x4x64x64_4_4_2_2_013_013 none qd ki
def maskR (t : IVec S64x64 1) (x : FVec F S2x64x4x64x64 .f32) (z : FVec F S_ .f32) : FVec F S2x64x4x64x64 .f32 :=
  select (broadcastInDim S2x64x4x64x64 ![3, 4] bcast_S64x64_S2x64x4x64x64_3_4 t) x (broadcastInDim S2x64x4x64x64 ![] bcast_S_S2x64x4x64x64 (id z))
/-- The chunks' own rows, what they add to the states, and what they leave of them. -/
def intraR (v : Vals F) (s : FVec F S2x64x4x64x64 .f32) : Vals F :=
  transpose S2x64x64x4x512 [0, 1, 4, 2, 3] (Host.dotGeneral dot_S2x64x64x4x512_S2x64x4x64x64_S2x64x4x512x64_2_4_4_3_013_012 none v s) transposes_S2x64x4x512x64_S2x64x64x4x512_0_1_4_2_3
def updR (t : Keys F) (v : Vals F) : FVec F S64x2x4x256x512 .f32 := Host.dotGeneral dot_S2x64x64x4x256_S2x64x64x4x512_S64x2x4x256x512_2_2_4_4_103_103 none t v
def decR (e : FVec F S2x64x1x4x256 .f32) : FVec F S64x2x4x256 .f32 :=
  transpose S64x2x4x256 [1, 0, 2, 3] (Host.exp (shapeCast S2x64x4x256 e shapeCasts_S2x64x1x4x256_S2x64x4x256)) transposes_S2x64x4x256_S64x2x4x256_1_0_2_3
/-- The rows over the states, normalised and weighted; the gate; the result. -/
def sumR (st : FVec F S64x2x4x256x512 .f32) (qd : Keys F) (i : Vals F) : FVec F S2x4096x4x512 .f32 :=
  shapeCast S2x4096x4x512 (addf i (transpose S2x64x64x4x512 [0, 1, 4, 2, 3]
    (Host.dotGeneral dot_S64x2x4x256x512_S2x64x64x4x256_S2x64x4x512x64_3_4_4_2_102_013 none st qd) transposes_S2x64x4x512x64_S2x64x64x4x512_0_1_4_2_3)) shapeCasts_S2x64x64x4x512_S2x4096x4x512
def normR (o : FVec F S2x4096x4x512 .f32) (N : FVec F S4x512 .f32) : Wide F :=
  shapeCast S2x4096x2048 (mulf (mulf o (broadcastInDim S2x4096x4x512 ![0, 1, 2, 3] bcast_S2x4096x4x1_S2x4096x4x512_0_1_2_3
      (Host.rsqrt (addf (Host.divf (broadcastInDim S2x4096x4x1 ![0, 1, 2] bcast_S2x4096x4_S2x4096x4x1_0_1_2
          (Host.reduceAdd (mulf o o) (constant S_ .f32 0x00000000#32) reducesTo_S2x4096x4x512_S2x4096x4_d3 h_S_))
        (broadcastInDim S2x4096x4x1 ![] bcast_S_S2x4096x4x1 (constant S_ .f32 0x44000000#32)))
        (broadcastInDim S2x4096x4x1 ![] bcast_S_S2x4096x4x1 (constant S_ .f32 0x358637BD#32))))))
    (broadcastInDim S2x4096x4x512 ![0, 1, 2, 3] bcast_S1x1x1x512_S2x4096x4x512_0_1_2_3 (broadcastInDim S1x1x1x512 ![3] bcast_S512_S1x1x1x512_3
      (shapeCast S512 (extractStridedSlice S1x512 ![0, 0] N slices_S4x512_S1x512_0_0) shapeCasts_S1x512_S512)))) shapeCasts_S2x4096x4x512_S2x4096x2048
def oneW : Wide F := broadcastInDim S2x4096x2048 ![] bcast_S_S2x4096x2048 (constant S_ .f32 0x3F800000#32)
def siluR (g : Wide F) : Wide F := mulf g (Host.divf oneW (addf oneW (Host.exp (Host.negf g))))
def resR (n s : Wide F) : FVec F S2x4096x2048 .bf16 := truncf .bf16 (mulf n s) bitsLt_bf16_f32
def layerR (O : FVec F S4x4096x4096 .f32) : FVec F S4096x4096 .bf16 :=
  truncf .bf16 (shapeCast S4096x4096 (extractStridedSlice S1x4096x4096 ![0, 0, 0] O slices_S4x4096x4096_S1x4096x4096_0_0_0) shapeCasts_S1x4096x4096_S4096x4096) bitsLt_bf16_f32

/-! ## The stretches -/

section Stretches
variable (V : Valuation τ sig (Elt F))

theorem t0_v1 : after hostOps0 V (Proc.devRef .tc main_v1) = qR (V (Proc.devRef .tc main_arg0)) := rfl
theorem t0_v3 : after hostOps0 V (Proc.devRef .tc main_v3) = kR (V (Proc.devRef .tc main_arg0)) := rfl
theorem t0_v5 : after hostOps0 V (Proc.devRef .tc main_v5) = vR (V (Proc.devRef .tc main_arg0)) := rfl
theorem t0_v7 : after hostOps0 V (Proc.devRef .tc main_v7) = gR (V (Proc.devRef .tc main_arg0)) := rfl
theorem t0_v16 : after hostOps0 V (Proc.devRef .tc main_v16) = zR (V (Proc.devRef .tc main_arg1)) (V (Proc.devRef .tc main_arg2)) (V (Proc.devRef .tc main_arg3)) := rfl
theorem t1_v17 : after hostOps0_1 V (Proc.devRef .tc main_v17) = sigR (V (Proc.devRef .tc main_v16)) := rfl
theorem t2_v26 : after hostOps0_2 V (Proc.devRef .tc main_v26) = cutQ (V (Proc.devRef .tc main_v1)) := rfl
theorem t2_v27 : after hostOps0_2 V (Proc.devRef .tc main_v27) = cutR (V (Proc.devRef .tc main_v3)) := rfl
theorem t2_v28 : after hostOps0_2 V (Proc.devRef .tc main_v28) = cutV (V (Proc.devRef .tc main_v5)) := rfl
theorem t2_v29 : after hostOps0_2 V (Proc.devRef .tc main_v29) = cutR (laR (V (Proc.devRef .tc main_v17))) := rfl
theorem t3_v30 : after hostOps0_3 V (Proc.devRef .tc main_v30) = cumR (V (Proc.devRef .tc main_v29)) := rfl
theorem t4_v31 : after hostOps0_4 V (Proc.devRef .tc main_v31) = endR (V (Proc.devRef .tc main_v30)) := rfl
theorem t4_v33 : after hostOps0_4 V (Proc.devRef .tc main_v33) = qdR (V (Proc.devRef .tc main_v26)) (V (Proc.devRef .tc main_v30)) := rfl
theorem t4_v36 : after hostOps0_4 V (Proc.devRef .tc main_v36) = kiR (V (Proc.devRef .tc main_v27)) (V (Proc.devRef .tc main_v30)) := rfl
theorem t4_v40 : after hostOps0_4 V (Proc.devRef .tc main_v40) = tlR (V (Proc.devRef .tc main_v27)) (V (Proc.devRef .tc main_v30)) := rfl
theorem t4_v41 : after hostOps0_4 V (Proc.devRef .tc main_v41) = onesR := rfl
theorem t5_v42 : after hostOps0_5 V (Proc.devRef .tc main_v42) = triR (V (Proc.devRef .tc main_v41)) := rfl
theorem t6_v43 : after hostOps0_6 V (Proc.devRef .tc main_v43) = scoreR (V (Proc.devRef .tc main_v33)) (V (Proc.devRef .tc main_v36)) := rfl
theorem t6_cst : after hostOps0_6 V (Proc.devRef .tc main_cst_1) = constant S_ .f32 0x00000000#32 := rfl
theorem t7_v44 : after hostOps0_7 V (Proc.devRef .tc main_v44) = maskR (V (Proc.devRef .tc main_v42)) (V (Proc.devRef .tc main_v43)) (V (Proc.devRef .tc main_cst_1)) := rfl
theorem t8_v46 : after hostOps0_8 V (Proc.devRef .tc main_v46) = intraR (V (Proc.devRef .tc main_v28)) (V (Proc.devRef .tc main_v44)) := rfl
theorem t8_v53_0 : after hostOps0_8 V (Proc.devRef .tc main_v53_0) = decR (V (Proc.devRef .tc main_v31)) := rfl
theorem t8_v53_1 : after hostOps0_8 V (Proc.devRef .tc main_v53_1) = updR (V (Proc.devRef .tc main_v40)) (V (Proc.devRef .tc main_v28)) := rfl
theorem t8_v53_3 : after hostOps0_8 V (Proc.devRef .tc main_v53_3) = broadcastInDim S2x4x256x512 ![] bcast_S_S2x4x256x512 (constant S_ .f32 0x00000000#32) := rfl
theorem t9_v73 : after hostOps0_9 V (Proc.devRef .tc main_v73)
    = normR (sumR (V (Proc.devRef .tc main_v53_4)) (V (Proc.devRef .tc main_v33)) (V (Proc.devRef .tc main_v46))) (V (Proc.devRef .tc main_arg4)) := rfl
theorem t10_v74 : after hostOps0_10 V (Proc.devRef .tc main_v74) = siluR (V (Proc.devRef .tc main_v7)) := rfl
theorem t11_v76 : after hostOps0_11 V (Proc.devRef .tc main_v76) = resR (V (Proc.devRef .tc main_v73)) (V (Proc.devRef .tc main_v74)) := rfl
theorem t11_v79 : after hostOps0_11 V (Proc.devRef .tc main_v79) = layerR (V (Proc.devRef .tc main_arg5)) := rfl
theorem kp1 (r : Ref sig .tc) (h : r ∉ hostOps0_1_W) : after hostOps0_1 V (Proc.devRef .tc r) = V (Proc.devRef .tc r) := after_of_writes_sub hostOps0_1 V hostOps0_1_writes h
theorem kp2 (r : Ref sig .tc) (h : r ∉ hostOps0_2_W) : after hostOps0_2 V (Proc.devRef .tc r) = V (Proc.devRef .tc r) := after_of_writes_sub hostOps0_2 V hostOps0_2_writes h
theorem kp3 (r : Ref sig .tc) (h : r ∉ hostOps0_3_W) : after hostOps0_3 V (Proc.devRef .tc r) = V (Proc.devRef .tc r) := after_of_writes_sub hostOps0_3 V hostOps0_3_writes h
theorem kp4 (r : Ref sig .tc) (h : r ∉ hostOps0_4_W) : after hostOps0_4 V (Proc.devRef .tc r) = V (Proc.devRef .tc r) := after_of_writes_sub hostOps0_4 V hostOps0_4_writes h
theorem kp5 (r : Ref sig .tc) (h : r ∉ hostOps0_5_W) : after hostOps0_5 V (Proc.devRef .tc r) = V (Proc.devRef .tc r) := after_of_writes_sub hostOps0_5 V hostOps0_5_writes h
theorem kp6 (r : Ref sig .tc) (h : r ∉ hostOps0_6_W) : after hostOps0_6 V (Proc.devRef .tc r) = V (Proc.devRef .tc r) := after_of_writes_sub hostOps0_6 V hostOps0_6_writes h
theorem kp7 (r : Ref sig .tc) (h : r ∉ hostOps0_7_W) : after hostOps0_7 V (Proc.devRef .tc r) = V (Proc.devRef .tc r) := after_of_writes_sub hostOps0_7 V hostOps0_7_writes h
theorem kp8 (r : Ref sig .tc) (h : r ∉ hostOps0_8_W) : after hostOps0_8 V (Proc.devRef .tc r) = V (Proc.devRef .tc r) := after_of_writes_sub hostOps0_8 V hostOps0_8_writes h
end Stretches

/-! ## The arrays before the loop -/

section Entry
variable (m : (ℓ : Loc nD τ sig) → Buf (Elt F) ℓ) (c : Dev nD)

abbrev rP : FVec F S2x4096x12288 .bf16 := m ((c.tc : Thread nD τ).loc main_arg0)
abbrev rB : FVec F S2x4096x128 .f32 := m ((c.tc : Thread nD τ).loc main_arg1)
abbrev rW : FVec F S4x16x1024 .f32 := m ((c.tc : Thread nD τ).loc main_arg2)
abbrev rA : FVec F S4x1024 .f32 := m ((c.tc : Thread nD τ).loc main_arg3)
abbrev rN : FVec F S4x512 .f32 := m ((c.tc : Thread nD τ).loc main_arg4)
abbrev rO : FVec F S4x4096x4096 .f32 := m ((c.tc : Thread nD τ).loc main_arg5)

def cumA (B : FVec F S2x4096x128 .f32) (W : FVec F S4x16x1024 .f32) (A : FVec F S4x1024 .f32) : Keys F := cumR (cutR (laR (sigR (zR B W A))))
def qdA (P : FVec F S2x4096x12288 .bf16) (cum : Keys F) : Keys F := qdR (cutQ (qR P)) cum
def intraA (P : FVec F S2x4096x12288 .bf16) (cum : Keys F) : Vals F :=
  intraR (cutV (vR P)) (maskR (triR onesR) (scoreR (qdA P cum) (kiR (cutR (kR P)) cum)) (constant S_ .f32 0x00000000#32))
def updA (P : FVec F S2x4096x12288 .bf16) (cum : Keys F) : FVec F S64x2x4x256x512 .f32 := updR (tlR (cutR (kR P)) cum) (cutV (vR P))
def decA (cum : Keys F) : FVec F S64x2x4x256 .f32 := decR (endR cum)
theorem pre_v53_0 : entryContents preI m c (Proc.devRef .tc main_v53_0) = decA (cumA (rB m c) (rW m c) (rA m c)) := by
  simp only [entryContents, afterL_cons, afterL_nil]
  rw [t8_v53_0, kp7 _ main_v31 (by decide), kp6 _ main_v31 (by decide), kp5 _ main_v31 (by decide), t4_v31, t3_v30, t2_v29, t1_v17, t0_v16]
  rfl
theorem pre_v53_1 : entryContents preI m c (Proc.devRef .tc main_v53_1) = updA (rP m c) (cumA (rB m c) (rW m c) (rA m c)) := by
  simp only [entryContents, afterL_cons, afterL_nil]
  rw [t8_v53_1, kp7 _ main_v40 (by decide), kp6 _ main_v40 (by decide), kp5 _ main_v40 (by decide), t4_v40, kp7 _ main_v28 (by decide), kp6 _ main_v28 (by decide), kp5 _ main_v28 (by decide), kp4 _ main_v28 (by decide), kp3 _ main_v28 (by decide), t2_v28, kp1 _ main_v5 (by decide), t0_v5, kp3 _ main_v27 (by decide), t2_v27, kp1 _ main_v3 (by decide), t0_v3, t3_v30, t2_v29, t1_v17, t0_v16]
  rfl
theorem pre_v33 : entryContents preI m c (Proc.devRef .tc main_v33) = qdA (rP m c) (cumA (rB m c) (rW m c) (rA m c)) := by
  simp only [entryContents, afterL_cons, afterL_nil]
  rw [kp8 _ main_v33 (by decide), kp7 _ main_v33 (by decide), kp6 _ main_v33 (by decide), kp5 _ main_v33 (by decide), t4_v33, kp3 _ main_v26 (by decide), t2_v26, kp1 _ main_v1 (by decide), t0_v1, t3_v30, t2_v29, t1_v17, t0_v16]
  rfl
theorem pre_v46 : entryContents preI m c (Proc.devRef .tc main_v46) = intraA (rP m c) (cumA (rB m c) (rW m c) (rA m c)) := by
  simp only [entryContents, afterL_cons, afterL_nil]
  rw [t8_v46, kp7 _ main_v28 (by decide), kp6 _ main_v28 (by decide), kp5 _ main_v28 (by decide), kp4 _ main_v28 (by decide), kp3 _ main_v28 (by decide), t2_v28, kp1 _ main_v5 (by decide), t0_v5, t7_v44, kp6 _ main_v42 (by decide), t5_v42, t4_v41, t6_v43, t6_cst, kp5 _ main_v33 (by decide), kp5 _ main_v36 (by decide), t4_v33, t4_v36, kp3 _ main_v26 (by decide), t2_v26, kp1 _ main_v1 (by decide), t0_v1, kp3 _ main_v27 (by decide), t2_v27, kp1 _ main_v3 (by decide), t0_v3, t3_v30, t2_v29, t1_v17, t0_v16]
  rfl
theorem pre_v7 : entryContents preI m c (Proc.devRef .tc main_v7) = gR (rP m c) := by
  simp only [entryContents, afterL_cons, afterL_nil]
  rw [kp8 _ main_v7 (by decide), kp7 _ main_v7 (by decide), kp6 _ main_v7 (by decide), kp5 _ main_v7 (by decide), kp4 _ main_v7 (by decide), kp3 _ main_v7 (by decide), kp2 _ main_v7 (by decide), kp1 _ main_v7 (by decide), t0_v7]
end Entry

end Cert.Proof.Gla

end
-- ==== Proof.GlaRefOps.lean ====
/-
  The reference attention's arrays entry by entry, over the extended reals: each is the chunk's formula at the chunk's
  own rows.
-/
module

public import proofs.«01_k».proof.Proof.GlaText
public import proofs.«01_k».proof.Proof.GlaReads
public import Idealize.ShloMosaic.Lib.Pointwise
public import Idealize.ShloMosaic.Lib.KernelVsHost
public import Idealize.ShloMosaic.Lib.WordCmp

@[expose] public section

set_option maxRecDepth 16384

noncomputable section

namespace Cert.Proof.Gla

open Cert.GlaReferenceIdeal Cert.GlaReferenceIdeal.Gen Cert.GlaReferenceIdeal.Value
open Idealize.ShloMosaic Idealize.ShloMosaic.TcCoe Idealize.ShloMosaic.StableHlo Idealize.SL.Sem

theorem idx_ext₅ {n0 n1 n2 n3 n4 : ℕ} {i j : (⟨5, ![n0, n1, n2, n3, n4]⟩ : Shape).Idx} (h0 : (i 0).val = (j 0).val) (h1 : (i 1).val = (j 1).val)
    (h2 : (i 2).val = (j 2).val) (h3 : (i 3).val = (j 3).val) (h4 : (i 4).val = (j 4).val) : i = j := by
  funext a
  match a with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

/-! ## The sums inside the chunks -/

/-- A window of 64 rows, cut off before the first, holds the rows up to its last. -/
theorem sum_window (l : Fin 64) (X : Fin 64 → EReal) :
    (∑ w : Fin 64, if hw : 63 ≤ l.val + w.val ∧ l.val + w.val - 63 < 64 then X ⟨l.val + w.val - 63, hw.2⟩ else 0) = ∑ m : Fin 64, if m ≤ l then X m else 0 := by
  have e1 : ∀ w : Fin 64, (if hw : 63 ≤ l.val + w.val ∧ l.val + w.val - 63 < 64 then X ⟨l.val + w.val - 63, hw.2⟩ else 0)
      = if 63 ≤ l.val + w.val then X (Fin.ofNat 64 (l.val + w.val - 63)) else 0 := by
    intro w
    by_cases hw : 63 ≤ l.val + w.val
    · have h2 : l.val + w.val - 63 < 64 := by omega
      rw [dif_pos ⟨hw, h2⟩, if_pos hw]
      exact congrArg X (Fin.ext (Nat.mod_eq_of_lt h2).symm)
    · rw [dif_neg (fun h => hw h.1), if_neg hw]
  simp only [e1]
  rw [← Finset.sum_filter, ← Finset.sum_filter]
  refine Finset.sum_bij' (fun w _ => Fin.ofNat 64 (l.val + w.val - 63)) (fun m _ => Fin.ofNat 64 (m.val + 63 - l.val)) ?_ ?_ ?_ ?_ ?_
  · intro w hw
    simp only [Finset.mem_filter, Finset.mem_univ, true_and, Fin.le_def, Fin.ofNat] at hw ⊢
    omega
  · intro w hw
    simp only [Finset.mem_filter, Finset.mem_univ, true_and, Fin.le_def, Fin.ofNat] at hw ⊢
    omega
  · intro w hw
    simp only [Finset.mem_filter, Finset.mem_univ, true_and] at hw
    refine Fin.ext ?_
    simp only [Fin.ofNat]
    omega
  · intro w hw
    simp only [Finset.mem_filter, Finset.mem_univ, true_and, Fin.le_def] at hw
    refine Fin.ext ?_
    simp only [Fin.ofNat]
    omega
  · intro w hw; rfl

theorem foldl_sum {n : ℕ} (f : Fin n → EReal) (z : EReal) : (List.finRange n).foldl (fun r i => r + f i) z = z + ∑ i, f i := by
  rw [← List.sum_ofFn, List.ofFn_eq_map]
  generalize List.finRange n = L
  induction L generalizing z with
  | nil => simp
  | cons a L ih => simp only [List.foldl_cons, List.map_cons, List.sum_cons]; rw [ih, add_assoc]

/-- The positions of a window of 64 rows. -/
def windowEquiv : (⟨5, ![1, 1, 64, 1, 1]⟩ : Shape).Idx ≃ Fin 64 where
  toFun i := i 2
  invFun w := ix5 0 0 w 0 0
  left_inv i := idx_ext₅ (by have : (i 0).val < 1 := (i 0).isLt; show 0 = _; omega) (by have : (i 1).val < 1 := (i 1).isLt; show 0 = _; omega) rfl
    (by have : (i 3).val < 1 := (i 3).isLt; show 0 = _; omega) (by have : (i 4).val < 1 := (i 4).isLt; show 0 = _; omega)
  right_inv w := rfl

section Entries
variable (b : Fin 2) (n l : Fin 64) (h : Fin 4) (d : Fin 256) (v : Fin 512)

theorem cumR_apply (x : Keys Ideal) : cumR x (ix5 b n l h d) = ∑ m : Fin 64, if m ≤ l then x (ix5 b n m h d) else 0 := by
  rw [← sum_window l (fun m => x (ix5 b n m h d))]
  have e0 : (broadcastInDim S_ ![] bcast_S_S_ (constant S_ .f32 0x00000000#32) : FVec Ideal S_ .f32) (Shape.Idx.first h_S_) = 0 := by
    simp [broadcastInDim, constant, Scalar.ofBits, Ideal.ofBits_zero_f32]
  unfold cumR Host.reduceWindowAdd
  rw [e0]
  show Ideal.hostReduceWindowAdd _ _ _ _ _ x 0 _ = _
  unfold Ideal.hostReduceWindowAdd Host.reduceWindow
  rw [foldl_sum, zero_add]
  rw [← Equiv.sum_comp windowEquiv]
  rw [← Equiv.sum_comp (Shape.rowMajor ⟨5, ![1, 1, 64, 1, 1]⟩)]
  refine Finset.sum_congr rfl fun i _ => ?_
  have i0 : (i 0).val = 0 := by have : (i 0).val < 1 := (i 0).isLt; omega
  have i1 : (i 1).val = 0 := by have : (i 1).val < 1 := (i 1).isLt; omega
  have i3 : (i 3).val = 0 := by have : (i 3).val < 1 := (i 3).isLt; omega
  have i4 : (i 4).val = 0 := by have : (i 4).val < 1 := (i 4).isLt; omega
  have w2 : (windowEquiv i).val = (i 2).val := rfl
  by_cases hw : 63 ≤ l.val + (windowEquiv i).val ∧ l.val + (windowEquiv i).val - 63 < 64
  · rw [dif_pos hw]
    have hv := hw
    rw [w2] at hv
    refine (dif_pos ?_).trans ?_
    · intro a
      match a with
      | ⟨0, _⟩ => show 0 ≤ b.val * 1 + (((Shape.rowMajor ⟨5, ![1, 1, 64, 1, 1]⟩).symm ((Shape.rowMajor ⟨5, ![1, 1, 64, 1, 1]⟩) i)) 0).val ∧ b.val * 1 + (((Shape.rowMajor ⟨5, ![1, 1, 64, 1, 1]⟩).symm ((Shape.rowMajor ⟨5, ![1, 1, 64, 1, 1]⟩) i)) 0).val - 0 < 2; rw [Equiv.symm_apply_apply]; omega
      | ⟨1, _⟩ => show 0 ≤ n.val * 1 + (((Shape.rowMajor ⟨5, ![1, 1, 64, 1, 1]⟩).symm ((Shape.rowMajor ⟨5, ![1, 1, 64, 1, 1]⟩) i)) 1).val ∧ n.val * 1 + (((Shape.rowMajor ⟨5, ![1, 1, 64, 1, 1]⟩).symm ((Shape.rowMajor ⟨5, ![1, 1, 64, 1, 1]⟩) i)) 1).val - 0 < 64; rw [Equiv.symm_apply_apply]; omega
      | ⟨2, _⟩ => show 63 ≤ l.val * 1 + (((Shape.rowMajor ⟨5, ![1, 1, 64, 1, 1]⟩).symm ((Shape.rowMajor ⟨5, ![1, 1, 64, 1, 1]⟩) i)) 2).val ∧ l.val * 1 + (((Shape.rowMajor ⟨5, ![1, 1, 64, 1, 1]⟩).symm ((Shape.rowMajor ⟨5, ![1, 1, 64, 1, 1]⟩) i)) 2).val - 63 < 64; rw [Equiv.symm_apply_apply]; omega
      | ⟨3, _⟩ => show 0 ≤ h.val * 1 + (((Shape.rowMajor ⟨5, ![1, 1, 64, 1, 1]⟩).symm ((Shape.rowMajor ⟨5, ![1, 1, 64, 1, 1]⟩) i)) 3).val ∧ h.val * 1 + (((Shape.rowMajor ⟨5, ![1, 1, 64, 1, 1]⟩).symm ((Shape.rowMajor ⟨5, ![1, 1, 64, 1, 1]⟩) i)) 3).val - 0 < 4; rw [Equiv.symm_apply_apply]; omega
      | ⟨4, _⟩ => show 0 ≤ d.val * 1 + (((Shape.rowMajor ⟨5, ![1, 1, 64, 1, 1]⟩).symm ((Shape.rowMajor ⟨5, ![1, 1, 64, 1, 1]⟩) i)) 4).val ∧ d.val * 1 + (((Shape.rowMajor ⟨5, ![1, 1, 64, 1, 1]⟩).symm ((Shape.rowMajor ⟨5, ![1, 1, 64, 1, 1]⟩) i)) 4).val - 0 < 256; rw [Equiv.symm_apply_apply]; omega
    · refine congrArg x (idx_ext₅ ?_ ?_ ?_ ?_ ?_)
      · show b.val * 1 + (((Shape.rowMajor ⟨5, ![1, 1, 64, 1, 1]⟩).symm ((Shape.rowMajor ⟨5, ![1, 1, 64, 1, 1]⟩) i)) 0).val - 0 = b.val; rw [Equiv.symm_apply_apply]; omega
      · show n.val * 1 + (((Shape.rowMajor ⟨5, ![1, 1, 64, 1, 1]⟩).symm ((Shape.rowMajor ⟨5, ![1, 1, 64, 1, 1]⟩) i)) 1).val - 0 = n.val; rw [Equiv.symm_apply_apply]; omega
      · show l.val * 1 + (((Shape.rowMajor ⟨5, ![1, 1, 64, 1, 1]⟩).symm ((Shape.rowMajor ⟨5, ![1, 1, 64, 1, 1]⟩) i)) 2).val - 63 = l.val + (i 2).val - 63; rw [Equiv.symm_apply_apply]; omega
      · show h.val * 1 + (((Shape.rowMajor ⟨5, ![1, 1, 64, 1, 1]⟩).symm ((Shape.rowMajor ⟨5, ![1, 1, 64, 1, 1]⟩) i)) 3).val - 0 = h.val; rw [Equiv.symm_apply_apply]; omega
      · show d.val * 1 + (((Shape.rowMajor ⟨5, ![1, 1, 64, 1, 1]⟩).symm ((Shape.rowMajor ⟨5, ![1, 1, 64, 1, 1]⟩) i)) 4).val - 0 = d.val; rw [Equiv.symm_apply_apply]; omega
  · rw [dif_neg hw]
    rw [w2] at hw
    refine dif_neg fun hin => hw ?_
    have h2 : 63 ≤ l.val * 1 + (((Shape.rowMajor ⟨5, ![1, 1, 64, 1, 1]⟩).symm ((Shape.rowMajor ⟨5, ![1, 1, 64, 1, 1]⟩) i)) 2).val ∧ l.val * 1 + (((Shape.rowMajor ⟨5, ![1, 1, 64, 1, 1]⟩).symm ((Shape.rowMajor ⟨5, ![1, 1, 64, 1, 1]⟩) i)) 2).val - 63 < 64 := hin (2 : Fin 5)
    rw [Equiv.symm_apply_apply] at h2
    omega
theorem cut_idx : (ix3 b ⟨n.val * 64 + l.val, by omega⟩ ⟨h.val * 256 + d.val, by omega⟩ : S2x4096x1024.Idx) = ix3 b (seqRow n.val l) (col h d) :=
  idx_ext₃ rfl (by show n.val * 64 + l.val = (64 * n.val + l.val) % 4096; omega) (by show h.val * 256 + d.val = 256 * h.val + d.val; omega)
theorem cut_idxV : (ix3 b ⟨n.val * 64 + l.val, by omega⟩ ⟨h.val * 512 + v.val, by omega⟩ : S2x4096x2048.Idx) = ix3 b (seqRow n.val l) (vcol h v) :=
  idx_ext₃ rfl (by show n.val * 64 + l.val = (64 * n.val + l.val) % 4096; omega) (by show h.val * 512 + v.val = 512 * h.val + v.val; omega)
theorem cutR_apply (x : Big Ideal) : cutR x (ix5 b n l h d) = x (ix3 b (seqRow n.val l) (col h d)) := by
  unfold cutR
  simp only [pointwise]
  exact congrArg x (cut_idx b n l h d)
theorem cutQ_apply (x : Big Ideal) : cutQ x (ix5 b n l h d) = x (ix3 b (seqRow n.val l) (col h d)) * Ideal.ofBits .f32 0x3D800000#32 := by
  unfold cutQ
  simp only [pointwise]
  exact congrArg (x · * _) (cut_idx b n l h d)
theorem cutV_apply (x : Wide Ideal) : cutV x (ix5 b n l h v) = x (ix3 b (seqRow n.val l) (vcol h v)) := by
  unfold cutV
  simp only [pointwise]
  exact congrArg x (cut_idxV b n l h v)
theorem tlR_apply (k x : Keys Ideal) : tlR k x (ix5 b n l h d) = k (ix5 b n l h d) * Ideal.exp (x (ix5 b n 63 h d) - x (ix5 b n l h d)) := by
  unfold tlR endR
  simp only [pointwise]
  refine congrArg (fun t => k (ix5 b n l h d) * Ideal.exp (x t - x (ix5 b n l h d))) (idx_ext₅ ?_ ?_ ?_ ?_ ?_) <;> simp
theorem decR_apply (x : Keys Ideal) : decR (endR x) (ix4 n b h d) = Ideal.exp (x (ix5 b n 63 h d)) := by
  unfold decR endR
  simp only [pointwise]
  refine congrArg (fun t => Ideal.exp (x t)) (idx_ext₅ ?_ ?_ ?_ ?_ ?_) <;> simp
theorem triR_apply (m : Fin 64) : triR onesR (ix2 l m) = if m ≤ l then 1#1 else 0#1 := by
  have e : ∀ l m : Fin 64, IntOp.cmpi CmpIPredicate.sge (IntOp.addi (BitVec.ofNat 32 l.val) 0#32) (BitVec.ofNat 32 m.val) = if m ≤ l then 1#1 else 0#1 := by
    decide +kernel
  have h1 : onesR (ix2 l m) = 1#1 := rfl
  unfold triR
  generalize onesR = o at h1 ⊢
  simp only [pointwise]
  rw [h1, e]
  split <;> rfl
theorem scoreR_apply (q k : Keys Ideal) (m : Fin 64) : scoreR q k (ix5 b n h l m) = ∑ d : Fin 256, q (ix5 b n l h d) * k (ix5 b n m h d) := by
  unfold scoreR
  simp only [pointwise]
  exact zero_add _
theorem maskR_apply (x : FVec Ideal S2x64x4x64x64 .f32) (m : Fin 64) :
    maskR (triR onesR) x (constant S_ .f32 0x00000000#32) (ix5 b n h l m) = if m ≤ l then x (ix5 b n h l m) else 0 := by
  have e := triR_apply l m
  unfold maskR
  generalize triR onesR = t at e ⊢
  simp only [pointwise]
  have ez : (constant S_ .f32 0x00000000#32 : FVec Ideal S_ .f32) ix0 = 0 := by simp [constant, Scalar.ofBits, Ideal.ofBits_zero_f32]
  show Scalar.select (t (ix2 l m)) (x (ix5 b n h l m)) ((constant S_ .f32 0x00000000#32 : FVec Ideal S_ .f32) ix0) = _
  rw [e, ez]
  split <;> rfl
theorem intraR_apply (x : Vals Ideal) (s : FVec Ideal S2x64x4x64x64 .f32) : intraR x s (ix5 b n l h v) = ∑ m : Fin 64, x (ix5 b n m h v) * s (ix5 b n h l m) := by
  unfold intraR
  simp only [pointwise]
  exact zero_add _
theorem updR_apply (t : Keys Ideal) (x : Vals Ideal) : updR t x (ix5 n b h d v) = ∑ m : Fin 64, t (ix5 b n m h d) * x (ix5 b n m h v) := by
  unfold updR
  simp only [pointwise]
  exact zero_add _
theorem sumR_apply (st : FVec Ideal S64x2x4x256x512 .f32) (q : Keys Ideal) (i : Vals Ideal) (s : Fin 4096) :
    sumR st q i (ix4 b s h v) = i (ix5 b ⟨s.val / 64, by omega⟩ ⟨s.val % 64, by omega⟩ h v)
      + ∑ d : Fin 256, st (ix5 ⟨s.val / 64, by omega⟩ b h d v) * q (ix5 b ⟨s.val / 64, by omega⟩ ⟨s.val % 64, by omega⟩ h d) := by
  unfold sumR
  simp only [pointwise]
  exact congrArg (_ + ·) (zero_add _)
theorem normR_apply (o : FVec Ideal S2x4096x4x512 .f32) (N : FVec Ideal S4x512 .f32) (s : Fin 4096) (e : Fin 2048) :
    normR o N (ix3 b s e) = o (ix4 b s ⟨e.val / 512, by omega⟩ ⟨e.val % 512, by omega⟩)
      * Ideal.rsqrt (Ideal.div (∑ k : Fin 512, o (ix4 b s ⟨e.val / 512, by omega⟩ k) * o (ix4 b s ⟨e.val / 512, by omega⟩ k)) (Ideal.ofBits .f32 0x44000000#32) + Ideal.ofBits .f32 0x358637BD#32)
      * N (ix2 0 ⟨e.val % 512, by omega⟩) := by
  unfold normR
  simp only [pointwise]
  simp
theorem zR_apply (B : FVec Ideal S2x4096x128 .f32) (W : FVec Ideal S4x16x1024 .f32) (A : FVec Ideal S4x1024 .f32) (s : Fin 4096) (e : Fin 1024) :
    zR B W A (ix3 b s e) = argS B W A b s e := by
  unfold zR argS
  simp only [pointwise]
  simp
  rfl
theorem neg_max_add (z y : EReal) (hy : 0 ≤ y) : -(max (-z) 0 + y) = min z 0 - y := by
  have h0 : (0 : EReal) ≤ max (-z) 0 := le_max_right _ _
  rw [EReal.neg_add (Or.inl (fun e => by rw [e] at h0; exact absurd h0 (by decide))) (Or.inr (fun e => by rw [e] at hy; exact absurd hy (by decide)))]
  refine congrArg (· - y) ?_
  rcases le_total z 0 with hz | hz
  · rw [min_eq_left hz, max_eq_left (EReal.le_neg_of_le_neg (by simpa using hz)), neg_neg]
  · rw [min_eq_right hz, max_eq_right (EReal.neg_le_of_neg_le (by simpa using hz)), neg_zero]
theorem laR_apply (z : Big Ideal) (s : Fin 4096) (e : Fin 1024) : laR (sigR z) (ix3 b s e) = gateC (z (ix3 b s e)) := by
  unfold laR sigR zeroR gateC
  simp only [pointwise]
  refine congrArg (Ideal.div · _) ?_
  generalize z (ix3 b s e) = y
  rw [if_neg (fun h => h rfl), sub_zero]
  have ha : FloatOps.absf (F := Ideal) (φ := .f32) (-y) = FloatOps.absf (F := Ideal) (φ := .f32) y := by
    show max (-y) (- -y) = max y (-y)
    rw [neg_neg, max_comm]
  rw [ha, neg_max_add _ _ ?_, zero_sub]
  · rfl
  · exact log_nonneg (le_add_of_nonneg_right (exp_nonneg _))
theorem qR_apply (P : FVec Ideal S2x4096x12288 .bf16) (s : Fin 4096) (e : Fin 1024) : qR P (ix3 b s e) = P (ix3 b s ⟨6144 + e.val, by omega⟩) := by
  unfold qR
  simp only [pointwise]
  exact congrArg P (idx_ext₃ (Nat.zero_add _) (Nat.zero_add _) rfl)
theorem kR_apply (P : FVec Ideal S2x4096x12288 .bf16) (s : Fin 4096) (e : Fin 1024) : kR P (ix3 b s e) = P (ix3 b s ⟨7168 + e.val, by omega⟩) := by
  unfold kR
  simp only [pointwise]
  exact congrArg P (idx_ext₃ (Nat.zero_add _) (Nat.zero_add _) rfl)
theorem vR_apply (P : FVec Ideal S2x4096x12288 .bf16) (s : Fin 4096) (e : Fin 2048) : vR P (ix3 b s e) = P (ix3 b s ⟨8192 + e.val, by omega⟩) := by
  unfold vR
  simp only [pointwise]
  exact congrArg P (idx_ext₃ (Nat.zero_add _) (Nat.zero_add _) rfl)
theorem gR_apply (P : FVec Ideal S2x4096x12288 .bf16) (s : Fin 4096) (e : Fin 2048) : gR P (ix3 b s e) = P (ix3 b s ⟨10240 + e.val, by omega⟩) := by
  unfold gR
  simp only [pointwise]
  exact congrArg P (idx_ext₃ (Nat.zero_add _) (Nat.zero_add _) rfl)
theorem resR_apply (g x : Wide Ideal) (s : Fin 4096) (e : Fin 2048) : resR x (siluR g) (ix3 b s e) = x (ix3 b s e) * (g (ix3 b s e) * Ideal.logistic (g (ix3 b s e))) := by
  unfold resR siluR oneW Ideal.logistic
  simp only [pointwise]
theorem layerR_eq (O : FVec Ideal S4x4096x4096 .f32) : layerR O = castO O := by
  funext y
  rw [eq_ix2 y]
  generalize y 0 = i
  generalize y 1 = j
  unfold layerR castO
  simp only [pointwise]
  exact congrArg O (idx_ext₃ rfl (Nat.zero_add _) (Nat.zero_add _))
end Entries

end Cert.Proof.Gla
end
-- ==== Proof.GlaRefLoop.lean ====
/-
  The reference attention's loop over the chunks and its result: the states it passes through are the attention's, and
  what it returns is the attention over the arrays.
-/
module

public import proofs.«01_k».proof.Proof.GlaRefOps
public import proofs.«01_k».proof.Proof.GlaReads
public import Idealize.ShloMosaic.Lib.Pointwise
public import Idealize.ShloMosaic.Lib.KernelVsHost
public import Idealize.ShloMosaic.Lib.WordCmp

@[expose] public section

set_option maxRecDepth 16384

noncomputable section

namespace Cert.Proof.Gla

open Cert.GlaReferenceIdeal Cert.GlaReferenceIdeal.Gen Cert.GlaReferenceIdeal.Value
open Idealize.ShloMosaic Idealize.ShloMosaic.TcCoe Idealize.ShloMosaic.StableHlo Idealize.SL.Sem

/-! ## The arrays before the loop, as the chunks' formulas -/

section Chunks
variable (P : FVec Ideal S2x4096x12288 .bf16) (B : FVec Ideal S2x4096x128 .f32) (W : FVec Ideal S4x16x1024 .f32) (A : FVec Ideal S4x1024 .f32)
  (b : Fin 2) (n l : Fin 64) (h : Fin 4) (d : Fin 256) (v : Fin 512)

theorem cumA_apply : cumA B W A (ix5 b n l h d) = cumC (gateS B W A b n.val) l (col h d) := by
  unfold cumA cumC gateS
  rw [cumR_apply]
  refine Finset.sum_congr rfl fun m _ => ?_
  rw [cutR_apply, laR_apply, zR_apply]

theorem qdA_apply : qdA P (cumA B W A) (ix5 b n l h d) = qdC (gateS B W A b n.val) (qS P b n.val) l (col h d) := by
  unfold qdC qS
  rw [← cumA_apply B W A b n l h d]
  unfold qdA qdR
  generalize cumA B W A = cum
  have e : cutQ (qR P) (ix5 b n l h d) = P (ix3 b (seqRow n.val l) ⟨6144 + (col h d).val, by omega⟩) * Ideal.ofBits .f32 0x3D800000#32 := by
    rw [cutQ_apply, qR_apply]
  rw [← e]
  rfl

theorem kiA_apply : kiR (cutR (kR P)) (cumA B W A) (ix5 b n l h d) = kiC (gateS B W A b n.val) (kS P b n.val) l (col h d) := by
  unfold kiC kS
  rw [← cumA_apply B W A b n l h d]
  have e : cutR (kR P) (ix5 b n l h d) = P (ix3 b (seqRow n.val l) ⟨7168 + (col h d).val, by omega⟩) := by
    rw [cutR_apply, kR_apply]
  rw [← e, zero_sub]
  unfold kiR
  generalize cumA B W A = cum
  rfl

theorem tlA_apply : tlR (cutR (kR P)) (cumA B W A) (ix5 b n l h d) = tlC (gateS B W A b n.val) (kS P b n.val) l (col h d) := by
  unfold tlC kS
  rw [tlR_apply, cumA_apply, cumA_apply, cutR_apply, kR_apply]

theorem vA_apply : cutV (vR P) (ix5 b n l h v) = vS P b h n.val l v := by
  unfold vS
  rw [cutV_apply, vR_apply]
  rfl

theorem intraA_apply : intraA P (cumA B W A) (ix5 b n l h v) = intraC (gateS B W A b n.val) (qS P b n.val) (kS P b n.val) (vS P b h n.val) h l v := by
  unfold intraA intraC
  rw [intraR_apply]
  refine Finset.sum_congr rfl fun m _ => ?_
  rw [maskR_apply, vA_apply]
  split
  · rw [scoreR_apply, mul_comm]
    refine congrArg (· * _) (Finset.sum_congr rfl fun d _ => ?_)
    rw [qdA_apply, kiA_apply]
  · exact mul_zero _

theorem updA_apply : updA P (cumA B W A) (ix5 n b h d v) = updC (gateS B W A b n.val) (kS P b n.val) (vS P b h n.val) h v d := by
  unfold updA updC
  rw [updR_apply]
  refine Finset.sum_congr rfl fun m _ => ?_
  rw [tlA_apply, vA_apply, mul_comm]

theorem decA_apply : decA (cumA B W A) (ix4 n b h d) = Ideal.exp (cumC (gateS B W A b n.val) 63 (col h d)) := by
  unfold decA
  rw [decR_apply, cumA_apply]
end Chunks

/-! ## One trip -/

theorem idx_ext₄ {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j := by
  funext a
  match a with
  | ⟨0, _⟩ => exact Fin.ext h0
  | ⟨1, _⟩ => exact Fin.ext h1
  | ⟨2, _⟩ => exact Fin.ext h2
  | ⟨3, _⟩ => exact Fin.ext h3

theorem slices4 : ∀ k : Fin 64, S64x2x4x256.Slices ![k.val, 0, 0, 0] S1x2x4x256 := by decide
theorem slices5 : ∀ k : Fin 64, S64x2x4x256x512.Slices ![k.val, 0, 0, 0, 0] S1x2x4x256x512 := by decide
theorem iv_toInt : ∀ k : Fin 64, (Scf.iv 0#32 1#32 k.val).toInt = (k.val : ℤ) := by decide

section Trip
variable (V0 : Valuation τ sig (Elt Ideal)) (k : Fin 64) (hc : V0 (Proc.devRef .tc main_v53_2) = fun _ => Scf.iv 0#32 1#32 k.val)
  (b : Fin 2) (h : Fin 4) (d : Fin 256) (v : Fin 512)

abbrev decB : FVec Ideal S64x2x4x256 .f32 := V0 (Proc.devRef .tc main_v53_0)
abbrev updB : FVec Ideal S64x2x4x256x512 .f32 := V0 (Proc.devRef .tc main_v53_1)
abbrev stB : FVec Ideal S2x4x256x512 .f32 := V0 (Proc.devRef .tc main_v53_3)
abbrev allB : FVec Ideal S64x2x4x256x512 .f32 := V0 (Proc.devRef .tc main_v53_4)

include hc in
theorem starts4 : ∀ a : Fin 4, (((![V0 (Proc.devRef .tc main_v53_2), constantI S_ 32 0#32, constantI S_ 32 0#32, constantI S_ 32 0#32] : Fin 4 → (⟨S_, .i32⟩ : BufTy).Contents (Elt Ideal))) a (Shape.Idx.first h_S_)).toInt
    = ((![k.val, 0, 0, 0] : Fin 4 → ℕ) a : ℤ) := by
  intro a
  match a with
  | ⟨0, _⟩ => exact (congrArg (fun C : (⟨S_, .i32⟩ : BufTy).Contents (Elt Ideal) => BitVec.toInt (C (Shape.Idx.first h_S_))) hc).trans (iv_toInt k)
  | ⟨1, _⟩ => rfl
  | ⟨2, _⟩ => rfl
  | ⟨3, _⟩ => rfl

include hc in
theorem starts5 : ∀ a : Fin 5, (((![V0 (Proc.devRef .tc main_v53_2), constantI S_ 32 0#32, constantI S_ 32 0#32, constantI S_ 32 0#32, constantI S_ 32 0#32] : Fin 5 → (⟨S_, .i32⟩ : BufTy).Contents (Elt Ideal))) a (Shape.Idx.first h_S_)).toInt
    = ((![k.val, 0, 0, 0, 0] : Fin 5 → ℕ) a : ℤ) := by
  intro a
  match a with
  | ⟨0, _⟩ => exact (congrArg (fun C : (⟨S_, .i32⟩ : BufTy).Contents (Elt Ideal) => BitVec.toInt (C (Shape.Idx.first h_S_))) hc).trans (iv_toInt k)
  | ⟨1, _⟩ => rfl
  | ⟨2, _⟩ => rfl
  | ⟨3, _⟩ => rfl
  | ⟨4, _⟩ => rfl

include hc in
theorem step3_apply : (step_main_v53_3 V0 : FVec Ideal S2x4x256x512 .f32) (ix4 b h d v) = decB V0 (ix4 k b h d) * stB V0 (ix4 b h d v) + updB V0 (ix5 k b h d v) := by
  unfold step_main_v53_3 decB stB updB
  rw [Idealize.ShloMosaic.WordCmp.dynamicSlice_eq_extract S1x2x4x256 (V0 (Proc.devRef .tc main_v53_0)) _ _ ![k.val, 0, 0, 0] (slices4 k) (starts4 V0 k hc),
    Idealize.ShloMosaic.WordCmp.dynamicSlice_eq_extract S1x2x4x256x512 (V0 (Proc.devRef .tc main_v53_1)) _ _ ![k.val, 0, 0, 0, 0] (slices5 k) (starts5 V0 k hc)]
  generalize V0 (Proc.devRef .tc main_v53_0) = D
  generalize V0 (Proc.devRef .tc main_v53_1) = U
  generalize V0 (Proc.devRef .tc main_v53_3) = S
  simp only [pointwise, id]
  exact congrArg₂ (fun x y : EReal => x * S (ix4 b h d v) + y)
    (congrArg D (idx_ext₄ rfl (Nat.zero_add _) (Nat.zero_add _) (Nat.zero_add _)))
    (congrArg U (idx_ext₅ rfl (Nat.zero_add _) (Nat.zero_add _) (Nat.zero_add _) (Nat.zero_add _)))

include hc in
theorem step4_apply (j : Fin 64) : (step_main_v53_4 V0 : FVec Ideal S64x2x4x256x512 .f32) (ix5 j b h d v) = if j = k then stB V0 (ix4 b h d v) else allB V0 (ix5 j b h d v) := by
  unfold step_main_v53_4 stB allB
  rw [Idealize.ShloMosaic.WordCmp.dynamicUpdateSlice_eq_update (V0 (Proc.devRef .tc main_v53_4)) _ _ _ ![k.val, 0, 0, 0, 0] (slices5 k) (starts5 V0 k hc)]
  generalize V0 (Proc.devRef .tc main_v53_4) = D
  generalize V0 (Proc.devRef .tc main_v53_3) = S
  simp only [pointwise, id]
  by_cases hjk : j = k
  · rw [if_pos hjk]
    refine (dif_pos ?_).trans rfl
    subst hjk
    intro a
    match a with
    | ⟨0, _⟩ => show j.val ≤ j.val ∧ j.val < j.val + 1; omega
    | ⟨1, _⟩ => show 0 ≤ b.val ∧ b.val < 0 + 2; omega
    | ⟨2, _⟩ => show 0 ≤ h.val ∧ h.val < 0 + 4; omega
    | ⟨3, _⟩ => show 0 ≤ d.val ∧ d.val < 0 + 256; omega
    | ⟨4, _⟩ => show 0 ≤ v.val ∧ v.val < 0 + 512; omega
  · rw [if_neg hjk]
    refine dif_neg fun hin => hjk (Fin.ext ?_)
    have h0 : k.val ≤ j.val ∧ j.val < k.val + 1 := hin (0 : Fin 5)
    omega
end Trip

/-! ## The loop -/

section Loop
variable (m : (ℓ : Loc nD τ sig) → Buf (Elt Ideal) ℓ) (c : Dev nD) (b : Fin 2) (h : Fin 4)

abbrev atT (k : ℕ) : Valuation τ sig (Elt Ideal) := STEP^[k] (entryContents preI m c)
abbrev cumM : Keys Ideal := cumA (rB m c) (rW m c) (rA m c)
abbrev refSt (k : ℕ) : Fin 512 → Fin 256 → EReal := stS (rP m c) (rB m c) (rW m c) (rA m c) b h k

theorem atT_succ (k : ℕ) : atT m c (k + 1) = STEP (atT m c k) := Function.iterate_succ_apply' _ _ _

theorem atT_ctr (k : ℕ) : atT m c k (Proc.devRef .tc main_v53_2) = fun _ => Scf.iv 0#32 1#32 k :=
  (atK_agree m c k main_v53_2 (by decide)).symm.trans (atK_ctr m c k)

theorem atT_dec : ∀ k, atT m c k (Proc.devRef .tc main_v53_0) = decA (cumM m c)
  | 0 => pre_v53_0 m c
  | k + 1 => by rw [atT_succ, STEP_main_v53_0]; exact atT_dec k

theorem atT_upd : ∀ k, atT m c k (Proc.devRef .tc main_v53_1) = updA (rP m c) (cumM m c)
  | 0 => pre_v53_1 m c
  | k + 1 => by rw [atT_succ, STEP_main_v53_1]; exact atT_upd k

theorem atT_st (d : Fin 256) (v : Fin 512) : ∀ k, k ≤ 64 → stB (atT m c k) (ix4 b h d v) = refSt m c b h k v d
  | 0, _ => by
    have e : stB (atT m c 0) = broadcastInDim S2x4x256x512 ![] bcast_S_S2x4x256x512 (constant S_ .f32 0x00000000#32) :=
      t8_v53_3 (after hostOps0_7 (after hostOps0_6 (after hostOps0_5 (after hostOps0_4 (after hostOps0_3 (after hostOps0_2 (after hostOps0_1 (after hostOps0 (fun r => m ((c : Dev nD), r))))))))))
    rw [e]
    show (constant S_ .f32 0x00000000#32 : FVec Ideal S_ .f32) _ = 0
    simp [constant, Scalar.ofBits, Ideal.ofBits_zero_f32]
  | k + 1, hk => by
    have e : stB (atT m c (k + 1)) = step_main_v53_3 (atT m c k) := by
      unfold stB; rw [atT_succ, STEP_main_v53_3]
    rw [e]
    refine (step3_apply (atT m c k) ⟨k, hk⟩ (atT_ctr m c k) b h d v).trans ?_
    rw [atT_st d v k (by omega)]
    unfold decB updB
    rw [atT_dec, atT_upd, decA_apply, updA_apply, mul_comm]
    rfl

theorem atT_all (d : Fin 256) (v : Fin 512) : ∀ k, k ≤ 64 → ∀ j : Fin 64, j.val < k → allB (atT m c k) (ix5 j b h d v) = refSt m c b h j.val v d
  | 0, _ => fun j hj => absurd hj (by omega)
  | k + 1, hk => fun j hj => by
    have e : allB (atT m c (k + 1)) = step_main_v53_4 (atT m c k) := by
      unfold allB; rw [atT_succ, STEP_main_v53_4]
    rw [e]
    refine (step4_apply (atT m c k) ⟨k, hk⟩ (atT_ctr m c k) b h d v j).trans ?_
    by_cases hjk : j.val = k
    · rw [if_pos (Fin.ext hjk), atT_st m c b h d v k (by omega), hjk]
    · rw [if_neg (fun e => hjk (congrArg Fin.val e))]
      exact atT_all d v k (by omega) j (by omega)

/-! ## The result -/

theorem final_v53_4 (r : Ref sig .tc) (hr : r ∈ carriedRefs) : after condOps (atK m 64 c) (Proc.devRef .tc r) = atT m c 64 (Proc.devRef .tc r) :=
  (cond_keeps (atK m 64 c) r hr).trans (atK_agree m c 64 r hr)

theorem final_pre (r : Ref sig .tc) (hr : r ∉ loopW) : after condOps (atK m 64 c) (Proc.devRef .tc r) = entryContents preI m c (Proc.devRef .tc r) :=
  (after_of_writes_sub condOps _ condOps_writes fun hc => hr (List.mem_append_left _ (List.mem_append_left _ (List.mem_append_left _ (List.mem_append_left _ (List.mem_append_left _ hc)))))).trans (loop_keeps m c r hr 64)

theorem out_apply (st : FVec Ideal S64x2x4x256x512 .f32) (hst : ∀ (j : Fin 64) d v, st (ix5 j b h d v) = refSt m c b h j.val v d) (s : Fin 4096) (v : Fin 512) :
    sumR st (qdA (rP m c) (cumM m c)) (intraA (rP m c) (cumM m c)) (ix4 b s h v)
      = outC (gateS (rB m c) (rW m c) (rA m c) b (s.val / 64)) (qS (rP m c) b (s.val / 64)) (kS (rP m c) b (s.val / 64)) (vS (rP m c) b h (s.val / 64)) h
          (refSt m c b h (s.val / 64)) ⟨s.val % 64, by omega⟩ v := by
  unfold outC
  rw [sumR_apply, intraA_apply]
  refine congrArg (_ + ·) (Finset.sum_congr rfl fun d _ => ?_)
  rw [hst, qdA_apply, mul_comm]

theorem result_eq (st : FVec Ideal S64x2x4x256x512 .f32) (hst : ∀ b h (j : Fin 64) d v, st (ix5 j b h d v) = refSt m c b h j.val v d) :
    resR (normR (sumR st (qdA (rP m c) (cumM m c)) (intraA (rP m c) (cumM m c))) (rN m c)) (siluR (gR (rP m c))) = attn (rP m c) (rB m c) (rW m c) (rA m c) (rN m c) := by
  funext y
  obtain ⟨b, s, e, rfl⟩ : ∃ b s e, y = ix3 b s e := ⟨y 0, y 1, y 2, eq_ix3 y⟩
  rw [resR_apply, normR_apply, gR_apply]
  simp only [out_apply m c b _ st (hst b _)]
  show _ = rowS (rP m c) (rB m c) (rW m c) (rA m c) (rN m c) b ⟨e.val / 512, by omega⟩ (s.val / 64) ⟨s.val % 64, by omega⟩ ⟨e.val % 512, by omega⟩
  unfold rowS finC
  have hg : rP m c (ix3 b s ⟨10240 + e.val, by omega⟩) = gS (rP m c) b ⟨e.val / 512, by omega⟩ (s.val / 64) ⟨s.val % 64, by omega⟩ ⟨e.val % 512, by omega⟩ := by
    unfold gS
    refine congrArg (rP m c) (idx_ext₃ rfl ?_ ?_)
    · show s.val = (64 * (s.val / 64) + s.val % 64) % 4096
      omega
    · show 10240 + e.val = 10240 + (512 * (e.val / 512) + e.val % 512)
      omega
  rw [hg]

theorem reference_v76 : finalContents condOps preI bodyI postI 64 m c (Proc.devRef .tc main_v76) = attn (rP m c) (rB m c) (rW m c) (rA m c) (rN m c) := by
  refine Eq.trans ?_ (result_eq m c (allB (atT m c 64)) fun b h j d v => atT_all m c b h d v 64 le_rfl j j.isLt)
  show afterL postI (after condOps (atK m 64 c)) (Proc.devRef .tc main_v76) = _
  simp only [afterL_cons, afterL_nil]
  rw [t11_v76, t10_v74, after_of_writes_sub (r := main_v73) hostOps0_10 _ last10_writes (by decide), t9_v73,
    after_of_writes_sub (r := main_v7) hostOps0_9 _ last9_writes (by decide),
    final_v53_4 m c main_v53_4 (by decide), final_pre m c main_v33 (by decide), final_pre m c main_v46 (by decide), final_pre m c main_v7 (by decide),
    final_pre m c main_arg4 (by decide), pre_v33, pre_v46, pre_v7, pre_keeps m c main_arg4 (by decide)]

theorem reference_v79 : finalContents condOps preI bodyI postI 64 m c (Proc.devRef .tc main_v79) = castO (rO m c) := by
  refine Eq.trans ?_ (layerR_eq (rO m c))
  show afterL postI (after condOps (atK m 64 c)) (Proc.devRef .tc main_v79) = _
  simp only [afterL_cons, afterL_nil]
  rw [t11_v79, after_of_writes_sub (r := main_arg5) hostOps0_10 _ last10_writes (by decide),
    after_of_writes_sub (r := main_arg5) hostOps0_9 _ last9_writes (by decide), final_pre m c main_arg5 (by decide), pre_keeps m c main_arg5 (by decide)]
end Loop

end Cert.Proof.Gla

end
-- ==== Proof.Band.lean ====
/-
  The band attention: its named constants' values against their patterns.
-/
module

public import proofs.«01_k».proof.Defs
public import proofs.«01_k».proof.Proof.Gen.Band.Frame
public import proofs.«01_k».proof.Proof.Gen.BandIdeal.Frame
public import proofs.«01_k».proof.Proof.Gen.BandReferenceIdeal.Run
public import Idealize.ShloMosaic.Lib.Quiescent

@[expose] public section

set_option maxRecDepth 16384

noncomputable section

namespace Cert.Proof.Band

open Idealize.ShloMosaic Idealize.ShloMosaic.TcCoe Idealize.ShloMosaic.StableHlo Idealize.SL.Sem

theorem preserves : Cert.preserves_Band_BandIdeal :=
  ⟨IdealRules.named_const.statement _ _ _ _ _ rfl, IdealRules.named_const.statement _ _ _ _ _ rfl,
    IdealRules.named_const.statement _ _ _ _ _ rfl⟩

end Cert.Proof.Band

end
-- ==== Proof.BandText.lean ====
/-
  The reference band attention's host text as named arrays: the heads' queries, keys and values, the distances of the
  biases, the chunks and their mask, the masked scores and their softmax.
-/
module

public import proofs.«01_k».proof.Proof.Gen.BandReferenceIdeal.Run

@[expose] public section

set_option maxRecDepth 16384

noncomputable section

namespace Cert.Proof.Band

open Cert.BandReferenceIdeal Cert.BandReferenceIdeal.Gen Cert.BandReferenceIdeal.Value
open Idealize.ShloMosaic Idealize.ShloMosaic.TcCoe Idealize.ShloMosaic.StableHlo Idealize.SL.Sem

variable {F : FTy → Type} [FloatOps F]

abbrev HeadsR (F : FTy → Type) := FVec F S2x4096x16x128 .f32
abbrev PairsR (F : FTy → Type) := FVec F S2x16x4096x4096 .f32

def qR (P : FVec F S2x4096x12288 .bf16) : HeadsR F := shapeCast _ (extf .f32 (extractStridedSlice S2x4096x2048 ![0, 0, 0] P slices_S2x4096x12288_S2x4096x2048_0_0_0) bitsLt_bf16_f32) shapeCasts_S2x4096x2048_S2x4096x16x128
def kR (P : FVec F S2x4096x12288 .bf16) : HeadsR F := shapeCast _ (extf .f32 (extractStridedSlice S2x4096x2048 ![0, 0, 2048] P slices_S2x4096x12288_S2x4096x2048_0_0_2048) bitsLt_bf16_f32) shapeCasts_S2x4096x2048_S2x4096x16x128
def vR (P : FVec F S2x4096x12288 .bf16) : HeadsR F := shapeCast _ (extf .f32 (extractStridedSlice S2x4096x2048 ![0, 0, 4096] P slices_S2x4096x12288_S2x4096x2048_0_0_4096) bitsLt_bf16_f32) shapeCasts_S2x4096x2048_S2x4096x16x128

/-- The positions down the rows and along the columns, and their chunks. -/
def rowI : IVec S4096x1 32 := broadcastInDim S4096x1 ![0] bcast_S4096_S4096x1_0 (iotaInDim S4096 32 0)
def colI : IVec S1x4096 32 := broadcastInDim S1x4096 ![1] bcast_S4096_S1x4096_1 (iotaInDim S4096 32 0)
def rowC : IVec S4096x1 32 :=
  select (andi (cmpi .ne (signi rowI) (broadcastInDim S4096x1 ![] bcast_S_S4096x1 (signi (id (constantI S_ 32 64#32))))) (cmpi .ne (Host.remsi rowI (broadcastInDim S4096x1 ![] bcast_S_S4096x1 (id (constantI S_ 32 64#32)))) (broadcastInDim S4096x1 ![] bcast_S_S4096x1 (constantI S_ 32 0#32))))
    (subi (Host.divsi rowI (broadcastInDim S4096x1 ![] bcast_S_S4096x1 (id (constantI S_ 32 64#32)))) (broadcastInDim S4096x1 ![] bcast_S_S4096x1 (constantI S_ 32 1#32)))
    (Host.divsi rowI (broadcastInDim S4096x1 ![] bcast_S_S4096x1 (id (constantI S_ 32 64#32))))
def colC : IVec S1x4096 32 :=
  select (andi (cmpi .ne (signi colI) (broadcastInDim S1x4096 ![] bcast_S_S1x4096 (signi (id (constantI S_ 32 64#32))))) (cmpi .ne (Host.remsi colI (broadcastInDim S1x4096 ![] bcast_S_S1x4096 (id (constantI S_ 32 64#32)))) (broadcastInDim S1x4096 ![] bcast_S_S1x4096 (constantI S_ 32 0#32))))
    (subi (Host.divsi colI (broadcastInDim S1x4096 ![] bcast_S_S1x4096 (id (constantI S_ 32 64#32)))) (broadcastInDim S1x4096 ![] bcast_S_S1x4096 (constantI S_ 32 1#32)))
    (Host.divsi colI (broadcastInDim S1x4096 ![] bcast_S_S1x4096 (id (constantI S_ 32 64#32))))
def gapR (r : IVec S4096x1 32) (k : IVec S1x4096 32) : IVec S4096x4096 32 :=
  subi (broadcastInDim S4096x4096 ![0, 1] bcast_S4096x1_S4096x4096_0_1 r) (broadcastInDim S4096x4096 ![0, 1] bcast_S1x4096_S4096x4096_0_1 k)
def maskR (g : IVec S4096x4096 32) : IVec S4096x4096 1 :=
  andi (cmpi .sge g (broadcastInDim S4096x4096 ![] bcast_S_S4096x4096 (constantI S_ 32 0#32))) (cmpi .sle g (broadcastInDim S4096x4096 ![] bcast_S_S4096x4096 (constantI S_ 32 8#32)))

/-- The clipped distances, and the biases at them. -/
def stepR (g : IVec S4096x4096 32) : IVec S4096x4096 32 :=
  addi (minsi (broadcastInDim S4096x4096 ![] bcast_S_S4096x4096 (id (constantI S_ 32 128#32))) (maxsi (broadcastInDim S4096x4096 ![] bcast_S_S4096x4096 (id (constantI S_ 32 4294967168#32))) g)) (broadcastInDim S4096x4096 ![] bcast_S_S4096x4096 (constantI S_ 32 128#32))
def placeR (s : IVec S4096x4096 32) : IVec S4096x4096x1 32 :=
  broadcastInDim S4096x4096x1 ![0, 1] bcast_S4096x4096_S4096x4096x1_0_1 (select (cmpi .slt s (broadcastInDim S4096x4096 ![] bcast_S_S4096x4096 (constantI S_ 32 0#32))) (addi s (broadcastInDim S4096x4096 ![] bcast_S_S4096x4096 (constantI S_ 32 257#32))) s)
def tableR (R : FVec F S4x16x257 .f32) : FVec F S16x257 .f32 := shapeCast _ (extractStridedSlice S1x16x257 ![0, 0, 0] R slices_S4x16x257_S1x16x257_0_0_0) shapeCasts_S1x16x257_S16x257
def takenR (T : FVec F S16x257 .f32) (p : IVec S4096x4096x1 32) : FVec F S16x4096x4096 .f32 := Host.gather gather_S16x257_S4096x4096x1_S16x4096x4096_0_1_n_n_1_2_161 T p

/-- The scores, masked; their largest; the weights and their sums; the weighted values. -/
def logitR (q k : HeadsR F) (B : FVec F S16x4096x4096 .f32) : PairsR F :=
  addf (Host.divf (Host.dotGeneral dot_S2x4096x16x128_S2x4096x16x128_S2x16x4096x4096_3_3_1_1_02_02 none q k) (broadcastInDim S2x16x4096x4096 ![] bcast_S_S2x16x4096x4096 (Host.sqrt (constant S_ .f32 0x43000000#32))))
    (broadcastInDim S2x16x4096x4096 ![0, 1, 2, 3] bcast_S1x16x4096x4096_S2x16x4096x4096_0_1_2_3 (broadcastInDim S1x16x4096x4096 ![1, 2, 3] bcast_S16x4096x4096_S1x16x4096x4096_1_2_3 B))
def scoreR (k : IVec S4096x4096 1) (l : PairsR F) : PairsR F :=
  select (broadcastInDim S2x16x4096x4096 ![2, 3] bcast_S4096x4096_S2x16x4096x4096_2_3 k) l (broadcastInDim S2x16x4096x4096 ![] bcast_S_S2x16x4096x4096 (id (constant S_ .f32 0xFF800000#32)))
def topR (s : PairsR F) : FVec F S2x16x4096 .f32 :=
  maximumf (broadcastInDim S2x16x4096 ![] bcast_S_S2x16x4096 (constant S_ .f32 0xFF800000#32)) (Host.reduce FloatOps.maximumf s (constant S_ .f32 0xFF800000#32) reducesTo_S2x16x4096x4096_S2x16x4096_d3 h_S_)
def spreadR (t : FVec F S2x16x4096 .f32) : PairsR F :=
  broadcastInDim S2x16x4096x4096 ![0, 1, 2, 3] bcast_S2x16x4096x1_S2x16x4096x4096_0_1_2_3 (broadcastInDim S2x16x4096x1 ![0, 1, 2] bcast_S2x16x4096_S2x16x4096x1_0_1_2 t)
def weightR (s t : PairsR F) : PairsR F := Host.exp (subf s t)
def totalR (w : PairsR F) : FVec F S2x16x4096 .f32 := Host.reduceAdd w (constant S_ .f32 0x00000000#32) reducesTo_S2x16x4096x4096_S2x16x4096_d3 h_S_
def mixR (v : HeadsR F) (w : PairsR F) : FVec F S2x4096x2048 .bf16 :=
  truncf .bf16 (shapeCast _ (transpose S2x4096x16x128 [0, 3, 1, 2] (Host.dotGeneral dot_S2x4096x16x128_S2x16x4096x4096_S2x16x128x4096_1_3_3_2_02_01 none v w) transposes_S2x16x128x4096_S2x4096x16x128_0_3_1_2) shapeCasts_S2x4096x16x128_S2x4096x2048) bitsLt_bf16_f32

def attnR (P : FVec F S2x4096x12288 .bf16) (R : FVec F S4x16x257 .f32) : FVec F S2x4096x2048 .bf16 :=
  mixR (vR P) (Host.divf (weightR (scoreR (maskR (gapR rowC colC)) (logitR (qR P) (kR P) (takenR (tableR R) (placeR (stepR (gapR rowI colI))))))
      (spreadR (topR (scoreR (maskR (gapR rowC colC)) (logitR (qR P) (kR P) (takenR (tableR R) (placeR (stepR (gapR rowI colI)))))))))
    (spreadR (totalR (weightR (scoreR (maskR (gapR rowC colC)) (logitR (qR P) (kR P) (takenR (tableR R) (placeR (stepR (gapR rowI colI))))))
      (spreadR (topR (scoreR (maskR (gapR rowC colC)) (logitR (qR P) (kR P) (takenR (tableR R) (placeR (stepR (gapR rowI colI))))))))))))

theorem res_eq (m : (ℓ : Loc nD τ sig) → Buf (Elt F) ℓ) (c : Dev nD) :
    res_main_v60 m c = attnR (m ((c.tc : Thread nD τ).loc main_arg0)) (m ((c.tc : Thread nD τ).loc main_arg1)) := rfl

end Cert.Proof.Band

end
-- ==== Proof.BandPieces.lean ====
/-
  What one grid point of the band attention leaves: the sixteen heads' tiles of its block of the result, and the sixteen
  heads' biases in the scratch.
-/
module

public import proofs.«01_k».proof.Proof.Gen.BandIdeal.Frame
public import Idealize.ShloMosaic.Lib.WholeRead
public import Idealize.ShloMosaic.Lib.VecWindow
public import Idealize.ShloMosaic.Lib.WritesUnit
public import Idealize.ShloMosaic.Lib.Pointwise

@[expose] public section

set_option maxRecDepth 65536

noncomputable section

namespace Cert.Proof.Band

open Cert.BandIdeal Cert.BandIdeal.Gen
open Idealize.ShloMosaic Idealize.ShloMosaic.TcCoe Idealize.ShloMosaic.Tactic

variable {F : FTy → Type} [FloatOps F] [Named F]

/-- The keys a block's queries see; one head's bias over them; one head's tile of the result. -/
def keepV (q : BitVec 32) : IVec S256x768 1 := k0_pay5 q k0_pay2 (iota .tc S256x768 32 [1] iota_S256x768_d1_w32) k0_pay3 k0_pay4
def biasV (keep : IVec S256x768 1) (row : Vec F S1x1x1024 .f32) : Vec F S1x256x768 .f32 := k0_pay24 keep row
def scoreV (q k0 k1 k2 : Vec F S1x256x128 .bf16) (b : Vec F S1x256x768 .f32) : FVec F S256x768 .f32 := k0_pay29 q k0 k1 k2 b
def weightV (s : FVec F S256x768 .f32) : FVec F S256x768 .bf16 := k0_pay104 s
def valueV (v0 v1 v2 : Vec F S1x256x128 .bf16) : FVec F S768x128 .bf16 := k0_pay103 v0 v1 v2
def tileV (q k0 k1 k2 v0 v1 v2 : Vec F S1x256x128 .bf16) (b : Vec F S1x256x768 .f32) : Vec F S1x256x128 .bf16 :=
  k0_pay1 k0_pay28 (valueV v0 v1 v2) (weightV (scoreV q k0 k1 k2 b))

/-- The heads in the order of the last store first. -/
def heads : List (Fin 16) := [15, 14, 13, 12, 11, 10, 9, 8, 7, 6, 5, 4, 3, 2, 1, 0]
theorem mem_heads (h : Fin 16) : h ∈ heads := by revert h; decide

theorem inO (h : Fin 16) : ∀ a : Fin 3, (![0, 0, 128 * h.val] : Fin 3 → ℕ) a + S1x256x128.size a ≤ S1x256x2048.size a := by revert h; decide
theorem inS (h : Fin 16) : ∀ a : Fin 3, (![h.val, 0, 0] : Fin 3 → ℕ) a + S1x256x768.size a ≤ S16x256x768.size a := by revert h; decide
theorem inR (h : Fin 16) : ∀ a : Fin 3, (![h.val, 0, 0] : Fin 3 → ℕ) a + S1x1x1024.size a ≤ S16x1x1024.size a := by revert h; decide

/-- A head's columns of a block; a head's part of the biases; a head's row. -/
def headV (X : Vec F S1x256x2048 .bf16) (h : Fin 16) : Vec F S1x256x128 .bf16 := fun x => X (ix3 (x 0) (x 1) ⟨128 * h.val + (x 2).val, by have := h.isLt; have : (x 2).val < 128 := (x 2).isLt; omega⟩)
def headB (X : Vec F S16x256x768 .f32) (h : Fin 16) : Vec F S1x256x768 .f32 := fun x => X (ix3 h (x 1) (x 2))
def headR (X : Vec F S16x1x1024 .f32) (h : Fin 16) : Vec F S1x1x1024 .f32 := fun x => X (ix3 h (x 1) (x 2))

theorem load_headV (m : Memref sig .tc .vmem S1x256x2048 .bf16) (hm : m.IsWhole) (X : Vec F S1x256x2048 .bf16) (h : Fin 16) :
    (View.readAt (Elt F) m.view (Rect.unit (s := S1x256x2048) ![0, 0, 128 * h.val] S1x256x128.size (inO h)).toLoadRect (hm.unread X) : Vec F S1x256x128 .bf16) = headV X h :=
  funext fun x => (hm.readAt_unread X _ x).trans (congrArg X (funext fun a => Fin.ext (by
    fin_cases a
    · show 0 + 1 * (x 0).val = (x 0).val; omega
    · show 0 + 1 * (x 1).val = (x 1).val; omega
    · show 128 * h.val + 1 * (x 2).val = 128 * h.val + (x 2).val; omega)))
theorem load_headB (m : Memref sig .tc .vmem S16x256x768 .f32) (hm : m.IsWhole) (X : Vec F S16x256x768 .f32) (h : Fin 16) :
    (View.readAt (Elt F) m.view (Rect.unit (s := S16x256x768) ![h.val, 0, 0] S1x256x768.size (inS h)).toLoadRect (hm.unread X) : Vec F S1x256x768 .f32) = headB X h :=
  funext fun x => (hm.readAt_unread X _ x).trans (congrArg X (funext fun a => Fin.ext (by
    have : (x 0).val < 1 := (x 0).isLt
    fin_cases a
    · show h.val + 1 * (x 0).val = h.val; omega
    · show 0 + 1 * (x 1).val = (x 1).val; omega
    · show 0 + 1 * (x 2).val = (x 2).val; omega)))
theorem load_headR (m : Memref sig .tc .vmem S16x1x1024 .f32) (hm : m.IsWhole) (X : Vec F S16x1x1024 .f32) (h : Fin 16) :
    (View.readAt (Elt F) m.view (Rect.unit (s := S16x1x1024) ![h.val, 0, 0] S1x1x1024.size (inR h)).toLoadRect (hm.unread X) : Vec F S1x1x1024 .f32) = headR X h :=
  funext fun x => (hm.readAt_unread X _ x).trans (congrArg X (funext fun a => Fin.ext (by
    have : (x 0).val < 1 := (x 0).isLt
    fin_cases a
    · show h.val + 1 * (x 0).val = h.val; omega
    · show 0 + 1 * (x 1).val = (x 1).val; omega
    · show 0 + 1 * (x 2).val = (x 2).val; omega)))

/-- The stores of the heads' tiles, and of the heads' biases. -/
def tilesP (P : Fin 16 → Vec F S1x256x128 .bf16) (L : List (Fin 16)) : List (View.Piece (Elt F) S1x256x2048 .bf16) :=
  L.map fun h => ⟨Rect.unit (s := S1x256x2048) ![0, 0, 128 * h.val] S1x256x128.size (inO h), P h⟩
def biasesP (P : Fin 16 → Vec F S1x256x768 .f32) (L : List (Fin 16)) : List (View.Piece (Elt F) S16x256x768 .f32) :=
  L.map fun h => ⟨Rect.unit (s := S16x256x768) ![h.val, 0, 0] S1x256x768.size (inS h), P h⟩

theorem read_tiles (v : View sig .tc .vmem S1x256x2048 .bf16) (f : v.ty.Contents (Elt F)) (P : Fin 16 → Vec F S1x256x128 .bf16) (h : Fin 16)
    (y : S1x256x2048.Idx) (x : S1x256x128.Idx) (h1 : (y 1).val = (x 1).val) (h2 : (y 2).val = 128 * h.val + (x 2).val) :
    ∀ L : List (Fin 16), h ∈ L → v.read (Elt F) (v.writes (Elt F) f (tilesP P L)) y = P h x
  | a :: L, hL => by
    have hy : (y 0).val < 1 := (y 0).isLt
    have hx : (x 0).val < 1 := (x 0).isLt
    have hx2 : (x 2).val < 128 := (x 2).isLt
    by_cases ha : a = h
    · subst ha
      exact View.read_writes_cons_unit_of_mem v f (inO a) (P a) (tilesP P L) y x rfl (by
        intro b; fin_cases b
        · show (y 0).val = 0 + (x 0).val; omega
        · show (y 1).val = 0 + (x 1).val; omega
        · exact h2)
    · have hne : a.val ≠ h.val := fun e => ha (Fin.ext e)
      refine (View.read_writes_cons_unit_of_not_mem v f (inO a) (P a) (tilesP P L) y rfl (2 : Fin 3) ?_).trans
        (read_tiles v f P h y x h1 h2 L ((List.mem_cons.mp hL).resolve_left fun e => ha e.symm))
      show (y 2).val < 128 * a.val ∨ 128 * a.val + 128 ≤ (y 2).val
      omega

theorem read_biases (v : View sig .tc .vmem S16x256x768 .f32) (f : v.ty.Contents (Elt F)) (P : Fin 16 → Vec F S1x256x768 .f32) (h : Fin 16)
    (y : S16x256x768.Idx) (x : S1x256x768.Idx) (h0 : (y 0).val = h.val) (h1 : (y 1).val = (x 1).val) (h2 : (y 2).val = (x 2).val) :
    ∀ L : List (Fin 16), h ∈ L → v.read (Elt F) (v.writes (Elt F) f (biasesP P L)) y = P h x
  | a :: L, hL => by
    have hx : (x 0).val < 1 := (x 0).isLt
    by_cases ha : a = h
    · subst ha
      exact View.read_writes_cons_unit_of_mem v f (inS a) (P a) (biasesP P L) y x rfl (by
        intro b; fin_cases b
        · show (y 0).val = a.val + (x 0).val; omega
        · show (y 1).val = 0 + (x 1).val; omega
        · show (y 2).val = 0 + (x 2).val; omega)
    · have hne : a.val ≠ h.val := fun e => ha (Fin.ext e)
      refine (View.read_writes_cons_unit_of_not_mem v f (inS a) (P a) (biasesP P L) y rfl (0 : Fin 3) ?_).trans
        (read_biases v f P h y x h0 h1 h2 L ((List.mem_cons.mp hL).resolve_left fun e => ha e.symm))
      show (y 0).val < a.val ∨ a.val + 1 ≤ (y 0).val
      omega

/-- A load of a head's bias after the heads' biases are stored. -/
theorem load_stored (m : Memref sig .tc .vmem S16x256x768 .f32) (f : m.view.ty.Contents (Elt F)) (P : Fin 16 → Vec F S1x256x768 .f32) (h : Fin 16) :
    (View.readAt (Elt F) m.view (Rect.unit (s := S16x256x768) ![h.val, 0, 0] S1x256x768.size (inS h)).toLoadRect (m.view.writes (Elt F) f (biasesP P heads)) : Vec F S1x256x768 .f32) = P h := by
  funext x
  have hx : (x 0).val < 1 := (x 0).isLt
  exact read_biases m.view f P h _ x (by show h.val + 1 * (x 0).val = h.val; omega) (by show 0 + 1 * (x 1).val = (x 1).val; omega)
    (by show 0 + 1 * (x 2).val = (x 2).val; omega) heads (mem_heads h)

section Points
variable (c : Dev nD) (i : grid0.Coords)
  (arg3 : Memref sig .tc .vmem S16x1x1024 .f32) (harg3 : arg3.IsWhole)
  (arg4 : Memref sig .tc .vmem S1x256x2048 .bf16) (harg4 : arg4.IsWhole)
  (arg5 : Memref sig .tc .vmem S1x256x2048 .bf16) (harg5 : arg5.IsWhole)
  (arg6 : Memref sig .tc .vmem S1x256x2048 .bf16) (harg6 : arg6.IsWhole)
  (arg7 : Memref sig .tc .vmem S1x256x2048 .bf16) (harg7 : arg7.IsWhole)
  (arg8 : Memref sig .tc .vmem S1x256x2048 .bf16) (harg8 : arg8.IsWhole)
  (arg9 : Memref sig .tc .vmem S1x256x2048 .bf16) (harg9 : arg9.IsWhole)
  (arg10 : Memref sig .tc .vmem S1x256x2048 .bf16) (harg10 : arg10.IsWhole)
  (arg11 : Memref sig .tc .vmem S1x256x2048 .bf16) (harg11 : arg11.IsWhole)
  (arg12 : Memref sig .tc .vmem S16x256x768 .f32) (harg12 : arg12.IsWhole)
  (x0 : Vec F S16x1x1024 .f32) (x1 x2 x3 x4 x5 x6 x7 : Vec F S1x256x2048 .bf16)
theorem pieces_B (hc0 : ¬cond0_0 i) (xs0 : Vec F S16x256x768 .f32) :
    (kernelRun0_B c i arg3 harg3 arg4 harg4 arg5 harg5 arg6 harg6 arg7 harg7 arg8 harg8 arg9 harg9 arg10 harg10 arg11 harg11 arg12 harg12 hc0 x0 x1 x2 x3 x4 x5 x6 x7 xs0).1 = tilesP (fun h => tileV (View.readAt (Elt F) arg4.view (Rect.unit (s := S1x256x2048) ![0, 0, 128 * h.val] S1x256x128.size (inO h)).toLoadRect (harg4.unread x1)) (View.readAt (Elt F) arg5.view (Rect.unit (s := S1x256x2048) ![0, 0, 128 * h.val] S1x256x128.size (inO h)).toLoadRect (harg5.unread x2)) (View.readAt (Elt F) arg6.view (Rect.unit (s := S1x256x2048) ![0, 0, 128 * h.val] S1x256x128.size (inO h)).toLoadRect (harg6.unread x3)) (View.readAt (Elt F) arg7.view (Rect.unit (s := S1x256x2048) ![0, 0, 128 * h.val] S1x256x128.size (inO h)).toLoadRect (harg7.unread x4)) (View.readAt (Elt F) arg8.view (Rect.unit (s := S1x256x2048) ![0, 0, 128 * h.val] S1x256x128.size (inO h)).toLoadRect (harg8.unread x5)) (View.readAt (Elt F) arg9.view (Rect.unit (s := S1x256x2048) ![0, 0, 128 * h.val] S1x256x128.size (inO h)).toLoadRect (harg9.unread x6)) (View.readAt (Elt F) arg10.view (Rect.unit (s := S1x256x2048) ![0, 0, 128 * h.val] S1x256x128.size (inO h)).toLoadRect (harg10.unread x7))
      (View.readAt (Elt F) arg12.view (Rect.unit (s := S16x256x768) ![h.val, 0, 0] S1x256x768.size (inS h)).toLoadRect (harg12.unread xs0))) heads := rfl

theorem scratch_A (hc0 : cond0_0 i) :
    (kernelRun0_A c i arg3 harg3 arg4 harg4 arg5 harg5 arg6 harg6 arg7 harg7 arg8 harg8 arg9 harg9 arg10 harg10 arg11 harg11 arg12 harg12 hc0 x0 x1 x2 x3 x4 x5 x6 x7).2.1 = biasesP (fun h => biasV (keepV (BitVec.ofNat 32 (i 2).val)) (View.readAt (Elt F) arg3.view (Rect.unit (s := S16x1x1024) ![h.val, 0, 0] S1x1x1024.size (inR h)).toLoadRect (harg3.unread x0))) heads := rfl

theorem pieces_A (hc0 : cond0_0 i) :
    (kernelRun0_A c i arg3 harg3 arg4 harg4 arg5 harg5 arg6 harg6 arg7 harg7 arg8 harg8 arg9 harg9 arg10 harg10 arg11 harg11 arg12 harg12 hc0 x0 x1 x2 x3 x4 x5 x6 x7).1 = tilesP (fun h => tileV (View.readAt (Elt F) arg4.view (Rect.unit (s := S1x256x2048) ![0, 0, 128 * h.val] S1x256x128.size (inO h)).toLoadRect (harg4.unread x1)) (View.readAt (Elt F) arg5.view (Rect.unit (s := S1x256x2048) ![0, 0, 128 * h.val] S1x256x128.size (inO h)).toLoadRect (harg5.unread x2)) (View.readAt (Elt F) arg6.view (Rect.unit (s := S1x256x2048) ![0, 0, 128 * h.val] S1x256x128.size (inO h)).toLoadRect (harg6.unread x3)) (View.readAt (Elt F) arg7.view (Rect.unit (s := S1x256x2048) ![0, 0, 128 * h.val] S1x256x128.size (inO h)).toLoadRect (harg7.unread x4)) (View.readAt (Elt F) arg8.view (Rect.unit (s := S1x256x2048) ![0, 0, 128 * h.val] S1x256x128.size (inO h)).toLoadRect (harg8.unread x5)) (View.readAt (Elt F) arg9.view (Rect.unit (s := S1x256x2048) ![0, 0, 128 * h.val] S1x256x128.size (inO h)).toLoadRect (harg9.unread x6)) (View.readAt (Elt F) arg10.view (Rect.unit (s := S1x256x2048) ![0, 0, 128 * h.val] S1x256x128.size (inO h)).toLoadRect (harg10.unread x7))
      (View.readAt (Elt F) arg12.view (Rect.unit (s := S16x256x768) ![h.val, 0, 0] S1x256x768.size (inS h)).toLoadRect
        (arg12.view.writes (Elt F) arg12.view.junk (biasesP (fun h => biasV (keepV (BitVec.ofNat 32 (i 2).val)) (View.readAt (Elt F) arg3.view (Rect.unit (s := S16x1x1024) ![h.val, 0, 0] S1x1x1024.size (inR h)).toLoadRect (harg3.unread x0))) heads)))) heads := rfl

theorem tile_B (hc0 : ¬cond0_0 i) (xs0 : Vec F S16x256x768 .f32) (h : Fin 16) (y : S1x256x2048.Idx) (x : S1x256x128.Idx)
    (h1 : (y 1).val = (x 1).val) (h2 : (y 2).val = 128 * h.val + (x 2).val) :
    out0_B_8 c i arg3 harg3 arg4 harg4 arg5 harg5 arg6 harg6 arg7 harg7 arg8 harg8 arg9 harg9 arg10 harg10 arg11 harg11 arg12 harg12 hc0 x0 x1 x2 x3 x4 x5 x6 x7 xs0 y = tileV (headV x1 h) (headV x2 h) (headV x3 h) (headV x4 h) (headV x5 h) (headV x6 h) (headV x7 h) (headB xs0 h) x := by
  unfold out0_B_8
  rw [pieces_B]
  refine (read_tiles _ _ _ h y x h1 h2 heads (mem_heads h)).trans ?_
  beta_reduce
  rw [load_headV arg4 harg4 x1 h, load_headV arg5 harg5 x2 h, load_headV arg6 harg6 x3 h, load_headV arg7 harg7 x4 h, load_headV arg8 harg8 x5 h, load_headV arg9 harg9 x6 h, load_headV arg10 harg10 x7 h, load_headB arg12 harg12 xs0 h]

theorem tile_A (hc0 : cond0_0 i) (h : Fin 16) (y : S1x256x2048.Idx) (x : S1x256x128.Idx)
    (h1 : (y 1).val = (x 1).val) (h2 : (y 2).val = 128 * h.val + (x 2).val) :
    out0_A_8 c i arg3 harg3 arg4 harg4 arg5 harg5 arg6 harg6 arg7 harg7 arg8 harg8 arg9 harg9 arg10 harg10 arg11 harg11 arg12 harg12 hc0 x0 x1 x2 x3 x4 x5 x6 x7 y = tileV (headV x1 h) (headV x2 h) (headV x3 h) (headV x4 h) (headV x5 h) (headV x6 h) (headV x7 h) (biasV (keepV (BitVec.ofNat 32 (i 2).val)) (headR x0 h)) x := by
  unfold out0_A_8
  rw [pieces_A]
  refine (read_tiles _ _ _ h y x h1 h2 heads (mem_heads h)).trans ?_
  beta_reduce
  rw [load_headV arg4 harg4 x1 h, load_headV arg5 harg5 x2 h, load_headV arg6 harg6 x3 h, load_headV arg7 harg7 x4 h, load_headV arg8 harg8 x5 h, load_headV arg9 harg9 x6 h, load_headV arg10 harg10 x7 h, load_stored, load_headR arg3 harg3 x0 h]

theorem bias_A (hc0 : cond0_0 i) (h : Fin 16) (r : Fin 256) (k : Fin 768) :
    sout0_A_0 c i arg3 harg3 arg4 harg4 arg5 harg5 arg6 harg6 arg7 harg7 arg8 harg8 arg9 harg9 arg10 harg10 arg11 harg11 arg12 harg12 hc0 x0 x1 x2 x3 x4 x5 x6 x7 (ix3 h r k) = biasV (keepV (BitVec.ofNat 32 (i 2).val)) (headR x0 h) (ix3 0 r k) := by
  unfold sout0_A_0
  rw [scratch_A]
  refine (read_biases _ _ _ h (ix3 h r k) (ix3 0 r k) rfl rfl rfl heads (mem_heads h)).trans ?_
  beta_reduce
  rw [load_headR arg3 harg3 x0 h]

end Points

end Cert.Proof.Band

end
-- ==== Proof.BandEntries.lean ====
/-
  The operations of one block of the band attention, entry by entry, over the extended reals.
-/
module

public import proofs.«01_k».proof.Proof.BandPieces
public import proofs.«01_k».proof.Proof.GlaMask
public import Idealize.ShloMosaic.Lib.Pointwise
public import Idealize.ShloMosaic.Lib.KernelVsHost

@[expose] public section

set_option maxRecDepth 16384

noncomputable section

namespace Cert.Proof.Band

open Cert.BandIdeal Cert.BandIdeal.Gen
open Idealize.ShloMosaic Idealize.ShloMosaic.TcCoe

theorem chunk_row (n : Fin 256) : Gla.chunkOf (BitVec.ofNat 32 n.val) = BitVec.ofNat 32 (n.val / 64) := Gla.chunkOf_eq n
theorem chunk_key : ∀ n : Fin 768, Gla.chunkOf (BitVec.ofNat 32 n.val) = BitVec.ofNat 32 (n.val / 64) := by decide +kernel

theorem keep_words (q : BitVec 32) (r : Fin 256) (k : Fin 768) :
    keepV q (ix2 r k) = IntOp.andi (IntOp.andi (IntOp.cmpi .sge (Gla.chunkOf (BitVec.ofNat 32 k.val)) (Gla.chunkOf (BitVec.ofNat 32 r.val)))
      (IntOp.cmpi .sle (Gla.chunkOf (BitVec.ofNat 32 k.val)) (IntOp.addi (Gla.chunkOf (BitVec.ofNat 32 r.val)) 8#32)))
      (IntOp.cmpi .sge (BitVec.ofNat 32 k.val) (Scalar.muli (Scalar.subi 2#32 q) 256#32)) := by
  have e1 : List.foldl (fun n a => n * (![256, 768] : Fin 2 → ℕ) a + ↑(ix2 r k a)) 0 [1] = k.val := by
    show 0 * 768 + k.val = k.val
    omega
  have e0 : List.foldl (fun n a => n * (![256, 768] : Fin 2 → ℕ) a + ↑(ix2 r k a)) 0 [0] = r.val := by
    show 0 * 256 + r.val = r.val
    omega
  unfold keepV k0_pay5 k0_pay2 k0_pay3 k0_pay4
  simp only [pointwise]
  rw [e0, e1]
  rfl

theorem near_words : ∀ (a : Fin 4) (b : Fin 12), IntOp.andi (IntOp.cmpi .sge (BitVec.ofNat 32 b.val) (BitVec.ofNat 32 a.val))
    (IntOp.cmpi .sle (BitVec.ofNat 32 b.val) (IntOp.addi (BitVec.ofNat 32 a.val) 8#32)) = if a.val ≤ b.val ∧ b.val ≤ a.val + 8 then 1#1 else 0#1 := by decide +kernel
theorem start_words : ∀ (q : Fin 3) (k : Fin 768), IntOp.cmpi .sge (BitVec.ofNat 32 k.val) (Scalar.muli (Scalar.subi 2#32 (BitVec.ofNat 32 q.val)) 256#32)
    = if (2 - q.val) * 256 ≤ k.val then 1#1 else 0#1 := by decide +kernel

/-- Whether a block's row sees a key of the block's window, when the keys from `(2 - q) · 256` exist. -/
def seen (q : ℕ) (r : Fin 256) (k : Fin 768) : Prop := r.val / 64 ≤ k.val / 64 ∧ k.val / 64 ≤ r.val / 64 + 8 ∧ (2 - q) * 256 ≤ k.val
instance (q : ℕ) (r : Fin 256) (k : Fin 768) : Decidable (seen q r k) := by unfold seen; infer_instance

theorem keep_apply (q : Fin 3) (r : Fin 256) (k : Fin 768) : keepV (BitVec.ofNat 32 q.val) (ix2 r k) = if seen q.val r k then 1#1 else 0#1 := by
  rw [keep_words, chunk_row, chunk_key, near_words ⟨r.val / 64, by omega⟩ ⟨k.val / 64, by omega⟩, start_words]
  by_cases h1 : r.val / 64 ≤ k.val / 64 ∧ k.val / 64 ≤ r.val / 64 + 8 <;> by_cases h2 : (2 - q.val) * 256 ≤ k.val
  · rw [if_pos h1, if_pos h2, if_pos (show seen q.val r k from ⟨h1.1, h1.2, h2⟩)]; rfl
  · rw [if_pos h1, if_neg h2, if_neg fun h : seen q.val r k => h2 h.2.2]; rfl
  · rw [if_neg h1, if_pos h2, if_neg fun h : seen q.val r k => h1 ⟨h.1, h.2.1⟩]; rfl
  · rw [if_neg h1, if_neg h2, if_neg fun h : seen q.val r k => h2 h.2.2]; rfl

theorem idx_ext₃ {n : Fin 3 → ℕ} {x y : (a : Fin 3) → Fin (n a)} (h0 : (x 0 : ℕ) = y 0) (h1 : (x 1 : ℕ) = y 1) (h2 : (x 2 : ℕ) = y 2) : x = y :=
  funext fun a => Fin.ext (match a with | 0 => h0 | 1 => h1 | 2 => h2)

theorem log2e_value : Named.named (F := Ideal) Cert.BandIdeal.κ "log2e" (φ := .f32) 0x3FB8AA3B#32 = (((Real.log 2)⁻¹ : ℝ) : EReal) :=
  IdealRules.named_const.ideal_named_scalar _ _ _ _ rfl
theorem mask_value : Named.named (F := Ideal) Cert.BandIdeal.κ "mask" (φ := .f32) 0xF149F2CA#32 = (⊥ : EReal) :=
  IdealRules.named_const.ideal_named_scalar _ _ _ _ rfl
theorem scale_value : Named.named (F := Ideal) Cert.BandIdeal.κ "scale" (φ := .f32) 0x3E0293EE#32 = (((Real.sqrt 128)⁻¹ * (Real.log 2)⁻¹ : ℝ) : EReal) :=
  IdealRules.named_const.ideal_named_scalar _ _ _ _ rfl

theorem ofBits_low : Ideal.ofBits .f32 0xFF800000#32 = (⊥ : EReal) := by
  simp [Ideal.ofBits, Ideal.ieee]

theorem bias_apply (keep : IVec S256x768 1) (row : Vec Ideal S1x1x1024 .f32) (r : Fin 256) (k : Fin 768) :
    biasV keep row (ix3 0 r k) = Scalar.select (keep (ix2 r k)) (row (ix3 0 0 ⟨(k.val + 1024 - r.val) % 1024, by omega⟩) * (((Real.log 2)⁻¹ : ℝ) : EReal)) ⊥ := by
  unfold biasV k0_pay24
  rw [log2e_value, mask_value]
  simp only [pointwise]
  refine congrArg (fun x => Scalar.select (keep (ix2 r k)) (x * (((Real.log 2)⁻¹ : ℝ) : EReal)) (⊥ : EReal)) (congrArg row (idx_ext₃ rfl rfl ?_))
  show (0 + k.val + 1024 - (0 + 1 * (0 + r.val)) % 1024) % 1024 = (k.val + 1024 - r.val) % 1024
  have hr := r.isLt
  have e : (0 + 1 * (0 + r.val)) % 1024 = r.val := by omega
  rw [e, Nat.zero_add]

/-- A key of the window: the block it lies in, and its row there. -/
def key (n : Fin 3) (l : Fin 256) : Fin 768 := ⟨256 * n.val + l.val, by omega⟩

theorem rows_apply (f : Fin 3 → FVec Ideal S256x128 .bf16) (n : Fin 3) (l : Fin 256) (e : Fin 128) :
    concatenate S768x128 0 [⟨S256x128, f 0⟩, ⟨S256x128, f 1⟩, ⟨S256x128, f 2⟩] concatenates_S256x128_S256x128_S256x128_S768x128_d0 (ix2 (key n l) e) = f n (ix2 l e) := by
  refine concatenate_ofFn_apply (t := S768x128) (s₁ := S256x128) 0 f concatenates_S256x128_S256x128_S256x128_S768x128_d0 rfl 256 rfl (ix2 (key n l) e) n ?_ (ix2 l e) ?_ ?_
  · show (256 * n.val + l.val) / 256 = n.val
    omega
  · show l.val = (256 * n.val + l.val) % 256
    omega
  · intro b hb
    match b, hb with
    | ⟨0, _⟩, hb => exact absurd rfl hb
    | ⟨1, _⟩, _ => rfl

theorem score_apply (q : Vec Ideal S1x256x128 .bf16) (K : Fin 3 → Vec Ideal S1x256x128 .bf16) (b : Vec Ideal S1x256x768 .f32) (r : Fin 256) (n : Fin 3) (l : Fin 256) :
    scoreV q (K 0) (K 1) (K 2) b (ix2 r (key n l))
      = (∑ e : Fin 128, q (ix3 0 r e) * (((Real.sqrt 128)⁻¹ * (Real.log 2)⁻¹ : ℝ) : EReal) * K n (ix3 0 l e)) + b (ix3 0 r (key n l)) := by
  have hC : ∀ e : Fin 128, concatenate S768x128 0 [⟨S256x128, (shapeCast S256x128 (K 0) shapeCasts_S1x256x128_S256x128 : FVec Ideal S256x128 .bf16)⟩, ⟨S256x128, (shapeCast S256x128 (K 1) shapeCasts_S1x256x128_S256x128 : FVec Ideal S256x128 .bf16)⟩, ⟨S256x128, (shapeCast S256x128 (K 2) shapeCasts_S1x256x128_S256x128 : FVec Ideal S256x128 .bf16)⟩] concatenates_S256x128_S256x128_S256x128_S768x128_d0 (ix2 (key n l) e) = K n (ix3 0 l e) := fun e => by
    refine (rows_apply (fun m => (shapeCast S256x128 (K m) shapeCasts_S1x256x128_S256x128 : FVec Ideal S256x128 .bf16)) n l e).trans ?_
    simp only [pointwise]
  revert hC
  unfold scoreV k0_pay29
  rw [scale_value]
  generalize concatenate S768x128 0 _ _ = C
  intro hC
  simp only [pointwise]
  simp only [hC, zero_add]

theorem value_apply (K : Fin 3 → Vec Ideal S1x256x128 .bf16) (n : Fin 3) (l : Fin 256) (e : Fin 128) :
    valueV (K 0) (K 1) (K 2) (ix2 (key n l) e) = K n (ix3 0 l e) := by
  unfold valueV k0_pay103
  refine (rows_apply (fun m => (shapeCast S256x128 (K m) shapeCasts_S1x256x128_S256x128 : FVec Ideal S256x128 .bf16)) n l e).trans ?_
  simp only [pointwise]

/-- The first key of the part of the window that a row's half of the block works on. -/
def win (r : Fin 256) : ℕ := if r.val < 128 then 0 else 128
theorem win_le (r : Fin 256) : win r ≤ 128 := by unfold win; split <;> omega

theorem weight_apply (s : FVec Ideal S256x768 .f32) (r : Fin 256) (k : Fin 768) :
    weightV s (ix2 r k) = if win r ≤ k.val ∧ k.val < win r + 640 then
      Ideal.exp2 (s (ix2 r k) - Finset.univ.fold max (⊥ : EReal) (fun c : Fin 640 => s (ix2 r ⟨win r + c.val, by have := win_le r; omega⟩))) else 0 := by
  unfold weightV k0_pay104
  simp only [pointwise, ofBits_low]
  by_cases hr : r.val < 128
  · have hw : win r = 0 := if_pos hr
    rw [dif_pos hr]
    by_cases hk : k.val < 640
    · rw [dif_pos hk, if_pos ⟨by omega, by omega⟩]
      show Ideal.exp2 (_ - Finset.fold max (⊥ : EReal) (_ : Fin 640 → EReal) Finset.univ) = _
      refine congrArg₂ (fun x (f : Fin 640 → EReal) => Ideal.exp2 (x - Finset.fold max (⊥ : EReal) f Finset.univ)) (congrArg s (Shape.idx_ext₂ (Nat.zero_add _) (Nat.zero_add _))) (funext fun c => congrArg s (Shape.idx_ext₂ ?_ ?_))
      · exact Nat.zero_add _
      · show 0 + c.val = win r + c.val
        rw [hw]
    · rw [dif_neg hk, if_neg (by omega)]
  · have hw : win r = 128 := if_neg hr
    rw [dif_neg hr]
    by_cases hk : k.val < 128
    · exact (dif_pos hk).trans (if_neg (by omega)).symm
    · refine (dif_neg hk).trans ?_
      refine Eq.trans ?_ (if_pos (show win r ≤ k.val ∧ k.val < win r + 640 from ⟨by omega, by have := k.isLt; omega⟩)).symm
      have e0 : 128 + (r.val - 128) = r.val := by omega
      have e1 : 128 + (k.val - 128) = k.val := by omega
      show Ideal.exp2 (_ - Finset.fold max (⊥ : EReal) (_ : Fin 640 → EReal) Finset.univ) = _
      refine congrArg₂ (fun x (f : Fin 640 → EReal) => Ideal.exp2 (x - Finset.fold max (⊥ : EReal) f Finset.univ)) (congrArg s (Shape.idx_ext₂ e0 e1)) (funext fun c => congrArg s (Shape.idx_ext₂ e0 ?_))
      show 128 + c.val = win r + c.val
      rw [hw]

theorem ones_apply (k : Fin 768) (o : Fin 128) : (k0_pay28 : FVec Ideal S768x128 .bf16) (ix2 k o) = if o.val = 0 then 1 else 0 := by
  have e1 : List.foldl (fun n a => n * (![768, 128] : Fin 2 → ℕ) a + ↑(ix2 k o a)) 0 [1] = o.val := by
    show 0 * 128 + o.val = o.val
    omega
  unfold k0_pay28
  simp only [pointwise]
  rw [e1]
  have hw : IntOp.cmpi .eq (BitVec.ofNat 32 o.val) 0#32 = if o.val = 0 then 1#1 else 0#1 := by
    clear e1
    revert o; decide
  rw [hw]
  split <;> rfl

theorem joined_apply (v o : FVec Ideal S768x128 .bf16) (k : Fin 768) (n : Fin 256) :
    concatenate S768x256 1 [⟨S768x128, v⟩, ⟨S768x128, o⟩] concatenates_S768x128_S768x128_S768x256_d1 (ix2 k n)
      = if h : n.val < 128 then v (ix2 k ⟨n.val, h⟩) else o (ix2 k ⟨n.val - 128, by omega⟩) := by
  simp only [pointwise]
  rfl

theorem tile_apply (w : FVec Ideal S256x768 .bf16) (v : FVec Ideal S768x128 .bf16) (r : Fin 256) (d : Fin 128) :
    k0_pay1 k0_pay28 v w (ix3 0 r d) = Ideal.div (∑ k : Fin 768, w (ix2 r k) * v (ix2 k d)) (∑ k : Fin 768, w (ix2 r k)) := by
  have hJ := joined_apply v k0_pay28
  revert hJ
  unfold k0_pay1
  generalize concatenate S768x256 1 _ _ = J
  intro hJ
  simp only [pointwise, zero_add]
  refine congr (congrArg Ideal.div (Finset.sum_congr rfl fun k _ => ?_)) (Finset.sum_congr rfl fun k _ => ?_)
  · rw [hJ, dif_pos (by show 0 + d.val < 128; omega)]
    exact congr (congrArg _ (congrArg w (Shape.idx_ext₂ (Nat.zero_add _) rfl))) (congrArg v (Shape.idx_ext₂ rfl (Nat.zero_add _)))
  · rw [hJ, dif_neg (by decide), ones_apply, if_pos (by rfl), mul_one]
    exact congrArg w (Shape.idx_ext₂ (Nat.zero_add _) rfl)

end Cert.Proof.Band

end
-- ==== Proof.BandReads.lean ====
/-
  What the band attention's blocks read of the argument arrays.
-/
module

public import proofs.«01_k».proof.Proof.BandEntries

@[expose] public section

set_option maxRecDepth 16384

noncomputable section

namespace Cert.Proof.Band

open Cert.BandIdeal Cert.BandIdeal.Gen
open Idealize.ShloMosaic Idealize.ShloMosaic.TcCoe Idealize.SL.Sem

variable (m : (ℓ : Loc nD τ sig) → Buf (Elt Ideal) ℓ) (c : Dev nD)

abbrev inP : FVec Ideal S2x4096x12288 .bf16 := m ((c : Thread nD τ).loc main_arg0)
abbrev inRel : FVec Ideal S4x16x257 .f32 := m ((c : Thread nD τ).loc main_arg1)

theorem places : ∀ t : Fin grid0.N,
    (win0_0.index t 0 = 0 ∧ win0_0.index t 1 = 0 ∧ win0_0.index t 2 = 0)
    ∧ (win0_1.index t 0 = t.val / 16 ∧ win0_1.index t 1 = t.val % 16 - 0 ∧ win0_1.index t 2 = 0)
    ∧ (win0_2.index t 0 = t.val / 16 ∧ win0_2.index t 1 = t.val % 16 - 2 ∧ win0_2.index t 2 = 1)
    ∧ (win0_3.index t 0 = t.val / 16 ∧ win0_3.index t 1 = t.val % 16 - 1 ∧ win0_3.index t 2 = 1)
    ∧ (win0_4.index t 0 = t.val / 16 ∧ win0_4.index t 1 = t.val % 16 - 0 ∧ win0_4.index t 2 = 1)
    ∧ (win0_5.index t 0 = t.val / 16 ∧ win0_5.index t 1 = t.val % 16 - 2 ∧ win0_5.index t 2 = 2)
    ∧ (win0_6.index t 0 = t.val / 16 ∧ win0_6.index t 1 = t.val % 16 - 1 ∧ win0_6.index t 2 = 2)
    ∧ (win0_7.index t 0 = t.val / 16 ∧ win0_7.index t 1 = t.val % 16 - 0 ∧ win0_7.index t 2 = 2)
    ∧ (win0_8.index t 0 = t.val / 16 ∧ win0_8.index t 1 = t.val % 16 ∧ win0_8.index t 2 = 0) := by decide +kernel

theorem coord : ∀ t : Fin grid0.N, (grid0.coords t 2).val = t.val % 16 := by decide +kernel

theorem lt32 (t : Fin cfg0.N) : t.val < 32 := t.isLt.trans_eq N_0

/-- A point's batch entry, and the position of a row of the block `n` blocks back. -/
def bat (t : Fin cfg0.N) : Fin 2 := ⟨t.val / 16, by have := lt32 t; omega⟩
def pos (t : Fin cfg0.N) (n : ℕ) (r : Fin 256) : Fin 4096 := ⟨(t.val % 16 - n) * 256 + r.val, by
  have : t.val % 16 - n ≤ 15 := by omega
  have := Nat.mul_le_mul_right 256 this
  omega⟩

theorem read1 (t : Fin cfg0.N) (r : Fin 256) (j : Fin 2048) : iblk m c 1 t (ix3 0 r j) = inP m c (ix3 (bat t) (pos t 0 r) ⟨0 + j.val, by omega⟩) := by
  refine (congrArg (V m c main_arg0 : FVec Ideal S2x4096x12288 .bf16) (idx_ext₃ (y := ix3 (bat t) (pos t 0 r) ⟨0 + j.val, by omega⟩) ?_ ?_ ?_)).trans (congrFun (V_main_arg0 m c) _)
  · refine (win0_1.rect_emb_val t (ix3 0 r j) 0).trans ?_
    rw [(places t).2.1.1]; show t.val / 16 * 1 + 0 = t.val / 16; omega
  · refine (win0_1.rect_emb_val t (ix3 0 r j) 1).trans ?_
    rw [(places t).2.1.2.1]; rfl
  · refine (win0_1.rect_emb_val t (ix3 0 r j) 2).trans ?_
    rw [(places t).2.1.2.2]; rfl

theorem read2 (t : Fin cfg0.N) (r : Fin 256) (j : Fin 2048) : iblk m c 2 t (ix3 0 r j) = inP m c (ix3 (bat t) (pos t 2 r) ⟨2048 + j.val, by omega⟩) := by
  refine (congrArg (V m c main_arg0 : FVec Ideal S2x4096x12288 .bf16) (idx_ext₃ (y := ix3 (bat t) (pos t 2 r) ⟨2048 + j.val, by omega⟩) ?_ ?_ ?_)).trans (congrFun (V_main_arg0 m c) _)
  · refine (win0_2.rect_emb_val t (ix3 0 r j) 0).trans ?_
    rw [(places t).2.2.1.1]; show t.val / 16 * 1 + 0 = t.val / 16; omega
  · refine (win0_2.rect_emb_val t (ix3 0 r j) 1).trans ?_
    rw [(places t).2.2.1.2.1]; rfl
  · refine (win0_2.rect_emb_val t (ix3 0 r j) 2).trans ?_
    rw [(places t).2.2.1.2.2]; rfl

theorem read3 (t : Fin cfg0.N) (r : Fin 256) (j : Fin 2048) : iblk m c 3 t (ix3 0 r j) = inP m c (ix3 (bat t) (pos t 1 r) ⟨2048 + j.val, by omega⟩) := by
  refine (congrArg (V m c main_arg0 : FVec Ideal S2x4096x12288 .bf16) (idx_ext₃ (y := ix3 (bat t) (pos t 1 r) ⟨2048 + j.val, by omega⟩) ?_ ?_ ?_)).trans (congrFun (V_main_arg0 m c) _)
  · refine (win0_3.rect_emb_val t (ix3 0 r j) 0).trans ?_
    rw [(places t).2.2.2.1.1]; show t.val / 16 * 1 + 0 = t.val / 16; omega
  · refine (win0_3.rect_emb_val t (ix3 0 r j) 1).trans ?_
    rw [(places t).2.2.2.1.2.1]; rfl
  · refine (win0_3.rect_emb_val t (ix3 0 r j) 2).trans ?_
    rw [(places t).2.2.2.1.2.2]; rfl

theorem read4 (t : Fin cfg0.N) (r : Fin 256) (j : Fin 2048) : iblk m c 4 t (ix3 0 r j) = inP m c (ix3 (bat t) (pos t 0 r) ⟨2048 + j.val, by omega⟩) := by
  refine (congrArg (V m c main_arg0 : FVec Ideal S2x4096x12288 .bf16) (idx_ext₃ (y := ix3 (bat t) (pos t 0 r) ⟨2048 + j.val, by omega⟩) ?_ ?_ ?_)).trans (congrFun (V_main_arg0 m c) _)
  · refine (win0_4.rect_emb_val t (ix3 0 r j) 0).trans ?_
    rw [(places t).2.2.2.2.1.1]; show t.val / 16 * 1 + 0 = t.val / 16; omega
  · refine (win0_4.rect_emb_val t (ix3 0 r j) 1).trans ?_
    rw [(places t).2.2.2.2.1.2.1]; rfl
  · refine (win0_4.rect_emb_val t (ix3 0 r j) 2).trans ?_
    rw [(places t).2.2.2.2.1.2.2]; rfl

theorem read5 (t : Fin cfg0.N) (r : Fin 256) (j : Fin 2048) : iblk m c 5 t (ix3 0 r j) = inP m c (ix3 (bat t) (pos t 2 r) ⟨4096 + j.val, by omega⟩) := by
  refine (congrArg (V m c main_arg0 : FVec Ideal S2x4096x12288 .bf16) (idx_ext₃ (y := ix3 (bat t) (pos t 2 r) ⟨4096 + j.val, by omega⟩) ?_ ?_ ?_)).trans (congrFun (V_main_arg0 m c) _)
  · refine (win0_5.rect_emb_val t (ix3 0 r j) 0).trans ?_
    rw [(places t).2.2.2.2.2.1.1]; show t.val / 16 * 1 + 0 = t.val / 16; omega
  · refine (win0_5.rect_emb_val t (ix3 0 r j) 1).trans ?_
    rw [(places t).2.2.2.2.2.1.2.1]; rfl
  · refine (win0_5.rect_emb_val t (ix3 0 r j) 2).trans ?_
    rw [(places t).2.2.2.2.2.1.2.2]; rfl

theorem read6 (t : Fin cfg0.N) (r : Fin 256) (j : Fin 2048) : iblk m c 6 t (ix3 0 r j) = inP m c (ix3 (bat t) (pos t 1 r) ⟨4096 + j.val, by omega⟩) := by
  refine (congrArg (V m c main_arg0 : FVec Ideal S2x4096x12288 .bf16) (idx_ext₃ (y := ix3 (bat t) (pos t 1 r) ⟨4096 + j.val, by omega⟩) ?_ ?_ ?_)).trans (congrFun (V_main_arg0 m c) _)
  · refine (win0_6.rect_emb_val t (ix3 0 r j) 0).trans ?_
    rw [(places t).2.2.2.2.2.2.1.1]; show t.val / 16 * 1 + 0 = t.val / 16; omega
  · refine (win0_6.rect_emb_val t (ix3 0 r j) 1).trans ?_
    rw [(places t).2.2.2.2.2.2.1.2.1]; rfl
  · refine (win0_6.rect_emb_val t (ix3 0 r j) 2).trans ?_
    rw [(places t).2.2.2.2.2.2.1.2.2]; rfl

theorem read7 (t : Fin cfg0.N) (r : Fin 256) (j : Fin 2048) : iblk m c 7 t (ix3 0 r j) = inP m c (ix3 (bat t) (pos t 0 r) ⟨4096 + j.val, by omega⟩) := by
  refine (congrArg (V m c main_arg0 : FVec Ideal S2x4096x12288 .bf16) (idx_ext₃ (y := ix3 (bat t) (pos t 0 r) ⟨4096 + j.val, by omega⟩) ?_ ?_ ?_)).trans (congrFun (V_main_arg0 m c) _)
  · refine (win0_7.rect_emb_val t (ix3 0 r j) 0).trans ?_
    rw [(places t).2.2.2.2.2.2.2.1.1]; show t.val / 16 * 1 + 0 = t.val / 16; omega
  · refine (win0_7.rect_emb_val t (ix3 0 r j) 1).trans ?_
    rw [(places t).2.2.2.2.2.2.2.1.2.1]; rfl
  · refine (win0_7.rect_emb_val t (ix3 0 r j) 2).trans ?_
    rw [(places t).2.2.2.2.2.2.2.1.2.2]; rfl

/-- The heads' rows as the region finds them: a head's bias of layer 0 by distance, continued at both ends. -/
def relV (R : FVec Ideal S4x16x257 .f32) : FVec Ideal S16x257 .f32 := shapeCast S16x257 (extractStridedSlice S1x16x257 ![0, 0, 0] R slices_S4x16x257_S1x16x257_0_0_0) shapeCasts_S1x16x257_S16x257
def rowsV (R : FVec Ideal S4x16x257 .f32) : FVec Ideal S16x1x1024 .f32 :=
  shapeCast S16x1x1024 (concatenate S16x1024 1 [
    ⟨S16x384, (broadcastInDim S16x384 ![0, 1] bcast_S16x1_S16x384_0_1 (extractStridedSlice S16x1 ![0, 256] (relV R) slices_S16x257_S16x1_0_256) : FVec Ideal S16x384 .f32)⟩,
    ⟨S16x257, (Host.reverse [1] (relV R) : FVec Ideal S16x257 .f32)⟩,
    ⟨S16x127, (broadcastInDim S16x127 ![0, 1] bcast_S16x1_S16x127_0_1 (extractStridedSlice S16x1 ![0, 0] (relV R) slices_S16x257_S16x1_0_0) : FVec Ideal S16x127 .f32)⟩,
    ⟨S16x256, (broadcastInDim S16x256 ![0, 1] bcast_S16x1_S16x256_0_1 (extractStridedSlice S16x1 ![0, 256] (relV R) slices_S16x257_S16x1_0_256) : FVec Ideal S16x256 .f32)⟩]
    concatenates_S16x384_S16x257_S16x127_S16x256_S16x1024_d1) shapeCasts_S16x1024_S16x1x1024

theorem handed0 : (V m c main_v9 : FVec Ideal S16x1x1024 .f32) = rowsV (inRel m c) := rfl

theorem relV_apply (R : FVec Ideal S4x16x257 .f32) (h : Fin 16) (j : Fin 257) : relV R (ix2 h j) = R (ix3 0 h j) := by
  unfold relV
  simp only [pointwise]
  exact congrArg R (idx_ext₃ rfl (Nat.zero_add _) (Nat.zero_add _))

theorem rowsV_apply (R : FVec Ideal S4x16x257 .f32) (h : Fin 16) (j : Fin 1024) :
    rowsV R (ix3 h 0 j) = R (ix3 0 h (if j.val < 384 then 256 else if j.val < 641 then Fin.ofNat 257 (640 - j.val) else if j.val < 768 then 0 else 256)) := by
  unfold rowsV
  rw [← relV_apply R h]
  generalize relV R = X
  simp only [pointwise]
  have hj := j.isLt
  by_cases h1 : j.val < 384
  · refine (dif_pos h1).trans (congrArg X (Shape.idx_ext₂ (Nat.zero_add _) ?_))
    rw [if_pos h1]; rfl
  · refine (dif_neg h1).trans ?_
    by_cases h2 : j.val < 641
    · refine (dif_pos (show j.val - 384 < 257 by omega)).trans (congrArg X (Shape.idx_ext₂ rfl ?_))
      rw [if_neg h1, if_pos h2]
      show 257 - (j.val - 384 + 1) = (640 - j.val) % 257
      rw [Nat.mod_eq_of_lt (by omega)]
      omega
    · refine (dif_neg (show ¬ j.val - 384 < 257 by omega)).trans ?_
      by_cases h3 : j.val < 768
      · refine (dif_pos (show j.val - 384 - 257 < 127 by omega)).trans (congrArg X (Shape.idx_ext₂ (Nat.zero_add _) ?_))
        rw [if_neg h1, if_neg h2, if_pos h3]; rfl
      · refine (dif_neg (show ¬ j.val - 384 - 257 < 127 by omega)).trans (congrArg X (Shape.idx_ext₂ (Nat.zero_add _) ?_))
        rw [if_neg h1, if_neg h2, if_neg h3]; rfl

theorem read0 (t : Fin cfg0.N) (h : Fin 16) (j : Fin 1024) : iblk m c 0 t (ix3 h 0 j) = rowsV (inRel m c) (ix3 h 0 j) := by
  refine (congrArg (V m c main_v9 : FVec Ideal S16x1x1024 .f32) (idx_ext₃ (y := ix3 h 0 j) ?_ ?_ ?_)).trans (congrFun (handed0 m c) _)
  · exact win0_0.rect_emb_val_of_index_zero t 0 (places t).1.1 (ix3 h 0 j)
  · exact win0_0.rect_emb_val_of_index_zero t 1 (places t).1.2.1 (ix3 h 0 j)
  · exact win0_0.rect_emb_val_of_index_zero t 2 (places t).1.2.2 (ix3 h 0 j)

theorem emb8 (t : Fin cfg0.N) (y : S1x256x2048.Idx) : ((cfg0.win 8).blk t).view.emb y = (ix3 (bat t) (pos t 0 (y 1)) (y 2) : S2x4096x2048.Idx) := by
  refine idx_ext₃ ?_ ?_ ?_
  · refine (win0_8.rect_emb_val t y 0).trans ?_
    rw [(places t).2.2.2.2.2.2.2.2.1]
    have : (y 0).val < 1 := (y 0).isLt
    show t.val / 16 * 1 + (y 0).val = t.val / 16; omega
  · refine (win0_8.rect_emb_val t y 1).trans ?_
    rw [(places t).2.2.2.2.2.2.2.2.2.1]; rfl
  · exact win0_8.rect_emb_val_of_index_zero t 2 (places t).2.2.2.2.2.2.2.2.2.2 y

end Cert.Proof.Band

end
-- ==== Proof.BandStep.lean ====
/-
  One grid point of the band attention: a head's tile over the head's bias, and the biases that the scratch keeps.
-/
module

public import proofs.«01_k».proof.Proof.BandReads

@[expose] public section

set_option maxRecDepth 16384

noncomputable section

namespace Cert.Proof.Band

open Cert.BandIdeal Cert.BandIdeal.Gen
open Idealize.ShloMosaic Idealize.ShloMosaic.TcCoe Idealize.SL.Sem

variable (m : (ℓ : Loc nD τ sig) → Buf (Elt Ideal) ℓ) (c : Dev nD) (t : Fin cfg0.N)

abbrev tileAt (b : Vec Ideal S1x256x768 .f32) (h : Fin 16) : FVec Ideal S1x256x128 .bf16 :=
  tileV (headV (iblk m c 1 t) h) (headV (iblk m c 2 t) h) (headV (iblk m c 3 t) h) (headV (iblk m c 4 t) h) (headV (iblk m c 5 t) h) (headV (iblk m c 6 t) h) (headV (iblk m c 7 t) h) b

theorem step8_A (h0 : t.val % 16 ≤ 2) (h : Fin 16) (y : S1x256x2048.Idx) (x : S1x256x128.Idx) (h1 : (y 1).val = (x 1).val) (h2 : (y 2).val = 128 * h.val + (x 2).val) :
    (outsAt0 m c t.val t.isLt).1 y = tileAt m c t (biasV (keepV (BitVec.ofNat 32 (grid0.coords t 2).val)) (headR (iblk m c 0 t) h)) h x := by
  have e := tile_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) h y x h1 h2
  simp only [outsAt0_A m c t h0]
  exact e

theorem step8_B (h0 : ¬t.val % 16 ≤ 2) (h : Fin 16) (y : S1x256x2048.Idx) (x : S1x256x128.Idx) (h1 : (y 1).val = (x 1).val) (h2 : (y 2).val = 128 * h.val + (x 2).val) :
    (outsAt0 m c t.val t.isLt).1 y = tileAt m c t (headB (outsAt0 m c (t.val - 1) (Nat.lt_of_le_of_lt (Nat.sub_le _ _) t.isLt)).2 h) h x := by
  have e := tile_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (Nat.lt_of_le_of_lt (Nat.sub_le _ _) t.isLt)).2 h y x h1 h2
  simp only [outsAt0_B m c t h0]
  exact e

theorem stepS_A (h0 : t.val % 16 ≤ 2) (h : Fin 16) (r : Fin 256) (k : Fin 768) :
    (outsAt0 m c t.val t.isLt).2 (ix3 h r k) = biasV (keepV (BitVec.ofNat 32 (grid0.coords t 2).val)) (headR (iblk m c 0 t) h) (ix3 0 r k) := by
  have e := bias_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) h r k
  simp only [outsAt0_A m c t h0]
  exact e

theorem stepS_B (h0 : ¬t.val % 16 ≤ 2) :
    (outsAt0 m c t.val t.isLt).2 = (outsAt0 m c (t.val - 1) (Nat.lt_of_le_of_lt (Nat.sub_le _ _) t.isLt)).2 := by
  simp only [outsAt0_B m c t h0]
  rfl

/-- A head's bias over the window of a block, `q` blocks into the sequence, `q` at most 2. -/
def biasAt (q : ℕ) (h : Fin 16) (r : Fin 256) (k : Fin 768) : EReal :=
  if seen q r k then rowsV (inRel m c) (ix3 h 0 ⟨(k.val + 1024 - r.val) % 1024, by omega⟩) * (((Real.log 2)⁻¹ : ℝ) : EReal) else ⊥

theorem bias_eq (h0 : t.val % 16 ≤ 2) (h : Fin 16) (r : Fin 256) (k : Fin 768) :
    biasV (keepV (BitVec.ofNat 32 (grid0.coords t 2).val)) (headR (iblk m c 0 t) h) (ix3 0 r k) = biasAt m c (min (t.val % 16) 2) h r k := by
  rw [bias_apply, coord, Nat.min_eq_left h0, keep_apply ⟨t.val % 16, by omega⟩]
  have e : headR (iblk m c 0 t) h (ix3 0 0 ⟨(k.val + 1024 - r.val) % 1024, by omega⟩) = rowsV (inRel m c) (ix3 h 0 ⟨(k.val + 1024 - r.val) % 1024, by omega⟩) :=
    read0 m c t h _
  rw [e]
  unfold biasAt
  show Scalar.select (if seen (t.val % 16) r k then 1#1 else 0#1) _ _ = _
  by_cases hs : seen (t.val % 16) r k
  · rw [if_pos hs, if_pos hs]; rfl
  · rw [if_neg hs, if_neg hs]; rfl

/-- The biases a point leaves. -/
theorem scratch (n : ℕ) : ∀ (hn : n < cfg0.N) (h : Fin 16) (r : Fin 256) (k : Fin 768),
    (outsAt0 m c n hn).2 (ix3 h r k) = biasAt m c (min (n % 16) 2) h r k := by
  induction n with
  | zero =>
    intro hn h r k
    exact (stepS_A m c ⟨0, hn⟩ (by show 0 % 16 ≤ 2; omega) h r k).trans (bias_eq m c ⟨0, hn⟩ (by show 0 % 16 ≤ 2; omega) h r k)
  | succ n ih =>
    intro hn h r k
    by_cases h0 : (n + 1) % 16 ≤ 2
    · exact (stepS_A m c ⟨n + 1, hn⟩ h0 h r k).trans (bias_eq m c ⟨n + 1, hn⟩ h0 h r k)
    · refine (congrFun (stepS_B m c ⟨n + 1, hn⟩ h0) _).trans ((ih (by omega) h r k).trans ?_)
      have e : min (n % 16) 2 = min ((n + 1) % 16) 2 := by omega
      rw [e]

/-- The tile a point writes, over the head's bias. -/
theorem tile_step (h : Fin 16) (y : S1x256x2048.Idx) (x : S1x256x128.Idx) (h1 : (y 1).val = (x 1).val) (h2 : (y 2).val = 128 * h.val + (x 2).val) :
    ∃ b : Vec Ideal S1x256x768 .f32, (∀ r k, b (ix3 0 r k) = biasAt m c (min (t.val % 16) 2) h r k) ∧ (outsAt0 m c t.val t.isLt).1 y = tileAt m c t b h x := by
  by_cases h0 : t.val % 16 ≤ 2
  · exact ⟨_, fun r k => bias_eq m c t h0 h r k, step8_A m c t h0 h y x h1 h2⟩
  · refine ⟨_, fun r k => ?_, step8_B m c t h0 h y x h1 h2⟩
    refine (scratch m c (t.val - 1) (Nat.lt_of_le_of_lt (Nat.sub_le _ _) t.isLt) h r k).trans ?_
    have e : min ((t.val - 1) % 16) 2 = min (t.val % 16) 2 := by omega
    rw [e]

end Cert.Proof.Band

end
-- ==== Proof.BandSoftmax.lean ====
/-
  A row of the softmax over the keys a query sees, written over all the keys and over a window of them, the window's
  scores in the base of the powers of two.
-/
module

public import Idealize.ShloMosaic.Lib.Pointwise

@[expose] public section

noncomputable section

namespace Cert.Proof.Band

open Idealize.ShloMosaic

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem sum_mul_real {ι : Type} (s : Finset ι) (f : ι → EReal) (c : ℝ) (hc : 0 ≤ c) : (∑ i ∈ s, f i) * (c : EReal) = ∑ i ∈ s, f i * (c : EReal) := by
  classical
  induction s using Finset.induction_on with
  | empty => exact zero_mul _
  | insert a s ha ih =>
    rw [Finset.sum_insert ha, Finset.sum_insert ha, EReal.right_distrib_of_nonneg_of_ne_top (EReal.coe_nonneg.mpr hc) (EReal.coe_ne_top c), ih]

/-- The largest of a family, which is one of its members. -/
theorem fold_max_eq {ι : Type} [Fintype ι] (f : ι → EReal) (i : ι) (h : ∀ j, f j ≤ f i) : Finset.univ.fold max (⊥ : EReal) f = f i :=
  le_antisymm ((Finset.fold_max_le _).mpr ⟨bot_le, fun j _ => h j⟩) ((Finset.le_fold_max _).mpr (.inr ⟨i, Finset.mem_univ i, le_refl _⟩))

theorem exp2_log (x : ℝ) : Ideal.exp2 (((Real.log 2)⁻¹ * x : ℝ) : EReal) = (Real.exp x : EReal) := by
  have h : Real.log 2 ≠ 0 := (Real.log_pos (by norm_num)).ne'
  rw [Ideal.exp2_coe]
  refine congrArg ((↑) : ℝ → EReal) ?_
  show (2 : ℝ) ^ ((Real.log 2)⁻¹ * x) = Real.exp x
  rw [Real.rpow_def_of_pos (by norm_num), ← mul_assoc, mul_inv_cancel₀ h, one_mul]

section Row
variable (z : Fin 4096 → ℝ) (vis : Fin 4096 → Prop) [DecidablePred vis] (sees : Fin 768 → Prop) [DecidablePred sees] (pos : Fin 768 → Fin 4096)
  (hmem : ∀ k, sees k → vis (pos k)) (hinj : ∀ k k', sees k → sees k' → pos k = pos k' → k = k') (hsur : ∀ j, vis j → ∃ k, sees k ∧ pos k = j)

include hmem hinj hsur in
theorem sum_window (f : Fin 4096 → EReal) : (∑ k, if sees k then f (pos k) else 0) = ∑ j, if vis j then f j else 0 := by
  rw [← Finset.sum_filter, ← Finset.sum_filter]
  refine Finset.sum_bij (fun k _ => pos k) (fun k hk => ?_) (fun k hk k' hk' e => ?_) (fun j hj => ?_) (fun _ _ => rfl)
  · exact Finset.mem_filter.mpr ⟨Finset.mem_univ _, hmem k (Finset.mem_filter.mp hk).2⟩
  · exact hinj k k' (Finset.mem_filter.mp hk).2 (Finset.mem_filter.mp hk').2 e
  · obtain ⟨k, hk, e⟩ := hsur j (Finset.mem_filter.mp hj).2
    exact ⟨k, Finset.mem_filter.mpr ⟨Finset.mem_univ _, hk⟩, e⟩

/-- A query's score of a key, −∞ for a key it does not see. -/
def rowScore (j : Fin 4096) : EReal := if vis j then (z j : EReal) else ⊥

include hmem hinj hsur in
theorem softmax_window (hne : ∃ j, vis j) (w : ℕ) (hw : w ≤ 128) (hin : ∀ k, sees k → w ≤ k.val ∧ k.val < w + 640)
    (s : Fin 768 → EReal) (hs : ∀ k, s k = if sees k then (((Real.log 2)⁻¹ * z (pos k) : ℝ) : EReal) else ⊥)
    (v : Fin 4096 → EReal) (u : Fin 768 → EReal) (hu : ∀ k, sees k → u k = v (pos k)) (W : Fin 768 → EReal)
    (hW : ∀ k, W k = if w ≤ k.val ∧ k.val < w + 640 then
      Ideal.exp2 (s k - Finset.univ.fold max (⊥ : EReal) (fun c : Fin 640 => s ⟨w + c.val, by omega⟩)) else 0) :
    Ideal.div (∑ k, W k * u k) (∑ k, W k)
      = ∑ j, v j * Ideal.div (Ideal.exp (rowScore z vis j - Finset.univ.fold max (⊥ : EReal) (rowScore z vis)))
          (∑ i, Ideal.exp (rowScore z vis i - Finset.univ.fold max (⊥ : EReal) (rowScore z vis))) := by
  have hlog : 0 < (Real.log 2)⁻¹ := inv_pos.mpr (Real.log_pos (by norm_num))
  obtain ⟨j1, hj1⟩ := hne
  obtain ⟨j0, hj0, hmax⟩ := Finset.exists_max_image (Finset.univ.filter vis) z ⟨j1, Finset.mem_filter.mpr ⟨Finset.mem_univ _, hj1⟩⟩
  have hv0 : vis j0 := (Finset.mem_filter.mp hj0).2
  have hle : ∀ j, vis j → z j ≤ z j0 := fun j hj => hmax j (Finset.mem_filter.mpr ⟨Finset.mem_univ _, hj⟩)
  obtain ⟨k0, hk0, e0⟩ := hsur j0 hv0
  have hM : Finset.univ.fold max (⊥ : EReal) (rowScore z vis) = (z j0 : EReal) := by
    refine (fold_max_eq (rowScore z vis) j0 fun j => ?_).trans (if_pos hv0)
    unfold rowScore
    rw [if_pos hv0]
    by_cases hj : vis j
    · rw [if_pos hj]; exact EReal.coe_le_coe_iff.mpr (hle j hj)
    · rw [if_neg hj]; exact bot_le
  have hb0 := hin k0 hk0
  have hN : Finset.univ.fold max (⊥ : EReal) (fun c : Fin 640 => s ⟨w + c.val, by omega⟩) = (((Real.log 2)⁻¹ * z j0 : ℝ) : EReal) := by
    have es : s ⟨w + (k0.val - w), by omega⟩ = (((Real.log 2)⁻¹ * z j0 : ℝ) : EReal) := by
      have ek : (⟨w + (k0.val - w), by omega⟩ : Fin 768) = k0 := Fin.ext (by show w + (k0.val - w) = k0.val; omega)
      rw [ek, hs, if_pos hk0, e0]
    refine (fold_max_eq (fun c : Fin 640 => s ⟨w + c.val, by omega⟩) ⟨k0.val - w, by omega⟩ fun c => ?_).trans es
    show s ⟨w + c.val, by omega⟩ ≤ s ⟨w + (k0.val - w), by omega⟩
    rw [es, hs]
    by_cases hc : sees ⟨w + c.val, by omega⟩
    · rw [if_pos hc]
      exact EReal.coe_le_coe_iff.mpr (mul_le_mul_of_nonneg_left (hle _ (hmem _ hc)) hlog.le)
    · rw [if_neg hc]; exact bot_le
  have hE : ∀ j, Ideal.exp (rowScore z vis j - Finset.univ.fold max (⊥ : EReal) (rowScore z vis)) = if vis j then ((Real.exp (z j - z j0) : ℝ) : EReal) else 0 := by
    intro j
    rw [hM]
    unfold rowScore
    by_cases hj : vis j
    · rw [if_pos hj, if_pos hj, ← EReal.coe_sub, Ideal.exp_coe]
    · rw [if_neg hj, if_neg hj, EReal.bot_sub, Ideal.exp_bot]
  have hWk : ∀ k, W k = if sees k then ((Real.exp (z (pos k) - z j0) : ℝ) : EReal) else 0 := by
    intro k
    rw [hW, hN, hs]
    by_cases hk : sees k
    · rw [if_pos (hin k hk), if_pos hk, if_pos hk, ← EReal.coe_sub, ← mul_sub, exp2_log]
    · rw [if_neg hk, if_neg hk, EReal.bot_sub, Ideal.exp2_bot, ite_self]
  have hl : (∑ j, if vis j then ((Real.exp (z j - z j0) : ℝ) : EReal) else 0) = ((∑ j, if vis j then Real.exp (z j - z j0) else 0 : ℝ) : EReal) := by
    rw [coe_sum]
    refine Finset.sum_congr rfl fun j _ => ?_
    split <;> rfl
  have hpos : 0 < ∑ j, if vis j then Real.exp (z j - z j0) else 0 := by
    refine Finset.sum_pos' (fun j _ => ?_) ⟨j0, Finset.mem_univ _, ?_⟩
    · split
      · exact (Real.exp_pos _).le
      · exact le_refl _
    · rw [if_pos hv0]; exact Real.exp_pos _
  simp only [hE, hWk]
  rw [sum_window vis sees pos hmem hinj hsur (fun j => ((Real.exp (z j - z j0) : ℝ) : EReal)), hl]
  generalize (∑ j, if vis j then Real.exp (z j - z j0) else 0 : ℝ) = l at hpos
  have hn : (∑ k, (if sees k then ((Real.exp (z (pos k) - z j0) : ℝ) : EReal) else 0) * u k)
      = ∑ j, if vis j then ((Real.exp (z j - z j0) : ℝ) : EReal) * v j else 0 := by
    refine Eq.trans (Finset.sum_congr rfl fun k _ => ?_) (sum_window vis sees pos hmem hinj hsur (fun j => ((Real.exp (z j - z j0) : ℝ) : EReal) * v j))
    by_cases hk : sees k
    · rw [if_pos hk, if_pos hk, hu k hk]
    · rw [if_neg hk, if_neg hk, zero_mul]
  rw [hn, Ideal.div_coe hpos.ne', sum_mul_real _ _ _ (one_div_nonneg.mpr hpos.le)]
  refine Finset.sum_congr rfl fun j _ => ?_
  rw [Ideal.div_coe hpos.ne']
  by_cases hj : vis j
  · rw [if_pos hj, if_pos hj, mul_comm (_ : EReal) (v j), mul_assoc]
  · rw [if_neg hj, if_neg hj, zero_mul, mul_zero]
end Row

end Cert.Proof.Band

end
-- ==== Proof.BandBlocks.lean ====
/-
  The band attention written out over the extended reals, and the array the kernel leaves: that attention, where no
  query, key or bias is infinite.
-/
module

public import proofs.«01_k».proof.Proof.BandStep
public import proofs.«01_k».proof.Proof.BandSoftmax

@[expose] public section

set_option maxRecDepth 16384

noncomputable section

namespace Cert.Proof.Band

open Cert.BandIdeal Cert.BandIdeal.Gen
open Idealize.ShloMosaic Idealize.ShloMosaic.TcCoe Idealize.SL.Sem

/-! ## The attention -/

section Spec
variable (P : FVec Ideal S2x4096x12288 .bf16) (R : FVec Ideal S4x16x257 .f32) (b : Fin 2) (h : Fin 16)

def queryA (s : Fin 4096) (e : Fin 128) : EReal := P (ix3 b s ⟨128 * h.val + e.val, by omega⟩)
def keyA (s : Fin 4096) (e : Fin 128) : EReal := P (ix3 b s ⟨2048 + (128 * h.val + e.val), by omega⟩)
def valueA (s : Fin 4096) (e : Fin 128) : EReal := P (ix3 b s ⟨4096 + (128 * h.val + e.val), by omega⟩)

/-- A query sees the keys of its own chunk of 64 and of the eight before it. -/
def visible (s j : Fin 4096) : Prop := j.val / 64 ≤ s.val / 64 ∧ s.val / 64 ≤ j.val / 64 + 8
instance (s : Fin 4096) : DecidablePred (visible s) := fun j => by unfold visible; infer_instance

/-- How far back a key lies, from 128 ahead to 128 back. -/
def dist (s j : Fin 4096) : Fin 257 := ⟨min (s.val + 128 - j.val) 256, by omega⟩

def logitA (s j : Fin 4096) : EReal :=
  Ideal.div (∑ e, queryA P b h s e * keyA P b h j e) ((Real.sqrt 128 : ℝ) : EReal) + R (ix3 0 h (dist s j))
def scoreA (s j : Fin 4096) : EReal := if visible s j then logitA P R b h s j else ⊥
def weightA (s j : Fin 4096) : EReal := Ideal.exp (scoreA P R b h s j - Finset.univ.fold max (⊥ : EReal) (scoreA P R b h s))
def outA (s : Fin 4096) (d : Fin 128) : EReal :=
  ∑ j, valueA P b h j d * Ideal.div (weightA P R b h s j) (∑ i, weightA P R b h s i)

/-- The same for every head, a head's 128 columns beside the next's. -/
def attn : FVec Ideal S2x4096x2048 .bf16 := fun y =>
  outA P R (y 0) ⟨(y 2).val / 128, by have : (y 2).val < 2048 := (y 2).isLt; omega⟩ (y 1) ⟨(y 2).val % 128, by omega⟩

/-- No query, key or bias of the layer is infinite. -/
def Finite : Prop :=
  (∀ (b : Fin 2) (s : Fin 4096) (j : Fin 12288), j.val < 4096 → P (ix3 b s j) = ((P (ix3 b s j)).toReal : EReal))
    ∧ ∀ (h : Fin 16) (d : Fin 257), R (ix3 0 h d) = ((R (ix3 0 h d)).toReal : EReal)

def realA (s j : Fin 4096) : ℝ :=
  (∑ e, (queryA P b h s e).toReal * (keyA P b h j e).toReal) * (1 / Real.sqrt 128) + (R (ix3 0 h (dist s j))).toReal

variable {P R}

theorem sqrt_pos : (0 : ℝ) < Real.sqrt 128 := Real.sqrt_pos.mpr (by norm_num)

theorem logit_real (hf : Finite P R) (s j : Fin 4096) : logitA P R b h s j = ((realA P R b h s j : ℝ) : EReal) := by
  unfold logitA realA
  rw [Ideal.div_coe sqrt_pos.ne', EReal.coe_add, ← hf.2, EReal.coe_mul, coe_sum]
  refine congrArg (fun x => x * ((1 / Real.sqrt 128 : ℝ) : EReal) + R (ix3 0 h (dist s j))) (Finset.sum_congr rfl fun e _ => ?_)
  rw [EReal.coe_mul]
  exact congrArg₂ (· * ·) (hf.1 b s _ (by show 128 * h.val + e.val < 4096; omega)) (hf.1 b j _ (by show 2048 + (128 * h.val + e.val) < 4096; omega))

theorem score_real (hf : Finite P R) (s : Fin 4096) : scoreA P R b h s = rowScore (realA P R b h s) (visible s) := by
  funext j
  unfold scoreA rowScore
  rw [logit_real b h hf]

/-- The kernel's own scaling: of the query, in the base of the powers of two. -/
theorem scaled_real (hf : Finite P R) (s j : Fin 4096) :
    (∑ e, queryA P b h s e * (((Real.sqrt 128)⁻¹ * (Real.log 2)⁻¹ : ℝ) : EReal) * keyA P b h j e) + R (ix3 0 h (dist s j)) * (((Real.log 2)⁻¹ : ℝ) : EReal)
      = (((Real.log 2)⁻¹ * realA P R b h s j : ℝ) : EReal) := by
  have e1 : ∀ e, queryA P b h s e * (((Real.sqrt 128)⁻¹ * (Real.log 2)⁻¹ : ℝ) : EReal) * keyA P b h j e
      = (((queryA P b h s e).toReal * ((Real.sqrt 128)⁻¹ * (Real.log 2)⁻¹) * (keyA P b h j e).toReal : ℝ) : EReal) := by
    intro e
    rw [EReal.coe_mul, EReal.coe_mul]
    exact congrArg₂ (fun x y => x * (((Real.sqrt 128)⁻¹ * (Real.log 2)⁻¹ : ℝ) : EReal) * y) (hf.1 b s _ (by show 128 * h.val + e.val < 4096; omega)) (hf.1 b j _ (by show 2048 + (128 * h.val + e.val) < 4096; omega))
  rw [Finset.sum_congr rfl fun e _ => e1 e, ← coe_sum, hf.2 h (dist s j), ← EReal.coe_mul, ← EReal.coe_add]
  refine congrArg ((↑) : ℝ → EReal) ?_
  unfold realA
  rw [mul_add, Finset.sum_mul, Finset.mul_sum]
  refine congrArg₂ (· + ·) (Finset.sum_congr rfl fun e _ => ?_) (mul_comm _ _)
  rw [one_div]; ring
end Spec

/-! ## The window of a block -/

/-- The position of a key of the window of the block `q` blocks into the sequence, and of a row of the block. -/
def at' (q : Fin 16) (k : Fin 768) : Fin 4096 := ⟨(q.val - (2 - k.val / 256)) * 256 + k.val % 256, by omega⟩
def row' (q : Fin 16) (r : Fin 256) : Fin 4096 := ⟨q.val * 256 + r.val, by omega⟩

theorem seen_visible (q : Fin 16) (r : Fin 256) (k : Fin 768) (hs : seen (min q.val 2) r k) : visible (row' q r) (at' q k) := by
  obtain ⟨h1, h2, h3⟩ := hs
  unfold visible row' at'
  dsimp only
  omega

theorem at_inj (q : Fin 16) (r : Fin 256) (k k' : Fin 768) (hs : seen (min q.val 2) r k) (hs' : seen (min q.val 2) r k') (e : at' q k = at' q k') : k = k' := by
  have e' := congrArg Fin.val e
  obtain ⟨h1, h2, h3⟩ := hs
  obtain ⟨g1, g2, g3⟩ := hs'
  unfold at' at e'
  dsimp only at e'
  refine Fin.ext ?_
  omega

theorem visible_seen (q : Fin 16) (r : Fin 256) (j : Fin 4096) (hv : visible (row' q r) j) : ∃ k, seen (min q.val 2) r k ∧ at' q k = j := by
  obtain ⟨h1, h2⟩ := hv
  unfold row' at h1 h2
  dsimp only at h1 h2
  refine ⟨⟨j.val + 512 - q.val * 256, by omega⟩, ⟨?_, ?_, ?_⟩, Fin.ext ?_⟩
  · dsimp only; omega
  · dsimp only; omega
  · dsimp only; omega
  · unfold at'; dsimp only; omega

theorem seen_window (q : ℕ) (r : Fin 256) (k : Fin 768) (hs : seen q r k) : win r ≤ k.val ∧ k.val < win r + 640 := by
  obtain ⟨h1, h2, h3⟩ := hs
  unfold win
  split <;> omega

theorem bias_dist (R : FVec Ideal S4x16x257 .f32) (h : Fin 16) (q : Fin 16) (r : Fin 256) (k : Fin 768) (hs : seen (min q.val 2) r k) :
    rowsV R (ix3 h 0 ⟨(k.val + 1024 - r.val) % 1024, by omega⟩) = R (ix3 0 h (dist (row' q r) (at' q k))) := by
  obtain ⟨h1, h2, h3⟩ := hs
  rw [rowsV_apply]
  refine congrArg (fun d => R (ix3 0 h d)) (Fin.ext ?_)
  unfold dist row' at'
  dsimp only
  split
  · show 256 = _; omega
  · split
    · show (640 - (k.val + 1024 - r.val) % 1024) % 257 = _; omega
    · split
      · show 0 = _; omega
      · show 256 = _; omega

/-! ## The tiles -/

variable (m : (ℓ : Loc nD τ sig) → Buf (Elt Ideal) ℓ) (c : Dev nD) (t : Fin cfg0.N)

def blkOf : Fin 16 := ⟨t.val % 16, by omega⟩

theorem key_of (k : Fin 768) : ∃ (n : Fin 3) (l : Fin 256), k = key n l :=
  ⟨⟨k.val / 256, by omega⟩, ⟨k.val % 256, by omega⟩, Fin.ext (by show k.val = 256 * (k.val / 256) + k.val % 256; omega)⟩

theorem pos_key (n : Fin 3) (l : Fin 256) : pos t (2 - n.val) l = at' (blkOf t) (key n l) := by
  refine Fin.ext ?_
  unfold pos at' blkOf key
  dsimp only
  have h1 : (256 * n.val + l.val) / 256 = n.val := by omega
  have h2 : (256 * n.val + l.val) % 256 = l.val := by omega
  rw [h1, h2]

def keysOf (h : Fin 16) : Fin 3 → Vec Ideal S1x256x128 .bf16 := ![headV (iblk m c 2 t) h, headV (iblk m c 3 t) h, headV (iblk m c 4 t) h]
def valuesOf (h : Fin 16) : Fin 3 → Vec Ideal S1x256x128 .bf16 := ![headV (iblk m c 5 t) h, headV (iblk m c 6 t) h, headV (iblk m c 7 t) h]

theorem query_entry (h : Fin 16) (r : Fin 256) (e : Fin 128) : headV (iblk m c 1 t) h (ix3 0 r e) = queryA (inP m c) (bat t) h (row' (blkOf t) r) e := by
  refine (read1 m c t r ⟨128 * h.val + e.val, by omega⟩).trans (congrArg (inP m c) (idx_ext₃ rfl rfl ?_))
  exact Nat.zero_add _

theorem key_entry (h : Fin 16) (n : Fin 3) (l : Fin 256) (e : Fin 128) : keysOf m c t h n (ix3 0 l e) = keyA (inP m c) (bat t) h (at' (blkOf t) (key n l)) e := by
  rw [← pos_key]
  match n with
  | 0 => exact read2 m c t l ⟨128 * h.val + e.val, by omega⟩
  | 1 => exact read3 m c t l ⟨128 * h.val + e.val, by omega⟩
  | 2 => exact read4 m c t l ⟨128 * h.val + e.val, by omega⟩

theorem value_entry (h : Fin 16) (n : Fin 3) (l : Fin 256) (e : Fin 128) : valuesOf m c t h n (ix3 0 l e) = valueA (inP m c) (bat t) h (at' (blkOf t) (key n l)) e := by
  rw [← pos_key]
  match n with
  | 0 => exact read5 m c t l ⟨128 * h.val + e.val, by omega⟩
  | 1 => exact read6 m c t l ⟨128 * h.val + e.val, by omega⟩
  | 2 => exact read7 m c t l ⟨128 * h.val + e.val, by omega⟩

theorem score_entry (hf : Finite (inP m c) (inRel m c)) (h : Fin 16) (B : Vec Ideal S1x256x768 .f32)
    (hB : ∀ r k, B (ix3 0 r k) = biasAt m c (min (t.val % 16) 2) h r k) (r : Fin 256) (k : Fin 768) :
    scoreV (headV (iblk m c 1 t) h) (keysOf m c t h 0) (keysOf m c t h 1) (keysOf m c t h 2) B (ix2 r k)
      = if seen (min (blkOf t).val 2) r k then (((Real.log 2)⁻¹ * realA (inP m c) (inRel m c) (bat t) h (row' (blkOf t) r) (at' (blkOf t) k) : ℝ) : EReal) else ⊥ := by
  obtain ⟨n, l, rfl⟩ := key_of k
  rw [score_apply, hB]
  unfold biasAt
  by_cases hs : seen (min (blkOf t).val 2) r (key n l)
  · rw [if_pos hs]
    refine Eq.trans ?_ (scaled_real (bat t) h hf (row' (blkOf t) r) (at' (blkOf t) (key n l)))
    refine congrArg₂ (· + ·) (Finset.sum_congr rfl fun e _ => ?_) ((if_pos hs).trans ?_)
    · rw [query_entry, key_entry]
    · rw [bias_dist (inRel m c) h (blkOf t) r (key n l) hs]
  · rw [if_neg hs]
    exact (congrArg _ (if_neg hs)).trans (EReal.add_bot _)

theorem tile_entry (hf : Finite (inP m c) (inRel m c)) (h : Fin 16) (B : Vec Ideal S1x256x768 .f32)
    (hB : ∀ r k, B (ix3 0 r k) = biasAt m c (min (t.val % 16) 2) h r k) (r : Fin 256) (d : Fin 128) :
    tileAt m c t B h (ix3 0 r d) = outA (inP m c) (inRel m c) (bat t) h (row' (blkOf t) r) d := by
  refine (tile_apply (weightV (scoreV (headV (iblk m c 1 t) h) (keysOf m c t h 0) (keysOf m c t h 1) (keysOf m c t h 2) B)) (valueV (valuesOf m c t h 0) (valuesOf m c t h 1) (valuesOf m c t h 2)) r d).trans ?_
  unfold outA weightA
  rw [score_real (bat t) h hf]
  refine softmax_window (realA (inP m c) (inRel m c) (bat t) h (row' (blkOf t) r)) (visible (row' (blkOf t) r)) (fun k => seen (min (blkOf t).val 2) r k) (at' (blkOf t))
    (fun k hk => seen_visible _ r k hk) (fun k k' hk hk' e => at_inj _ r k k' hk hk' e) (fun j hj => visible_seen _ r j hj)
    ⟨row' (blkOf t) r, le_refl _, Nat.le_add_right _ _⟩ (win r) (win_le r) (fun k hk => seen_window _ r k hk)
    (fun k => scoreV (headV (iblk m c 1 t) h) (keysOf m c t h 0) (keysOf m c t h 1) (keysOf m c t h 2) B (ix2 r k)) (fun k => score_entry m c t hf h B hB r k)
    (fun j => valueA (inP m c) (bat t) h j d) (fun k => valueV (valuesOf m c t h 0) (valuesOf m c t h 1) (valuesOf m c t h 2) (ix2 k d)) (fun k _ => ?_)
    (fun k => weightV (scoreV (headV (iblk m c 1 t) h) (keysOf m c t h 0) (keysOf m c t h 1) (keysOf m c t h 2) B) (ix2 r k)) (fun k => weight_apply _ r k)
  obtain ⟨n, l, rfl⟩ := key_of k
  exact (value_apply (valuesOf m c t h) n l d).trans (value_entry m c t h n l d)

theorem tile_eq (hf : Finite (inP m c) (inRel m c)) (y : S1x256x2048.Idx) :
    (outsAt0 m c t.val t.isLt).1 y = attn (inP m c) (inRel m c) (ix3 (bat t) (pos t 0 (y 1)) (y 2)) := by
  have h2 : (y 2).val < 2048 := (y 2).isLt
  obtain ⟨B, hB, e⟩ := tile_step m c t ⟨(y 2).val / 128, by omega⟩ y (ix3 0 (y 1) ⟨(y 2).val % 128, by omega⟩) rfl
    (by show (y 2).val = 128 * ((y 2).val / 128) + (y 2).val % 128; omega)
  exact e.trans (tile_entry m c t hf ⟨(y 2).val / 128, by omega⟩ B hB (y 1) ⟨(y 2).val % 128, by omega⟩)

theorem flushed8_eq (hf : Finite (inP m c) (inRel m c)) :
    (dats m 0 c).flushed 8 t = ((cfg0.win 8).blk t).view.read (Elt Ideal) (attn (inP m c) (inRel m c)) := by
  refine Eq.trans (b := (cfg0.win 8).cut (grid0.coords t) (outsAt0 m c t.val t.isLt).1) ?_ (funext fun (y : S1x256x2048.Idx) => ?_)
  · show (cfg0.win 8).cut (grid0.coords t) ((dats m 0 c).after 8 t) = _
    rw [after0_8]
  · exact (tile_eq m c t hf y).trans (congrArg (attn (inP m c) (inRel m c)) (emb8 t y)).symm

theorem cover8 (i : S2x4096x2048.Idx) : ∃ t : Fin cfg0.N, (cfg0.win 8).flush t = true ∧ i ∈ ((cfg0.win 8).blk t).view.set := by
  have h0 : (i 0).val < 2 := (i 0).isLt
  have h1 : (i 1).val < 4096 := (i 1).isLt
  have hN : cfg0.N = 32 := N_0
  let t : Fin cfg0.N := ⟨(i 0).val * 16 + (i 1).val / 256, by omega⟩
  let y : S1x256x2048.Idx := ix3 0 ⟨(i 1).val % 256, by omega⟩ (i 2)
  have e : ((cfg0.win 8).blk t).view.emb y = i := (emb8 t y).trans (idx_ext₃
    (by show ((i 0).val * 16 + (i 1).val / 256) / 16 = (i 0).val; omega)
    (by show (((i 0).val * 16 + (i 1).val / 256) % 16 - 0) * 256 + (i 1).val % 256 = (i 1).val; omega) rfl)
  exact ⟨t, flush0_8 t, e ▸ ((cfg0.win 8).blk t).view.emb_mem_set y⟩

theorem final8 (hf : Finite (inP m c) (inRel m c)) : (dats m 0 c).arrAt 8 cfg0.N = attn (inP m c) (inRel m c) :=
  (dats m 0 c).arrAt_eq_of_cover 8 _ (fun t _ => flushed8_eq m c t hf) cover8

end Cert.Proof.Band

end
-- ==== Proof.BandRef.lean ====
/-
  The reference band attention entry by entry, over the extended reals: the attention as `attn` has it.
-/
module

public import proofs.«01_k».proof.Proof.BandText
public import proofs.«01_k».proof.Proof.BandBlocks
public import Idealize.ShloMosaic.Lib.Pointwise
public import Idealize.ShloMosaic.Lib.KernelVsHost

@[expose] public section

set_option maxRecDepth 16384

noncomputable section

namespace Cert.Proof.Band

open Cert.BandReferenceIdeal Cert.BandReferenceIdeal.Gen Cert.BandReferenceIdeal.Value
open Idealize.ShloMosaic Idealize.ShloMosaic.TcCoe Idealize.ShloMosaic.StableHlo Idealize.SL.Sem

/-! ## Words -/

theorem rowI_apply (i : Fin 4096) : rowI (ix2 i 0) = BitVec.ofNat 32 i.val := by
  unfold rowI
  simp only [pointwise]
  rfl
theorem colI_apply (j : Fin 4096) : colI (ix2 0 j) = BitVec.ofNat 32 j.val := by
  unfold colI
  simp only [pointwise]
  rfl

/-- The chunk of a position, as the host's floor division has it. -/
def signW (x : BitVec 32) : BitVec 32 := if x = 0 then 0 else if x.msb then -1 else 1
def chunkW (x : BitVec 32) : BitVec 32 :=
  Scalar.select (IntOp.andi (IntOp.cmpi .ne (signW x) (signW 64#32)) (IntOp.cmpi .ne (IntOp.remsi .host x 64#32) 0#32)) (IntOp.subi (IntOp.divsi .host x 64#32) 1#32) (IntOp.divsi .host x 64#32)

theorem rowC_apply (i : Fin 4096) : rowC (ix2 i 0) = chunkW (BitVec.ofNat 32 i.val) := by
  have e := rowI_apply i
  unfold rowC
  generalize rowI = r at e ⊢
  rw [← e]
  rfl
theorem colC_apply (j : Fin 4096) : colC (ix2 0 j) = chunkW (BitVec.ofNat 32 j.val) := by
  have e := colI_apply j
  unfold colC
  generalize colI = r at e ⊢
  rw [← e]
  rfl

theorem chunkW_eq : ∀ i : Fin 4096, chunkW (BitVec.ofNat 32 i.val) = BitVec.ofNat 32 (i.val / 64) := by decide +kernel
theorem mask_words : ∀ a b : Fin 64, IntOp.andi (IntOp.cmpi .sge (IntOp.subi (BitVec.ofNat 32 a.val) (BitVec.ofNat 32 b.val)) 0#32) (IntOp.cmpi .sle (IntOp.subi (BitVec.ofNat 32 a.val) (BitVec.ofNat 32 b.val)) 8#32)
    = if b.val ≤ a.val ∧ a.val ≤ b.val + 8 then 1#1 else 0#1 := by decide +kernel

theorem gapR_apply (r : IVec S4096x1 32) (k : IVec S1x4096 32) (i j : Fin 4096) : gapR r k (ix2 i j) = IntOp.subi (r (ix2 i 0)) (k (ix2 0 j)) := by
  unfold gapR
  simp only [pointwise]
  rfl

theorem maskR_apply (i j : Fin 4096) : maskR (gapR rowC colC) (ix2 i j) = if visible i j then 1#1 else 0#1 := by
  have e := gapR_apply rowC colC i j
  rw [rowC_apply, colC_apply, chunkW_eq, chunkW_eq] at e
  have w := mask_words ⟨i.val / 64, by omega⟩ ⟨j.val / 64, by omega⟩
  unfold maskR
  generalize gapR rowC colC = g at e ⊢
  simp only [pointwise]
  rw [e]
  exact w

def placeW (d : BitVec 32) : BitVec 32 :=
  Scalar.select (IntOp.cmpi .slt (IntOp.addi (IntOp.minsi 128#32 (IntOp.maxsi 4294967168#32 d)) 128#32) 0#32) (IntOp.addi (IntOp.addi (IntOp.minsi 128#32 (IntOp.maxsi 4294967168#32 d)) 128#32) 257#32)
    (IntOp.addi (IntOp.minsi 128#32 (IntOp.maxsi 4294967168#32 d)) 128#32)

theorem placeW_back : ∀ d : Fin 4096, placeW (BitVec.ofNat 32 d.val) = BitVec.ofNat 32 (min (d.val + 128) 256) := by decide +kernel
theorem placeW_ahead : ∀ d : Fin 4096, placeW (IntOp.subi 0#32 (BitVec.ofNat 32 d.val)) = BitVec.ofNat 32 (128 - d.val) := by decide +kernel

theorem placeW_dist (i j : Fin 4096) : placeW (IntOp.subi (BitVec.ofNat 32 i.val) (BitVec.ofNat 32 j.val)) = BitVec.ofNat 32 (dist i j).val := by
  by_cases h : j.val ≤ i.val
  · have e : IntOp.subi (BitVec.ofNat 32 i.val) (BitVec.ofNat 32 j.val) = BitVec.ofNat 32 (i.val - j.val) := by
      show BitVec.ofNat 32 i.val - BitVec.ofNat 32 j.val = _
      apply BitVec.eq_of_toNat_eq
      simp only [BitVec.toNat_sub, BitVec.toNat_ofNat]
      omega
    rw [e, placeW_back ⟨i.val - j.val, by omega⟩]
    refine congrArg (BitVec.ofNat 32) ?_
    unfold dist
    dsimp only
    omega
  · have e : IntOp.subi (BitVec.ofNat 32 i.val) (BitVec.ofNat 32 j.val) = IntOp.subi 0#32 (BitVec.ofNat 32 (j.val - i.val)) := by
      show BitVec.ofNat 32 i.val - BitVec.ofNat 32 j.val = 0#32 - BitVec.ofNat 32 (j.val - i.val)
      apply BitVec.eq_of_toNat_eq
      simp only [BitVec.toNat_sub, BitVec.toNat_ofNat]
      omega
    rw [e, placeW_ahead ⟨j.val - i.val, by omega⟩]
    refine congrArg (BitVec.ofNat 32) ?_
    unfold dist
    dsimp only
    omega

theorem placeR_apply (i j : Fin 4096) : placeR (stepR (gapR rowI colI)) (ix3 i j 0) = BitVec.ofNat 32 (dist i j).val := by
  have e := gapR_apply rowI colI i j
  rw [rowI_apply, colI_apply] at e
  rw [← placeW_dist, ← e]
  unfold placeR stepR
  generalize gapR rowI colI = g
  simp only [pointwise]
  rfl

theorem dist_small : ∀ d : Fin 257, min (BitVec.ofNat 32 d.val).toInt.toNat (257 - 1) = d.val := by decide +kernel

theorem takenR_apply (T : FVec Ideal S16x257 .f32) (p : IVec S4096x4096x1 32) (h : Fin 16) (i j : Fin 4096) (d : Fin 257) (hd : p (ix3 i j 0) = BitVec.ofNat 32 d.val) :
    takenR T p (ix3 h i j) = T (ix2 h d) := by
  unfold takenR Host.gather
  refine congrArg T (Shape.idx_ext₂ ?_ ?_)
  · show GatherDims.start _ (ix3 h i j) p 0 + GatherDims.batchCoord _ (ix3 h i j) 0 + GatherDims.offCoord _ (ix3 h i j) 0 = h.val
    rw [GatherDims.batchCoord_eq_zero _ _ _ List.not_mem_nil]
    unfold GatherDims.start
    rw [dif_neg (show (0 : Fin 2) ∉ gather_S16x257_S4096x4096x1_S16x4096x4096_0_1_n_n_1_2_161.startIndexMap from (by decide : (0 : Fin 2) ∉ ([1] : List (Fin 2))))]
    show 0 + 0 + h.val = h.val
    omega
  · show GatherDims.start _ (ix3 h i j) p 1 + GatherDims.batchCoord _ (ix3 h i j) 1 + GatherDims.offCoord _ (ix3 h i j) 1 = d.val
    rw [GatherDims.batchCoord_eq_zero _ _ _ List.not_mem_nil, GatherDims.offCoord_eq_zero _ _ _ (fun h => ((GatherDims.mem_sKept _ _).mp h).1 (List.mem_singleton.mpr rfl))]
    unfold GatherDims.start
    rw [dif_pos (show (1 : Fin 2) ∈ gather_S16x257_S4096x4096x1_S16x4096x4096_0_1_n_n_1_2_161.startIndexMap from (by decide : (1 : Fin 2) ∈ ([1] : List (Fin 2))))]
    have hs : GatherDims.siIdx gather_S16x257_S4096x4096x1_S16x4096x4096_0_1_n_n_1_2_161 (ix3 h i j) ⟨List.idxOf (1 : Fin 2) ([1] : List (Fin 2)), List.idxOf_lt_length_iff.2 (by decide)⟩ = ix3 i j 0 :=
      idx_ext₃ rfl rfl rfl
    refine (congrArg (fun x => min (p x).toInt.toNat (257 - 1)) hs).trans ?_
    rw [hd]
    exact dist_small d

end Cert.Proof.Band

end
-- ==== Proof.BandRefValue.lean ====
/-
  The reference band attention's arrays of floats entry by entry, over the extended reals, and the whole of it: the
  attention as `attn` has it.
-/
module

public import proofs.«01_k».proof.Proof.BandRef

@[expose] public section

set_option maxRecDepth 16384

noncomputable section

namespace Cert.Proof.Band

open Cert.BandReferenceIdeal Cert.BandReferenceIdeal.Gen Cert.BandReferenceIdeal.Value
open Idealize.ShloMosaic Idealize.ShloMosaic.TcCoe Idealize.ShloMosaic.StableHlo Idealize.SL.Sem

theorem ofBits_128 : Ideal.ofBits .f32 0x43000000#32 = ((128 : ℝ) : EReal) := by
  simp [Ideal.ofBits, Ideal.ieee]
  rw [← EReal.coe_mul]
  norm_num

variable (P : FVec Ideal S2x4096x12288 .bf16) (R : FVec Ideal S4x16x257 .f32) (b : Fin 2) (h : Fin 16) (s j : Fin 4096)

theorem qR_apply (e : Fin 128) : qR P (ix4 b s h e) = queryA P b h s e := by
  unfold qR queryA
  simp only [pointwise]
  refine congrArg P (idx_ext₃ ?_ ?_ ?_)
  · show 0 + b.val = b.val
    omega
  · show 0 + s.val = s.val
    omega
  · show 0 + (h.val * 128 + e.val) = 128 * h.val + e.val
    omega

theorem kR_apply (e : Fin 128) : kR P (ix4 b s h e) = keyA P b h s e := by
  unfold kR keyA
  simp only [pointwise]
  refine congrArg P (idx_ext₃ ?_ ?_ ?_)
  · show 0 + b.val = b.val
    omega
  · show 0 + s.val = s.val
    omega
  · show 2048 + (h.val * 128 + e.val) = 2048 + (128 * h.val + e.val)
    omega

theorem vR_apply (e : Fin 128) : vR P (ix4 b s h e) = valueA P b h s e := by
  unfold vR valueA
  simp only [pointwise]
  refine congrArg P (idx_ext₃ ?_ ?_ ?_)
  · show 0 + b.val = b.val
    omega
  · show 0 + s.val = s.val
    omega
  · show 4096 + (h.val * 128 + e.val) = 4096 + (128 * h.val + e.val)
    omega

theorem tableR_apply (d : Fin 257) : tableR R (ix2 h d) = R (ix3 0 h d) := by
  unfold tableR
  simp only [pointwise]
  refine congrArg R (idx_ext₃ ?_ ?_ ?_)
  · rfl
  · show 0 + h.val = h.val
    omega
  · show 0 + d.val = d.val
    omega

theorem bias_taken : takenR (tableR R) (placeR (stepR (gapR rowI colI))) (ix3 h s j) = R (ix3 0 h (dist s j)) :=
  (takenR_apply (tableR R) _ h s j (dist s j) (placeR_apply s j)).trans (tableR_apply R h (dist s j))

theorem logitR_apply (q k : HeadsR Ideal) (B : FVec Ideal S16x4096x4096 .f32) :
    logitR q k B (ix4 b h s j) = Ideal.div (∑ e : Fin 128, q (ix4 b s h e) * k (ix4 b j h e)) ((Real.sqrt 128 : ℝ) : EReal) + B (ix3 h s j) := by
  unfold logitR
  simp only [pointwise]
  rw [ofBits_128, Ideal.sqrt_coe, if_neg (by norm_num), zero_add]
  rfl

theorem scoreR_apply (k : IVec S4096x4096 1) (l : PairsR Ideal) : scoreR k l (ix4 b h s j) = Scalar.select (k (ix2 s j)) (l (ix4 b h s j)) (⊥ : EReal) := by
  unfold scoreR
  simp only [pointwise, ofBits_low]
  exact congrArg (Scalar.select (k (ix2 s j)) (l (ix4 b h s j))) ofBits_low

/-- The largest of a row, at any extents. -/
theorem reduce_max {n0 n1 n2 n3 : ℕ} {u : Shape} (x : FVec Ideal ⟨4, ![n0, n1, n2, n3]⟩ .f32) (init : FVec Ideal u .f32) (hi : ∀ o, init o = (⊥ : EReal))
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c) = Finset.univ.fold max (⊥ : EReal) (fun k : Fin n3 => x (ix4 a b c k)) :=
  ((Host.reduce_eq_fold FloatOps.maximumf x init h hu (ix3 a b c)).trans (h.fold_fiber_r4_a3 (ix3 a b c) FloatOps.maximumf (init (Shape.Idx.first hu)) x)).trans
    (congrArg (fun z => Finset.univ.fold max z fun k : Fin n3 => x (ix4 a b c k)) (hi _))

theorem low_max (X : FVec Ideal S2x16x4096 .f32) :
    maximumf (broadcastInDim S2x16x4096 ![] bcast_S_S2x16x4096 (constant S_ .f32 0xFF800000#32)) X (ix3 b h s) = X (ix3 b h s) := by
  simp only [pointwise, ofBits_low]
  exact max_eq_right bot_le

theorem topR_apply (x : PairsR Ideal) : topR x (ix3 b h s) = Finset.univ.fold max (⊥ : EReal) (fun j : Fin 4096 => x (ix4 b h s j)) := by
  have e := reduce_max x (constant S_ .f32 0xFF800000#32) (fun _ => ofBits_low) reducesTo_S2x16x4096x4096_S2x16x4096_d3 h_S_ b h s
  have e2 := low_max b h s (Host.reduce FloatOps.maximumf x (constant S_ .f32 0xFF800000#32) reducesTo_S2x16x4096x4096_S2x16x4096_d3 h_S_)
  unfold topR
  generalize Finset.univ.fold max (⊥ : EReal) (fun j : Fin 4096 => x (ix4 b h s j)) = z at e ⊢
  exact e2.trans e

theorem spreadR_apply (t : FVec Ideal S2x16x4096 .f32) : spreadR t (ix4 b h s j) = t (ix3 b h s) := by
  unfold spreadR
  simp only [pointwise]
  rfl

theorem weightR_apply (x t : PairsR Ideal) : weightR x t (ix4 b h s j) = Ideal.exp (x (ix4 b h s j) - t (ix4 b h s j)) := by
  unfold weightR
  simp only [pointwise]

theorem totalR_apply (w : PairsR Ideal) : totalR w (ix3 b h s) = ∑ j : Fin 4096, w (ix4 b h s j) := by
  unfold totalR
  simp only [pointwise]
  exact zero_add _

theorem mixR_apply (v : HeadsR Ideal) (w : PairsR Ideal) (d : Fin 128) (hd : 128 * h.val + d.val < 2048) :
    mixR v w (ix3 b s ⟨128 * h.val + d.val, hd⟩) = ∑ j : Fin 4096, v (ix4 b j h d) * w (ix4 b h s j) := by
  unfold mixR
  simp only [pointwise]
  exact zero_add _

variable {b h s j}

theorem scoreR_eq : scoreR (maskR (gapR rowC colC)) (logitR (qR P) (kR P) (takenR (tableR R) (placeR (stepR (gapR rowI colI))))) (ix4 b h s j) = scoreA P R b h s j := by
  rw [scoreR_apply, maskR_apply, logitR_apply, bias_taken]
  unfold scoreA logitA
  by_cases hv : visible s j
  · rw [if_pos hv, if_pos hv]
    exact congrArg (fun z => Ideal.div z ((Real.sqrt 128 : ℝ) : EReal) + R (ix3 0 h (dist s j))) (Finset.sum_congr rfl fun e _ => congrArg₂ (· * ·) (qR_apply P b h s e) (kR_apply P b h j e))
  · rw [if_neg hv, if_neg hv]
    rfl

theorem weightR_eq (S : PairsR Ideal) (hS : ∀ j, S (ix4 b h s j) = scoreA P R b h s j) : weightR S (spreadR (topR S)) (ix4 b h s j) = weightA P R b h s j := by
  rw [weightR_apply, spreadR_apply, topR_apply, hS]
  unfold weightA
  rw [show (fun j : Fin 4096 => S (ix4 b h s j)) = scoreA P R b h s from funext hS]

theorem divf_apply4 (w t : PairsR Ideal) : Host.divf w t (ix4 b h s j) = Ideal.div (w (ix4 b h s j)) (t (ix4 b h s j)) := by
  simp only [pointwise]

theorem attnR_apply (d : Fin 128) (hd : 128 * h.val + d.val < 2048) : attnR P R (ix3 b s ⟨128 * h.val + d.val, hd⟩) = outA P R b h s d := by
  unfold attnR
  have hS := fun j => scoreR_eq P R (b := b) (h := h) (s := s) (j := j)
  generalize scoreR (maskR (gapR rowC colC)) (logitR (qR P) (kR P) (takenR (tableR R) (placeR (stepR (gapR rowI colI))))) = S at hS ⊢
  have hW := fun j => weightR_eq P R (j := j) S hS
  generalize weightR S (spreadR (topR S)) = W at hW ⊢
  rw [mixR_apply]
  unfold outA
  refine Finset.sum_congr rfl fun j _ => congrArg₂ (· * ·) (vR_apply P b h j d) ?_
  rw [divf_apply4, spreadR_apply, totalR_apply, hW]
  exact congrArg (Ideal.div (weightA P R b h s j)) (Finset.sum_congr rfl fun i _ => hW i)

theorem attnR_eq : attnR P R = attn P R := by
  funext y
  have h2 : (y 2).val < 2048 := (y 2).isLt
  have hy : y = ix3 (y 0) (y 1) ⟨128 * (⟨(y 2).val / 128, by omega⟩ : Fin 16).val + (⟨(y 2).val % 128, by omega⟩ : Fin 128).val, by show 128 * ((y 2).val / 128) + (y 2).val % 128 < 2048; omega⟩ := by
    refine idx_ext₃ rfl rfl ?_
    show (y 2).val = 128 * ((y 2).val / 128) + (y 2).val % 128
    omega
  exact (congrArg (attnR P R) hy).trans (attnR_apply P R _ _)

end Cert.Proof.Band

end
-- ==== Proof.BandPre.lean ====
/-
  What `finite_scores` says of the band attention's operands: no query, key or bias of the layer is infinite.
-/
module

public import proofs.«01_k».proof.Proof.BandRefValue
public import proofs.«01_k».proof.Pre_finite_scores

@[expose] public section

set_option maxRecDepth 16384

noncomputable section

namespace Cert.Proof.Band

open Cert.Pre_finite_scores Cert.Pre_finite_scores.Facts
open Idealize.ShloMosaic Idealize.ShloMosaic.TcCoe Idealize.SL.Sem

theorem real_of_lt {x w : EReal} (hw : w = ⊤) (h : BitVec.ofBool (decide (max x (-x) < w)) = 1#1) : x = (x.toReal : EReal) := by
  subst hw
  have h1 : max x (-x) < ⊤ := by
    by_contra hn
    rw [decide_eq_false hn] at h
    exact absurd h (by decide)
  have h2 := max_lt_iff.mp h1
  refine (EReal.coe_toReal h2.1.ne fun hb => ?_).symm
  rw [hb] at h2
  exact absurd h2.2 (by simp)

theorem infinite_16 : Ideal.ofBits .bf16 0x7F80#16 = ⊤ := by
  simp [Ideal.ofBits, Ideal.ieee]
theorem infinite_32 : Ideal.ofBits .f32 0x7F800000#32 = ⊤ := by
  simp [Ideal.ofBits, Ideal.ieee]

theorem both_of_and {x y : BitVec 1} (h : x &&& y = 1#1) : x = 1#1 ∧ y = 1#1 := by
  revert h x y
  decide

variable [Cert.Pre_finite_scores.Facts]

theorem read_pad (x : IVec S16x257 1) (v : IVec S_ 1) (h : Fin 16) (d : Fin 257) :
    fn_pad (F := Ideal) x v (ix2 ⟨h.val, by omega⟩ ⟨d.val, by omega⟩) = x (ix2 h d) := by
  unfold fn_pad
  refine (pad_apply_of_inside _ _ _ x v _ _ _ (ix2 h d) fun a => ?_)
  fin_cases a
  · show h.val = 0 + h.val * (0 + 1)
    omega
  · show d.val = 0 + d.val * (0 + 1)
    omega

theorem read_rows (x : IVec S4096x4096 1) (b : Fin 2) (s j : Fin 4096) :
    broadcastInDim S2x4096x4096 ![0, 1, 2] bcast_S1x4096x4096_S2x4096x4096_0_1_2 (broadcastInDim S1x4096x4096 ![1, 2] bcast_S4096x4096_S1x4096x4096_1_2 x) (ix3 b s j)
      = x (ix2 s j) := by
  simp only [pointwise]
  rfl

theorem finite_of (P : FVec Ideal S2x4096x12288 .bf16) (R : FVec Ideal S4x16x257 .f32) (e : Cert.Pre_finite_scores.fn (F := Ideal) P R = fun _ => 1#1) : Finite P R := by
  have ee := fun b s j => congrFun e (ix3 b s j)
  refine ⟨fun b s j hj => ?_, fun h d => ?_⟩
  · have e1 := ee b s ⟨j.val, hj⟩
    unfold Cert.Pre_finite_scores.fn at e1
    have e2 := (both_of_and e1).1
    refine (real_of_lt infinite_16 (x := P (ix3 b s j)) ?_)
    refine Eq.trans ?_ e2
    simp only [pointwise]
    refine congrArg (fun z : EReal => BitVec.ofBool (decide (max z (-z) < Ideal.ofBits .bf16 0x7F80#16))) (congrArg P (idx_ext₃ ?_ ?_ ?_))
    · show b.val = 0 + b.val
      omega
    · show s.val = 0 + s.val
      omega
    · show j.val = 0 + j.val
      omega
  · have e1 := ee 0 ⟨h.val, by omega⟩ ⟨d.val, by omega⟩
    unfold Cert.Pre_finite_scores.fn at e1
    have e2 := (read_pad _ _ h d).symm.trans ((read_rows _ 0 ⟨h.val, by omega⟩ ⟨d.val, by omega⟩).symm.trans (both_of_and e1).2)
    refine (real_of_lt infinite_32 (x := R (ix3 0 h d)) ?_)
    refine Eq.trans ?_ e2
    simp only [pointwise]
    refine congrArg (fun z : EReal => BitVec.ofBool (decide (max z (-z) < Ideal.ofBits .f32 0x7F800000#32))) (congrArg R (idx_ext₃ ?_ ?_ ?_))
    · rfl
    · show h.val = 0 + h.val
      omega
    · show d.val = 0 + d.val
      omega

end Cert.Proof.Band

end
-- ==== Proof.lean ====
/-
  The claims: the run of `Run.lean`, written once over any float values, read at the words and at the reals; the
  reference's own run; and the product of `Product.lean` between the two.
-/
module

public import proofs.«01_k».proof.Defs
public import proofs.«01_k».proof.Proof.Run
public import proofs.«01_k».proof.Proof.Product
public import proofs.«01_k».proof.Proof.GateUp
public import proofs.«01_k».proof.Proof.InProjValue
public import proofs.«01_k».proof.Proof.OutProj
public import proofs.«01_k».proof.Proof.PreNorm
public import proofs.«01_k».proof.Proof.Post
public import proofs.«01_k».proof.Proof.PostLast
public import proofs.«01_k».proof.Proof.Gla
public import proofs.«01_k».proof.Proof.GlaBlocks
public import proofs.«01_k».proof.Proof.GlaRefLoop
public import proofs.«01_k».proof.Proof.Band
public import proofs.«01_k».proof.Proof.BandPre
public import proofs.«01_k».proof.Proof.Gen.Pre_finite_scores
public import proofs.«01_k».proof.Proof.Gen.Kernel
public import proofs.«01_k».proof.Proof.Gen.KernelIdeal
public import proofs.«01_k».proof.Proof.Gen.ReferenceIdeal.Run
public import proofs.«01_k».proof.Proof.Gen.GateUpIdeal.Value
public import proofs.«01_k».proof.Proof.Gen.OutProjIdeal.Value
public import proofs.«01_k».proof.Proof.Gen.GateUp
public import proofs.«01_k».proof.Proof.Gen.OutProj
public import proofs.«01_k».proof.Proof.Gen.GateUpReferenceIdeal.Run
public import proofs.«01_k».proof.Proof.Gen.OutProjReferenceIdeal.Run
public import Idealize.ShloMosaic.Lib.Quiescent

@[expose] public section

set_option maxRecDepth 16384

noncomputable section

namespace Cert.Proof

open Idealize.ShloMosaic Idealize.ShloMosaic.TcCoe Idealize.SL.Sem

theorem frame_ideal : Cert.quiescent_KernelIdeal := fun m ρ _ =>
  (θ_run Cert.KernelIdeal.defs _ _).mono (fun _ h => ⟨fun c => (h.1 c).2, h.2⟩) (Down.run_main (F := Ideal) m ρ)

theorem frame_kernel : Cert.quiescent_Kernel := fun m ρ _ =>
  (θ_run Cert.KernelIdeal.defs _ _).mono (fun _ h => ⟨fun c => (h.1 c).2, h.2⟩) (Down.run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m g m' g' _ hm => by
  refine ⟨fun c => Down.resVal c (Down.inA m c) (Down.inB m c), (θ_run Cert.KernelIdeal.defs _ _).mono (fun _ h c => h.1 c) (Down.run_main (F := Ideal) m g), ?_⟩
  refine (θ_run Cert.ReferenceIdeal.defs _ _).mono (fun _ h c => ⟨(h c).1.trans ?_, (h c).2⟩) (Cert.ReferenceIdeal.Value.run (F := Ideal) m' g')
  rw [(hm c).1, (hm c).2]
  exact (Down.resVal_eq c (Down.inA m c) (Down.inB m c)).symm

/-! ## The gate and up projections -/

theorem gate_ideal : Cert.quiescent_GateUpIdeal := fun m ρ _ => Cert.GateUpIdeal.Gen.frame (F := Ideal) m ρ

theorem gate_kernel : Cert.quiescent_GateUp := fun m ρ _ => by
  have h := Cert.GateUpIdeal.Gen.frame (F := Bits) m ρ
  rw [← Gate.defs_eq] at h
  exact h

theorem gate_reference : Cert.quiescent_GateUpReferenceIdeal := fun m ρ _ =>
  (θ_run Cert.GateUpReferenceIdeal.defs _ _).mono (fun r h => ⟨fun c => (h c).2.2, sem_eq_zero_of_no_sems (by decide) r.2⟩)
    (Cert.GateUpReferenceIdeal.Value.run (F := Ideal) m ρ)

theorem gate_algebraic : Cert.algebraic_GateUpIdeal_GateUpReferenceIdeal := fun m g m' g' _ hm => by
  refine ⟨fun c => Gate.hid (Gate.inU m c) (Gate.inG m c) (Gate.inW m c), fun c => Gate.cast (Gate.inD m c),
    (θ_run Cert.GateUpIdeal.defs _ _).mono (fun _ h c => ⟨(h c).1.trans (Gate.final4 m c), (h c).2.1.trans (Gate.final5 m c), (h c).2.2⟩)
      (Cert.GateUpIdeal.Value.run_blocks (F := Ideal) m g), ?_⟩
  refine (θ_run Cert.GateUpReferenceIdeal.defs _ _).mono (fun _ h c => ⟨(h c).1.trans ?_, (h c).2.1.trans ?_, (h c).2.2⟩)
    (Cert.GateUpReferenceIdeal.Value.run (F := Ideal) m' g')
  · rw [(hm c).1, (hm c).2.1, (hm c).2.2.1]
    exact funext fun y => (Gate.silu_apply _ _ y).trans (Gate.hid_eq _ _ _ y _ _ rfl rfl)
  · rw [(hm c).2.2.2]
    exact Gate.cast_eq (Gate.inD m c)

/-! ## The input projection -/

theorem in_ideal : Cert.quiescent_InProjIdeal := fun m ρ _ => In.frame (F := Ideal) m ρ

theorem in_kernel : Cert.quiescent_InProj := fun m ρ _ => by
  have h := In.frame (F := Bits) m ρ
  rw [← In.defs_eq] at h
  exact h

theorem in_reference : Cert.quiescent_InProjReferenceIdeal := fun m ρ _ =>
  (θ_run Cert.InProjReferenceIdeal.defs _ _).mono (fun r h => ⟨fun c => (h c).2.2, sem_eq_zero_of_no_sems (by decide) r.2⟩)
    (Cert.InProjReferenceIdeal.Value.run (F := Ideal) m ρ)

theorem in_algebraic : Cert.algebraic_InProjIdeal_InProjReferenceIdeal := fun m g m' g' _ hm => by
  refine ⟨fun c => In.proj (In.inU m c) (In.inW m c), fun c => In.gate (In.inU m c) (In.inW m c), In.run_value m g, ?_⟩
  refine (θ_run Cert.InProjReferenceIdeal.defs _ _).mono (fun _ h c => ⟨(h c).1.trans ?_, (h c).2.1.trans ?_, (h c).2.2⟩)
    (Cert.InProjReferenceIdeal.Value.run (F := Ideal) m' g')
  · rw [(hm c).1, (hm c).2]
    exact In.proj_eq (In.inU m c) (In.inW m c)
  · rw [(hm c).1, (hm c).2]
    exact In.gate_eq (In.inU m c) (In.inW m c)

/-! ## The output projection -/

theorem out_ideal : Cert.quiescent_OutProjIdeal := fun m ρ _ => Cert.OutProjIdeal.Gen.frame (F := Ideal) m ρ

theorem out_kernel : Cert.quiescent_OutProj := fun m ρ _ => by
  have h := Cert.OutProjIdeal.Gen.frame (F := Bits) m ρ
  rw [← Out.defs_eq] at h
  exact h

theorem out_reference : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

theorem out_algebraic : Cert.algebraic_OutProjIdeal_OutProjReferenceIdeal := fun m g m' g' _ hm => by
  refine ⟨fun c => Out.whole (Out.inA m c) (Out.inB m c) (Out.inW m c),
    (θ_run Cert.OutProjIdeal.defs _ _).mono (fun _ h c => ⟨(h c).1.trans (Out.final m c), (h c).2⟩)
      (Cert.OutProjIdeal.Value.run_blocks (F := Ideal) m g), ?_⟩
  refine (θ_run Cert.OutProjReferenceIdeal.defs _ _).mono (fun _ h c => ⟨(h c).1.trans ?_, (h c).2⟩)
    (Cert.OutProjReferenceIdeal.Value.run (F := Ideal) m' g')
  rw [(hm c).1, (hm c).2.1, (hm c).2.2]
  exact (Out.whole_eq (Out.inA m c) (Out.inB m c) (Out.inW m c)).symm

/-! ## The norm before the first layer -/

theorem pre_ideal : Cert.quiescent_PreNormIdeal := fun m ρ _ => Cert.PreNormIdeal.Gen.frame (F := Ideal) m ρ

theorem pre_kernel : Cert.quiescent_PreNorm := fun m ρ _ => by
  have h := Cert.PreNormIdeal.Gen.frame (F := Bits) m ρ
  rw [← PreNorm.defs_eq] at h
  exact h

theorem pre_reference : Cert.quiescent_PreNormReferenceIdeal := fun m ρ _ =>
  (θ_run Cert.PreNormReferenceIdeal.defs _ _).mono (fun r h => ⟨fun c => (h c).2, sem_eq_zero_of_no_sems (by decide) r.2⟩)
    (Cert.PreNormReferenceIdeal.Value.run (F := Ideal) m ρ)

theorem pre_algebraic : Cert.algebraic_PreNormIdeal_PreNormReferenceIdeal := fun m g m' g' _ hm => by
  refine ⟨fun c => PreNorm.normed (PreNorm.inX m c) (PreNorm.inW m c),
    (θ_run Cert.PreNormIdeal.defs _ _).mono (fun _ h c => ⟨(h c).1.trans (PreNorm.final2 m c), (h c).2⟩)
      (Cert.PreNormIdeal.Value.run_blocks (F := Ideal) m g), ?_⟩
  refine (θ_run Cert.PreNormReferenceIdeal.defs _ _).mono (fun _ h c => ⟨(h c).1.trans ?_, (h c).2⟩)
    (Cert.PreNormReferenceIdeal.Value.run (F := Ideal) m' g')
  rw [(hm c).1, (hm c).2]
  exact funext fun y => Norm.reference_apply (l := 0) (by decide) _ _ _ y

/-! ## The norm after a sub-layer and the norm before the next -/

theorem post_ideal : Cert.quiescent_PostIdeal := fun m ρ _ => Cert.PostIdeal.Gen.frame (F := Ideal) m ρ

theorem post_kernel : Cert.quiescent_Post := fun m ρ _ => by
  have h := Cert.PostIdeal.Gen.frame (F := Bits) m ρ
  rw [← Post.defs_eq] at h
  exact h

theorem post_reference : Cert.quiescent_PostReferenceIdeal := fun m ρ _ =>
  (θ_run Cert.PostReferenceIdeal.defs _ _).mono (fun r h => ⟨fun c => (h c).2.2, sem_eq_zero_of_no_sems (by decide) r.2⟩)
    (Cert.PostReferenceIdeal.Value.run (F := Ideal) m ρ)

theorem post_algebraic : Cert.algebraic_PostIdeal_PostReferenceIdeal := fun m g m' g' _ hm => by
  refine ⟨fun c => Post.added (Post.inH m c) (Post.inA m c) (Post.inW m c), fun c => Post.normed (Post.inH m c) (Post.inA m c) (Post.inW m c) (Post.inZ m c),
    (θ_run Cert.PostIdeal.defs _ _).mono (fun _ h c => ⟨(h c).1.trans (Post.final4 m c), (h c).2.1.trans (Post.final5 m c), (h c).2.2⟩)
      (Cert.PostIdeal.Value.run_blocks (F := Ideal) m g), ?_⟩
  refine (θ_run Cert.PostReferenceIdeal.defs _ _).mono (fun _ h c => ⟨(h c).1.trans ?_, (h c).2.1.trans ?_, (h c).2.2⟩)
    (Cert.PostReferenceIdeal.Value.run (F := Ideal) m' g')
  · rw [(hm c).1, (hm c).2.1, (hm c).2.2.1]
    exact funext fun y => congrArg₂ (· + ·) (congrArg (Post.inH m c) (Shape.idx_ext₂ rfl rfl)) (Norm.reference_apply (l := 0) (by decide) _ _ _ y)
  · rw [(hm c).1, (hm c).2.1, (hm c).2.2.1, (hm c).2.2.2]
    refine funext fun y => (Norm.reference_apply (l := 0) (by decide) _ _ _ y).trans ?_
    exact congrArg (fun v => Norm.normAt v _ (y 1)) (funext fun l => congrArg₂ (· + ·) (congrArg (Post.inH m c) (Shape.idx_ext₂ rfl rfl)) (Norm.reference_apply (l := 0) (by decide) _ _ _ (ix2 (y 0) l)))

/-! ## The last norm -/

theorem last_ideal : Cert.quiescent_PostLastIdeal := fun m ρ _ => Cert.PostLastIdeal.Gen.frame (F := Ideal) m ρ

theorem last_kernel : Cert.quiescent_PostLast := fun m ρ _ => by
  have h := Cert.PostLastIdeal.Gen.frame (F := Bits) m ρ
  rw [← PostLast.defs_eq] at h
  exact h

theorem last_reference : Cert.quiescent_PostLastReferenceIdeal := fun m ρ _ =>
  (θ_run Cert.PostLastReferenceIdeal.defs _ _).mono (fun r h => ⟨fun c => (h c).2, sem_eq_zero_of_no_sems (by decide) r.2⟩)
    (Cert.PostLastReferenceIdeal.Value.run (F := Ideal) m ρ)

theorem last_algebraic : Cert.algebraic_PostLastIdeal_PostLastReferenceIdeal := fun m g m' g' _ hm => by
  refine ⟨fun c => PostLast.added (PostLast.inH m c) (PostLast.inA m c) (PostLast.inW m c),
    (θ_run Cert.PostLastIdeal.defs _ _).mono (fun _ h c => ⟨(h c).1.trans (PostLast.final3 m c), (h c).2⟩)
      (Cert.PostLastIdeal.Value.run_blocks (F := Ideal) m g), ?_⟩
  refine (θ_run Cert.PostLastReferenceIdeal.defs _ _).mono (fun _ h c => ⟨(h c).1.trans ?_, (h c).2⟩)
    (Cert.PostLastReferenceIdeal.Value.run (F := Ideal) m' g')
  rw [(hm c).1, (hm c).2.1, (hm c).2.2]
  exact funext fun y => congrArg₂ (· + ·) (congrArg (PostLast.inH m c) (Shape.idx_ext₂ rfl rfl)) (Norm.reference_apply (l := 3) (by decide) _ _ _ y)

/-! ## The gated linear attention -/

theorem gla_ideal : Cert.quiescent_GlaIdeal := fun m ρ _ => Cert.GlaIdeal.Gen.frame (F := Ideal) m ρ

theorem gla_kernel : Cert.quiescent_Gla := fun m ρ _ => by
  have h := Cert.GlaIdeal.Gen.frame (F := Bits) m ρ
  rw [← Gla.defs_eq] at h
  exact h

open Cert.GlaReferenceIdeal in
theorem gla_reference : Cert.quiescent_GlaReferenceIdeal := fun m ρ _ =>
  (θ_run Cert.GlaReferenceIdeal.defs _ _).mono (fun r h => ⟨fun c =>
      ⟨(h c main_arg0 rfl).trans (Gla.reference_keeps m c main_arg0 (by decide +kernel)),
        (h c main_arg1 rfl).trans (Gla.reference_keeps m c main_arg1 (by decide +kernel)),
        (h c main_arg2 rfl).trans (Gla.reference_keeps m c main_arg2 (by decide +kernel)),
        (h c main_arg3 rfl).trans (Gla.reference_keeps m c main_arg3 (by decide +kernel)),
        (h c main_arg4 rfl).trans (Gla.reference_keeps m c main_arg4 (by decide +kernel)),
        (h c main_arg5 rfl).trans (Gla.reference_keeps m c main_arg5 (by decide +kernel))⟩,
      sem_eq_zero_of_no_sems (by decide) r.2⟩)
    (Cert.GlaReferenceIdeal.Value.run_fold (F := Ideal) m ρ)

theorem gla_algebraic : Cert.algebraic_GlaIdeal_GlaReferenceIdeal := fun m g m' g' _ hm => by
  refine ⟨fun c => Gla.attn (Gla.inP m c) (Gla.inB m c) (Gla.inW m c) (Gla.inA m c) (Gla.inN m c), fun c => Gla.castO (Gla.inO m c),
    (θ_run Cert.GlaIdeal.defs _ _).mono (fun _ h c => ⟨((h.1 c).1 9).trans (Gla.final9 m c), ((h.1 c).1 10).trans (Gla.final10 m c), h.2.1 c⟩)
      (θ_run_and (Cert.GlaIdeal.Gen.run_main (F := Ideal) m g) (Cert.GlaIdeal.Gen.frame (F := Ideal) m g)), ?_⟩
  refine (θ_run Cert.GlaReferenceIdeal.defs _ _).mono (fun _ h c => ⟨(h.1 c Cert.GlaReferenceIdeal.main_v76 rfl).trans ((Gla.reference_v76 m' c).trans ?_),
      (h.1 c Cert.GlaReferenceIdeal.main_v79 rfl).trans ((Gla.reference_v79 m' c).trans ?_), h.2.1 c⟩)
    (θ_run_and (Cert.GlaReferenceIdeal.Value.run_fold (F := Ideal) m' g') (gla_reference m' g' trivial))
  · unfold Gla.rP Gla.rB Gla.rW Gla.rA Gla.rN
    rw [(hm c).1, (hm c).2.1, (hm c).2.2.1, (hm c).2.2.2.1, (hm c).2.2.2.2.1]
  · unfold Gla.rO
    rw [(hm c).2.2.2.2.2]

/-! ## The band attention -/

theorem band_kernel : Cert.quiescent_Band := fun m ρ _ => Cert.Band.Gen.frame (F := Bits) m ρ

theorem band_ideal : Cert.quiescent_BandIdeal := fun m ρ _ => Cert.BandIdeal.Gen.frame (F := Ideal) m ρ

theorem band_reference : Cert.quiescent_BandReferenceIdeal := fun m ρ _ =>
  (θ_run Cert.BandReferenceIdeal.defs _ _).mono (fun r h => ⟨fun c => (h c).2, sem_eq_zero_of_no_sems (by decide) r.2⟩)
    (Cert.BandReferenceIdeal.Value.run (F := Ideal) m ρ)

instance : Cert.Pre_finite_scores.Facts := Cert.Pre_finite_scores.Gen.facts

theorem band_ideal_finite : Cert.quiescent_BandIdeal_pre_finite_scores := fun m ρ _ => band_ideal m ρ trivial

theorem band_reference_finite : Cert.quiescent_BandReferenceIdeal_pre_finite_scores := fun m ρ _ => band_reference m ρ trivial

theorem band_algebraic : Cert.algebraic_BandIdeal_BandReferenceIdeal_pre_finite_scores := fun m g m' g' hp hm => by
  refine ⟨fun c => Band.attn (Band.inP m c) (Band.inRel m c),
    (θ_run Cert.BandIdeal.defs _ _).mono (fun _ h c => ⟨((h.1 c).1 8).trans (Band.final8 m c (Band.finite_of _ _ (hp c))), h.2.1 c⟩)
      (θ_run_and (Cert.BandIdeal.Gen.run_main (F := Ideal) m g) (Cert.BandIdeal.Gen.frame (F := Ideal) m g)), ?_⟩
  refine (θ_run Cert.BandReferenceIdeal.defs _ _).mono (fun _ h c => ⟨(h c).1.trans ((Band.res_eq m' c).trans ((Band.attnR_eq _ _).trans ?_)), (h c).2⟩)
    (Cert.BandReferenceIdeal.Value.run (F := Ideal) m' g')
  rw [(hm c).1, (hm c).2]

theorem claim : Cert.Claim :=
  ⟨Cert.Kernel.Gen.facts, Cert.KernelIdeal.Gen.facts, Cert.ReferenceIdeal.Gen.facts,
    Cert.GateUp.Gen.facts, Cert.GateUpIdeal.Gen.facts, Cert.GateUpReferenceIdeal.Gen.facts,
    Cert.InProj.Gen.facts, Cert.InProjIdeal.Gen.facts, Cert.InProjReferenceIdeal.Gen.facts,
    Cert.OutProj.Gen.facts, Cert.OutProjIdeal.Gen.facts, Cert.OutProjReferenceIdeal.Gen.facts,
    Cert.PreNorm.Gen.facts, Cert.PreNormIdeal.Gen.facts, Cert.PreNormReferenceIdeal.Gen.facts,
    Cert.Post.Gen.facts, Cert.PostIdeal.Gen.facts, Cert.PostReferenceIdeal.Gen.facts,
    Cert.PostLast.Gen.facts, Cert.PostLastIdeal.Gen.facts, Cert.PostLastReferenceIdeal.Gen.facts,
    Cert.Gla.Gen.facts, Cert.GlaIdeal.Gen.facts, Cert.GlaReferenceIdeal.Gen.facts,
    Cert.Band.Gen.facts, Cert.BandIdeal.Gen.facts, Cert.BandReferenceIdeal.Gen.facts, Cert.Pre_finite_scores.Gen.facts,
    frame_kernel, frame_ideal, frame_reference, gate_kernel, gate_ideal, gate_reference, in_kernel, in_ideal, in_reference, out_kernel, out_ideal, out_reference,
    pre_kernel, pre_ideal, pre_reference, post_kernel, post_ideal, post_reference, last_kernel, last_ideal, last_reference,
    gla_kernel, gla_ideal, gla_reference, band_kernel, band_ideal, band_ideal_finite, band_reference, band_reference_finite,
    trivial, algebraic, trivial, gate_algebraic, trivial, in_algebraic, trivial, out_algebraic,
    trivial, pre_algebraic, trivial, post_algebraic, trivial, last_algebraic, trivial, gla_algebraic,
    Band.preserves, band_algebraic⟩

end Cert.Proof

end
